-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_LstmIn (m : (ℓ : Loc Cert.LstmIn.nD Cert.LstmIn.τ Cert.LstmIn.sig) → Buf (Elt Bits) ℓ) : Prop :=
  True

def Pre_LstmInIdeal (m : (ℓ : Loc Cert.LstmInIdeal.nD Cert.LstmInIdeal.τ Cert.LstmInIdeal.sig) → Buf (Elt Ideal) ℓ) : Prop :=
  True

def Pre_LstmInRefIdeal (m : (ℓ : Loc Cert.LstmInRefIdeal.nD Cert.LstmInRefIdeal.τ Cert.LstmInRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_LstmOut (m : (ℓ : Loc Cert.LstmOut.nD Cert.LstmOut.τ Cert.LstmOut.sig) → Buf (Elt Bits) ℓ) : Prop :=
  True

def Pre_LstmOutIdeal (m : (ℓ : Loc Cert.LstmOutIdeal.nD Cert.LstmOutIdeal.τ Cert.LstmOutIdeal.sig) → Buf (Elt Ideal) ℓ) : Prop :=
  True

def Pre_LstmOutRefIdeal (m : (ℓ : Loc Cert.LstmOutRefIdeal.nD Cert.LstmOutRefIdeal.τ Cert.LstmOutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_LatentIn (m : (ℓ : Loc Cert.LatentIn.nD Cert.LatentIn.τ Cert.LatentIn.sig) → Buf (Elt Bits) ℓ) : Prop :=
  True

def Pre_LatentInIdeal (m : (ℓ : Loc Cert.LatentInIdeal.nD Cert.LatentInIdeal.τ Cert.LatentInIdeal.sig) → Buf (Elt Ideal) ℓ) : Prop :=
  True

def Pre_LatentInRefIdeal (m : (ℓ : Loc Cert.LatentInRefIdeal.nD Cert.LatentInRefIdeal.τ Cert.LatentInRefIdeal.sig) → Buf (Elt Ideal) ℓ) : Prop :=
  True

def Pre_ProjLast (m : (ℓ : Loc Cert.ProjLast.nD Cert.ProjLast.τ Cert.ProjLast.sig) → Buf (Elt Bits) ℓ) : Prop :=
  True

def Pre_ProjLastIdeal (m : (ℓ : Loc Cert.ProjLastIdeal.nD Cert.ProjLastIdeal.τ Cert.ProjLastIdeal.sig) → Buf (Elt Ideal) ℓ) : Prop :=
  True

def Pre_ProjLastRefIdeal (m : (ℓ : Loc Cert.ProjLastRefIdeal.nD Cert.ProjLastRefIdeal.τ Cert.ProjLastRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_LatentUp (m : (ℓ : Loc Cert.LatentUp.nD Cert.LatentUp.τ Cert.LatentUp.sig) → Buf (Elt Bits) ℓ) : Prop :=
  True

def Pre_LatentUpIdeal (m : (ℓ : Loc Cert.LatentUpIdeal.nD Cert.LatentUpIdeal.τ Cert.LatentUpIdeal.sig) → Buf (Elt Ideal) ℓ) : Prop :=
  True

def Pre_LatentUpRefIdeal (m : (ℓ : Loc Cert.LatentUpRefIdeal.nD Cert.LatentUpRefIdeal.τ Cert.LatentUpRefIdeal.sig) → Buf (Elt Ideal) ℓ) : Prop :=
  True

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastRefIdeal (m : (ℓ : Loc Cert.MlpLastRefIdeal.nD Cert.MlpLastRefIdeal.τ Cert.MlpLastRefIdeal.sig) → Buf (Elt Ideal) ℓ) : Prop :=
  True

def Pre_GdnGates (m : (ℓ : Loc Cert.GdnGates.nD Cert.GdnGates.τ Cert.GdnGates.sig) → Buf (Elt Bits) ℓ) : Prop :=
  True

def Pre_GdnGatesIdeal (m : (ℓ : Loc Cert.GdnGatesIdeal.nD Cert.GdnGatesIdeal.τ Cert.GdnGatesIdeal.sig) → Buf (Elt Ideal) ℓ) : Prop :=
  True

def Pre_GdnGatesRefIdeal (m : (ℓ : Loc Cert.GdnGatesRefIdeal.nD Cert.GdnGatesRefIdeal.τ Cert.GdnGatesRefIdeal.sig) → Buf (Elt Ideal) ℓ) : Prop :=
  True

def Pre_LstmGates (m : (ℓ : Loc Cert.LstmGates.nD Cert.LstmGates.τ Cert.LstmGates.sig) → Buf (Elt Bits) ℓ) : Prop :=
  True

def Pre_LstmGatesIdeal (m : (ℓ : Loc Cert.LstmGatesIdeal.nD Cert.LstmGatesIdeal.τ Cert.LstmGatesIdeal.sig) → Buf (Elt Ideal) ℓ) : Prop :=
  True

def Pre_LstmGatesRefIdeal (m : (ℓ : Loc Cert.LstmGatesRefIdeal.nD Cert.LstmGatesRefIdeal.τ Cert.LstmGatesRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2)
      ∧ r.2.mem ((c.tc : Thread Cert.GdnIn.nD Cert.GdnIn.τ).loc Cert.GdnIn.main_arg3) = m ((c.tc : Thread Cert.GdnIn.nD Cert.GdnIn.τ).loc Cert.GdnIn.main_arg3))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
      ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2)
      ∧ r.2.mem ((c.tc : Thread Cert.GdnInRefIdeal.nD Cert.GdnInRefIdeal.τ).loc Cert.GdnInRefIdeal.main_arg3) = m ((c.tc : Thread Cert.GdnInRefIdeal.nD Cert.GdnInRefIdeal.τ).loc Cert.GdnInRefIdeal.main_arg3))
      ∧ r.2.sem = fun _ => 0)

def quiescent_LstmIn [hLstmIn : Cert.LstmIn.Facts] : Prop :=
  ∀ (m : (ℓ : Loc Cert.LstmIn.nD Cert.LstmIn.τ Cert.LstmIn.sig) → Buf (Elt Bits) ℓ) (g : Dev Cert.LstmIn.nD → PrngReg), Pre_LstmIn m →
    θ_run (Cert.LstmIn.defs (F := Bits)) (onTc (τ := Cert.LstmIn.τ) (Cert.LstmIn.main (F := Bits))) ⟨m, fun _ => 0, g⟩ (fun r => (∀ c : Dev Cert.LstmIn.nD,
      r.2.mem ((c.tc : Thread Cert.LstmIn.nD Cert.LstmIn.τ).loc Cert.LstmIn.main_arg0) = m ((c.tc : Thread Cert.LstmIn.nD Cert.LstmIn.τ).loc Cert.LstmIn.main_arg0)
      ∧ r.2.mem ((c.tc : Thread Cert.LstmIn.nD Cert.LstmIn.τ).loc Cert.LstmIn.main_arg1) = m ((c.tc : Thread Cert.LstmIn.nD Cert.LstmIn.τ).loc Cert.LstmIn.main_arg1)
      ∧ r.2.mem ((c.tc : Thread Cert.LstmIn.nD Cert.LstmIn.τ).loc Cert.LstmIn.main_arg2) = m ((c.tc : Thread Cert.LstmIn.nD Cert.LstmIn.τ).loc Cert.LstmIn.main_arg2)
      ∧ r.2.mem ((c.tc : Thread Cert.LstmIn.nD Cert.LstmIn.τ).loc Cert.LstmIn.main_arg3) = m ((c.tc : Thread Cert.LstmIn.nD Cert.LstmIn.τ).loc Cert.LstmIn.main_arg3))
      ∧ r.2.sem = fun _ => 0)

def quiescent_LstmInIdeal [hLstmInIdeal : Cert.LstmInIdeal.Facts] : Prop :=
  ∀ (m : (ℓ : Loc Cert.LstmInIdeal.nD Cert.LstmInIdeal.τ Cert.LstmInIdeal.sig) → Buf (Elt Ideal) ℓ) (g : Dev Cert.LstmInIdeal.nD → PrngReg), Pre_LstmInIdeal m →
    θ_run (Cert.LstmInIdeal.defs (F := Ideal)) (onTc (τ := Cert.LstmInIdeal.τ) (Cert.LstmInIdeal.main (F := Ideal))) ⟨m, fun _ => 0, g⟩ (fun r => (∀ c : Dev Cert.LstmInIdeal.nD,
      r.2.mem ((c.tc : Thread Cert.LstmInIdeal.nD Cert.LstmInIdeal.τ).loc Cert.LstmInIdeal.main_arg0) = m ((c.tc : Thread Cert.LstmInIdeal.nD Cert.LstmInIdeal.τ).loc Cert.LstmInIdeal.main_arg0)
      ∧ r.2.mem ((c.tc : Thread Cert.LstmInIdeal.nD Cert.LstmInIdeal.τ).loc Cert.LstmInIdeal.main_arg1) = m ((c.tc : Thread Cert.LstmInIdeal.nD Cert.LstmInIdeal.τ).loc Cert.LstmInIdeal.main_arg1)
      ∧ r.2.mem ((c.tc : Thread Cert.LstmInIdeal.nD Cert.LstmInIdeal.τ).loc Cert.LstmInIdeal.main_arg2) = m ((c.tc : Thread Cert.LstmInIdeal.nD Cert.LstmInIdeal.τ).loc Cert.LstmInIdeal.main_arg2)
      ∧ r.2.mem ((c.tc : Thread Cert.LstmInIdeal.nD Cert.LstmInIdeal.τ).loc Cert.LstmInIdeal.main_arg3) = m ((c.tc : Thread Cert.LstmInIdeal.nD Cert.LstmInIdeal.τ).loc Cert.LstmInIdeal.main_arg3))
      ∧ r.2.sem = fun _ => 0)

def quiescent_LstmInRefIdeal [hLstmInRefIdeal : Cert.LstmInRefIdeal.Facts] : Prop :=
  ∀ (m : (ℓ : Loc Cert.LstmInRefIdeal.nD Cert.LstmInRefIdeal.τ Cert.LstmInRefIdeal.sig) → Buf (Elt Ideal) ℓ) (g : Dev Cert.LstmInRefIdeal.nD → PrngReg), Pre_LstmInRefIdeal m →
    θ_run (Cert.LstmInRefIdeal.defs (F := Ideal)) (onTc (τ := Cert.LstmInRefIdeal.τ) (Cert.LstmInRefIdeal.main (F := Ideal))) ⟨m, fun _ => 0, g⟩ (fun r => (∀ c : Dev Cert.LstmInRefIdeal.nD,
      r.2.mem ((c.tc : Thread Cert.LstmInRefIdeal.nD Cert.LstmInRefIdeal.τ).loc Cert.LstmInRefIdeal.main_arg0) = m ((c.tc : Thread Cert.LstmInRefIdeal.nD Cert.LstmInRefIdeal.τ).loc Cert.LstmInRefIdeal.main_arg0)
      ∧ r.2.mem ((c.tc : Thread Cert.LstmInRefIdeal.nD Cert.LstmInRefIdeal.τ).loc Cert.LstmInRefIdeal.main_arg1) = m ((c.tc : Thread Cert.LstmInRefIdeal.nD Cert.LstmInRefIdeal.τ).loc Cert.LstmInRefIdeal.main_arg1)
      ∧ r.2.mem ((c.tc : Thread Cert.LstmInRefIdeal.nD Cert.LstmInRefIdeal.τ).loc Cert.LstmInRefIdeal.main_arg2) = m ((c.tc : Thread Cert.LstmInRefIdeal.nD Cert.LstmInRefIdeal.τ).loc Cert.LstmInRefIdeal.main_arg2)
      ∧ r.2.mem ((c.tc : Thread Cert.LstmInRefIdeal.nD Cert.LstmInRefIdeal.τ).loc Cert.LstmInRefIdeal.main_arg3) = m ((c.tc : Thread Cert.LstmInRefIdeal.nD Cert.LstmInRefIdeal.τ).loc Cert.LstmInRefIdeal.main_arg3))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4)
      ∧ r.2.mem ((c.tc : Thread Cert.GdnOut.nD Cert.GdnOut.τ).loc Cert.GdnOut.main_arg5) = m ((c.tc : Thread Cert.GdnOut.nD Cert.GdnOut.τ).loc Cert.GdnOut.main_arg5)
      ∧ r.2.mem ((c.tc : Thread Cert.GdnOut.nD Cert.GdnOut.τ).loc Cert.GdnOut.main_arg6) = m ((c.tc : Thread Cert.GdnOut.nD Cert.GdnOut.τ).loc Cert.GdnOut.main_arg6))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
      ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5)
      ∧ r.2.mem ((c.tc : Thread Cert.GdnOutIdeal.nD Cert.GdnOutIdeal.τ).loc Cert.GdnOutIdeal.main_arg6) = m ((c.tc : Thread Cert.GdnOutIdeal.nD Cert.GdnOutIdeal.τ).loc Cert.GdnOutIdeal.main_arg6))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3)
      ∧ r.2.mem ((c.tc : Thread Cert.GdnOutRefIdeal.nD Cert.GdnOutRefIdeal.τ).loc Cert.GdnOutRefIdeal.main_arg4) = m ((c.tc : Thread Cert.GdnOutRefIdeal.nD Cert.GdnOutRefIdeal.τ).loc Cert.GdnOutRefIdeal.main_arg4)
      ∧ r.2.mem ((c.tc : Thread Cert.GdnOutRefIdeal.nD Cert.GdnOutRefIdeal.τ).loc Cert.GdnOutRefIdeal.main_arg5) = m ((c.tc : Thread Cert.GdnOutRefIdeal.nD Cert.GdnOutRefIdeal.τ).loc Cert.GdnOutRefIdeal.main_arg5)
      ∧ r.2.mem ((c.tc : Thread Cert.GdnOutRefIdeal.nD Cert.GdnOutRefIdeal.τ).loc Cert.GdnOutRefIdeal.main_arg6) = m ((c.tc : Thread Cert.GdnOutRefIdeal.nD Cert.GdnOutRefIdeal.τ).loc Cert.GdnOutRefIdeal.main_arg6))
      ∧ r.2.sem = fun _ => 0)

def quiescent_LstmOut [hLstmOut : Cert.LstmOut.Facts] : Prop :=
  ∀ (m : (ℓ : Loc Cert.LstmOut.nD Cert.LstmOut.τ Cert.LstmOut.sig) → Buf (Elt Bits) ℓ) (g : Dev Cert.LstmOut.nD → PrngReg), Pre_LstmOut m →
    θ_run (Cert.LstmOut.defs (F := Bits)) (onTc (τ := Cert.LstmOut.τ) (Cert.LstmOut.main (F := Bits))) ⟨m, fun _ => 0, g⟩ (fun r => (∀ c : Dev Cert.LstmOut.nD,
      r.2.mem ((c.tc : Thread Cert.LstmOut.nD Cert.LstmOut.τ).loc Cert.LstmOut.main_arg0) = m ((c.tc : Thread Cert.LstmOut.nD Cert.LstmOut.τ).loc Cert.LstmOut.main_arg0)
      ∧ r.2.mem ((c.tc : Thread Cert.LstmOut.nD Cert.LstmOut.τ).loc Cert.LstmOut.main_arg1) = m ((c.tc : Thread Cert.LstmOut.nD Cert.LstmOut.τ).loc Cert.LstmOut.main_arg1)
      ∧ r.2.mem ((c.tc : Thread Cert.LstmOut.nD Cert.LstmOut.τ).loc Cert.LstmOut.main_arg2) = m ((c.tc : Thread Cert.LstmOut.nD Cert.LstmOut.τ).loc Cert.LstmOut.main_arg2)
      ∧ r.2.mem ((c.tc : Thread Cert.LstmOut.nD Cert.LstmOut.τ).loc Cert.LstmOut.main_arg3) = m ((c.tc : Thread Cert.LstmOut.nD Cert.LstmOut.τ).loc Cert.LstmOut.main_arg3)
      ∧ r.2.mem ((c.tc : Thread Cert.LstmOut.nD Cert.LstmOut.τ).loc Cert.LstmOut.main_arg4) = m ((c.tc : Thread Cert.LstmOut.nD Cert.LstmOut.τ).loc Cert.LstmOut.main_arg4)
      ∧ r.2.mem ((c.tc : Thread Cert.LstmOut.nD Cert.LstmOut.τ).loc Cert.LstmOut.main_arg5) = m ((c.tc : Thread Cert.LstmOut.nD Cert.LstmOut.τ).loc Cert.LstmOut.main_arg5)
      ∧ r.2.mem ((c.tc : Thread Cert.LstmOut.nD Cert.LstmOut.τ).loc Cert.LstmOut.main_arg6) = m ((c.tc : Thread Cert.LstmOut.nD Cert.LstmOut.τ).loc Cert.LstmOut.main_arg6))
      ∧ r.2.sem = fun _ => 0)

def quiescent_LstmOutIdeal [hLstmOutIdeal : Cert.LstmOutIdeal.Facts] : Prop :=
  ∀ (m : (ℓ : Loc Cert.LstmOutIdeal.nD Cert.LstmOutIdeal.τ Cert.LstmOutIdeal.sig) → Buf (Elt Ideal) ℓ) (g : Dev Cert.LstmOutIdeal.nD → PrngReg), Pre_LstmOutIdeal m →
    θ_run (Cert.LstmOutIdeal.defs (F := Ideal)) (onTc (τ := Cert.LstmOutIdeal.τ) (Cert.LstmOutIdeal.main (F := Ideal))) ⟨m, fun _ => 0, g⟩ (fun r => (∀ c : Dev Cert.LstmOutIdeal.nD,
      r.2.mem ((c.tc : Thread Cert.LstmOutIdeal.nD Cert.LstmOutIdeal.τ).loc Cert.LstmOutIdeal.main_arg0) = m ((c.tc : Thread Cert.LstmOutIdeal.nD Cert.LstmOutIdeal.τ).loc Cert.LstmOutIdeal.main_arg0)
      ∧ r.2.mem ((c.tc : Thread Cert.LstmOutIdeal.nD Cert.LstmOutIdeal.τ).loc Cert.LstmOutIdeal.main_arg1) = m ((c.tc : Thread Cert.LstmOutIdeal.nD Cert.LstmOutIdeal.τ).loc Cert.LstmOutIdeal.main_arg1)
      ∧ r.2.mem ((c.tc : Thread Cert.LstmOutIdeal.nD Cert.LstmOutIdeal.τ).loc Cert.LstmOutIdeal.main_arg2) = m ((c.tc : Thread Cert.LstmOutIdeal.nD Cert.LstmOutIdeal.τ).loc Cert.LstmOutIdeal.main_arg2)
      ∧ r.2.mem ((c.tc : Thread Cert.LstmOutIdeal.nD Cert.LstmOutIdeal.τ).loc Cert.LstmOutIdeal.main_arg3) = m ((c.tc : Thread Cert.LstmOutIdeal.nD Cert.LstmOutIdeal.τ).loc Cert.LstmOutIdeal.main_arg3)
      ∧ r.2.mem ((c.tc : Thread Cert.LstmOutIdeal.nD Cert.LstmOutIdeal.τ).loc Cert.LstmOutIdeal.main_arg4) = m ((c.tc : Thread Cert.LstmOutIdeal.nD Cert.LstmOutIdeal.τ).loc Cert.LstmOutIdeal.main_arg4)
      ∧ r.2.mem ((c.tc : Thread Cert.LstmOutIdeal.nD Cert.LstmOutIdeal.τ).loc Cert.LstmOutIdeal.main_arg5) = m ((c.tc : Thread Cert.LstmOutIdeal.nD Cert.LstmOutIdeal.τ).loc Cert.LstmOutIdeal.main_arg5)
      ∧ r.2.mem ((c.tc : Thread Cert.LstmOutIdeal.nD Cert.LstmOutIdeal.τ).loc Cert.LstmOutIdeal.main_arg6) = m ((c.tc : Thread Cert.LstmOutIdeal.nD Cert.LstmOutIdeal.τ).loc Cert.LstmOutIdeal.main_arg6))
      ∧ r.2.sem = fun _ => 0)

def quiescent_LstmOutRefIdeal [hLstmOutRefIdeal : Cert.LstmOutRefIdeal.Facts] : Prop :=
  ∀ (m : (ℓ : Loc Cert.LstmOutRefIdeal.nD Cert.LstmOutRefIdeal.τ Cert.LstmOutRefIdeal.sig) → Buf (Elt Ideal) ℓ) (g : Dev Cert.LstmOutRefIdeal.nD → PrngReg), Pre_LstmOutRefIdeal m →
    θ_run (Cert.LstmOutRefIdeal.defs (F := Ideal)) (onTc (τ := Cert.LstmOutRefIdeal.τ) (Cert.LstmOutRefIdeal.main (F := Ideal))) ⟨m, fun _ => 0, g⟩ (fun r => (∀ c : Dev Cert.LstmOutRefIdeal.nD,
      r.2.mem ((c.tc : Thread Cert.LstmOutRefIdeal.nD Cert.LstmOutRefIdeal.τ).loc Cert.LstmOutRefIdeal.main_arg0) = m ((c.tc : Thread Cert.LstmOutRefIdeal.nD Cert.LstmOutRefIdeal.τ).loc Cert.LstmOutRefIdeal.main_arg0)
      ∧ r.2.mem ((c.tc : Thread Cert.LstmOutRefIdeal.nD Cert.LstmOutRefIdeal.τ).loc Cert.LstmOutRefIdeal.main_arg1) = m ((c.tc : Thread Cert.LstmOutRefIdeal.nD Cert.LstmOutRefIdeal.τ).loc Cert.LstmOutRefIdeal.main_arg1)
      ∧ r.2.mem ((c.tc : Thread Cert.LstmOutRefIdeal.nD Cert.LstmOutRefIdeal.τ).loc Cert.LstmOutRefIdeal.main_arg2) = m ((c.tc : Thread Cert.LstmOutRefIdeal.nD Cert.LstmOutRefIdeal.τ).loc Cert.LstmOutRefIdeal.main_arg2)
      ∧ r.2.mem ((c.tc : Thread Cert.LstmOutRefIdeal.nD Cert.LstmOutRefIdeal.τ).loc Cert.LstmOutRefIdeal.main_arg3) = m ((c.tc : Thread Cert.LstmOutRefIdeal.nD Cert.LstmOutRefIdeal.τ).loc Cert.LstmOutRefIdeal.main_arg3)
      ∧ r.2.mem ((c.tc : Thread Cert.LstmOutRefIdeal.nD Cert.LstmOutRefIdeal.τ).loc Cert.LstmOutRefIdeal.main_arg4) = m ((c.tc : Thread Cert.LstmOutRefIdeal.nD Cert.LstmOutRefIdeal.τ).loc Cert.LstmOutRefIdeal.main_arg4)
      ∧ r.2.mem ((c.tc : Thread Cert.LstmOutRefIdeal.nD Cert.LstmOutRefIdeal.τ).loc Cert.LstmOutRefIdeal.main_arg5) = m ((c.tc : Thread Cert.LstmOutRefIdeal.nD Cert.LstmOutRefIdeal.τ).loc Cert.LstmOutRefIdeal.main_arg5)
      ∧ r.2.mem ((c.tc : Thread Cert.LstmOutRefIdeal.nD Cert.LstmOutRefIdeal.τ).loc Cert.LstmOutRefIdeal.main_arg6) = m ((c.tc : Thread Cert.LstmOutRefIdeal.nD Cert.LstmOutRefIdeal.τ).loc Cert.LstmOutRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_LatentIn [hLatentIn : Cert.LatentIn.Facts] : Prop :=
  ∀ (m : (ℓ : Loc Cert.LatentIn.nD Cert.LatentIn.τ Cert.LatentIn.sig) → Buf (Elt Bits) ℓ) (g : Dev Cert.LatentIn.nD → PrngReg), Pre_LatentIn m →
    θ_run (Cert.LatentIn.defs (F := Bits)) (onTc (τ := Cert.LatentIn.τ) (Cert.LatentIn.main (F := Bits))) ⟨m, fun _ => 0, g⟩ (fun r => (∀ c : Dev Cert.LatentIn.nD,
      r.2.mem ((c.tc : Thread Cert.LatentIn.nD Cert.LatentIn.τ).loc Cert.LatentIn.main_arg0) = m ((c.tc : Thread Cert.LatentIn.nD Cert.LatentIn.τ).loc Cert.LatentIn.main_arg0)
      ∧ r.2.mem ((c.tc : Thread Cert.LatentIn.nD Cert.LatentIn.τ).loc Cert.LatentIn.main_arg1) = m ((c.tc : Thread Cert.LatentIn.nD Cert.LatentIn.τ).loc Cert.LatentIn.main_arg1)
      ∧ r.2.mem ((c.tc : Thread Cert.LatentIn.nD Cert.LatentIn.τ).loc Cert.LatentIn.main_arg2) = m ((c.tc : Thread Cert.LatentIn.nD Cert.LatentIn.τ).loc Cert.LatentIn.main_arg2)
      ∧ r.2.mem ((c.tc : Thread Cert.LatentIn.nD Cert.LatentIn.τ).loc Cert.LatentIn.main_arg3) = m ((c.tc : Thread Cert.LatentIn.nD Cert.LatentIn.τ).loc Cert.LatentIn.main_arg3))
      ∧ r.2.sem = fun _ => 0)

def quiescent_LatentInIdeal [hLatentInIdeal : Cert.LatentInIdeal.Facts] : Prop :=
  ∀ (m : (ℓ : Loc Cert.LatentInIdeal.nD Cert.LatentInIdeal.τ Cert.LatentInIdeal.sig) → Buf (Elt Ideal) ℓ) (g : Dev Cert.LatentInIdeal.nD → PrngReg), Pre_LatentInIdeal m →
    θ_run (Cert.LatentInIdeal.defs (F := Ideal)) (onTc (τ := Cert.LatentInIdeal.τ) (Cert.LatentInIdeal.main (F := Ideal))) ⟨m, fun _ => 0, g⟩ (fun r => (∀ c : Dev Cert.LatentInIdeal.nD,
      r.2.mem ((c.tc : Thread Cert.LatentInIdeal.nD Cert.LatentInIdeal.τ).loc Cert.LatentInIdeal.main_arg0) = m ((c.tc : Thread Cert.LatentInIdeal.nD Cert.LatentInIdeal.τ).loc Cert.LatentInIdeal.main_arg0)
      ∧ r.2.mem ((c.tc : Thread Cert.LatentInIdeal.nD Cert.LatentInIdeal.τ).loc Cert.LatentInIdeal.main_arg1) = m ((c.tc : Thread Cert.LatentInIdeal.nD Cert.LatentInIdeal.τ).loc Cert.LatentInIdeal.main_arg1)
      ∧ r.2.mem ((c.tc : Thread Cert.LatentInIdeal.nD Cert.LatentInIdeal.τ).loc Cert.LatentInIdeal.main_arg2) = m ((c.tc : Thread Cert.LatentInIdeal.nD Cert.LatentInIdeal.τ).loc Cert.LatentInIdeal.main_arg2)
      ∧ r.2.mem ((c.tc : Thread Cert.LatentInIdeal.nD Cert.LatentInIdeal.τ).loc Cert.LatentInIdeal.main_arg3) = m ((c.tc : Thread Cert.LatentInIdeal.nD Cert.LatentInIdeal.τ).loc Cert.LatentInIdeal.main_arg3))
      ∧ r.2.sem = fun _ => 0)

def quiescent_LatentInRefIdeal [hLatentInRefIdeal : Cert.LatentInRefIdeal.Facts] : Prop :=
  ∀ (m : (ℓ : Loc Cert.LatentInRefIdeal.nD Cert.LatentInRefIdeal.τ Cert.LatentInRefIdeal.sig) → Buf (Elt Ideal) ℓ) (g : Dev Cert.LatentInRefIdeal.nD → PrngReg), Pre_LatentInRefIdeal m →
    θ_run (Cert.LatentInRefIdeal.defs (F := Ideal)) (onTc (τ := Cert.LatentInRefIdeal.τ) (Cert.LatentInRefIdeal.main (F := Ideal))) ⟨m, fun _ => 0, g⟩ (fun r => (∀ c : Dev Cert.LatentInRefIdeal.nD,
      r.2.mem ((c.tc : Thread Cert.LatentInRefIdeal.nD Cert.LatentInRefIdeal.τ).loc Cert.LatentInRefIdeal.main_arg0) = m ((c.tc : Thread Cert.LatentInRefIdeal.nD Cert.LatentInRefIdeal.τ).loc Cert.LatentInRefIdeal.main_arg0)
      ∧ r.2.mem ((c.tc : Thread Cert.LatentInRefIdeal.nD Cert.LatentInRefIdeal.τ).loc Cert.LatentInRefIdeal.main_arg1) = m ((c.tc : Thread Cert.LatentInRefIdeal.nD Cert.LatentInRefIdeal.τ).loc Cert.LatentInRefIdeal.main_arg1)
      ∧ r.2.mem ((c.tc : Thread Cert.LatentInRefIdeal.nD Cert.LatentInRefIdeal.τ).loc Cert.LatentInRefIdeal.main_arg2) = m ((c.tc : Thread Cert.LatentInRefIdeal.nD Cert.LatentInRefIdeal.τ).loc Cert.LatentInRefIdeal.main_arg2)
      ∧ r.2.mem ((c.tc : Thread Cert.LatentInRefIdeal.nD Cert.LatentInRefIdeal.τ).loc Cert.LatentInRefIdeal.main_arg3) = m ((c.tc : Thread Cert.LatentInRefIdeal.nD Cert.LatentInRefIdeal.τ).loc Cert.LatentInRefIdeal.main_arg3))
      ∧ r.2.sem = fun _ => 0)

def quiescent_ProjLast [hProjLast : Cert.ProjLast.Facts] : Prop :=
  ∀ (m : (ℓ : Loc Cert.ProjLast.nD Cert.ProjLast.τ Cert.ProjLast.sig) → Buf (Elt Bits) ℓ) (g : Dev Cert.ProjLast.nD → PrngReg), Pre_ProjLast m →
    θ_run (Cert.ProjLast.defs (F := Bits)) (onTc (τ := Cert.ProjLast.τ) (Cert.ProjLast.main (F := Bits))) ⟨m, fun _ => 0, g⟩ (fun r => (∀ c : Dev Cert.ProjLast.nD,
      r.2.mem ((c.tc : Thread Cert.ProjLast.nD Cert.ProjLast.τ).loc Cert.ProjLast.main_arg0) = m ((c.tc : Thread Cert.ProjLast.nD Cert.ProjLast.τ).loc Cert.ProjLast.main_arg0)
      ∧ r.2.mem ((c.tc : Thread Cert.ProjLast.nD Cert.ProjLast.τ).loc Cert.ProjLast.main_arg1) = m ((c.tc : Thread Cert.ProjLast.nD Cert.ProjLast.τ).loc Cert.ProjLast.main_arg1)
      ∧ r.2.mem ((c.tc : Thread Cert.ProjLast.nD Cert.ProjLast.τ).loc Cert.ProjLast.main_arg2) = m ((c.tc : Thread Cert.ProjLast.nD Cert.ProjLast.τ).loc Cert.ProjLast.main_arg2)
      ∧ r.2.mem ((c.tc : Thread Cert.ProjLast.nD Cert.ProjLast.τ).loc Cert.ProjLast.main_arg3) = m ((c.tc : Thread Cert.ProjLast.nD Cert.ProjLast.τ).loc Cert.ProjLast.main_arg3))
      ∧ r.2.sem = fun _ => 0)

def quiescent_ProjLastIdeal [hProjLastIdeal : Cert.ProjLastIdeal.Facts] : Prop :=
  ∀ (m : (ℓ : Loc Cert.ProjLastIdeal.nD Cert.ProjLastIdeal.τ Cert.ProjLastIdeal.sig) → Buf (Elt Ideal) ℓ) (g : Dev Cert.ProjLastIdeal.nD → PrngReg), Pre_ProjLastIdeal m →
    θ_run (Cert.ProjLastIdeal.defs (F := Ideal)) (onTc (τ := Cert.ProjLastIdeal.τ) (Cert.ProjLastIdeal.main (F := Ideal))) ⟨m, fun _ => 0, g⟩ (fun r => (∀ c : Dev Cert.ProjLastIdeal.nD,
      r.2.mem ((c.tc : Thread Cert.ProjLastIdeal.nD Cert.ProjLastIdeal.τ).loc Cert.ProjLastIdeal.main_arg0) = m ((c.tc : Thread Cert.ProjLastIdeal.nD Cert.ProjLastIdeal.τ).loc Cert.ProjLastIdeal.main_arg0)
      ∧ r.2.mem ((c.tc : Thread Cert.ProjLastIdeal.nD Cert.ProjLastIdeal.τ).loc Cert.ProjLastIdeal.main_arg1) = m ((c.tc : Thread Cert.ProjLastIdeal.nD Cert.ProjLastIdeal.τ).loc Cert.ProjLastIdeal.main_arg1)
      ∧ r.2.mem ((c.tc : Thread Cert.ProjLastIdeal.nD Cert.ProjLastIdeal.τ).loc Cert.ProjLastIdeal.main_arg2) = m ((c.tc : Thread Cert.ProjLastIdeal.nD Cert.ProjLastIdeal.τ).loc Cert.ProjLastIdeal.main_arg2)
      ∧ r.2.mem ((c.tc : Thread Cert.ProjLastIdeal.nD Cert.ProjLastIdeal.τ).loc Cert.ProjLastIdeal.main_arg3) = m ((c.tc : Thread Cert.ProjLastIdeal.nD Cert.ProjLastIdeal.τ).loc Cert.ProjLastIdeal.main_arg3))
      ∧ r.2.sem = fun _ => 0)

def quiescent_ProjLastRefIdeal [hProjLastRefIdeal : Cert.ProjLastRefIdeal.Facts] : Prop :=
  ∀ (m : (ℓ : Loc Cert.ProjLastRefIdeal.nD Cert.ProjLastRefIdeal.τ Cert.ProjLastRefIdeal.sig) → Buf (Elt Ideal) ℓ) (g : Dev Cert.ProjLastRefIdeal.nD → PrngReg), Pre_ProjLastRefIdeal m →
    θ_run (Cert.ProjLastRefIdeal.defs (F := Ideal)) (onTc (τ := Cert.ProjLastRefIdeal.τ) (Cert.ProjLastRefIdeal.main (F := Ideal))) ⟨m, fun _ => 0, g⟩ (fun r => (∀ c : Dev Cert.ProjLastRefIdeal.nD,
      r.2.mem ((c.tc : Thread Cert.ProjLastRefIdeal.nD Cert.ProjLastRefIdeal.τ).loc Cert.ProjLastRefIdeal.main_arg0) = m ((c.tc : Thread Cert.ProjLastRefIdeal.nD Cert.ProjLastRefIdeal.τ).loc Cert.ProjLastRefIdeal.main_arg0)
      ∧ r.2.mem ((c.tc : Thread Cert.ProjLastRefIdeal.nD Cert.ProjLastRefIdeal.τ).loc Cert.ProjLastRefIdeal.main_arg1) = m ((c.tc : Thread Cert.ProjLastRefIdeal.nD Cert.ProjLastRefIdeal.τ).loc Cert.ProjLastRefIdeal.main_arg1)
      ∧ r.2.mem ((c.tc : Thread Cert.ProjLastRefIdeal.nD Cert.ProjLastRefIdeal.τ).loc Cert.ProjLastRefIdeal.main_arg2) = m ((c.tc : Thread Cert.ProjLastRefIdeal.nD Cert.ProjLastRefIdeal.τ).loc Cert.ProjLastRefIdeal.main_arg2)
      ∧ r.2.mem ((c.tc : Thread Cert.ProjLastRefIdeal.nD Cert.ProjLastRefIdeal.τ).loc Cert.ProjLastRefIdeal.main_arg3) = m ((c.tc : Thread Cert.ProjLastRefIdeal.nD Cert.ProjLastRefIdeal.τ).loc Cert.ProjLastRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_LatentUp [hLatentUp : Cert.LatentUp.Facts] : Prop :=
  ∀ (m : (ℓ : Loc Cert.LatentUp.nD Cert.LatentUp.τ Cert.LatentUp.sig) → Buf (Elt Bits) ℓ) (g : Dev Cert.LatentUp.nD → PrngReg), Pre_LatentUp m →
    θ_run (Cert.LatentUp.defs (F := Bits)) (onTc (τ := Cert.LatentUp.τ) (Cert.LatentUp.main (F := Bits))) ⟨m, fun _ => 0, g⟩ (fun r => (∀ c : Dev Cert.LatentUp.nD,
      r.2.mem ((c.tc : Thread Cert.LatentUp.nD Cert.LatentUp.τ).loc Cert.LatentUp.main_arg0) = m ((c.tc : Thread Cert.LatentUp.nD Cert.LatentUp.τ).loc Cert.LatentUp.main_arg0)
      ∧ r.2.mem ((c.tc : Thread Cert.LatentUp.nD Cert.LatentUp.τ).loc Cert.LatentUp.main_arg1) = m ((c.tc : Thread Cert.LatentUp.nD Cert.LatentUp.τ).loc Cert.LatentUp.main_arg1)
      ∧ r.2.mem ((c.tc : Thread Cert.LatentUp.nD Cert.LatentUp.τ).loc Cert.LatentUp.main_arg2) = m ((c.tc : Thread Cert.LatentUp.nD Cert.LatentUp.τ).loc Cert.LatentUp.main_arg2)
      ∧ r.2.mem ((c.tc : Thread Cert.LatentUp.nD Cert.LatentUp.τ).loc Cert.LatentUp.main_arg3) = m ((c.tc : Thread Cert.LatentUp.nD Cert.LatentUp.τ).loc Cert.LatentUp.main_arg3)
      ∧ r.2.mem ((c.tc : Thread Cert.LatentUp.nD Cert.LatentUp.τ).loc Cert.LatentUp.main_arg4) = m ((c.tc : Thread Cert.LatentUp.nD Cert.LatentUp.τ).loc Cert.LatentUp.main_arg4)
      ∧ r.2.mem ((c.tc : Thread Cert.LatentUp.nD Cert.LatentUp.τ).loc Cert.LatentUp.main_arg5) = m ((c.tc : Thread Cert.LatentUp.nD Cert.LatentUp.τ).loc Cert.LatentUp.main_arg5)
      ∧ r.2.mem ((c.tc : Thread Cert.LatentUp.nD Cert.LatentUp.τ).loc Cert.LatentUp.main_arg6) = m ((c.tc : Thread Cert.LatentUp.nD Cert.LatentUp.τ).loc Cert.LatentUp.main_arg6)
      ∧ r.2.mem ((c.tc : Thread Cert.LatentUp.nD Cert.LatentUp.τ).loc Cert.LatentUp.main_arg7) = m ((c.tc : Thread Cert.LatentUp.nD Cert.LatentUp.τ).loc Cert.LatentUp.main_arg7)
      ∧ r.2.mem ((c.tc : Thread Cert.LatentUp.nD Cert.LatentUp.τ).loc Cert.LatentUp.main_arg8) = m ((c.tc : Thread Cert.LatentUp.nD Cert.LatentUp.τ).loc Cert.LatentUp.main_arg8))
      ∧ r.2.sem = fun _ => 0)

def quiescent_LatentUpIdeal [hLatentUpIdeal : Cert.LatentUpIdeal.Facts] : Prop :=
  ∀ (m : (ℓ : Loc Cert.LatentUpIdeal.nD Cert.LatentUpIdeal.τ Cert.LatentUpIdeal.sig) → Buf (Elt Ideal) ℓ) (g : Dev Cert.LatentUpIdeal.nD → PrngReg), Pre_LatentUpIdeal m →
    θ_run (Cert.LatentUpIdeal.defs (F := Ideal)) (onTc (τ := Cert.LatentUpIdeal.τ) (Cert.LatentUpIdeal.main (F := Ideal))) ⟨m, fun _ => 0, g⟩ (fun r => (∀ c : Dev Cert.LatentUpIdeal.nD,
      r.2.mem ((c.tc : Thread Cert.LatentUpIdeal.nD Cert.LatentUpIdeal.τ).loc Cert.LatentUpIdeal.main_arg0) = m ((c.tc : Thread Cert.LatentUpIdeal.nD Cert.LatentUpIdeal.τ).loc Cert.LatentUpIdeal.main_arg0)
      ∧ r.2.mem ((c.tc : Thread Cert.LatentUpIdeal.nD Cert.LatentUpIdeal.τ).loc Cert.LatentUpIdeal.main_arg1) = m ((c.tc : Thread Cert.LatentUpIdeal.nD Cert.LatentUpIdeal.τ).loc Cert.LatentUpIdeal.main_arg1)
      ∧ r.2.mem ((c.tc : Thread Cert.LatentUpIdeal.nD Cert.LatentUpIdeal.τ).loc Cert.LatentUpIdeal.main_arg2) = m ((c.tc : Thread Cert.LatentUpIdeal.nD Cert.LatentUpIdeal.τ).loc Cert.LatentUpIdeal.main_arg2)
      ∧ r.2.mem ((c.tc : Thread Cert.LatentUpIdeal.nD Cert.LatentUpIdeal.τ).loc Cert.LatentUpIdeal.main_arg3) = m ((c.tc : Thread Cert.LatentUpIdeal.nD Cert.LatentUpIdeal.τ).loc Cert.LatentUpIdeal.main_arg3)
      ∧ r.2.mem ((c.tc : Thread Cert.LatentUpIdeal.nD Cert.LatentUpIdeal.τ).loc Cert.LatentUpIdeal.main_arg4) = m ((c.tc : Thread Cert.LatentUpIdeal.nD Cert.LatentUpIdeal.τ).loc Cert.LatentUpIdeal.main_arg4)
      ∧ r.2.mem ((c.tc : Thread Cert.LatentUpIdeal.nD Cert.LatentUpIdeal.τ).loc Cert.LatentUpIdeal.main_arg5) = m ((c.tc : Thread Cert.LatentUpIdeal.nD Cert.LatentUpIdeal.τ).loc Cert.LatentUpIdeal.main_arg5)
      ∧ r.2.mem ((c.tc : Thread Cert.LatentUpIdeal.nD Cert.LatentUpIdeal.τ).loc Cert.LatentUpIdeal.main_arg6) = m ((c.tc : Thread Cert.LatentUpIdeal.nD Cert.LatentUpIdeal.τ).loc Cert.LatentUpIdeal.main_arg6)
      ∧ r.2.mem ((c.tc : Thread Cert.LatentUpIdeal.nD Cert.LatentUpIdeal.τ).loc Cert.LatentUpIdeal.main_arg7) = m ((c.tc : Thread Cert.LatentUpIdeal.nD Cert.LatentUpIdeal.τ).loc Cert.LatentUpIdeal.main_arg7)
      ∧ r.2.mem ((c.tc : Thread Cert.LatentUpIdeal.nD Cert.LatentUpIdeal.τ).loc Cert.LatentUpIdeal.main_arg8) = m ((c.tc : Thread Cert.LatentUpIdeal.nD Cert.LatentUpIdeal.τ).loc Cert.LatentUpIdeal.main_arg8))
      ∧ r.2.sem = fun _ => 0)

def quiescent_LatentUpRefIdeal [hLatentUpRefIdeal : Cert.LatentUpRefIdeal.Facts] : Prop :=
  ∀ (m : (ℓ : Loc Cert.LatentUpRefIdeal.nD Cert.LatentUpRefIdeal.τ Cert.LatentUpRefIdeal.sig) → Buf (Elt Ideal) ℓ) (g : Dev Cert.LatentUpRefIdeal.nD → PrngReg), Pre_LatentUpRefIdeal m →
    θ_run (Cert.LatentUpRefIdeal.defs (F := Ideal)) (onTc (τ := Cert.LatentUpRefIdeal.τ) (Cert.LatentUpRefIdeal.main (F := Ideal))) ⟨m, fun _ => 0, g⟩ (fun r => (∀ c : Dev Cert.LatentUpRefIdeal.nD,
      r.2.mem ((c.tc : Thread Cert.LatentUpRefIdeal.nD Cert.LatentUpRefIdeal.τ).loc Cert.LatentUpRefIdeal.main_arg0) = m ((c.tc : Thread Cert.LatentUpRefIdeal.nD Cert.LatentUpRefIdeal.τ).loc Cert.LatentUpRefIdeal.main_arg0)
      ∧ r.2.mem ((c.tc : Thread Cert.LatentUpRefIdeal.nD Cert.LatentUpRefIdeal.τ).loc Cert.LatentUpRefIdeal.main_arg1) = m ((c.tc : Thread Cert.LatentUpRefIdeal.nD Cert.LatentUpRefIdeal.τ).loc Cert.LatentUpRefIdeal.main_arg1)
      ∧ r.2.mem ((c.tc : Thread Cert.LatentUpRefIdeal.nD Cert.LatentUpRefIdeal.τ).loc Cert.LatentUpRefIdeal.main_arg2) = m ((c.tc : Thread Cert.LatentUpRefIdeal.nD Cert.LatentUpRefIdeal.τ).loc Cert.LatentUpRefIdeal.main_arg2)
      ∧ r.2.mem ((c.tc : Thread Cert.LatentUpRefIdeal.nD Cert.LatentUpRefIdeal.τ).loc Cert.LatentUpRefIdeal.main_arg3) = m ((c.tc : Thread Cert.LatentUpRefIdeal.nD Cert.LatentUpRefIdeal.τ).loc Cert.LatentUpRefIdeal.main_arg3)
      ∧ r.2.mem ((c.tc : Thread Cert.LatentUpRefIdeal.nD Cert.LatentUpRefIdeal.τ).loc Cert.LatentUpRefIdeal.main_arg4) = m ((c.tc : Thread Cert.LatentUpRefIdeal.nD Cert.LatentUpRefIdeal.τ).loc Cert.LatentUpRefIdeal.main_arg4)
      ∧ r.2.mem ((c.tc : Thread Cert.LatentUpRefIdeal.nD Cert.LatentUpRefIdeal.τ).loc Cert.LatentUpRefIdeal.main_arg5) = m ((c.tc : Thread Cert.LatentUpRefIdeal.nD Cert.LatentUpRefIdeal.τ).loc Cert.LatentUpRefIdeal.main_arg5)
      ∧ r.2.mem ((c.tc : Thread Cert.LatentUpRefIdeal.nD Cert.LatentUpRefIdeal.τ).loc Cert.LatentUpRefIdeal.main_arg6) = m ((c.tc : Thread Cert.LatentUpRefIdeal.nD Cert.LatentUpRefIdeal.τ).loc Cert.LatentUpRefIdeal.main_arg6)
      ∧ r.2.mem ((c.tc : Thread Cert.LatentUpRefIdeal.nD Cert.LatentUpRefIdeal.τ).loc Cert.LatentUpRefIdeal.main_arg7) = m ((c.tc : Thread Cert.LatentUpRefIdeal.nD Cert.LatentUpRefIdeal.τ).loc Cert.LatentUpRefIdeal.main_arg7)
      ∧ r.2.mem ((c.tc : Thread Cert.LatentUpRefIdeal.nD Cert.LatentUpRefIdeal.τ).loc Cert.LatentUpRefIdeal.main_arg8) = m ((c.tc : Thread Cert.LatentUpRefIdeal.nD Cert.LatentUpRefIdeal.τ).loc Cert.LatentUpRefIdeal.main_arg8))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4))
      ∧ r.2.sem = fun _ => 0)

def quiescent_MlpLastRefIdeal [hMlpLastRefIdeal : Cert.MlpLastRefIdeal.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2)
      ∧ r.2.mem ((c.tc : Thread Cert.MlpLastRefIdeal.nD Cert.MlpLastRefIdeal.τ).loc Cert.MlpLastRefIdeal.main_arg3) = m ((c.tc : Thread Cert.MlpLastRefIdeal.nD Cert.MlpLastRefIdeal.τ).loc Cert.MlpLastRefIdeal.main_arg3)
      ∧ r.2.mem ((c.tc : Thread Cert.MlpLastRefIdeal.nD Cert.MlpLastRefIdeal.τ).loc Cert.MlpLastRefIdeal.main_arg4) = m ((c.tc : Thread Cert.MlpLastRefIdeal.nD Cert.MlpLastRefIdeal.τ).loc Cert.MlpLastRefIdeal.main_arg4))
      ∧ r.2.sem = fun _ => 0)

def quiescent_GdnGates [hGdnGates : Cert.GdnGates.Facts] : Prop :=
  ∀ (m : (ℓ : Loc Cert.GdnGates.nD Cert.GdnGates.τ Cert.GdnGates.sig) → Buf (Elt Bits) ℓ) (g : Dev Cert.GdnGates.nD → PrngReg), Pre_GdnGates m →
    θ_run (Cert.GdnGates.defs (F := Bits)) (onTc (τ := Cert.GdnGates.τ) (Cert.GdnGates.main (F := Bits))) ⟨m, fun _ => 0, g⟩ (fun r => (∀ c : Dev Cert.GdnGates.nD,
      r.2.mem ((c.tc : Thread Cert.GdnGates.nD Cert.GdnGates.τ).loc Cert.GdnGates.main_arg0) = m ((c.tc : Thread Cert.GdnGates.nD Cert.GdnGates.τ).loc Cert.GdnGates.main_arg0)
      ∧ r.2.mem ((c.tc : Thread Cert.GdnGates.nD Cert.GdnGates.τ).loc Cert.GdnGates.main_arg1) = m ((c.tc : Thread Cert.GdnGates.nD Cert.GdnGates.τ).loc Cert.GdnGates.main_arg1)
      ∧ r.2.mem ((c.tc : Thread Cert.GdnGates.nD Cert.GdnGates.τ).loc Cert.GdnGates.main_arg2) = m ((c.tc : Thread Cert.GdnGates.nD Cert.GdnGates.τ).loc Cert.GdnGates.main_arg2)
      ∧ r.2.mem ((c.tc : Thread Cert.GdnGates.nD Cert.GdnGates.τ).loc Cert.GdnGates.main_arg3) = m ((c.tc : Thread Cert.GdnGates.nD Cert.GdnGates.τ).loc Cert.GdnGates.main_arg3))
      ∧ r.2.sem = fun _ => 0)

def quiescent_GdnGatesIdeal [hGdnGatesIdeal : Cert.GdnGatesIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg), Pre_GdnGatesIdeal m →
    θ_run (Cert.GdnGatesIdeal.defs (F := Ideal)) (onTc (τ := Cert.GdnGatesIdeal.τ) (Cert.GdnGatesIdeal.main (F := Ideal))) ⟨m, fun _ => 0, g⟩ (fun r => (∀ c : Dev Cert.GdnGatesIdeal.nD,
      r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
      ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
      ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2)
      ∧ r.2.mem ((c.tc : Thread Cert.GdnGatesIdeal.nD Cert.GdnGatesIdeal.τ).loc Cert.GdnGatesIdeal.main_arg3) = m ((c.tc : Thread Cert.GdnGatesIdeal.nD Cert.GdnGatesIdeal.τ).loc Cert.GdnGatesIdeal.main_arg3))
      ∧ r.2.sem = fun _ => 0)

def quiescent_GdnGatesRefIdeal [hGdnGatesRefIdeal : Cert.GdnGatesRefIdeal.Facts] : Prop :=
  ∀ (m : (ℓ : Loc Cert.GdnGatesRefIdeal.nD Cert.GdnGatesRefIdeal.τ Cert.GdnGatesRefIdeal.sig) → Buf (Elt Ideal) ℓ) (g : Dev Cert.GdnGatesRefIdeal.nD → PrngReg), Pre_GdnGatesRefIdeal m →
    θ_run (Cert.GdnGatesRefIdeal.defs (F := Ideal)) (onTc (τ := Cert.GdnGatesRefIdeal.τ) (Cert.GdnGatesRefIdeal.main (F := Ideal))) ⟨m, fun _ => 0, g⟩ (fun r => (∀ c : Dev Cert.GdnGatesRefIdeal.nD,
      r.2.mem ((c.tc : Thread Cert.GdnGatesRefIdeal.nD Cert.GdnGatesRefIdeal.τ).loc Cert.GdnGatesRefIdeal.main_arg0) = m ((c.tc : Thread Cert.GdnGatesRefIdeal.nD Cert.GdnGatesRefIdeal.τ).loc Cert.GdnGatesRefIdeal.main_arg0)
      ∧ r.2.mem ((c.tc : Thread Cert.GdnGatesRefIdeal.nD Cert.GdnGatesRefIdeal.τ).loc Cert.GdnGatesRefIdeal.main_arg1) = m ((c.tc : Thread Cert.GdnGatesRefIdeal.nD Cert.GdnGatesRefIdeal.τ).loc Cert.GdnGatesRefIdeal.main_arg1)
      ∧ r.2.mem ((c.tc : Thread Cert.GdnGatesRefIdeal.nD Cert.GdnGatesRefIdeal.τ).loc Cert.GdnGatesRefIdeal.main_arg2) = m ((c.tc : Thread Cert.GdnGatesRefIdeal.nD Cert.GdnGatesRefIdeal.τ).loc Cert.GdnGatesRefIdeal.main_arg2)
      ∧ r.2.mem ((c.tc : Thread Cert.GdnGatesRefIdeal.nD Cert.GdnGatesRefIdeal.τ).loc Cert.GdnGatesRefIdeal.main_arg3) = m ((c.tc : Thread Cert.GdnGatesRefIdeal.nD Cert.GdnGatesRefIdeal.τ).loc Cert.GdnGatesRefIdeal.main_arg3))
      ∧ r.2.sem = fun _ => 0)

def quiescent_LstmGates [hLstmGates : Cert.LstmGates.Facts] : Prop :=
  ∀ (m : (ℓ : Loc Cert.LstmGates.nD Cert.LstmGates.τ Cert.LstmGates.sig) → Buf (Elt Bits) ℓ) (g : Dev Cert.LstmGates.nD → PrngReg), Pre_LstmGates m →
    θ_run (Cert.LstmGates.defs (F := Bits)) (onTc (τ := Cert.LstmGates.τ) (Cert.LstmGates.main (F := Bits))) ⟨m, fun _ => 0, g⟩ (fun r => (∀ c : Dev Cert.LstmGates.nD,
      r.2.mem ((c.tc : Thread Cert.LstmGates.nD Cert.LstmGates.τ).loc Cert.LstmGates.main_arg0) = m ((c.tc : Thread Cert.LstmGates.nD Cert.LstmGates.τ).loc Cert.LstmGates.main_arg0)
      ∧ r.2.mem ((c.tc : Thread Cert.LstmGates.nD Cert.LstmGates.τ).loc Cert.LstmGates.main_arg1) = m ((c.tc : Thread Cert.LstmGates.nD Cert.LstmGates.τ).loc Cert.LstmGates.main_arg1)
      ∧ r.2.mem ((c.tc : Thread Cert.LstmGates.nD Cert.LstmGates.τ).loc Cert.LstmGates.main_arg2) = m ((c.tc : Thread Cert.LstmGates.nD Cert.LstmGates.τ).loc Cert.LstmGates.main_arg2)
      ∧ r.2.mem ((c.tc : Thread Cert.LstmGates.nD Cert.LstmGates.τ).loc Cert.LstmGates.main_arg3) = m ((c.tc : Thread Cert.LstmGates.nD Cert.LstmGates.τ).loc Cert.LstmGates.main_arg3))
      ∧ r.2.sem = fun _ => 0)

def quiescent_LstmGatesIdeal [hLstmGatesIdeal : Cert.LstmGatesIdeal.Facts] : Prop :=
  ∀ (m : (ℓ : Loc Cert.LstmGatesIdeal.nD Cert.LstmGatesIdeal.τ Cert.LstmGatesIdeal.sig) → Buf (Elt Ideal) ℓ) (g : Dev Cert.LstmGatesIdeal.nD → PrngReg), Pre_LstmGatesIdeal m →
    θ_run (Cert.LstmGatesIdeal.defs (F := Ideal)) (onTc (τ := Cert.LstmGatesIdeal.τ) (Cert.LstmGatesIdeal.main (F := Ideal))) ⟨m, fun _ => 0, g⟩ (fun r => (∀ c : Dev Cert.LstmGatesIdeal.nD,
      r.2.mem ((c.tc : Thread Cert.LstmGatesIdeal.nD Cert.LstmGatesIdeal.τ).loc Cert.LstmGatesIdeal.main_arg0) = m ((c.tc : Thread Cert.LstmGatesIdeal.nD Cert.LstmGatesIdeal.τ).loc Cert.LstmGatesIdeal.main_arg0)
      ∧ r.2.mem ((c.tc : Thread Cert.LstmGatesIdeal.nD Cert.LstmGatesIdeal.τ).loc Cert.LstmGatesIdeal.main_arg1) = m ((c.tc : Thread Cert.LstmGatesIdeal.nD Cert.LstmGatesIdeal.τ).loc Cert.LstmGatesIdeal.main_arg1)
      ∧ r.2.mem ((c.tc : Thread Cert.LstmGatesIdeal.nD Cert.LstmGatesIdeal.τ).loc Cert.LstmGatesIdeal.main_arg2) = m ((c.tc : Thread Cert.LstmGatesIdeal.nD Cert.LstmGatesIdeal.τ).loc Cert.LstmGatesIdeal.main_arg2)
      ∧ r.2.mem ((c.tc : Thread Cert.LstmGatesIdeal.nD Cert.LstmGatesIdeal.τ).loc Cert.LstmGatesIdeal.main_arg3) = m ((c.tc : Thread Cert.LstmGatesIdeal.nD Cert.LstmGatesIdeal.τ).loc Cert.LstmGatesIdeal.main_arg3))
      ∧ r.2.sem = fun _ => 0)

def quiescent_LstmGatesRefIdeal [hLstmGatesRefIdeal : Cert.LstmGatesRefIdeal.Facts] : Prop :=
  ∀ (m : (ℓ : Loc Cert.LstmGatesRefIdeal.nD Cert.LstmGatesRefIdeal.τ Cert.LstmGatesRefIdeal.sig) → Buf (Elt Ideal) ℓ) (g : Dev Cert.LstmGatesRefIdeal.nD → PrngReg), Pre_LstmGatesRefIdeal m →
    θ_run (Cert.LstmGatesRefIdeal.defs (F := Ideal)) (onTc (τ := Cert.LstmGatesRefIdeal.τ) (Cert.LstmGatesRefIdeal.main (F := Ideal))) ⟨m, fun _ => 0, g⟩ (fun r => (∀ c : Dev Cert.LstmGatesRefIdeal.nD,
      r.2.mem ((c.tc : Thread Cert.LstmGatesRefIdeal.nD Cert.LstmGatesRefIdeal.τ).loc Cert.LstmGatesRefIdeal.main_arg0) = m ((c.tc : Thread Cert.LstmGatesRefIdeal.nD Cert.LstmGatesRefIdeal.τ).loc Cert.LstmGatesRefIdeal.main_arg0)
      ∧ r.2.mem ((c.tc : Thread Cert.LstmGatesRefIdeal.nD Cert.LstmGatesRefIdeal.τ).loc Cert.LstmGatesRefIdeal.main_arg1) = m ((c.tc : Thread Cert.LstmGatesRefIdeal.nD Cert.LstmGatesRefIdeal.τ).loc Cert.LstmGatesRefIdeal.main_arg1)
      ∧ r.2.mem ((c.tc : Thread Cert.LstmGatesRefIdeal.nD Cert.LstmGatesRefIdeal.τ).loc Cert.LstmGatesRefIdeal.main_arg2) = m ((c.tc : Thread Cert.LstmGatesRefIdeal.nD Cert.LstmGatesRefIdeal.τ).loc Cert.LstmGatesRefIdeal.main_arg2)
      ∧ r.2.mem ((c.tc : Thread Cert.LstmGatesRefIdeal.nD Cert.LstmGatesRefIdeal.τ).loc Cert.LstmGatesRefIdeal.main_arg3) = m ((c.tc : Thread Cert.LstmGatesRefIdeal.nD Cert.LstmGatesRefIdeal.τ).loc Cert.LstmGatesRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Attn_AttnIdeal : Prop :=
  True

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v90) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)
      ∧ m' ((c.tc : Thread Cert.GdnInRefIdeal.nD Cert.GdnInRefIdeal.τ).loc Cert.GdnInRefIdeal.main_arg3) = m ((c.tc : Thread Cert.GdnInIdeal.nD Cert.GdnInIdeal.τ).loc Cert.GdnInIdeal.main_arg3)) →
    ∃ (v0 : (c : Dev Cert.GdnInIdeal.nD) → Buf (Elt Ideal) ((c.tc : Thread Cert.GdnInIdeal.nD Cert.GdnInIdeal.τ).loc Cert.GdnInIdeal.main_v3)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v3) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
          ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v63) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2)
          ∧ r.2.mem ((c.tc : Thread Cert.GdnInRefIdeal.nD Cert.GdnInRefIdeal.τ).loc Cert.GdnInRefIdeal.main_arg3) = m' ((c.tc : Thread Cert.GdnInRefIdeal.nD Cert.GdnInRefIdeal.τ).loc Cert.GdnInRefIdeal.main_arg3))

def preserves_LstmIn_LstmInIdeal : Prop :=
  True

def algebraic_LstmInIdeal_LstmInRefIdeal [hLstmInIdeal : Cert.LstmInIdeal.Facts] [hLstmInRefIdeal : Cert.LstmInRefIdeal.Facts] : Prop :=
  ∀ (m : (ℓ : Loc Cert.LstmInIdeal.nD Cert.LstmInIdeal.τ Cert.LstmInIdeal.sig) → Buf (Elt Ideal) ℓ) (g : Dev Cert.LstmInIdeal.nD → PrngReg)
    (m' : (ℓ : Loc Cert.LstmInRefIdeal.nD Cert.LstmInRefIdeal.τ Cert.LstmInRefIdeal.sig) → Buf (Elt Ideal) ℓ) (g' : Dev Cert.LstmInRefIdeal.nD → PrngReg), Pre_LstmInIdeal m →
    (∀ c : Dev Cert.LstmInIdeal.nD,
      m' ((c.tc : Thread Cert.LstmInRefIdeal.nD Cert.LstmInRefIdeal.τ).loc Cert.LstmInRefIdeal.main_arg0) = m ((c.tc : Thread Cert.LstmInIdeal.nD Cert.LstmInIdeal.τ).loc Cert.LstmInIdeal.main_arg0)
      ∧ m' ((c.tc : Thread Cert.LstmInRefIdeal.nD Cert.LstmInRefIdeal.τ).loc Cert.LstmInRefIdeal.main_arg1) = m ((c.tc : Thread Cert.LstmInIdeal.nD Cert.LstmInIdeal.τ).loc Cert.LstmInIdeal.main_arg1)
      ∧ m' ((c.tc : Thread Cert.LstmInRefIdeal.nD Cert.LstmInRefIdeal.τ).loc Cert.LstmInRefIdeal.main_arg2) = m ((c.tc : Thread Cert.LstmInIdeal.nD Cert.LstmInIdeal.τ).loc Cert.LstmInIdeal.main_arg2)
      ∧ m' ((c.tc : Thread Cert.LstmInRefIdeal.nD Cert.LstmInRefIdeal.τ).loc Cert.LstmInRefIdeal.main_arg3) = m ((c.tc : Thread Cert.LstmInIdeal.nD Cert.LstmInIdeal.τ).loc Cert.LstmInIdeal.main_arg3)) →
    ∃ (v0 : (c : Dev Cert.LstmInIdeal.nD) → Buf (Elt Ideal) ((c.tc : Thread Cert.LstmInIdeal.nD Cert.LstmInIdeal.τ).loc Cert.LstmInIdeal.main_v3)),
      θ_run (Cert.LstmInIdeal.defs (F := Ideal)) (onTc (τ := Cert.LstmInIdeal.τ) (Cert.LstmInIdeal.main (F := Ideal))) ⟨m, fun _ => 0, g⟩ (fun r => ∀ c : Dev Cert.LstmInIdeal.nD,
          r.2.mem ((c.tc : Thread Cert.LstmInIdeal.nD Cert.LstmInIdeal.τ).loc Cert.LstmInIdeal.main_v3) = v0 c
          ∧ r.2.mem ((c.tc : Thread Cert.LstmInIdeal.nD Cert.LstmInIdeal.τ).loc Cert.LstmInIdeal.main_arg0) = m ((c.tc : Thread Cert.LstmInIdeal.nD Cert.LstmInIdeal.τ).loc Cert.LstmInIdeal.main_arg0)
          ∧ r.2.mem ((c.tc : Thread Cert.LstmInIdeal.nD Cert.LstmInIdeal.τ).loc Cert.LstmInIdeal.main_arg1) = m ((c.tc : Thread Cert.LstmInIdeal.nD Cert.LstmInIdeal.τ).loc Cert.LstmInIdeal.main_arg1)
          ∧ r.2.mem ((c.tc : Thread Cert.LstmInIdeal.nD Cert.LstmInIdeal.τ).loc Cert.LstmInIdeal.main_arg2) = m ((c.tc : Thread Cert.LstmInIdeal.nD Cert.LstmInIdeal.τ).loc Cert.LstmInIdeal.main_arg2)
          ∧ r.2.mem ((c.tc : Thread Cert.LstmInIdeal.nD Cert.LstmInIdeal.τ).loc Cert.LstmInIdeal.main_arg3) = m ((c.tc : Thread Cert.LstmInIdeal.nD Cert.LstmInIdeal.τ).loc Cert.LstmInIdeal.main_arg3))
      ∧ θ_run (Cert.LstmInRefIdeal.defs (F := Ideal)) (onTc (τ := Cert.LstmInRefIdeal.τ) (Cert.LstmInRefIdeal.main (F := Ideal))) ⟨m', fun _ => 0, g'⟩ (fun r => ∀ c : Dev Cert.LstmInRefIdeal.nD,
          r.2.mem ((c.tc : Thread Cert.LstmInRefIdeal.nD Cert.LstmInRefIdeal.τ).loc Cert.LstmInRefIdeal.main_v63) = v0 c
          ∧ r.2.mem ((c.tc : Thread Cert.LstmInRefIdeal.nD Cert.LstmInRefIdeal.τ).loc Cert.LstmInRefIdeal.main_arg0) = m' ((c.tc : Thread Cert.LstmInRefIdeal.nD Cert.LstmInRefIdeal.τ).loc Cert.LstmInRefIdeal.main_arg0)
          ∧ r.2.mem ((c.tc : Thread Cert.LstmInRefIdeal.nD Cert.LstmInRefIdeal.τ).loc Cert.LstmInRefIdeal.main_arg1) = m' ((c.tc : Thread Cert.LstmInRefIdeal.nD Cert.LstmInRefIdeal.τ).loc Cert.LstmInRefIdeal.main_arg1)
          ∧ r.2.mem ((c.tc : Thread Cert.LstmInRefIdeal.nD Cert.LstmInRefIdeal.τ).loc Cert.LstmInRefIdeal.main_arg2) = m' ((c.tc : Thread Cert.LstmInRefIdeal.nD Cert.LstmInRefIdeal.τ).loc Cert.LstmInRefIdeal.main_arg2)
          ∧ r.2.mem ((c.tc : Thread Cert.LstmInRefIdeal.nD Cert.LstmInRefIdeal.τ).loc Cert.LstmInRefIdeal.main_arg3) = m' ((c.tc : Thread Cert.LstmInRefIdeal.nD Cert.LstmInRefIdeal.τ).loc Cert.LstmInRefIdeal.main_arg3))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)
      ∧ m' ((c.tc : Thread Cert.GdnOutRefIdeal.nD Cert.GdnOutRefIdeal.τ).loc Cert.GdnOutRefIdeal.main_arg4) = m ((c.tc : Thread Cert.GdnOutIdeal.nD Cert.GdnOutIdeal.τ).loc Cert.GdnOutIdeal.main_arg4)
      ∧ m' ((c.tc : Thread Cert.GdnOutRefIdeal.nD Cert.GdnOutRefIdeal.τ).loc Cert.GdnOutRefIdeal.main_arg5) = m ((c.tc : Thread Cert.GdnOutIdeal.nD Cert.GdnOutIdeal.τ).loc Cert.GdnOutIdeal.main_arg5)
      ∧ m' ((c.tc : Thread Cert.GdnOutRefIdeal.nD Cert.GdnOutRefIdeal.τ).loc Cert.GdnOutRefIdeal.main_arg6) = m ((c.tc : Thread Cert.GdnOutIdeal.nD Cert.GdnOutIdeal.τ).loc Cert.GdnOutIdeal.main_arg6)) →
    ∃ (v0 : (c : Dev Cert.GdnOutIdeal.nD) → Buf (Elt Ideal) ((c.tc : Thread Cert.GdnOutIdeal.nD Cert.GdnOutIdeal.τ).loc Cert.GdnOutIdeal.main_v2)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v2) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
          ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5)
          ∧ r.2.mem ((c.tc : Thread Cert.GdnOutIdeal.nD Cert.GdnOutIdeal.τ).loc Cert.GdnOutIdeal.main_arg6) = m ((c.tc : Thread Cert.GdnOutIdeal.nD Cert.GdnOutIdeal.τ).loc Cert.GdnOutIdeal.main_arg6))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v72) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3)
          ∧ r.2.mem ((c.tc : Thread Cert.GdnOutRefIdeal.nD Cert.GdnOutRefIdeal.τ).loc Cert.GdnOutRefIdeal.main_arg4) = m' ((c.tc : Thread Cert.GdnOutRefIdeal.nD Cert.GdnOutRefIdeal.τ).loc Cert.GdnOutRefIdeal.main_arg4)
          ∧ r.2.mem ((c.tc : Thread Cert.GdnOutRefIdeal.nD Cert.GdnOutRefIdeal.τ).loc Cert.GdnOutRefIdeal.main_arg5) = m' ((c.tc : Thread Cert.GdnOutRefIdeal.nD Cert.GdnOutRefIdeal.τ).loc Cert.GdnOutRefIdeal.main_arg5)
          ∧ r.2.mem ((c.tc : Thread Cert.GdnOutRefIdeal.nD Cert.GdnOutRefIdeal.τ).loc Cert.GdnOutRefIdeal.main_arg6) = m' ((c.tc : Thread Cert.GdnOutRefIdeal.nD Cert.GdnOutRefIdeal.τ).loc Cert.GdnOutRefIdeal.main_arg6))

def preserves_LstmOut_LstmOutIdeal : Prop :=
  True

def algebraic_LstmOutIdeal_LstmOutRefIdeal [hLstmOutIdeal : Cert.LstmOutIdeal.Facts] [hLstmOutRefIdeal : Cert.LstmOutRefIdeal.Facts] : Prop :=
  ∀ (m : (ℓ : Loc Cert.LstmOutIdeal.nD Cert.LstmOutIdeal.τ Cert.LstmOutIdeal.sig) → Buf (Elt Ideal) ℓ) (g : Dev Cert.LstmOutIdeal.nD → PrngReg)
    (m' : (ℓ : Loc Cert.LstmOutRefIdeal.nD Cert.LstmOutRefIdeal.τ Cert.LstmOutRefIdeal.sig) → Buf (Elt Ideal) ℓ) (g' : Dev Cert.LstmOutRefIdeal.nD → PrngReg), Pre_LstmOutIdeal m →
    (∀ c : Dev Cert.LstmOutIdeal.nD,
      m' ((c.tc : Thread Cert.LstmOutRefIdeal.nD Cert.LstmOutRefIdeal.τ).loc Cert.LstmOutRefIdeal.main_arg0) = m ((c.tc : Thread Cert.LstmOutIdeal.nD Cert.LstmOutIdeal.τ).loc Cert.LstmOutIdeal.main_arg0)
      ∧ m' ((c.tc : Thread Cert.LstmOutRefIdeal.nD Cert.LstmOutRefIdeal.τ).loc Cert.LstmOutRefIdeal.main_arg1) = m ((c.tc : Thread Cert.LstmOutIdeal.nD Cert.LstmOutIdeal.τ).loc Cert.LstmOutIdeal.main_arg1)
      ∧ m' ((c.tc : Thread Cert.LstmOutRefIdeal.nD Cert.LstmOutRefIdeal.τ).loc Cert.LstmOutRefIdeal.main_arg2) = m ((c.tc : Thread Cert.LstmOutIdeal.nD Cert.LstmOutIdeal.τ).loc Cert.LstmOutIdeal.main_arg2)
      ∧ m' ((c.tc : Thread Cert.LstmOutRefIdeal.nD Cert.LstmOutRefIdeal.τ).loc Cert.LstmOutRefIdeal.main_arg3) = m ((c.tc : Thread Cert.LstmOutIdeal.nD Cert.LstmOutIdeal.τ).loc Cert.LstmOutIdeal.main_arg3)
      ∧ m' ((c.tc : Thread Cert.LstmOutRefIdeal.nD Cert.LstmOutRefIdeal.τ).loc Cert.LstmOutRefIdeal.main_arg4) = m ((c.tc : Thread Cert.LstmOutIdeal.nD Cert.LstmOutIdeal.τ).loc Cert.LstmOutIdeal.main_arg4)
      ∧ m' ((c.tc : Thread Cert.LstmOutRefIdeal.nD Cert.LstmOutRefIdeal.τ).loc Cert.LstmOutRefIdeal.main_arg5) = m ((c.tc : Thread Cert.LstmOutIdeal.nD Cert.LstmOutIdeal.τ).loc Cert.LstmOutIdeal.main_arg5)
      ∧ m' ((c.tc : Thread Cert.LstmOutRefIdeal.nD Cert.LstmOutRefIdeal.τ).loc Cert.LstmOutRefIdeal.main_arg6) = m ((c.tc : Thread Cert.LstmOutIdeal.nD Cert.LstmOutIdeal.τ).loc Cert.LstmOutIdeal.main_arg6)) →
    ∃ (v0 : (c : Dev Cert.LstmOutIdeal.nD) → Buf (Elt Ideal) ((c.tc : Thread Cert.LstmOutIdeal.nD Cert.LstmOutIdeal.τ).loc Cert.LstmOutIdeal.main_v2)),
      θ_run (Cert.LstmOutIdeal.defs (F := Ideal)) (onTc (τ := Cert.LstmOutIdeal.τ) (Cert.LstmOutIdeal.main (F := Ideal))) ⟨m, fun _ => 0, g⟩ (fun r => ∀ c : Dev Cert.LstmOutIdeal.nD,
          r.2.mem ((c.tc : Thread Cert.LstmOutIdeal.nD Cert.LstmOutIdeal.τ).loc Cert.LstmOutIdeal.main_v2) = v0 c
          ∧ r.2.mem ((c.tc : Thread Cert.LstmOutIdeal.nD Cert.LstmOutIdeal.τ).loc Cert.LstmOutIdeal.main_arg0) = m ((c.tc : Thread Cert.LstmOutIdeal.nD Cert.LstmOutIdeal.τ).loc Cert.LstmOutIdeal.main_arg0)
          ∧ r.2.mem ((c.tc : Thread Cert.LstmOutIdeal.nD Cert.LstmOutIdeal.τ).loc Cert.LstmOutIdeal.main_arg1) = m ((c.tc : Thread Cert.LstmOutIdeal.nD Cert.LstmOutIdeal.τ).loc Cert.LstmOutIdeal.main_arg1)
          ∧ r.2.mem ((c.tc : Thread Cert.LstmOutIdeal.nD Cert.LstmOutIdeal.τ).loc Cert.LstmOutIdeal.main_arg2) = m ((c.tc : Thread Cert.LstmOutIdeal.nD Cert.LstmOutIdeal.τ).loc Cert.LstmOutIdeal.main_arg2)
          ∧ r.2.mem ((c.tc : Thread Cert.LstmOutIdeal.nD Cert.LstmOutIdeal.τ).loc Cert.LstmOutIdeal.main_arg3) = m ((c.tc : Thread Cert.LstmOutIdeal.nD Cert.LstmOutIdeal.τ).loc Cert.LstmOutIdeal.main_arg3)
          ∧ r.2.mem ((c.tc : Thread Cert.LstmOutIdeal.nD Cert.LstmOutIdeal.τ).loc Cert.LstmOutIdeal.main_arg4) = m ((c.tc : Thread Cert.LstmOutIdeal.nD Cert.LstmOutIdeal.τ).loc Cert.LstmOutIdeal.main_arg4)
          ∧ r.2.mem ((c.tc : Thread Cert.LstmOutIdeal.nD Cert.LstmOutIdeal.τ).loc Cert.LstmOutIdeal.main_arg5) = m ((c.tc : Thread Cert.LstmOutIdeal.nD Cert.LstmOutIdeal.τ).loc Cert.LstmOutIdeal.main_arg5)
          ∧ r.2.mem ((c.tc : Thread Cert.LstmOutIdeal.nD Cert.LstmOutIdeal.τ).loc Cert.LstmOutIdeal.main_arg6) = m ((c.tc : Thread Cert.LstmOutIdeal.nD Cert.LstmOutIdeal.τ).loc Cert.LstmOutIdeal.main_arg6))
      ∧ θ_run (Cert.LstmOutRefIdeal.defs (F := Ideal)) (onTc (τ := Cert.LstmOutRefIdeal.τ) (Cert.LstmOutRefIdeal.main (F := Ideal))) ⟨m', fun _ => 0, g'⟩ (fun r => ∀ c : Dev Cert.LstmOutRefIdeal.nD,
          r.2.mem ((c.tc : Thread Cert.LstmOutRefIdeal.nD Cert.LstmOutRefIdeal.τ).loc Cert.LstmOutRefIdeal.main_v82) = v0 c
          ∧ r.2.mem ((c.tc : Thread Cert.LstmOutRefIdeal.nD Cert.LstmOutRefIdeal.τ).loc Cert.LstmOutRefIdeal.main_arg0) = m' ((c.tc : Thread Cert.LstmOutRefIdeal.nD Cert.LstmOutRefIdeal.τ).loc Cert.LstmOutRefIdeal.main_arg0)
          ∧ r.2.mem ((c.tc : Thread Cert.LstmOutRefIdeal.nD Cert.LstmOutRefIdeal.τ).loc Cert.LstmOutRefIdeal.main_arg1) = m' ((c.tc : Thread Cert.LstmOutRefIdeal.nD Cert.LstmOutRefIdeal.τ).loc Cert.LstmOutRefIdeal.main_arg1)
          ∧ r.2.mem ((c.tc : Thread Cert.LstmOutRefIdeal.nD Cert.LstmOutRefIdeal.τ).loc Cert.LstmOutRefIdeal.main_arg2) = m' ((c.tc : Thread Cert.LstmOutRefIdeal.nD Cert.LstmOutRefIdeal.τ).loc Cert.LstmOutRefIdeal.main_arg2)
          ∧ r.2.mem ((c.tc : Thread Cert.LstmOutRefIdeal.nD Cert.LstmOutRefIdeal.τ).loc Cert.LstmOutRefIdeal.main_arg3) = m' ((c.tc : Thread Cert.LstmOutRefIdeal.nD Cert.LstmOutRefIdeal.τ).loc Cert.LstmOutRefIdeal.main_arg3)
          ∧ r.2.mem ((c.tc : Thread Cert.LstmOutRefIdeal.nD Cert.LstmOutRefIdeal.τ).loc Cert.LstmOutRefIdeal.main_arg4) = m' ((c.tc : Thread Cert.LstmOutRefIdeal.nD Cert.LstmOutRefIdeal.τ).loc Cert.LstmOutRefIdeal.main_arg4)
          ∧ r.2.mem ((c.tc : Thread Cert.LstmOutRefIdeal.nD Cert.LstmOutRefIdeal.τ).loc Cert.LstmOutRefIdeal.main_arg5) = m' ((c.tc : Thread Cert.LstmOutRefIdeal.nD Cert.LstmOutRefIdeal.τ).loc Cert.LstmOutRefIdeal.main_arg5)
          ∧ r.2.mem ((c.tc : Thread Cert.LstmOutRefIdeal.nD Cert.LstmOutRefIdeal.τ).loc Cert.LstmOutRefIdeal.main_arg6) = m' ((c.tc : Thread Cert.LstmOutRefIdeal.nD Cert.LstmOutRefIdeal.τ).loc Cert.LstmOutRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_LatentIn_LatentInIdeal : Prop :=
  True

def algebraic_LatentInIdeal_LatentInRefIdeal [hLatentInIdeal : Cert.LatentInIdeal.Facts] [hLatentInRefIdeal : Cert.LatentInRefIdeal.Facts] : Prop :=
  ∀ (m : (ℓ : Loc Cert.LatentInIdeal.nD Cert.LatentInIdeal.τ Cert.LatentInIdeal.sig) → Buf (Elt Ideal) ℓ) (g : Dev Cert.LatentInIdeal.nD → PrngReg)
    (m' : (ℓ : Loc Cert.LatentInRefIdeal.nD Cert.LatentInRefIdeal.τ Cert.LatentInRefIdeal.sig) → Buf (Elt Ideal) ℓ) (g' : Dev Cert.LatentInRefIdeal.nD → PrngReg), Pre_LatentInIdeal m →
    (∀ c : Dev Cert.LatentInIdeal.nD,
      m' ((c.tc : Thread Cert.LatentInRefIdeal.nD Cert.LatentInRefIdeal.τ).loc Cert.LatentInRefIdeal.main_arg0) = m ((c.tc : Thread Cert.LatentInIdeal.nD Cert.LatentInIdeal.τ).loc Cert.LatentInIdeal.main_arg0)
      ∧ m' ((c.tc : Thread Cert.LatentInRefIdeal.nD Cert.LatentInRefIdeal.τ).loc Cert.LatentInRefIdeal.main_arg1) = m ((c.tc : Thread Cert.LatentInIdeal.nD Cert.LatentInIdeal.τ).loc Cert.LatentInIdeal.main_arg1)
      ∧ m' ((c.tc : Thread Cert.LatentInRefIdeal.nD Cert.LatentInRefIdeal.τ).loc Cert.LatentInRefIdeal.main_arg2) = m ((c.tc : Thread Cert.LatentInIdeal.nD Cert.LatentInIdeal.τ).loc Cert.LatentInIdeal.main_arg2)
      ∧ m' ((c.tc : Thread Cert.LatentInRefIdeal.nD Cert.LatentInRefIdeal.τ).loc Cert.LatentInRefIdeal.main_arg3) = m ((c.tc : Thread Cert.LatentInIdeal.nD Cert.LatentInIdeal.τ).loc Cert.LatentInIdeal.main_arg3)) →
    ∃ (v0 : (c : Dev Cert.LatentInIdeal.nD) → Buf (Elt Ideal) ((c.tc : Thread Cert.LatentInIdeal.nD Cert.LatentInIdeal.τ).loc Cert.LatentInIdeal.main_v3)),
      θ_run (Cert.LatentInIdeal.defs (F := Ideal)) (onTc (τ := Cert.LatentInIdeal.τ) (Cert.LatentInIdeal.main (F := Ideal))) ⟨m, fun _ => 0, g⟩ (fun r => ∀ c : Dev Cert.LatentInIdeal.nD,
          r.2.mem ((c.tc : Thread Cert.LatentInIdeal.nD Cert.LatentInIdeal.τ).loc Cert.LatentInIdeal.main_v3) = v0 c
          ∧ r.2.mem ((c.tc : Thread Cert.LatentInIdeal.nD Cert.LatentInIdeal.τ).loc Cert.LatentInIdeal.main_arg0) = m ((c.tc : Thread Cert.LatentInIdeal.nD Cert.LatentInIdeal.τ).loc Cert.LatentInIdeal.main_arg0)
          ∧ r.2.mem ((c.tc : Thread Cert.LatentInIdeal.nD Cert.LatentInIdeal.τ).loc Cert.LatentInIdeal.main_arg1) = m ((c.tc : Thread Cert.LatentInIdeal.nD Cert.LatentInIdeal.τ).loc Cert.LatentInIdeal.main_arg1)
          ∧ r.2.mem ((c.tc : Thread Cert.LatentInIdeal.nD Cert.LatentInIdeal.τ).loc Cert.LatentInIdeal.main_arg2) = m ((c.tc : Thread Cert.LatentInIdeal.nD Cert.LatentInIdeal.τ).loc Cert.LatentInIdeal.main_arg2)
          ∧ r.2.mem ((c.tc : Thread Cert.LatentInIdeal.nD Cert.LatentInIdeal.τ).loc Cert.LatentInIdeal.main_arg3) = m ((c.tc : Thread Cert.LatentInIdeal.nD Cert.LatentInIdeal.τ).loc Cert.LatentInIdeal.main_arg3))
      ∧ θ_run (Cert.LatentInRefIdeal.defs (F := Ideal)) (onTc (τ := Cert.LatentInRefIdeal.τ) (Cert.LatentInRefIdeal.main (F := Ideal))) ⟨m', fun _ => 0, g'⟩ (fun r => ∀ c : Dev Cert.LatentInRefIdeal.nD,
          r.2.mem ((c.tc : Thread Cert.LatentInRefIdeal.nD Cert.LatentInRefIdeal.τ).loc Cert.LatentInRefIdeal.main_v62) = v0 c
          ∧ r.2.mem ((c.tc : Thread Cert.LatentInRefIdeal.nD Cert.LatentInRefIdeal.τ).loc Cert.LatentInRefIdeal.main_arg0) = m' ((c.tc : Thread Cert.LatentInRefIdeal.nD Cert.LatentInRefIdeal.τ).loc Cert.LatentInRefIdeal.main_arg0)
          ∧ r.2.mem ((c.tc : Thread Cert.LatentInRefIdeal.nD Cert.LatentInRefIdeal.τ).loc Cert.LatentInRefIdeal.main_arg1) = m' ((c.tc : Thread Cert.LatentInRefIdeal.nD Cert.LatentInRefIdeal.τ).loc Cert.LatentInRefIdeal.main_arg1)
          ∧ r.2.mem ((c.tc : Thread Cert.LatentInRefIdeal.nD Cert.LatentInRefIdeal.τ).loc Cert.LatentInRefIdeal.main_arg2) = m' ((c.tc : Thread Cert.LatentInRefIdeal.nD Cert.LatentInRefIdeal.τ).loc Cert.LatentInRefIdeal.main_arg2)
          ∧ r.2.mem ((c.tc : Thread Cert.LatentInRefIdeal.nD Cert.LatentInRefIdeal.τ).loc Cert.LatentInRefIdeal.main_arg3) = m' ((c.tc : Thread Cert.LatentInRefIdeal.nD Cert.LatentInRefIdeal.τ).loc Cert.LatentInRefIdeal.main_arg3))

def preserves_ProjLast_ProjLastIdeal : Prop :=
  True

def algebraic_ProjLastIdeal_ProjLastRefIdeal [hProjLastIdeal : Cert.ProjLastIdeal.Facts] [hProjLastRefIdeal : Cert.ProjLastRefIdeal.Facts] : Prop :=
  ∀ (m : (ℓ : Loc Cert.ProjLastIdeal.nD Cert.ProjLastIdeal.τ Cert.ProjLastIdeal.sig) → Buf (Elt Ideal) ℓ) (g : Dev Cert.ProjLastIdeal.nD → PrngReg)
    (m' : (ℓ : Loc Cert.ProjLastRefIdeal.nD Cert.ProjLastRefIdeal.τ Cert.ProjLastRefIdeal.sig) → Buf (Elt Ideal) ℓ) (g' : Dev Cert.ProjLastRefIdeal.nD → PrngReg), Pre_ProjLastIdeal m →
    (∀ c : Dev Cert.ProjLastIdeal.nD,
      m' ((c.tc : Thread Cert.ProjLastRefIdeal.nD Cert.ProjLastRefIdeal.τ).loc Cert.ProjLastRefIdeal.main_arg0) = m ((c.tc : Thread Cert.ProjLastIdeal.nD Cert.ProjLastIdeal.τ).loc Cert.ProjLastIdeal.main_arg0)
      ∧ m' ((c.tc : Thread Cert.ProjLastRefIdeal.nD Cert.ProjLastRefIdeal.τ).loc Cert.ProjLastRefIdeal.main_arg1) = m ((c.tc : Thread Cert.ProjLastIdeal.nD Cert.ProjLastIdeal.τ).loc Cert.ProjLastIdeal.main_arg1)
      ∧ m' ((c.tc : Thread Cert.ProjLastRefIdeal.nD Cert.ProjLastRefIdeal.τ).loc Cert.ProjLastRefIdeal.main_arg2) = m ((c.tc : Thread Cert.ProjLastIdeal.nD Cert.ProjLastIdeal.τ).loc Cert.ProjLastIdeal.main_arg2)
      ∧ m' ((c.tc : Thread Cert.ProjLastRefIdeal.nD Cert.ProjLastRefIdeal.τ).loc Cert.ProjLastRefIdeal.main_arg3) = m ((c.tc : Thread Cert.ProjLastIdeal.nD Cert.ProjLastIdeal.τ).loc Cert.ProjLastIdeal.main_arg3)) →
    ∃ (v0 : (c : Dev Cert.ProjLastIdeal.nD) → Buf (Elt Ideal) ((c.tc : Thread Cert.ProjLastIdeal.nD Cert.ProjLastIdeal.τ).loc Cert.ProjLastIdeal.main_v1)),
      θ_run (Cert.ProjLastIdeal.defs (F := Ideal)) (onTc (τ := Cert.ProjLastIdeal.τ) (Cert.ProjLastIdeal.main (F := Ideal))) ⟨m, fun _ => 0, g⟩ (fun r => ∀ c : Dev Cert.ProjLastIdeal.nD,
          r.2.mem ((c.tc : Thread Cert.ProjLastIdeal.nD Cert.ProjLastIdeal.τ).loc Cert.ProjLastIdeal.main_v1) = v0 c
          ∧ r.2.mem ((c.tc : Thread Cert.ProjLastIdeal.nD Cert.ProjLastIdeal.τ).loc Cert.ProjLastIdeal.main_arg0) = m ((c.tc : Thread Cert.ProjLastIdeal.nD Cert.ProjLastIdeal.τ).loc Cert.ProjLastIdeal.main_arg0)
          ∧ r.2.mem ((c.tc : Thread Cert.ProjLastIdeal.nD Cert.ProjLastIdeal.τ).loc Cert.ProjLastIdeal.main_arg1) = m ((c.tc : Thread Cert.ProjLastIdeal.nD Cert.ProjLastIdeal.τ).loc Cert.ProjLastIdeal.main_arg1)
          ∧ r.2.mem ((c.tc : Thread Cert.ProjLastIdeal.nD Cert.ProjLastIdeal.τ).loc Cert.ProjLastIdeal.main_arg2) = m ((c.tc : Thread Cert.ProjLastIdeal.nD Cert.ProjLastIdeal.τ).loc Cert.ProjLastIdeal.main_arg2)
          ∧ r.2.mem ((c.tc : Thread Cert.ProjLastIdeal.nD Cert.ProjLastIdeal.τ).loc Cert.ProjLastIdeal.main_arg3) = m ((c.tc : Thread Cert.ProjLastIdeal.nD Cert.ProjLastIdeal.τ).loc Cert.ProjLastIdeal.main_arg3))
      ∧ θ_run (Cert.ProjLastRefIdeal.defs (F := Ideal)) (onTc (τ := Cert.ProjLastRefIdeal.τ) (Cert.ProjLastRefIdeal.main (F := Ideal))) ⟨m', fun _ => 0, g'⟩ (fun r => ∀ c : Dev Cert.ProjLastRefIdeal.nD,
          r.2.mem ((c.tc : Thread Cert.ProjLastRefIdeal.nD Cert.ProjLastRefIdeal.τ).loc Cert.ProjLastRefIdeal.main_v17) = v0 c
          ∧ r.2.mem ((c.tc : Thread Cert.ProjLastRefIdeal.nD Cert.ProjLastRefIdeal.τ).loc Cert.ProjLastRefIdeal.main_arg0) = m' ((c.tc : Thread Cert.ProjLastRefIdeal.nD Cert.ProjLastRefIdeal.τ).loc Cert.ProjLastRefIdeal.main_arg0)
          ∧ r.2.mem ((c.tc : Thread Cert.ProjLastRefIdeal.nD Cert.ProjLastRefIdeal.τ).loc Cert.ProjLastRefIdeal.main_arg1) = m' ((c.tc : Thread Cert.ProjLastRefIdeal.nD Cert.ProjLastRefIdeal.τ).loc Cert.ProjLastRefIdeal.main_arg1)
          ∧ r.2.mem ((c.tc : Thread Cert.ProjLastRefIdeal.nD Cert.ProjLastRefIdeal.τ).loc Cert.ProjLastRefIdeal.main_arg2) = m' ((c.tc : Thread Cert.ProjLastRefIdeal.nD Cert.ProjLastRefIdeal.τ).loc Cert.ProjLastRefIdeal.main_arg2)
          ∧ r.2.mem ((c.tc : Thread Cert.ProjLastRefIdeal.nD Cert.ProjLastRefIdeal.τ).loc Cert.ProjLastRefIdeal.main_arg3) = m' ((c.tc : Thread Cert.ProjLastRefIdeal.nD Cert.ProjLastRefIdeal.τ).loc Cert.ProjLastRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_LatentUp_LatentUpIdeal : Prop :=
  True

def algebraic_LatentUpIdeal_LatentUpRefIdeal [hLatentUpIdeal : Cert.LatentUpIdeal.Facts] [hLatentUpRefIdeal : Cert.LatentUpRefIdeal.Facts] : Prop :=
  ∀ (m : (ℓ : Loc Cert.LatentUpIdeal.nD Cert.LatentUpIdeal.τ Cert.LatentUpIdeal.sig) → Buf (Elt Ideal) ℓ) (g : Dev Cert.LatentUpIdeal.nD → PrngReg)
    (m' : (ℓ : Loc Cert.LatentUpRefIdeal.nD Cert.LatentUpRefIdeal.τ Cert.LatentUpRefIdeal.sig) → Buf (Elt Ideal) ℓ) (g' : Dev Cert.LatentUpRefIdeal.nD → PrngReg), Pre_LatentUpIdeal m →
    (∀ c : Dev Cert.LatentUpIdeal.nD,
      m' ((c.tc : Thread Cert.LatentUpRefIdeal.nD Cert.LatentUpRefIdeal.τ).loc Cert.LatentUpRefIdeal.main_arg0) = m ((c.tc : Thread Cert.LatentUpIdeal.nD Cert.LatentUpIdeal.τ).loc Cert.LatentUpIdeal.main_arg0)
      ∧ m' ((c.tc : Thread Cert.LatentUpRefIdeal.nD Cert.LatentUpRefIdeal.τ).loc Cert.LatentUpRefIdeal.main_arg1) = m ((c.tc : Thread Cert.LatentUpIdeal.nD Cert.LatentUpIdeal.τ).loc Cert.LatentUpIdeal.main_arg1)
      ∧ m' ((c.tc : Thread Cert.LatentUpRefIdeal.nD Cert.LatentUpRefIdeal.τ).loc Cert.LatentUpRefIdeal.main_arg2) = m ((c.tc : Thread Cert.LatentUpIdeal.nD Cert.LatentUpIdeal.τ).loc Cert.LatentUpIdeal.main_arg2)
      ∧ m' ((c.tc : Thread Cert.LatentUpRefIdeal.nD Cert.LatentUpRefIdeal.τ).loc Cert.LatentUpRefIdeal.main_arg3) = m ((c.tc : Thread Cert.LatentUpIdeal.nD Cert.LatentUpIdeal.τ).loc Cert.LatentUpIdeal.main_arg3)
      ∧ m' ((c.tc : Thread Cert.LatentUpRefIdeal.nD Cert.LatentUpRefIdeal.τ).loc Cert.LatentUpRefIdeal.main_arg4) = m ((c.tc : Thread Cert.LatentUpIdeal.nD Cert.LatentUpIdeal.τ).loc Cert.LatentUpIdeal.main_arg4)
      ∧ m' ((c.tc : Thread Cert.LatentUpRefIdeal.nD Cert.LatentUpRefIdeal.τ).loc Cert.LatentUpRefIdeal.main_arg5) = m ((c.tc : Thread Cert.LatentUpIdeal.nD Cert.LatentUpIdeal.τ).loc Cert.LatentUpIdeal.main_arg5)
      ∧ m' ((c.tc : Thread Cert.LatentUpRefIdeal.nD Cert.LatentUpRefIdeal.τ).loc Cert.LatentUpRefIdeal.main_arg6) = m ((c.tc : Thread Cert.LatentUpIdeal.nD Cert.LatentUpIdeal.τ).loc Cert.LatentUpIdeal.main_arg6)
      ∧ m' ((c.tc : Thread Cert.LatentUpRefIdeal.nD Cert.LatentUpRefIdeal.τ).loc Cert.LatentUpRefIdeal.main_arg7) = m ((c.tc : Thread Cert.LatentUpIdeal.nD Cert.LatentUpIdeal.τ).loc Cert.LatentUpIdeal.main_arg7)
      ∧ m' ((c.tc : Thread Cert.LatentUpRefIdeal.nD Cert.LatentUpRefIdeal.τ).loc Cert.LatentUpRefIdeal.main_arg8) = m ((c.tc : Thread Cert.LatentUpIdeal.nD Cert.LatentUpIdeal.τ).loc Cert.LatentUpIdeal.main_arg8)) →
    ∃ (v0 : (c : Dev Cert.LatentUpIdeal.nD) → Buf (Elt Ideal) ((c.tc : Thread Cert.LatentUpIdeal.nD Cert.LatentUpIdeal.τ).loc Cert.LatentUpIdeal.main_v31_0)) (v1 : (c : Dev Cert.LatentUpIdeal.nD) → Buf (Elt Ideal) ((c.tc : Thread Cert.LatentUpIdeal.nD Cert.LatentUpIdeal.τ).loc Cert.LatentUpIdeal.main_v31_1)) (v2 : (c : Dev Cert.LatentUpIdeal.nD) → Buf (Elt Ideal) ((c.tc : Thread Cert.LatentUpIdeal.nD Cert.LatentUpIdeal.τ).loc Cert.LatentUpIdeal.main_v31_2)),
      θ_run (Cert.LatentUpIdeal.defs (F := Ideal)) (onTc (τ := Cert.LatentUpIdeal.τ) (Cert.LatentUpIdeal.main (F := Ideal))) ⟨m, fun _ => 0, g⟩ (fun r => ∀ c : Dev Cert.LatentUpIdeal.nD,
          r.2.mem ((c.tc : Thread Cert.LatentUpIdeal.nD Cert.LatentUpIdeal.τ).loc Cert.LatentUpIdeal.main_v31_0) = v0 c
          ∧ r.2.mem ((c.tc : Thread Cert.LatentUpIdeal.nD Cert.LatentUpIdeal.τ).loc Cert.LatentUpIdeal.main_v31_1) = v1 c
          ∧ r.2.mem ((c.tc : Thread Cert.LatentUpIdeal.nD Cert.LatentUpIdeal.τ).loc Cert.LatentUpIdeal.main_v31_2) = v2 c
          ∧ r.2.mem ((c.tc : Thread Cert.LatentUpIdeal.nD Cert.LatentUpIdeal.τ).loc Cert.LatentUpIdeal.main_arg0) = m ((c.tc : Thread Cert.LatentUpIdeal.nD Cert.LatentUpIdeal.τ).loc Cert.LatentUpIdeal.main_arg0)
          ∧ r.2.mem ((c.tc : Thread Cert.LatentUpIdeal.nD Cert.LatentUpIdeal.τ).loc Cert.LatentUpIdeal.main_arg1) = m ((c.tc : Thread Cert.LatentUpIdeal.nD Cert.LatentUpIdeal.τ).loc Cert.LatentUpIdeal.main_arg1)
          ∧ r.2.mem ((c.tc : Thread Cert.LatentUpIdeal.nD Cert.LatentUpIdeal.τ).loc Cert.LatentUpIdeal.main_arg2) = m ((c.tc : Thread Cert.LatentUpIdeal.nD Cert.LatentUpIdeal.τ).loc Cert.LatentUpIdeal.main_arg2)
          ∧ r.2.mem ((c.tc : Thread Cert.LatentUpIdeal.nD Cert.LatentUpIdeal.τ).loc Cert.LatentUpIdeal.main_arg3) = m ((c.tc : Thread Cert.LatentUpIdeal.nD Cert.LatentUpIdeal.τ).loc Cert.LatentUpIdeal.main_arg3)
          ∧ r.2.mem ((c.tc : Thread Cert.LatentUpIdeal.nD Cert.LatentUpIdeal.τ).loc Cert.LatentUpIdeal.main_arg4) = m ((c.tc : Thread Cert.LatentUpIdeal.nD Cert.LatentUpIdeal.τ).loc Cert.LatentUpIdeal.main_arg4)
          ∧ r.2.mem ((c.tc : Thread Cert.LatentUpIdeal.nD Cert.LatentUpIdeal.τ).loc Cert.LatentUpIdeal.main_arg5) = m ((c.tc : Thread Cert.LatentUpIdeal.nD Cert.LatentUpIdeal.τ).loc Cert.LatentUpIdeal.main_arg5)
          ∧ r.2.mem ((c.tc : Thread Cert.LatentUpIdeal.nD Cert.LatentUpIdeal.τ).loc Cert.LatentUpIdeal.main_arg6) = m ((c.tc : Thread Cert.LatentUpIdeal.nD Cert.LatentUpIdeal.τ).loc Cert.LatentUpIdeal.main_arg6)
          ∧ r.2.mem ((c.tc : Thread Cert.LatentUpIdeal.nD Cert.LatentUpIdeal.τ).loc Cert.LatentUpIdeal.main_arg7) = m ((c.tc : Thread Cert.LatentUpIdeal.nD Cert.LatentUpIdeal.τ).loc Cert.LatentUpIdeal.main_arg7)
          ∧ r.2.mem ((c.tc : Thread Cert.LatentUpIdeal.nD Cert.LatentUpIdeal.τ).loc Cert.LatentUpIdeal.main_arg8) = m ((c.tc : Thread Cert.LatentUpIdeal.nD Cert.LatentUpIdeal.τ).loc Cert.LatentUpIdeal.main_arg8))
      ∧ θ_run (Cert.LatentUpRefIdeal.defs (F := Ideal)) (onTc (τ := Cert.LatentUpRefIdeal.τ) (Cert.LatentUpRefIdeal.main (F := Ideal))) ⟨m', fun _ => 0, g'⟩ (fun r => ∀ c : Dev Cert.LatentUpRefIdeal.nD,
          r.2.mem ((c.tc : Thread Cert.LatentUpRefIdeal.nD Cert.LatentUpRefIdeal.τ).loc Cert.LatentUpRefIdeal.main_v197) = v0 c
          ∧ r.2.mem ((c.tc : Thread Cert.LatentUpRefIdeal.nD Cert.LatentUpRefIdeal.τ).loc Cert.LatentUpRefIdeal.main_v198) = v1 c
          ∧ r.2.mem ((c.tc : Thread Cert.LatentUpRefIdeal.nD Cert.LatentUpRefIdeal.τ).loc Cert.LatentUpRefIdeal.main_v202) = v2 c
          ∧ r.2.mem ((c.tc : Thread Cert.LatentUpRefIdeal.nD Cert.LatentUpRefIdeal.τ).loc Cert.LatentUpRefIdeal.main_arg0) = m' ((c.tc : Thread Cert.LatentUpRefIdeal.nD Cert.LatentUpRefIdeal.τ).loc Cert.LatentUpRefIdeal.main_arg0)
          ∧ r.2.mem ((c.tc : Thread Cert.LatentUpRefIdeal.nD Cert.LatentUpRefIdeal.τ).loc Cert.LatentUpRefIdeal.main_arg1) = m' ((c.tc : Thread Cert.LatentUpRefIdeal.nD Cert.LatentUpRefIdeal.τ).loc Cert.LatentUpRefIdeal.main_arg1)
          ∧ r.2.mem ((c.tc : Thread Cert.LatentUpRefIdeal.nD Cert.LatentUpRefIdeal.τ).loc Cert.LatentUpRefIdeal.main_arg2) = m' ((c.tc : Thread Cert.LatentUpRefIdeal.nD Cert.LatentUpRefIdeal.τ).loc Cert.LatentUpRefIdeal.main_arg2)
          ∧ r.2.mem ((c.tc : Thread Cert.LatentUpRefIdeal.nD Cert.LatentUpRefIdeal.τ).loc Cert.LatentUpRefIdeal.main_arg3) = m' ((c.tc : Thread Cert.LatentUpRefIdeal.nD Cert.LatentUpRefIdeal.τ).loc Cert.LatentUpRefIdeal.main_arg3)
          ∧ r.2.mem ((c.tc : Thread Cert.LatentUpRefIdeal.nD Cert.LatentUpRefIdeal.τ).loc Cert.LatentUpRefIdeal.main_arg4) = m' ((c.tc : Thread Cert.LatentUpRefIdeal.nD Cert.LatentUpRefIdeal.τ).loc Cert.LatentUpRefIdeal.main_arg4)
          ∧ r.2.mem ((c.tc : Thread Cert.LatentUpRefIdeal.nD Cert.LatentUpRefIdeal.τ).loc Cert.LatentUpRefIdeal.main_arg5) = m' ((c.tc : Thread Cert.LatentUpRefIdeal.nD Cert.LatentUpRefIdeal.τ).loc Cert.LatentUpRefIdeal.main_arg5)
          ∧ r.2.mem ((c.tc : Thread Cert.LatentUpRefIdeal.nD Cert.LatentUpRefIdeal.τ).loc Cert.LatentUpRefIdeal.main_arg6) = m' ((c.tc : Thread Cert.LatentUpRefIdeal.nD Cert.LatentUpRefIdeal.τ).loc Cert.LatentUpRefIdeal.main_arg6)
          ∧ r.2.mem ((c.tc : Thread Cert.LatentUpRefIdeal.nD Cert.LatentUpRefIdeal.τ).loc Cert.LatentUpRefIdeal.main_arg7) = m' ((c.tc : Thread Cert.LatentUpRefIdeal.nD Cert.LatentUpRefIdeal.τ).loc Cert.LatentUpRefIdeal.main_arg7)
          ∧ r.2.mem ((c.tc : Thread Cert.LatentUpRefIdeal.nD Cert.LatentUpRefIdeal.τ).loc Cert.LatentUpRefIdeal.main_arg8) = m' ((c.tc : Thread Cert.LatentUpRefIdeal.nD Cert.LatentUpRefIdeal.τ).loc Cert.LatentUpRefIdeal.main_arg8))

def preserves_MlpLast_MlpLastIdeal : Prop :=
  True

def algebraic_MlpLastIdeal_MlpLastRefIdeal [hMlpLastIdeal : Cert.MlpLastIdeal.Facts] [hMlpLastRefIdeal : Cert.MlpLastRefIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastRefIdeal.nD Cert.MlpLastRefIdeal.τ Cert.MlpLastRefIdeal.sig) → Buf (Elt Ideal) ℓ) (g' : Dev Cert.MlpLastRefIdeal.nD → PrngReg), Pre_MlpLastIdeal m →
    (∀ c : Dev Cert.MlpLastIdeal.nD,
      m' ((c.tc : Thread Cert.MlpLastRefIdeal.nD Cert.MlpLastRefIdeal.τ).loc Cert.MlpLastRefIdeal.main_arg0) = m ((c.tc : Thread Cert.MlpLastIdeal.nD Cert.MlpLastIdeal.τ).loc Cert.MlpLastIdeal.main_arg0)
      ∧ m' ((c.tc : Thread Cert.MlpLastRefIdeal.nD Cert.MlpLastRefIdeal.τ).loc Cert.MlpLastRefIdeal.main_arg1) = m ((c.tc : Thread Cert.MlpLastIdeal.nD Cert.MlpLastIdeal.τ).loc Cert.MlpLastIdeal.main_arg1)
      ∧ m' ((c.tc : Thread Cert.MlpLastRefIdeal.nD Cert.MlpLastRefIdeal.τ).loc Cert.MlpLastRefIdeal.main_arg2) = m ((c.tc : Thread Cert.MlpLastIdeal.nD Cert.MlpLastIdeal.τ).loc Cert.MlpLastIdeal.main_arg2)
      ∧ m' ((c.tc : Thread Cert.MlpLastRefIdeal.nD Cert.MlpLastRefIdeal.τ).loc Cert.MlpLastRefIdeal.main_arg3) = m ((c.tc : Thread Cert.MlpLastIdeal.nD Cert.MlpLastIdeal.τ).loc Cert.MlpLastIdeal.main_arg3)
      ∧ m' ((c.tc : Thread Cert.MlpLastRefIdeal.nD Cert.MlpLastRefIdeal.τ).loc Cert.MlpLastRefIdeal.main_arg4) = m ((c.tc : Thread Cert.MlpLastIdeal.nD Cert.MlpLastIdeal.τ).loc Cert.MlpLastIdeal.main_arg4)) →
    ∃ (v0 : (c : Dev Cert.MlpLastIdeal.nD) → Buf (Elt Ideal) ((c.tc : Thread Cert.MlpLastIdeal.nD Cert.MlpLastIdeal.τ).loc Cert.MlpLastIdeal.main_v3)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v3) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4))
      ∧ θ_run (Cert.MlpLastRefIdeal.defs (F := Ideal)) (onTc (τ := Cert.MlpLastRefIdeal.τ) (Cert.MlpLastRefIdeal.main (F := Ideal))) ⟨m', fun _ => 0, g'⟩ (fun r => ∀ c : Dev Cert.MlpLastRefIdeal.nD,
          r.2.mem ((c.tc : Thread Cert.MlpLastRefIdeal.nD Cert.MlpLastRefIdeal.τ).loc Cert.MlpLastRefIdeal.main_v40) = v0 c
          ∧ r.2.mem ((c.tc : Thread Cert.MlpLastRefIdeal.nD Cert.MlpLastRefIdeal.τ).loc Cert.MlpLastRefIdeal.main_arg0) = m' ((c.tc : Thread Cert.MlpLastRefIdeal.nD Cert.MlpLastRefIdeal.τ).loc Cert.MlpLastRefIdeal.main_arg0)
          ∧ r.2.mem ((c.tc : Thread Cert.MlpLastRefIdeal.nD Cert.MlpLastRefIdeal.τ).loc Cert.MlpLastRefIdeal.main_arg1) = m' ((c.tc : Thread Cert.MlpLastRefIdeal.nD Cert.MlpLastRefIdeal.τ).loc Cert.MlpLastRefIdeal.main_arg1)
          ∧ r.2.mem ((c.tc : Thread Cert.MlpLastRefIdeal.nD Cert.MlpLastRefIdeal.τ).loc Cert.MlpLastRefIdeal.main_arg2) = m' ((c.tc : Thread Cert.MlpLastRefIdeal.nD Cert.MlpLastRefIdeal.τ).loc Cert.MlpLastRefIdeal.main_arg2)
          ∧ r.2.mem ((c.tc : Thread Cert.MlpLastRefIdeal.nD Cert.MlpLastRefIdeal.τ).loc Cert.MlpLastRefIdeal.main_arg3) = m' ((c.tc : Thread Cert.MlpLastRefIdeal.nD Cert.MlpLastRefIdeal.τ).loc Cert.MlpLastRefIdeal.main_arg3)
          ∧ r.2.mem ((c.tc : Thread Cert.MlpLastRefIdeal.nD Cert.MlpLastRefIdeal.τ).loc Cert.MlpLastRefIdeal.main_arg4) = m' ((c.tc : Thread Cert.MlpLastRefIdeal.nD Cert.MlpLastRefIdeal.τ).loc Cert.MlpLastRefIdeal.main_arg4))

def preserves_GdnGates_GdnGatesIdeal : Prop :=
  True

def algebraic_GdnGatesIdeal_GdnGatesRefIdeal [hGdnGatesIdeal : Cert.GdnGatesIdeal.Facts] [hGdnGatesRefIdeal : Cert.GdnGatesRefIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg)
    (m' : (ℓ : Loc Cert.GdnGatesRefIdeal.nD Cert.GdnGatesRefIdeal.τ Cert.GdnGatesRefIdeal.sig) → Buf (Elt Ideal) ℓ) (g' : Dev Cert.GdnGatesRefIdeal.nD → PrngReg), Pre_GdnGatesIdeal m →
    (∀ c : Dev Cert.GdnGatesIdeal.nD,
      m' ((c.tc : Thread Cert.GdnGatesRefIdeal.nD Cert.GdnGatesRefIdeal.τ).loc Cert.GdnGatesRefIdeal.main_arg0) = m ((c.tc : Thread Cert.GdnGatesIdeal.nD Cert.GdnGatesIdeal.τ).loc Cert.GdnGatesIdeal.main_arg0)
      ∧ m' ((c.tc : Thread Cert.GdnGatesRefIdeal.nD Cert.GdnGatesRefIdeal.τ).loc Cert.GdnGatesRefIdeal.main_arg1) = m ((c.tc : Thread Cert.GdnGatesIdeal.nD Cert.GdnGatesIdeal.τ).loc Cert.GdnGatesIdeal.main_arg1)
      ∧ m' ((c.tc : Thread Cert.GdnGatesRefIdeal.nD Cert.GdnGatesRefIdeal.τ).loc Cert.GdnGatesRefIdeal.main_arg2) = m ((c.tc : Thread Cert.GdnGatesIdeal.nD Cert.GdnGatesIdeal.τ).loc Cert.GdnGatesIdeal.main_arg2)
      ∧ m' ((c.tc : Thread Cert.GdnGatesRefIdeal.nD Cert.GdnGatesRefIdeal.τ).loc Cert.GdnGatesRefIdeal.main_arg3) = m ((c.tc : Thread Cert.GdnGatesIdeal.nD Cert.GdnGatesIdeal.τ).loc Cert.GdnGatesIdeal.main_arg3)) →
    ∃ (v0 : (c : Dev Cert.GdnGatesIdeal.nD) → Buf (Elt Ideal) ((c.tc : Thread Cert.GdnGatesIdeal.nD Cert.GdnGatesIdeal.τ).loc Cert.GdnGatesIdeal.main_v3)),
      θ_run (Cert.GdnGatesIdeal.defs (F := Ideal)) (onTc (τ := Cert.GdnGatesIdeal.τ) (Cert.GdnGatesIdeal.main (F := Ideal))) ⟨m, fun _ => 0, g⟩ (fun r => ∀ c : Dev Cert.GdnGatesIdeal.nD,
          r.2.mem ((c.tc : Thread Cert.GdnGatesIdeal.nD Cert.GdnGatesIdeal.τ).loc Cert.GdnGatesIdeal.main_v3) = v0 c
          ∧ r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
          ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
          ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2)
          ∧ r.2.mem ((c.tc : Thread Cert.GdnGatesIdeal.nD Cert.GdnGatesIdeal.τ).loc Cert.GdnGatesIdeal.main_arg3) = m ((c.tc : Thread Cert.GdnGatesIdeal.nD Cert.GdnGatesIdeal.τ).loc Cert.GdnGatesIdeal.main_arg3))
      ∧ θ_run (Cert.GdnGatesRefIdeal.defs (F := Ideal)) (onTc (τ := Cert.GdnGatesRefIdeal.τ) (Cert.GdnGatesRefIdeal.main (F := Ideal))) ⟨m', fun _ => 0, g'⟩ (fun r => ∀ c : Dev Cert.GdnGatesRefIdeal.nD,
          r.2.mem ((c.tc : Thread Cert.GdnGatesRefIdeal.nD Cert.GdnGatesRefIdeal.τ).loc Cert.GdnGatesRefIdeal.main_v63) = v0 c
          ∧ r.2.mem ((c.tc : Thread Cert.GdnGatesRefIdeal.nD Cert.GdnGatesRefIdeal.τ).loc Cert.GdnGatesRefIdeal.main_arg0) = m' ((c.tc : Thread Cert.GdnGatesRefIdeal.nD Cert.GdnGatesRefIdeal.τ).loc Cert.GdnGatesRefIdeal.main_arg0)
          ∧ r.2.mem ((c.tc : Thread Cert.GdnGatesRefIdeal.nD Cert.GdnGatesRefIdeal.τ).loc Cert.GdnGatesRefIdeal.main_arg1) = m' ((c.tc : Thread Cert.GdnGatesRefIdeal.nD Cert.GdnGatesRefIdeal.τ).loc Cert.GdnGatesRefIdeal.main_arg1)
          ∧ r.2.mem ((c.tc : Thread Cert.GdnGatesRefIdeal.nD Cert.GdnGatesRefIdeal.τ).loc Cert.GdnGatesRefIdeal.main_arg2) = m' ((c.tc : Thread Cert.GdnGatesRefIdeal.nD Cert.GdnGatesRefIdeal.τ).loc Cert.GdnGatesRefIdeal.main_arg2)
          ∧ r.2.mem ((c.tc : Thread Cert.GdnGatesRefIdeal.nD Cert.GdnGatesRefIdeal.τ).loc Cert.GdnGatesRefIdeal.main_arg3) = m' ((c.tc : Thread Cert.GdnGatesRefIdeal.nD Cert.GdnGatesRefIdeal.τ).loc Cert.GdnGatesRefIdeal.main_arg3))

def preserves_LstmGates_LstmGatesIdeal : Prop :=
  True

def algebraic_LstmGatesIdeal_LstmGatesRefIdeal [hLstmGatesIdeal : Cert.LstmGatesIdeal.Facts] [hLstmGatesRefIdeal : Cert.LstmGatesRefIdeal.Facts] : Prop :=
  ∀ (m : (ℓ : Loc Cert.LstmGatesIdeal.nD Cert.LstmGatesIdeal.τ Cert.LstmGatesIdeal.sig) → Buf (Elt Ideal) ℓ) (g : Dev Cert.LstmGatesIdeal.nD → PrngReg)
    (m' : (ℓ : Loc Cert.LstmGatesRefIdeal.nD Cert.LstmGatesRefIdeal.τ Cert.LstmGatesRefIdeal.sig) → Buf (Elt Ideal) ℓ) (g' : Dev Cert.LstmGatesRefIdeal.nD → PrngReg), Pre_LstmGatesIdeal m →
    (∀ c : Dev Cert.LstmGatesIdeal.nD,
      m' ((c.tc : Thread Cert.LstmGatesRefIdeal.nD Cert.LstmGatesRefIdeal.τ).loc Cert.LstmGatesRefIdeal.main_arg0) = m ((c.tc : Thread Cert.LstmGatesIdeal.nD Cert.LstmGatesIdeal.τ).loc Cert.LstmGatesIdeal.main_arg0)
      ∧ m' ((c.tc : Thread Cert.LstmGatesRefIdeal.nD Cert.LstmGatesRefIdeal.τ).loc Cert.LstmGatesRefIdeal.main_arg1) = m ((c.tc : Thread Cert.LstmGatesIdeal.nD Cert.LstmGatesIdeal.τ).loc Cert.LstmGatesIdeal.main_arg1)
      ∧ m' ((c.tc : Thread Cert.LstmGatesRefIdeal.nD Cert.LstmGatesRefIdeal.τ).loc Cert.LstmGatesRefIdeal.main_arg2) = m ((c.tc : Thread Cert.LstmGatesIdeal.nD Cert.LstmGatesIdeal.τ).loc Cert.LstmGatesIdeal.main_arg2)
      ∧ m' ((c.tc : Thread Cert.LstmGatesRefIdeal.nD Cert.LstmGatesRefIdeal.τ).loc Cert.LstmGatesRefIdeal.main_arg3) = m ((c.tc : Thread Cert.LstmGatesIdeal.nD Cert.LstmGatesIdeal.τ).loc Cert.LstmGatesIdeal.main_arg3)) →
    ∃ (v0 : (c : Dev Cert.LstmGatesIdeal.nD) → Buf (Elt Ideal) ((c.tc : Thread Cert.LstmGatesIdeal.nD Cert.LstmGatesIdeal.τ).loc Cert.LstmGatesIdeal.main_v4)),
      θ_run (Cert.LstmGatesIdeal.defs (F := Ideal)) (onTc (τ := Cert.LstmGatesIdeal.τ) (Cert.LstmGatesIdeal.main (F := Ideal))) ⟨m, fun _ => 0, g⟩ (fun r => ∀ c : Dev Cert.LstmGatesIdeal.nD,
          r.2.mem ((c.tc : Thread Cert.LstmGatesIdeal.nD Cert.LstmGatesIdeal.τ).loc Cert.LstmGatesIdeal.main_v4) = v0 c
          ∧ r.2.mem ((c.tc : Thread Cert.LstmGatesIdeal.nD Cert.LstmGatesIdeal.τ).loc Cert.LstmGatesIdeal.main_arg0) = m ((c.tc : Thread Cert.LstmGatesIdeal.nD Cert.LstmGatesIdeal.τ).loc Cert.LstmGatesIdeal.main_arg0)
          ∧ r.2.mem ((c.tc : Thread Cert.LstmGatesIdeal.nD Cert.LstmGatesIdeal.τ).loc Cert.LstmGatesIdeal.main_arg1) = m ((c.tc : Thread Cert.LstmGatesIdeal.nD Cert.LstmGatesIdeal.τ).loc Cert.LstmGatesIdeal.main_arg1)
          ∧ r.2.mem ((c.tc : Thread Cert.LstmGatesIdeal.nD Cert.LstmGatesIdeal.τ).loc Cert.LstmGatesIdeal.main_arg2) = m ((c.tc : Thread Cert.LstmGatesIdeal.nD Cert.LstmGatesIdeal.τ).loc Cert.LstmGatesIdeal.main_arg2)
          ∧ r.2.mem ((c.tc : Thread Cert.LstmGatesIdeal.nD Cert.LstmGatesIdeal.τ).loc Cert.LstmGatesIdeal.main_arg3) = m ((c.tc : Thread Cert.LstmGatesIdeal.nD Cert.LstmGatesIdeal.τ).loc Cert.LstmGatesIdeal.main_arg3))
      ∧ θ_run (Cert.LstmGatesRefIdeal.defs (F := Ideal)) (onTc (τ := Cert.LstmGatesRefIdeal.τ) (Cert.LstmGatesRefIdeal.main (F := Ideal))) ⟨m', fun _ => 0, g'⟩ (fun r => ∀ c : Dev Cert.LstmGatesRefIdeal.nD,
          r.2.mem ((c.tc : Thread Cert.LstmGatesRefIdeal.nD Cert.LstmGatesRefIdeal.τ).loc Cert.LstmGatesRefIdeal.main_v64) = v0 c
          ∧ r.2.mem ((c.tc : Thread Cert.LstmGatesRefIdeal.nD Cert.LstmGatesRefIdeal.τ).loc Cert.LstmGatesRefIdeal.main_arg0) = m' ((c.tc : Thread Cert.LstmGatesRefIdeal.nD Cert.LstmGatesRefIdeal.τ).loc Cert.LstmGatesRefIdeal.main_arg0)
          ∧ r.2.mem ((c.tc : Thread Cert.LstmGatesRefIdeal.nD Cert.LstmGatesRefIdeal.τ).loc Cert.LstmGatesRefIdeal.main_arg1) = m' ((c.tc : Thread Cert.LstmGatesRefIdeal.nD Cert.LstmGatesRefIdeal.τ).loc Cert.LstmGatesRefIdeal.main_arg1)
          ∧ r.2.mem ((c.tc : Thread Cert.LstmGatesRefIdeal.nD Cert.LstmGatesRefIdeal.τ).loc Cert.LstmGatesRefIdeal.main_arg2) = m' ((c.tc : Thread Cert.LstmGatesRefIdeal.nD Cert.LstmGatesRefIdeal.τ).loc Cert.LstmGatesRefIdeal.main_arg2)
          ∧ r.2.mem ((c.tc : Thread Cert.LstmGatesRefIdeal.nD Cert.LstmGatesRefIdeal.τ).loc Cert.LstmGatesRefIdeal.main_arg3) = m' ((c.tc : Thread Cert.LstmGatesRefIdeal.nD Cert.LstmGatesRefIdeal.τ).loc Cert.LstmGatesRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hGdnIn : Cert.GdnIn.Facts) (hGdnInIdeal : Cert.GdnInIdeal.Facts) (hGdnInRefIdeal : Cert.GdnInRefIdeal.Facts) (hLstmIn : Cert.LstmIn.Facts) (hLstmInIdeal : Cert.LstmInIdeal.Facts) (hLstmInRefIdeal : Cert.LstmInRefIdeal.Facts) (hGdnOut : Cert.GdnOut.Facts) (hGdnOutIdeal : Cert.GdnOutIdeal.Facts) (hGdnOutRefIdeal : Cert.GdnOutRefIdeal.Facts) (hLstmOut : Cert.LstmOut.Facts) (hLstmOutIdeal : Cert.LstmOutIdeal.Facts) (hLstmOutRefIdeal : Cert.LstmOutRefIdeal.Facts) (hProj : Cert.Proj.Facts) (hProjIdeal : Cert.ProjIdeal.Facts) (hProjRefIdeal : Cert.ProjRefIdeal.Facts) (hLatentIn : Cert.LatentIn.Facts) (hLatentInIdeal : Cert.LatentInIdeal.Facts) (hLatentInRefIdeal : Cert.LatentInRefIdeal.Facts) (hProjLast : Cert.ProjLast.Facts) (hProjLastIdeal : Cert.ProjLastIdeal.Facts) (hProjLastRefIdeal : Cert.ProjLastRefIdeal.Facts) (hFinal : Cert.Final.Facts) (hFinalIdeal : Cert.FinalIdeal.Facts) (hFinalRefIdeal : Cert.FinalRefIdeal.Facts) (hLatentUp : Cert.LatentUp.Facts) (hLatentUpIdeal : Cert.LatentUpIdeal.Facts) (hLatentUpRefIdeal : Cert.LatentUpRefIdeal.Facts) (hMlpLast : Cert.MlpLast.Facts) (hMlpLastIdeal : Cert.MlpLastIdeal.Facts) (hMlpLastRefIdeal : Cert.MlpLastRefIdeal.Facts) (hGdnGates : Cert.GdnGates.Facts) (hGdnGatesIdeal : Cert.GdnGatesIdeal.Facts) (hGdnGatesRefIdeal : Cert.GdnGatesRefIdeal.Facts) (hLstmGates : Cert.LstmGates.Facts) (hLstmGatesIdeal : Cert.LstmGatesIdeal.Facts) (hLstmGatesRefIdeal : Cert.LstmGatesRefIdeal.Facts) (hAda : Cert.Ada.Facts) (hAdaIdeal : Cert.AdaIdeal.Facts) (hAdaRefIdeal : Cert.AdaRefIdeal.Facts) (hPre_finite_logits : Cert.Pre_finite_logits.Facts),
    quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_Mlp (hMlp := hMlp)
    ∧ quiescent_MlpIdeal (hMlpIdeal := hMlpIdeal)
    ∧ quiescent_MlpRefIdeal (hMlpRefIdeal := hMlpRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_LstmIn (hLstmIn := hLstmIn)
    ∧ quiescent_LstmInIdeal (hLstmInIdeal := hLstmInIdeal)
    ∧ quiescent_LstmInRefIdeal (hLstmInRefIdeal := hLstmInRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_LstmOut (hLstmOut := hLstmOut)
    ∧ quiescent_LstmOutIdeal (hLstmOutIdeal := hLstmOutIdeal)
    ∧ quiescent_LstmOutRefIdeal (hLstmOutRefIdeal := hLstmOutRefIdeal)
    ∧ quiescent_Proj (hProj := hProj)
    ∧ quiescent_ProjIdeal (hProjIdeal := hProjIdeal)
    ∧ quiescent_ProjRefIdeal (hProjRefIdeal := hProjRefIdeal)
    ∧ quiescent_LatentIn (hLatentIn := hLatentIn)
    ∧ quiescent_LatentInIdeal (hLatentInIdeal := hLatentInIdeal)
    ∧ quiescent_LatentInRefIdeal (hLatentInRefIdeal := hLatentInRefIdeal)
    ∧ quiescent_ProjLast (hProjLast := hProjLast)
    ∧ quiescent_ProjLastIdeal (hProjLastIdeal := hProjLastIdeal)
    ∧ quiescent_ProjLastRefIdeal (hProjLastRefIdeal := hProjLastRefIdeal)
    ∧ quiescent_Final (hFinal := hFinal)
    ∧ quiescent_FinalIdeal (hFinalIdeal := hFinalIdeal)
    ∧ quiescent_FinalRefIdeal (hFinalRefIdeal := hFinalRefIdeal)
    ∧ quiescent_LatentUp (hLatentUp := hLatentUp)
    ∧ quiescent_LatentUpIdeal (hLatentUpIdeal := hLatentUpIdeal)
    ∧ quiescent_LatentUpRefIdeal (hLatentUpRefIdeal := hLatentUpRefIdeal)
    ∧ quiescent_MlpLast (hMlpLast := hMlpLast)
    ∧ quiescent_MlpLastIdeal (hMlpLastIdeal := hMlpLastIdeal)
    ∧ quiescent_MlpLastRefIdeal (hMlpLastRefIdeal := hMlpLastRefIdeal)
    ∧ quiescent_GdnGates (hGdnGates := hGdnGates)
    ∧ quiescent_GdnGatesIdeal (hGdnGatesIdeal := hGdnGatesIdeal)
    ∧ quiescent_GdnGatesRefIdeal (hGdnGatesRefIdeal := hGdnGatesRefIdeal)
    ∧ quiescent_LstmGates (hLstmGates := hLstmGates)
    ∧ quiescent_LstmGatesIdeal (hLstmGatesIdeal := hLstmGatesIdeal)
    ∧ quiescent_LstmGatesRefIdeal (hLstmGatesRefIdeal := hLstmGatesRefIdeal)
    ∧ quiescent_Ada (hAda := hAda)
    ∧ quiescent_AdaIdeal (hAdaIdeal := hAdaIdeal)
    ∧ quiescent_AdaRefIdeal (hAdaRefIdeal := hAdaRefIdeal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_Mlp_MlpIdeal
    ∧ algebraic_MlpIdeal_MlpRefIdeal (hMlpIdeal := hMlpIdeal) (hMlpRefIdeal := hMlpRefIdeal)
    ∧ preserves_GdnIn_GdnInIdeal
    ∧ algebraic_GdnInIdeal_GdnInRefIdeal (hGdnInIdeal := hGdnInIdeal) (hGdnInRefIdeal := hGdnInRefIdeal)
    ∧ preserves_LstmIn_LstmInIdeal
    ∧ algebraic_LstmInIdeal_LstmInRefIdeal (hLstmInIdeal := hLstmInIdeal) (hLstmInRefIdeal := hLstmInRefIdeal)
    ∧ preserves_GdnOut_GdnOutIdeal
    ∧ algebraic_GdnOutIdeal_GdnOutRefIdeal (hGdnOutIdeal := hGdnOutIdeal) (hGdnOutRefIdeal := hGdnOutRefIdeal)
    ∧ preserves_LstmOut_LstmOutIdeal
    ∧ algebraic_LstmOutIdeal_LstmOutRefIdeal (hLstmOutIdeal := hLstmOutIdeal) (hLstmOutRefIdeal := hLstmOutRefIdeal)
    ∧ preserves_Proj_ProjIdeal
    ∧ algebraic_ProjIdeal_ProjRefIdeal (hProjIdeal := hProjIdeal) (hProjRefIdeal := hProjRefIdeal)
    ∧ preserves_LatentIn_LatentInIdeal
    ∧ algebraic_LatentInIdeal_LatentInRefIdeal (hLatentInIdeal := hLatentInIdeal) (hLatentInRefIdeal := hLatentInRefIdeal)
    ∧ preserves_ProjLast_ProjLastIdeal
    ∧ algebraic_ProjLastIdeal_ProjLastRefIdeal (hProjLastIdeal := hProjLastIdeal) (hProjLastRefIdeal := hProjLastRefIdeal)
    ∧ preserves_Final_FinalIdeal
    ∧ algebraic_FinalIdeal_FinalRefIdeal (hFinalIdeal := hFinalIdeal) (hFinalRefIdeal := hFinalRefIdeal)
    ∧ preserves_LatentUp_LatentUpIdeal
    ∧ algebraic_LatentUpIdeal_LatentUpRefIdeal (hLatentUpIdeal := hLatentUpIdeal) (hLatentUpRefIdeal := hLatentUpRefIdeal)
    ∧ preserves_MlpLast_MlpLastIdeal
    ∧ algebraic_MlpLastIdeal_MlpLastRefIdeal (hMlpLastIdeal := hMlpLastIdeal) (hMlpLastRefIdeal := hMlpLastRefIdeal)
    ∧ preserves_GdnGates_GdnGatesIdeal
    ∧ algebraic_GdnGatesIdeal_GdnGatesRefIdeal (hGdnGatesIdeal := hGdnGatesIdeal) (hGdnGatesRefIdeal := hGdnGatesRefIdeal)
    ∧ preserves_LstmGates_LstmGatesIdeal
    ∧ algebraic_LstmGatesIdeal_LstmGatesRefIdeal (hLstmGatesIdeal := hLstmGatesIdeal) (hLstmGatesRefIdeal := hLstmGatesRefIdeal)
    ∧ preserves_Ada_AdaIdeal
    ∧ algebraic_AdaIdeal_AdaRefIdeal (hAdaIdeal := hAdaIdeal) (hAdaRefIdeal := hAdaRefIdeal)
-- ==== Pre_finite_logits.lean ====
abbrev S16896x4096 : Shape := ⟨2, ![16896, 4096]⟩
abbrev S16896x2048 : Shape := ⟨2, ![16896, 2048]⟩
abbrev S_ : Shape := ⟨0, ![]⟩

class Facts : Prop where
  bitsLt_bf16_f32 : FTy.bits .bf16 < FTy.bits .f32
  bcast_S_S16896x4096 : S_.BroadcastsInDim S16896x4096 (![] : Fin 0 → Fin S16896x4096.rank)
  reducesTo_S16896x4096_S_d0_1 : S16896x4096.ReducesTo [0, 1] S_
  h_S_ : 0 < S_.numel

variable [Facts]

def fn {F : FTy → Type} [FloatOps F] (main_arg0 : FVec F S16896x4096 .bf16) (main_arg1 : FVec F S16896x4096 .bf16) (main_arg2 : FVec F S16896x2048 .bf16) : IVec S_ 1 :=
  let main_v0 : FVec F S16896x4096 .f32 := (extf .f32 · bitsLt_bf16_f32) main_arg0
  let main_v1 : FVec F S16896x4096 .f32 := (extf .f32 · bitsLt_bf16_f32) main_arg1
  let main_cst : FVec F S_ .f32 := constant S_ .f32 0x7F800000#32
  let main_v2 : FVec F S16896x4096 .f32 := broadcastInDim S16896x4096 ![] bcast_S_S16896x4096 main_cst
  let main_v3 : IVec S16896x4096 1 := cmpf .olt main_v0 main_v2
  let main_cst_0 : FVec F S_ .f32 := constant S_ .f32 0xFF800000#32
  let main_v4 : FVec F S16896x4096 .f32 := broadcastInDim S16896x4096 ![] bcast_S_S16896x4096 main_cst_0
  let main_v5 : IVec S16896x4096 1 := cmpf .ogt main_v0 main_v4
  let main_v6 : IVec S16896x4096 1 := andi main_v3 main_v5
  let main_c : IVec S_ 1 := constantI S_ 1 1#1
  let main_v7 : IVec S_ 1 := (fun x v => Host.reduce IntOp.andi x v reducesTo_S16896x4096_S_d0_1 h_S_) main_v6 main_c
  let main_cst_1 : FVec F S_ .f32 := constant S_ .f32 0x7F800000#32
  let main_v8 : FVec F S16896x4096 .f32 := broadcastInDim S16896x4096 ![] bcast_S_S16896x4096 main_cst_1
  let main_v9 : IVec S16896x4096 1 := cmpf .olt main_v1 main_v8
  let main_cst_2 : FVec F S_ .f32 := constant S_ .f32 0xFF800000#32
  let main_v10 : FVec F S16896x4096 .f32 := broadcastInDim S16896x4096 ![] bcast_S_S16896x4096 main_cst_2
  let main_v11 : IVec S16896x4096 1 := cmpf .ogt main_v1 main_v10
  let main_v12 : IVec S16896x4096 1 := andi main_v9 main_v11
  let main_c_3 : IVec S_ 1 := constantI S_ 1 1#1
  let main_v13 : IVec S_ 1 := (fun x v => Host.reduce IntOp.andi x v reducesTo_S16896x4096_S_d0_1 h_S_) main_v12 main_c_3
  let main_v14 : IVec S_ 1 := andi main_v7 main_v13
  main_v14
-- ==== Attn.lean ====
abbrev S16896x4096 : Shape := ⟨2, ![16896, 4096]⟩
abbrev S16896x2048 : Shape := ⟨2, ![16896, 2048]⟩
abbrev S16384x2048 : Shape := ⟨2, ![16384, 2048]⟩
abbrev S512x256 : Shape := ⟨2, ![512, 256]⟩
abbrev S8192x256 : Shape := ⟨2, ![8192, 256]⟩
abbrev S8192x128 : Shape := ⟨2, ![8192, 128]⟩
abbrev S256x256 : Shape := ⟨2, ![256, 256]⟩
abbrev S256x128 : Shape := ⟨2, ![256, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .bf16⟩
  | .hbm, ⟨2, _⟩ => ⟨S16896x2048, .bf16⟩
  | .hbm, ⟨3, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 16], ![false, false, false]⟩

def k0_mult1 : BitVec 32 :=
  let c0_i32 : BitVec 32 := 0#32
  let c512_i32 : BitVec 32 := 512#32
  let v3 : BitVec 32 := Scalar.muli c0_i32 c512_i32
  v3
def k0_off1 (c0_i32 : BitVec 32) : Fin 2 → Nat :=
  let c512_i32 : BitVec 32 := 512#32
  let v3 : BitVec 32 := Scalar.muli c0_i32 c512_i32
  let v4 : BitVec 32 := v3
  let v5 : Index := Scalar.indexCast v4
  let c0_2 : Index := 0#32
  ![v5.toNat, 0]
def k0_off2 (c0_i32 : BitVec 32) : Fin 2 → Nat :=
  let c512_i32 : BitVec 32 := 512#32
  let v3 : BitVec 32 := Scalar.muli c0_i32 c512_i32
  let v4 : BitVec 32 := v3
  let v7 : Index := Scalar.indexCast v4
  let c0_3 : Index := 0#32
  ![v7.toNat, 0]
def k0_mult2 : BitVec 32 :=
  let c1_i32 : BitVec 32 := 1#32
  let c512_i32_8 : BitVec 32 := 512#32
  let v25 : BitVec 32 := Scalar.muli c1_i32 c512_i32_8
  v25
def k0_mult3 : BitVec 32 :=
  let c2_i32 : BitVec 32 := 2#32
  let c512_i32_15 : BitVec 32 := 512#32
  let v47 : BitVec 32 := Scalar.muli c2_i32 c512_i32_15
  v47
def k0_mult4 : BitVec 32 :=
  let c3_i32 : BitVec 32 := 3#32
  let c512_i32_22 : BitVec 32 := 512#32
  let v69 : BitVec 32 := Scalar.muli c3_i32 c512_i32_22
  v69
def k0_mult5 : BitVec 32 :=
  let c4_i32 : BitVec 32 := 4#32
  let c512_i32_29 : BitVec 32 := 512#32
  let v91 : BitVec 32 := Scalar.muli c4_i32 c512_i32_29
  v91
def k0_mult6 : BitVec 32 :=
  let c5_i32 : BitVec 32 := 5#32
  let c512_i32_36 : BitVec 32 := 512#32
  let v113 : BitVec 32 := Scalar.muli c5_i32 c512_i32_36
  v113
def k0_mult7 : BitVec 32 :=
  let c6_i32 : BitVec 32 := 6#32
  let c512_i32_43 : BitVec 32 := 512#32
  let v135 : BitVec 32 := Scalar.muli c6_i32 c512_i32_43
  v135
def k0_mult8 : BitVec 32 :=
  let c7_i32 : BitVec 32 := 7#32
  let c512_i32_50 : BitVec 32 := 512#32
  let v157 : BitVec 32 := Scalar.muli c7_i32 c512_i32_50
  v157
def k0_mult9 : BitVec 32 :=
  let c8_i32 : BitVec 32 := 8#32
  let c512_i32_57 : BitVec 32 := 512#32
  let v179 : BitVec 32 := Scalar.muli c8_i32 c512_i32_57
  v179
def k0_mult10 : BitVec 32 :=
  let c9_i32 : BitVec 32 := 9#32
  let c512_i32_64 : BitVec 32 := 512#32
  let v201 : BitVec 32 := Scalar.muli c9_i32 c512_i32_64
  v201
def k0_mult11 : BitVec 32 :=
  let c10_i32 : BitVec 32 := 10#32
  let c512_i32_71 : BitVec 32 := 512#32
  let v223 : BitVec 32 := Scalar.muli c10_i32 c512_i32_71
  v223
def k0_mult12 : BitVec 32 :=
  let c11_i32 : BitVec 32 := 11#32
  let c512_i32_78 : BitVec 32 := 512#32
  let v245 : BitVec 32 := Scalar.muli c11_i32 c512_i32_78
  v245
def k0_mult13 : BitVec 32 :=
  let c12_i32 : BitVec 32 := 12#32
  let c512_i32_85 : BitVec 32 := 512#32
  let v267 : BitVec 32 := Scalar.muli c12_i32 c512_i32_85
  v267
def k0_mult14 : BitVec 32 :=
  let c13_i32 : BitVec 32 := 13#32
  let c512_i32_92 : BitVec 32 := 512#32
  let v289 : BitVec 32 := Scalar.muli c13_i32 c512_i32_92
  v289
def k0_mult15 : BitVec 32 :=
  let c14_i32 : BitVec 32 := 14#32
  let c512_i32_99 : BitVec 32 := 512#32
  let v311 : BitVec 32 := Scalar.muli c14_i32 c512_i32_99
  v311
def k0_mult16 : BitVec 32 :=
  let c15_i32 : BitVec 32 := 15#32
  let c512_i32_106 : BitVec 32 := 512#32
  let v333 : BitVec 32 := Scalar.muli c15_i32 c512_i32_106
  v333
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S16896x4096 : Shape := ⟨2, ![16896, 4096]⟩
abbrev S16896x2048 : Shape := ⟨2, ![16896, 2048]⟩
abbrev S16384x4096 : Shape := ⟨2, ![16384, 4096]⟩
abbrev S2x8192x16x256 : Shape := ⟨4, ![2, 8192, 16, 256]⟩
abbrev S512x4096 : Shape := ⟨2, ![512, 4096]⟩
abbrev S2x256x16x256 : Shape := ⟨4, ![2, 256, 16, 256]⟩
abbrev S16384x2048 : Shape := ⟨2, ![16384, 2048]⟩
abbrev S2x8192x16x128 : Shape := ⟨4, ![2, 8192, 16, 128]⟩
abbrev S512x2048 : Shape := ⟨2, ![512, 2048]⟩
abbrev S2x256x16x128 : Shape := ⟨4, ![2, 256, 16, 128]⟩
abbrev S2x8448x16x256 : Shape := ⟨4, ![2, 8448, 16, 256]⟩
abbrev S2x8448x16x128 : Shape := ⟨4, ![2, 8448, 16, 128]⟩
abbrev S2x16x8192x8448 : Shape := ⟨4, ![2, 16, 8192, 8448]⟩
abbrev S_ : Shape := ⟨0, ![]⟩
abbrev S2x16x8192 : Shape := ⟨3, ![2, 16, 8192]⟩
abbrev S2x16x8192x1 : Shape := ⟨4, ![2, 16, 8192, 1]⟩
abbrev S2x16x128x8192 : Shape := ⟨4, ![2, 16, 128, 8192]⟩

abbrev nBuf : Space → Nat
  | .hbm => 41
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .bf16⟩
  | .hbm, ⟨2, _⟩ => ⟨S16896x2048, .bf16⟩
  | .hbm, ⟨3, _⟩ => ⟨S16896x4096, .f32⟩
  | .hbm, ⟨4, _⟩ => ⟨S16384x4096, .f32⟩
  | .hbm, ⟨5, _⟩ => ⟨S2x8192x16x256, .f32⟩
  | .hbm, ⟨6, _⟩ => ⟨S16896x4096, .f32⟩
  | .hbm, ⟨7, _⟩ => ⟨S16896x2048, .f32⟩
  | .hbm, ⟨8, _⟩ => ⟨S16384x4096, .f32⟩
  | .hbm, ⟨9, _⟩ => ⟨S2x8192x16x256, .f32⟩
  | .hbm, ⟨10, _⟩ => ⟨S512x4096, .f32⟩
  | .hbm, ⟨11, _⟩ => ⟨S2x256x16x256, .f32⟩
  | .hbm, ⟨12, _⟩ => ⟨S16384x2048, .f32⟩
  | .hbm, ⟨13, _⟩ => ⟨S2x8192x16x128, .f32⟩
  | .hbm, ⟨14, _⟩ => ⟨S512x2048, .f32⟩
  | .hbm, ⟨15, _⟩ => ⟨S2x256x16x128, .f32⟩
  | .hbm, ⟨16, _⟩ => ⟨S2x8448x16x256, .f32⟩
  | .hbm, ⟨17, _⟩ => ⟨S2x8448x16x128, .f32⟩
  | .hbm, ⟨18, _⟩ => ⟨S2x16x8192x8448, .f32⟩
  | .hbm, ⟨19, _⟩ => ⟨S_, .f32⟩
  | .hbm, ⟨20, _⟩ => ⟨S_, .f32⟩
  | .hbm, ⟨21, _⟩ => ⟨S2x16x8192x8448, .f32⟩
  | .hbm, ⟨22, _⟩ => ⟨S2x16x8192x8448, .f32⟩
  | .hbm, ⟨23, _⟩ => ⟨S_, .f32⟩
  | .hbm, ⟨24, _⟩ => ⟨S2x16x8192, .f32⟩
  | .hbm, ⟨25, _⟩ => ⟨S_, .f32⟩
  | .hbm, ⟨26, _⟩ => ⟨S2x16x8192, .f32⟩
  | .hbm, ⟨27, _⟩ => ⟨S2x16x8192, .f32⟩
  | .hbm, ⟨28, _⟩ => ⟨S2x16x8192x1, .f32⟩
  | .hbm, ⟨29, _⟩ => ⟨S2x16x8192x8448, .f32⟩
  | .hbm, ⟨30, _⟩ => ⟨S2x16x8192x8448, .f32⟩
  | .hbm, ⟨31, _⟩ => ⟨S2x16x8192x8448, .f32⟩
  | .hbm, ⟨32, _⟩ => ⟨S_, .f32⟩
  | .hbm, ⟨33, _⟩ => ⟨S2x16x8192, .f32⟩
  | .hbm, ⟨34, _⟩ => ⟨S2x16x8192x1, .f32⟩
  | .hbm, ⟨35, _⟩ => ⟨S2x16x8192x8448, .f32⟩
  | .hbm, ⟨36, _⟩ => ⟨S2x16x8192x8448, .f32⟩
  | .hbm, ⟨37, _⟩ => ⟨S2x16x128x8192, .f32⟩
  | .hbm, ⟨38, _⟩ => ⟨S2x8192x16x128, .f32⟩
  | .hbm, ⟨39, _⟩ => ⟨S16384x2048, .f32⟩
  | .hbm, ⟨40, _⟩ => ⟨S16384x2048, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Mlp.lean ====
abbrev S16896x2048 : Shape := ⟨2, ![16896, 2048]⟩
abbrev S2048 : Shape := ⟨1, ![2048]⟩
abbrev S3x1x12288 : Shape := ⟨3, ![3, 1, 12288]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S1x1x2048 : Shape := ⟨3, ![1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x8192, .f32⟩
  | .hbm, ⟨4, _⟩ => ⟨S8192x2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![33, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c4_i32 : BitVec 32 := 4#32
  let c0_i32_5 : BitVec 32 := 0#32
  ![v18.toNat, c0_i32_4.toNat, c4_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpIdeal.lean ====
abbrev S16896x2048 : Shape := ⟨2, ![16896, 2048]⟩
abbrev S2048 : Shape := ⟨1, ![2048]⟩
abbrev S3x1x12288 : Shape := ⟨3, ![3, 1, 12288]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S1x1x2048 : Shape := ⟨3, ![1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x8192, .f32⟩
  | .hbm, ⟨4, _⟩ => ⟨S8192x2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![33, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c4_i32 : BitVec 32 := 4#32
  let c0_i32_5 : BitVec 32 := 0#32
  ![v18.toNat, c0_i32_4.toNat, c4_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S16896x2048 : Shape := ⟨2, ![16896, 2048]⟩
abbrev S2048 : Shape := ⟨1, ![2048]⟩
abbrev S3x1x12288 : Shape := ⟨3, ![3, 1, 12288]⟩
abbrev S2048x8192 : Shape := ⟨2, ![2048, 8192]⟩
abbrev S8192x2048 : Shape := ⟨2, ![8192, 2048]⟩
abbrev S3x12288 : Shape := ⟨2, ![3, 12288]⟩
abbrev S3x2048 : Shape := ⟨2, ![3, 2048]⟩
abbrev S2x2048 : Shape := ⟨2, ![2, 2048]⟩
abbrev S1x2048 : Shape := ⟨2, ![1, 2048]⟩
abbrev S16384x2048 : Shape := ⟨2, ![16384, 2048]⟩
abbrev S2x8192x2048 : Shape := ⟨3, ![2, 8192, 2048]⟩
abbrev S512x2048 : Shape := ⟨2, ![512, 2048]⟩
abbrev S2x256x2048 : Shape := ⟨3, ![2, 256, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x8192 : Shape := ⟨3, ![2, 8192, 8192]⟩
abbrev S2x256 : Shape := ⟨2, ![2, 256]⟩
abbrev S2x256x1 : Shape := ⟨3, ![2, 256, 1]⟩
abbrev S2x256x8192 : Shape := ⟨3, ![2, 256, 8192]⟩

abbrev nBuf : Space → Nat
  | .hbm => 108
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x8192, .f32⟩
  | .hbm, ⟨4, _⟩ => ⟨S8192x2048, .f32⟩
  | .hbm, ⟨5, _⟩ => ⟨S3x12288, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S3x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S3x12288, .f32⟩
  | .hbm, ⟨19, _⟩ => ⟨S3x2048, .f32⟩
  | .hbm, ⟨20, _⟩ => ⟨S3x2048, .f32⟩
  | .hbm, ⟨21, _⟩ => ⟨S3x2048, .f32⟩
  | .hbm, ⟨22, _⟩ => ⟨S3x2048, .f32⟩
  | .hbm, ⟨23, _⟩ => ⟨S3x2048, .f32⟩
  | .hbm, ⟨24, _⟩ => ⟨S3x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S16384x2048, .f32⟩
  | .hbm, ⟨32, _⟩ => ⟨S2x8192x2048, .f32⟩
  | .hbm, ⟨33, _⟩ => ⟨S512x2048, .f32⟩
  | .hbm, ⟨34, _⟩ => ⟨S2x256x2048, .f32⟩
  | .hbm, ⟨35, _⟩ => ⟨S2x1x2048, .f32⟩
  | .hbm, ⟨36, _⟩ => ⟨S2x8192x2048, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x2048, .f32⟩
  | .hbm, ⟨48, _⟩ => ⟨S2x8192x2048, .f32⟩
  | .hbm, ⟨49, _⟩ => ⟨S1x1x2048, .f32⟩
  | .hbm, ⟨50, _⟩ => ⟨S2x8192x2048, .f32⟩
  | .hbm, ⟨51, _⟩ => ⟨S2x8192x2048, .f32⟩
  | .hbm, ⟨52, _⟩ => ⟨S2x1x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x8192x2048, .f32⟩
  | .hbm, ⟨57, _⟩ => ⟨S2x8192x2048, .f32⟩
  | .hbm, ⟨58, _⟩ => ⟨S2x1x2048, .f32⟩
  | .hbm, ⟨59, _⟩ => ⟨S2x8192x2048, .f32⟩
  | .hbm, ⟨60, _⟩ => ⟨S2x8192x2048, .f32⟩
  | .hbm, ⟨61, _⟩ => ⟨S2x8192x8192, .f32⟩
  | .hbm, ⟨62, _⟩ => ⟨S_, .f32⟩
  | .hbm, ⟨63, _⟩ => ⟨S2x8192x8192, .f32⟩
  | .hbm, ⟨64, _⟩ => ⟨S2x8192x8192, .f32⟩
  | .hbm, ⟨65, _⟩ => ⟨S2x8192x8192, .f32⟩
  | .hbm, ⟨66, _⟩ => ⟨S2x8192x2048, .f32⟩
  | .hbm, ⟨67, _⟩ => ⟨S2x8192x2048, .f32⟩
  | .hbm, ⟨68, _⟩ => ⟨S2x8192x2048, .f32⟩
  | .hbm, ⟨69, _⟩ => ⟨S2x8192x2048, .f32⟩
  | .hbm, ⟨70, _⟩ => ⟨S1x1x2048, .f32⟩
  | .hbm, ⟨71, _⟩ => ⟨S2x256x2048, .f32⟩
  | .hbm, ⟨72, _⟩ => ⟨S_, .f32⟩
  | .hbm, ⟨73, _⟩ => ⟨S2x256, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S_, .f32⟩
  | .hbm, ⟨79, _⟩ => ⟨S2x256x1, .f32⟩
  | .hbm, ⟨80, _⟩ => ⟨S2x256x1, .f32⟩
  | .hbm, ⟨81, _⟩ => ⟨S2x256x1, .f32⟩
  | .hbm, ⟨82, _⟩ => ⟨S2x256x2048, .f32⟩
  | .hbm, ⟨83, _⟩ => ⟨S2x256x2048, .f32⟩
  | .hbm, ⟨84, _⟩ => ⟨S1x1x2048, .f32⟩
  | .hbm, ⟨85, _⟩ => ⟨S2x256x2048, .f32⟩
  | .hbm, ⟨86, _⟩ => ⟨S2x256x2048, .f32⟩
  | .hbm, ⟨87, _⟩ => ⟨S1x1x2048, .f32⟩
  | .hbm, ⟨88, _⟩ => ⟨S_, .f32⟩
  | .hbm, ⟨89, _⟩ => ⟨S1x1x2048, .f32⟩
  | .hbm, ⟨90, _⟩ => ⟨S1x1x2048, .f32⟩
  | .hbm, ⟨91, _⟩ => ⟨S2x256x2048, .f32⟩
  | .hbm, ⟨92, _⟩ => ⟨S2x256x2048, .f32⟩
  | .hbm, ⟨93, _⟩ => ⟨S1x1x2048, .f32⟩
  | .hbm, ⟨94, _⟩ => ⟨S2x256x2048, .f32⟩
  | .hbm, ⟨95, _⟩ => ⟨S2x256x2048, .f32⟩
  | .hbm, ⟨96, _⟩ => ⟨S2x256x8192, .f32⟩
  | .hbm, ⟨97, _⟩ => ⟨S_, .f32⟩
  | .hbm, ⟨98, _⟩ => ⟨S2x256x8192, .f32⟩
  | .hbm, ⟨99, _⟩ => ⟨S2x256x8192, .f32⟩
  | .hbm, ⟨100, _⟩ => ⟨S2x256x8192, .f32⟩
  | .hbm, ⟨101, _⟩ => ⟨S2x256x2048, .f32⟩
  | .hbm, ⟨102, _⟩ => ⟨S2x256x2048, .f32⟩
  | .hbm, ⟨103, _⟩ => ⟨S2x256x2048, .f32⟩
  | .hbm, ⟨104, _⟩ => ⟨S2x256x2048, .f32⟩
  | .hbm, ⟨105, _⟩ => ⟨S16384x2048, .f32⟩
  | .hbm, ⟨106, _⟩ => ⟨S512x2048, .f32⟩
  | .hbm, ⟨107, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_call0_cst : Ref sig .tc := ⟨.hbm, 62, rfl⟩
abbrev main_call0_v0 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_3 : Ref sig .tc := ⟨.hbm, 72, rfl⟩
abbrev main_v61 : Ref sig .tc := ⟨.hbm, 73, rfl⟩
abbrev main_v62 : Ref sig .tc := ⟨.hbm, 74, rfl⟩
abbrev main_cst_4 : Ref sig .tc := ⟨.hbm, 75, rfl⟩
abbrev main_v63 : Ref sig .tc := ⟨.hbm, 76, rfl⟩
abbrev main_v64 : Ref sig .tc := ⟨.hbm, 77, rfl⟩
abbrev main_cst_5 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_6 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_call1_cst : Ref sig .tc := ⟨.hbm, 97, rfl⟩
abbrev main_call1_v0 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== GdnIn.lean ====
abbrev S16896x2048 : Shape := ⟨2, ![16896, 2048]⟩
abbrev S2048 : Shape := ⟨1, ![2048]⟩
abbrev S3x1x12288 : Shape := ⟨3, ![3, 1, 12288]⟩
abbrev S2048x12416 : Shape := ⟨2, ![2048, 12416]⟩
abbrev S2048x12288 : Shape := ⟨2, ![2048, 12288]⟩
abbrev S1x2048 : Shape := ⟨2, ![1, 2048]⟩
abbrev S16896x12288 : Shape := ⟨2, ![16896, 12288]⟩
abbrev S512x2048 : Shape := ⟨2, ![512, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x12416, .f32⟩
  | .hbm, ⟨4, _⟩ => ⟨S2048x12288, .f32⟩
  | .hbm, ⟨5, _⟩ => ⟨S2048x12288, .bf16⟩
  | .hbm, ⟨6, _⟩ => ⟨S1x2048, .f32⟩
  | .hbm, ⟨7, _⟩ => ⟨S16896x12288, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![33, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GdnInRefIdeal.lean ====
abbrev S16896x2048 : Shape := ⟨2, ![16896, 2048]⟩
abbrev S2048 : Shape := ⟨1, ![2048]⟩
abbrev S3x1x12288 : Shape := ⟨3, ![3, 1, 12288]⟩
abbrev S2048x12416 : Shape := ⟨2, ![2048, 12416]⟩
abbrev S3x12288 : Shape := ⟨2, ![3, 12288]⟩
abbrev S3x2048 : Shape := ⟨2, ![3, 2048]⟩
abbrev S16384x2048 : Shape := ⟨2, ![16384, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x2048 : Shape := ⟨2, ![2, 2048]⟩
abbrev S2x1x2048 : Shape := ⟨3, ![2, 1, 2048]⟩
abbrev S512x2048 : Shape := ⟨2, ![512, 2048]⟩
abbrev S2x256x2048 : Shape := ⟨3, ![2, 256, 2048]⟩
abbrev S2x256 : Shape := ⟨2, ![2, 256]⟩
abbrev S2x256x1 : Shape := ⟨3, ![2, 256, 1]⟩
abbrev S1x2048 : Shape := ⟨2, ![1, 2048]⟩
abbrev S2x8192x12416 : Shape := ⟨3, ![2, 8192, 12416]⟩
abbrev S2x8192x12288 : Shape := ⟨3, ![2, 8192, 12288]⟩
abbrev S2x256x12416 : Shape := ⟨3, ![2, 256, 12416]⟩
abbrev S2x256x12288 : Shape := ⟨3, ![2, 256, 12288]⟩
abbrev S16384x12288 : Shape := ⟨2, ![16384, 12288]⟩
abbrev S512x12288 : Shape := ⟨2, ![512, 12288]⟩
abbrev S16896x12288 : Shape := ⟨2, ![16896, 12288]⟩

abbrev nBuf : Space → Nat
  | .hbm => 76
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x12416, .f32⟩
  | .hbm, ⟨4, _⟩ => ⟨S3x12288, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S16384x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S512x2048, .f32⟩
  | .hbm, ⟨41, _⟩ => ⟨S2x256x2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x2048, .f32⟩
  | .hbm, ⟨59, _⟩ => ⟨S1x2048, .f32⟩
  | .hbm, ⟨60, _⟩ => ⟨S1x1x2048, .f32⟩
  | .hbm, ⟨61, _⟩ => ⟨S_, .f32⟩
  | .hbm, ⟨62, _⟩ => ⟨S1x1x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S2x8192x12416, .f32⟩
  | .hbm, ⟨70, _⟩ => ⟨S2x8192x12288, .f32⟩
  | .hbm, ⟨71, _⟩ => ⟨S2x256x12416, .f32⟩
  | .hbm, ⟨72, _⟩ => ⟨S2x256x12288, .f32⟩
  | .hbm, ⟨73, _⟩ => ⟨S16384x12288, .f32⟩
  | .hbm, ⟨74, _⟩ => ⟨S512x12288, .f32⟩
  | .hbm, ⟨75, _⟩ => ⟨S16896x12288, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== LstmIn.lean ====
abbrev S16896x2048 : Shape := ⟨2, ![16896, 2048]⟩
abbrev S2048 : Shape := ⟨1, ![2048]⟩
abbrev S3x1x12288 : Shape := ⟨3, ![3, 1, 12288]⟩
abbrev S2048x6176 : Shape := ⟨2, ![2048, 6176]⟩
abbrev S2048x6144 : Shape := ⟨2, ![2048, 6144]⟩
abbrev S1x2048 : Shape := ⟨2, ![1, 2048]⟩
abbrev S16896x6144 : Shape := ⟨2, ![16896, 6144]⟩
abbrev S512x2048 : Shape := ⟨2, ![512, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x6176, .f32⟩
  | .hbm, ⟨4, _⟩ => ⟨S2048x6144, .f32⟩
  | .hbm, ⟨5, _⟩ => ⟨S2048x6144, .bf16⟩
  | .hbm, ⟨6, _⟩ => ⟨S1x2048, .f32⟩
  | .hbm, ⟨7, _⟩ => ⟨S16896x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x2048, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![33, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LstmInRefIdeal.lean ====
abbrev S16896x2048 : Shape := ⟨2, ![16896, 2048]⟩
abbrev S2048 : Shape := ⟨1, ![2048]⟩
abbrev S3x1x12288 : Shape := ⟨3, ![3, 1, 12288]⟩
abbrev S2048x6176 : Shape := ⟨2, ![2048, 6176]⟩
abbrev S3x12288 : Shape := ⟨2, ![3, 12288]⟩
abbrev S3x2048 : Shape := ⟨2, ![3, 2048]⟩
abbrev S16384x2048 : Shape := ⟨2, ![16384, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x2048 : Shape := ⟨2, ![2, 2048]⟩
abbrev S2x1x2048 : Shape := ⟨3, ![2, 1, 2048]⟩
abbrev S512x2048 : Shape := ⟨2, ![512, 2048]⟩
abbrev S2x256x2048 : Shape := ⟨3, ![2, 256, 2048]⟩
abbrev S2x256 : Shape := ⟨2, ![2, 256]⟩
abbrev S2x256x1 : Shape := ⟨3, ![2, 256, 1]⟩
abbrev S1x2048 : Shape := ⟨2, ![1, 2048]⟩
abbrev S2x8192x6176 : Shape := ⟨3, ![2, 8192, 6176]⟩
abbrev S2x8192x6144 : Shape := ⟨3, ![2, 8192, 6144]⟩
abbrev S2x256x6176 : Shape := ⟨3, ![2, 256, 6176]⟩
abbrev S2x256x6144 : Shape := ⟨3, ![2, 256, 6144]⟩
abbrev S16384x6144 : Shape := ⟨2, ![16384, 6144]⟩
abbrev S512x6144 : Shape := ⟨2, ![512, 6144]⟩
abbrev S16896x6144 : Shape := ⟨2, ![16896, 6144]⟩

abbrev nBuf : Space → Nat
  | .hbm => 76
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x6176, .f32⟩
  | .hbm, ⟨4, _⟩ => ⟨S3x12288, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S16384x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S512x2048, .f32⟩
  | .hbm, ⟨41, _⟩ => ⟨S2x256x2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x2048, .f32⟩
  | .hbm, ⟨59, _⟩ => ⟨S1x2048, .f32⟩
  | .hbm, ⟨60, _⟩ => ⟨S1x1x2048, .f32⟩
  | .hbm, ⟨61, _⟩ => ⟨S_, .f32⟩
  | .hbm, ⟨62, _⟩ => ⟨S1x1x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S2x8192x6176, .f32⟩
  | .hbm, ⟨70, _⟩ => ⟨S2x8192x6144, .f32⟩
  | .hbm, ⟨71, _⟩ => ⟨S2x256x6176, .f32⟩
  | .hbm, ⟨72, _⟩ => ⟨S2x256x6144, .f32⟩
  | .hbm, ⟨73, _⟩ => ⟨S16384x6144, .f32⟩
  | .hbm, ⟨74, _⟩ => ⟨S512x6144, .f32⟩
  | .hbm, ⟨75, _⟩ => ⟨S16896x6144, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== GdnOut.lean ====
abbrev S16896x4096 : Shape := ⟨2, ![16896, 4096]⟩
abbrev S16896x12288 : Shape := ⟨2, ![16896, 12288]⟩
abbrev S16896x2048 : Shape := ⟨2, ![16896, 2048]⟩
abbrev S128 : Shape := ⟨1, ![128]⟩
abbrev S3x1x12288 : Shape := ⟨3, ![3, 1, 12288]⟩
abbrev S4096x2048 : Shape := ⟨2, ![4096, 2048]⟩
abbrev S1x128 : Shape := ⟨2, ![1, 128]⟩
abbrev S512x1024 : Shape := ⟨2, ![512, 1024]⟩
abbrev S512x2048 : Shape := ⟨2, ![512, 2048]⟩
abbrev S1x1x2048 : Shape := ⟨3, ![1, 1, 2048]⟩
abbrev S1024x2048 : Shape := ⟨2, ![1024, 2048]⟩
abbrev S512x128 : Shape := ⟨2, ![512, 128]⟩
abbrev S512 : Shape := ⟨1, ![512]⟩
abbrev S512x1 : Shape := ⟨2, ![512, 1]⟩
abbrev S1x2048 : Shape := ⟨2, ![1, 2048]⟩

abbrev nBuf : Space → Nat
  | .hbm => 10
  | .vmem => 16
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S16896x12288, .f32⟩
  | .hbm, ⟨3, _⟩ => ⟨S16896x2048, .f32⟩
  | .hbm, ⟨4, _⟩ => ⟨S128, .f32⟩
  | .hbm, ⟨5, _⟩ => ⟨S3x1x12288, .f32⟩
  | .hbm, ⟨6, _⟩ => ⟨S4096x2048, .f32⟩
  | .hbm, ⟨7, _⟩ => ⟨S4096x2048, .bf16⟩
  | .hbm, ⟨8, _⟩ => ⟨S1x128, .f32⟩
  | .hbm, ⟨9, _⟩ => ⟨S16896x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | .local _ .vmem, ⟨8, _⟩ => ⟨S1x128, .f32⟩
  | .local _ .vmem, ⟨9, _⟩ => ⟨S1x1x2048, .f32⟩
  | .local _ .vmem, ⟨10, _⟩ => ⟨S1x1x2048, .f32⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![33, 4], ![false, false]⟩

def k0_cond2 (i : grid0.Coords) : BitVec 1 :=
  let arg1 : BitVec 32 := BitVec.ofNat 32 (i 1).val
  let c3_i32 : BitVec 32 := 3#32
  let v210 : BitVec 1 := Scalar.cmpi .eq arg1 c3_i32
  let v211 : BitVec 32 := Scalar.extui v210
  let c0_i32_62 : BitVec 32 := 0#32
  let v212 : BitVec 1 := Scalar.cmpi .ne v211 c0_i32_62
  v212

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c2_i32_5 : BitVec 32 := 2#32
  let c0_i32_6 : BitVec 32 := 0#32
  ![v18.toNat, c0_i32_4.toNat, c2_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GdnOutRefIdeal.lean ====
abbrev S16896x4096 : Shape := ⟨2, ![16896, 4096]⟩
abbrev S16896x12288 : Shape := ⟨2, ![16896, 12288]⟩
abbrev S16896x2048 : Shape := ⟨2, ![16896, 2048]⟩
abbrev S128 : Shape := ⟨1, ![128]⟩
abbrev S3x1x12288 : Shape := ⟨3, ![3, 1, 12288]⟩
abbrev S4096x2048 : Shape := ⟨2, ![4096, 2048]⟩
abbrev S3x12288 : Shape := ⟨2, ![3, 12288]⟩
abbrev S3x2048 : Shape := ⟨2, ![3, 2048]⟩
abbrev S16384x4096 : Shape := ⟨2, ![16384, 4096]⟩
abbrev S2x8192x32x128 : Shape := ⟨4, ![2, 8192, 32, 128]⟩
abbrev S_ : Shape := ⟨0, ![]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩
abbrev S2x8192x4096 : Shape := ⟨3, ![2, 8192, 4096]⟩
abbrev S2x8192x2048 : Shape := ⟨3, ![2, 8192, 2048]⟩
abbrev S512x4096 : Shape := ⟨2, ![512, 4096]⟩
abbrev S2x256x32x128 : Shape := ⟨4, ![2, 256, 32, 128]⟩
abbrev S2x256x32 : Shape := ⟨3, ![2, 256, 32]⟩
abbrev S2x256x32x1 : Shape := ⟨4, ![2, 256, 32, 1]⟩
abbrev S2x256x4096 : Shape := ⟨3, ![2, 256, 4096]⟩
abbrev S2x256x2048 : Shape := ⟨3, ![2, 256, 2048]⟩
abbrev S16384x2048 : Shape := ⟨2, ![16384, 2048]⟩
abbrev S2x2048 : Shape := ⟨2, ![2, 2048]⟩
abbrev S2x1x2048 : Shape := ⟨3, ![2, 1, 2048]⟩
abbrev S512x2048 : Shape := ⟨2, ![512, 2048]⟩
abbrev S1x2048 : Shape := ⟨2, ![1, 2048]⟩
abbrev S1x1x2048 : Shape := ⟨3, ![1, 1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S16896x12288, .f32⟩
  | .hbm, ⟨3, _⟩ => ⟨S16896x2048, .f32⟩
  | .hbm, ⟨4, _⟩ => ⟨S128, .f32⟩
  | .hbm, ⟨5, _⟩ => ⟨S3x1x12288, .f32⟩
  | .hbm, ⟨6, _⟩ => ⟨S4096x2048, .f32⟩
  | .hbm, ⟨7, _⟩ => ⟨S3x12288, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S3x2048, .f32⟩
  | .hbm, ⟨12, _⟩ => ⟨S3x2048, .f32⟩
  | .hbm, ⟨13, _⟩ => ⟨S3x2048, .f32⟩
  | .hbm, ⟨14, _⟩ => ⟨S16896x4096, .f32⟩
  | .hbm, ⟨15, _⟩ => ⟨S16384x4096, .f32⟩
  | .hbm, ⟨16, _⟩ => ⟨S2x8192x32x128, .f32⟩
  | .hbm, ⟨17, _⟩ => ⟨S16384x4096, .f32⟩
  | .hbm, ⟨18, _⟩ => ⟨S2x8192x32x128, .f32⟩
  | .hbm, ⟨19, _⟩ => ⟨S2x8192x32x128, .f32⟩
  | .hbm, ⟨20, _⟩ => ⟨S16384x4096, .f32⟩
  | .hbm, ⟨21, _⟩ => ⟨S2x8192x32x128, .f32⟩
  | .hbm, ⟨22, _⟩ => ⟨S2x8192x32x128, .f32⟩
  | .hbm, ⟨23, _⟩ => ⟨S_, .f32⟩
  | .hbm, ⟨24, _⟩ => ⟨S2x8192x32, .f32⟩
  | .hbm, ⟨25, _⟩ => ⟨S2x8192x32x1, .f32⟩
  | .hbm, ⟨26, _⟩ => ⟨S_, .f32⟩
  | .hbm, ⟨27, _⟩ => ⟨S2x8192x32x1, .f32⟩
  | .hbm, ⟨28, _⟩ => ⟨S2x8192x32x1, .f32⟩
  | .hbm, ⟨29, _⟩ => ⟨S_, .f32⟩
  | .hbm, ⟨30, _⟩ => ⟨S2x8192x32x1, .f32⟩
  | .hbm, ⟨31, _⟩ => ⟨S2x8192x32x1, .f32⟩
  | .hbm, ⟨32, _⟩ => ⟨S2x8192x32x1, .f32⟩
  | .hbm, ⟨33, _⟩ => ⟨S2x8192x32x128, .f32⟩
  | .hbm, ⟨34, _⟩ => ⟨S2x8192x32x128, .f32⟩
  | .hbm, ⟨35, _⟩ => ⟨S1x1x1x128, .f32⟩
  | .hbm, ⟨36, _⟩ => ⟨S2x8192x32x128, .f32⟩
  | .hbm, ⟨37, _⟩ => ⟨S2x8192x32x128, .f32⟩
  | .hbm, ⟨38, _⟩ => ⟨S2x8192x32x128, .f32⟩
  | .hbm, ⟨39, _⟩ => ⟨S2x8192x32x128, .f32⟩
  | .hbm, ⟨40, _⟩ => ⟨S_, .f32⟩
  | .hbm, ⟨41, _⟩ => ⟨S2x8192x32x128, .f32⟩
  | .hbm, ⟨42, _⟩ => ⟨S2x8192x32x128, .f32⟩
  | .hbm, ⟨43, _⟩ => ⟨S_, .f32⟩
  | .hbm, ⟨44, _⟩ => ⟨S2x8192x32x128, .f32⟩
  | .hbm, ⟨45, _⟩ => ⟨S2x8192x32x128, .f32⟩
  | .hbm, ⟨46, _⟩ => ⟨S2x8192x32x128, .f32⟩
  | .hbm, ⟨47, _⟩ => ⟨S2x8192x32x128, .f32⟩
  | .hbm, ⟨48, _⟩ => ⟨S2x8192x4096, .f32⟩
  | .hbm, ⟨49, _⟩ => ⟨S2x8192x2048, .f32⟩
  | .hbm, ⟨50, _⟩ => ⟨S512x4096, .f32⟩
  | .hbm, ⟨51, _⟩ => ⟨S2x256x32x128, .f32⟩
  | .hbm, ⟨52, _⟩ => ⟨S512x4096, .f32⟩
  | .hbm, ⟨53, _⟩ => ⟨S2x256x32x128, .f32⟩
  | .hbm, ⟨54, _⟩ => ⟨S2x256x32x128, .f32⟩
  | .hbm, ⟨55, _⟩ => ⟨S512x4096, .f32⟩
  | .hbm, ⟨56, _⟩ => ⟨S2x256x32x128, .f32⟩
  | .hbm, ⟨57, _⟩ => ⟨S2x256x32x128, .f32⟩
  | .hbm, ⟨58, _⟩ => ⟨S_, .f32⟩
  | .hbm, ⟨59, _⟩ => ⟨S2x256x32, .f32⟩
  | .hbm, ⟨60, _⟩ => ⟨S2x256x32x1, .f32⟩
  | .hbm, ⟨61, _⟩ => ⟨S_, .f32⟩
  | .hbm, ⟨62, _⟩ => ⟨S2x256x32x1, .f32⟩
  | .hbm, ⟨63, _⟩ => ⟨S2x256x32x1, .f32⟩
  | .hbm, ⟨64, _⟩ => ⟨S_, .f32⟩
  | .hbm, ⟨65, _⟩ => ⟨S2x256x32x1, .f32⟩
  | .hbm, ⟨66, _⟩ => ⟨S2x256x32x1, .f32⟩
  | .hbm, ⟨67, _⟩ => ⟨S2x256x32x1, .f32⟩
  | .hbm, ⟨68, _⟩ => ⟨S2x256x32x128, .f32⟩
  | .hbm, ⟨69, _⟩ => ⟨S2x256x32x128, .f32⟩
  | .hbm, ⟨70, _⟩ => ⟨S1x1x1x128, .f32⟩
  | .hbm, ⟨71, _⟩ => ⟨S2x256x32x128, .f32⟩
  | .hbm, ⟨72, _⟩ => ⟨S2x256x32x128, .f32⟩
  | .hbm, ⟨73, _⟩ => ⟨S2x256x32x128, .f32⟩
  | .hbm, ⟨74, _⟩ => ⟨S2x256x32x128, .f32⟩
  | .hbm, ⟨75, _⟩ => ⟨S_, .f32⟩
  | .hbm, ⟨76, _⟩ => ⟨S2x256x32x128, .f32⟩
  | .hbm, ⟨77, _⟩ => ⟨S2x256x32x128, .f32⟩
  | .hbm, ⟨78, _⟩ => ⟨S_, .f32⟩
  | .hbm, ⟨79, _⟩ => ⟨S2x256x32x128, .f32⟩
  | .hbm, ⟨80, _⟩ => ⟨S2x256x32x128, .f32⟩
  | .hbm, ⟨81, _⟩ => ⟨S2x256x32x128, .f32⟩
  | .hbm, ⟨82, _⟩ => ⟨S2x256x32x128, .f32⟩
  | .hbm, ⟨83, _⟩ => ⟨S2x256x4096, .f32⟩
  | .hbm, ⟨84, _⟩ => ⟨S2x256x2048, .f32⟩
  | .hbm, ⟨85, _⟩ => ⟨S16384x2048, .f32⟩
  | .hbm, ⟨86, _⟩ => ⟨S2x8192x2048, .f32⟩
  | .hbm, ⟨87, _⟩ => ⟨S2x2048, .f32⟩
  | .hbm, ⟨88, _⟩ => ⟨S2x1x2048, .f32⟩
  | .hbm, ⟨89, _⟩ => ⟨S2x8192x2048, .f32⟩
  | .hbm, ⟨90, _⟩ => ⟨S2x8192x2048, .f32⟩
  | .hbm, ⟨91, _⟩ => ⟨S2x8192x2048, .f32⟩
  | .hbm, ⟨92, _⟩ => ⟨S512x2048, .f32⟩
  | .hbm, ⟨93, _⟩ => ⟨S2x256x2048, .f32⟩
  | .hbm, ⟨94, _⟩ => ⟨S1x2048, .f32⟩
  | .hbm, ⟨95, _⟩ => ⟨S1x1x2048, .f32⟩
  | .hbm, ⟨96, _⟩ => ⟨S2x256x2048, .f32⟩
  | .hbm, ⟨97, _⟩ => ⟨S2x256x2048, .f32⟩
  | .hbm, ⟨98, _⟩ => ⟨S2x256x2048, .f32⟩
  | .hbm, ⟨99, _⟩ => ⟨S16384x2048, .f32⟩
  | .hbm, ⟨100, _⟩ => ⟨S512x2048, .f32⟩
  | .hbm, ⟨101, _⟩ => ⟨S16896x2048, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== LstmOut.lean ====
abbrev S16896x2048 : Shape := ⟨2, ![16896, 2048]⟩
abbrev S16896x6144 : Shape := ⟨2, ![16896, 6144]⟩
abbrev S8x256 : Shape := ⟨2, ![8, 256]⟩
abbrev S3x1x12288 : Shape := ⟨3, ![3, 1, 12288]⟩
abbrev S2048x2048 : Shape := ⟨2, ![2048, 2048]⟩
abbrev S1x2048 : Shape := ⟨2, ![1, 2048]⟩
abbrev S512x2048 : Shape := ⟨2, ![512, 2048]⟩
abbrev S1x1x2048 : Shape := ⟨3, ![1, 1, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 10
  | .vmem => 14
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S16896x6144, .f32⟩
  | .hbm, ⟨3, _⟩ => ⟨S16896x2048, .f32⟩
  | .hbm, ⟨4, _⟩ => ⟨S8x256, .f32⟩
  | .hbm, ⟨5, _⟩ => ⟨S3x1x12288, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S2048x2048, .bf16⟩
  | .local _ .vmem, ⟨12, _⟩ => ⟨S512x2048, .f32⟩
  | .local _ .vmem, ⟨13, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c2_i32_5 : BitVec 32 := 2#32
  let c0_i32_6 : BitVec 32 := 0#32
  ![v18.toNat, c0_i32_4.toNat, c2_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LstmOutRefIdeal.lean ====
abbrev S16896x2048 : Shape := ⟨2, ![16896, 2048]⟩
abbrev S16896x6144 : Shape := ⟨2, ![16896, 6144]⟩
abbrev S8x256 : Shape := ⟨2, ![8, 256]⟩
abbrev S3x1x12288 : Shape := ⟨3, ![3, 1, 12288]⟩
abbrev S2048x2048 : Shape := ⟨2, ![2048, 2048]⟩
abbrev S3x12288 : Shape := ⟨2, ![3, 12288]⟩
abbrev S3x2048 : Shape := ⟨2, ![3, 2048]⟩
abbrev S16384x2048 : Shape := ⟨2, ![16384, 2048]⟩
abbrev S2x8192x8x256 : Shape := ⟨4, ![2, 8192, 8, 256]⟩
abbrev S_ : Shape := ⟨0, ![]⟩
abbrev S2x8192x8 : Shape := ⟨3, ![2, 8192, 8]⟩
abbrev S2x8192x8x1 : Shape := ⟨4, ![2, 8192, 8, 1]⟩
abbrev S1x1x8x256 : Shape := ⟨4, ![1, 1, 8, 256]⟩
abbrev S2x8192x2048 : Shape := ⟨3, ![2, 8192, 2048]⟩
abbrev S512x2048 : Shape := ⟨2, ![512, 2048]⟩
abbrev S2x256x8x256 : Shape := ⟨4, ![2, 256, 8, 256]⟩
abbrev S2x256x8 : Shape := ⟨3, ![2, 256, 8]⟩
abbrev S2x256x8x1 : Shape := ⟨4, ![2, 256, 8, 1]⟩
abbrev S2x256x2048 : Shape := ⟨3, ![2, 256, 2048]⟩
abbrev S2x2048 : Shape := ⟨2, ![2, 2048]⟩
abbrev S2x1x2048 : Shape := ⟨3, ![2, 1, 2048]⟩
abbrev S1x2048 : Shape := ⟨2, ![1, 2048]⟩
abbrev S1x1x2048 : Shape := ⟨3, ![1, 1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S16896x2048, .f32⟩
  | .hbm, ⟨2, _⟩ => ⟨S16896x6144, .f32⟩
  | .hbm, ⟨3, _⟩ => ⟨S16896x2048, .f32⟩
  | .hbm, ⟨4, _⟩ => ⟨S8x256, .f32⟩
  | .hbm, ⟨5, _⟩ => ⟨S3x1x12288, .f32⟩
  | .hbm, ⟨6, _⟩ => ⟨S2048x2048, .f32⟩
  | .hbm, ⟨7, _⟩ => ⟨S3x12288, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S3x2048, .f32⟩
  | .hbm, ⟨12, _⟩ => ⟨S3x2048, .f32⟩
  | .hbm, ⟨13, _⟩ => ⟨S3x2048, .f32⟩
  | .hbm, ⟨14, _⟩ => ⟨S16896x2048, .f32⟩
  | .hbm, ⟨15, _⟩ => ⟨S16384x2048, .f32⟩
  | .hbm, ⟨16, _⟩ => ⟨S2x8192x8x256, .f32⟩
  | .hbm, ⟨17, _⟩ => ⟨S16384x2048, .f32⟩
  | .hbm, ⟨18, _⟩ => ⟨S2x8192x8x256, .f32⟩
  | .hbm, ⟨19, _⟩ => ⟨S2x8192x8x256, .f32⟩
  | .hbm, ⟨20, _⟩ => ⟨S16384x2048, .f32⟩
  | .hbm, ⟨21, _⟩ => ⟨S2x8192x8x256, .f32⟩
  | .hbm, ⟨22, _⟩ => ⟨S2x8192x8x256, .f32⟩
  | .hbm, ⟨23, _⟩ => ⟨S_, .f32⟩
  | .hbm, ⟨24, _⟩ => ⟨S2x8192x8, .f32⟩
  | .hbm, ⟨25, _⟩ => ⟨S2x8192x8x1, .f32⟩
  | .hbm, ⟨26, _⟩ => ⟨S_, .f32⟩
  | .hbm, ⟨27, _⟩ => ⟨S2x8192x8x1, .f32⟩
  | .hbm, ⟨28, _⟩ => ⟨S2x8192x8x1, .f32⟩
  | .hbm, ⟨29, _⟩ => ⟨S_, .f32⟩
  | .hbm, ⟨30, _⟩ => ⟨S2x8192x8x1, .f32⟩
  | .hbm, ⟨31, _⟩ => ⟨S2x8192x8x1, .f32⟩
  | .hbm, ⟨32, _⟩ => ⟨S2x8192x8x1, .f32⟩
  | .hbm, ⟨33, _⟩ => ⟨S2x8192x8x256, .f32⟩
  | .hbm, ⟨34, _⟩ => ⟨S2x8192x8x256, .f32⟩
  | .hbm, ⟨35, _⟩ => ⟨S1x1x8x256, .f32⟩
  | .hbm, ⟨36, _⟩ => ⟨S2x8192x8x256, .f32⟩
  | .hbm, ⟨37, _⟩ => ⟨S2x8192x8x256, .f32⟩
  | .hbm, ⟨38, _⟩ => ⟨S2x8192x8x256, .f32⟩
  | .hbm, ⟨39, _⟩ => ⟨S2x8192x8x256, .f32⟩
  | .hbm, ⟨40, _⟩ => ⟨S_, .f32⟩
  | .hbm, ⟨41, _⟩ => ⟨S2x8192x8x256, .f32⟩
  | .hbm, ⟨42, _⟩ => ⟨S2x8192x8x256, .f32⟩
  | .hbm, ⟨43, _⟩ => ⟨S_, .f32⟩
  | .hbm, ⟨44, _⟩ => ⟨S2x8192x8x256, .f32⟩
  | .hbm, ⟨45, _⟩ => ⟨S2x8192x8x256, .f32⟩
  | .hbm, ⟨46, _⟩ => ⟨S2x8192x8x256, .f32⟩
  | .hbm, ⟨47, _⟩ => ⟨S2x8192x2048, .f32⟩
  | .hbm, ⟨48, _⟩ => ⟨S2x8192x2048, .f32⟩
  | .hbm, ⟨49, _⟩ => ⟨S512x2048, .f32⟩
  | .hbm, ⟨50, _⟩ => ⟨S2x256x8x256, .f32⟩
  | .hbm, ⟨51, _⟩ => ⟨S512x2048, .f32⟩
  | .hbm, ⟨52, _⟩ => ⟨S2x256x8x256, .f32⟩
  | .hbm, ⟨53, _⟩ => ⟨S2x256x8x256, .f32⟩
  | .hbm, ⟨54, _⟩ => ⟨S512x2048, .f32⟩
  | .hbm, ⟨55, _⟩ => ⟨S2x256x8x256, .f32⟩
  | .hbm, ⟨56, _⟩ => ⟨S2x256x8x256, .f32⟩
  | .hbm, ⟨57, _⟩ => ⟨S_, .f32⟩
  | .hbm, ⟨58, _⟩ => ⟨S2x256x8, .f32⟩
  | .hbm, ⟨59, _⟩ => ⟨S2x256x8x1, .f32⟩
  | .hbm, ⟨60, _⟩ => ⟨S_, .f32⟩
  | .hbm, ⟨61, _⟩ => ⟨S2x256x8x1, .f32⟩
  | .hbm, ⟨62, _⟩ => ⟨S2x256x8x1, .f32⟩
  | .hbm, ⟨63, _⟩ => ⟨S_, .f32⟩
  | .hbm, ⟨64, _⟩ => ⟨S2x256x8x1, .f32⟩
  | .hbm, ⟨65, _⟩ => ⟨S2x256x8x1, .f32⟩
  | .hbm, ⟨66, _⟩ => ⟨S2x256x8x1, .f32⟩
  | .hbm, ⟨67, _⟩ => ⟨S2x256x8x256, .f32⟩
  | .hbm, ⟨68, _⟩ => ⟨S2x256x8x256, .f32⟩
  | .hbm, ⟨69, _⟩ => ⟨S1x1x8x256, .f32⟩
  | .hbm, ⟨70, _⟩ => ⟨S2x256x8x256, .f32⟩
  | .hbm, ⟨71, _⟩ => ⟨S2x256x8x256, .f32⟩
  | .hbm, ⟨72, _⟩ => ⟨S2x256x8x256, .f32⟩
  | .hbm, ⟨73, _⟩ => ⟨S2x256x8x256, .f32⟩
  | .hbm, ⟨74, _⟩ => ⟨S_, .f32⟩
  | .hbm, ⟨75, _⟩ => ⟨S2x256x8x256, .f32⟩
  | .hbm, ⟨76, _⟩ => ⟨S2x256x8x256, .f32⟩
  | .hbm, ⟨77, _⟩ => ⟨S_, .f32⟩
  | .hbm, ⟨78, _⟩ => ⟨S2x256x8x256, .f32⟩
  | .hbm, ⟨79, _⟩ => ⟨S2x256x8x256, .f32⟩
  | .hbm, ⟨80, _⟩ => ⟨S2x256x8x256, .f32⟩
  | .hbm, ⟨81, _⟩ => ⟨S2x256x2048, .f32⟩
  | .hbm, ⟨82, _⟩ => ⟨S2x256x2048, .f32⟩
  | .hbm, ⟨83, _⟩ => ⟨S16384x2048, .f32⟩
  | .hbm, ⟨84, _⟩ => ⟨S2x8192x2048, .f32⟩
  | .hbm, ⟨85, _⟩ => ⟨S2x2048, .f32⟩
  | .hbm, ⟨86, _⟩ => ⟨S2x1x2048, .f32⟩
  | .hbm, ⟨87, _⟩ => ⟨S2x8192x2048, .f32⟩
  | .hbm, ⟨88, _⟩ => ⟨S2x8192x2048, .f32⟩
  | .hbm, ⟨89, _⟩ => ⟨S2x8192x2048, .f32⟩
  | .hbm, ⟨90, _⟩ => ⟨S512x2048, .f32⟩
  | .hbm, ⟨91, _⟩ => ⟨S2x256x2048, .f32⟩
  | .hbm, ⟨92, _⟩ => ⟨S1x2048, .f32⟩
  | .hbm, ⟨93, _⟩ => ⟨S1x1x2048, .f32⟩
  | .hbm, ⟨94, _⟩ => ⟨S2x256x2048, .f32⟩
  | .hbm, ⟨95, _⟩ => ⟨S2x256x2048, .f32⟩
  | .hbm, ⟨96, _⟩ => ⟨S2x256x2048, .f32⟩
  | .hbm, ⟨97, _⟩ => ⟨S16384x2048, .f32⟩
  | .hbm, ⟨98, _⟩ => ⟨S512x2048, .f32⟩
  | .hbm, ⟨99, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Proj.lean ====
abbrev S16384x2048 : Shape := ⟨2, ![16384, 2048]⟩
abbrev S512x2048 : Shape := ⟨2, ![512, 2048]⟩
abbrev S16896x2048 : Shape := ⟨2, ![16896, 2048]⟩
abbrev S3x1x12288 : Shape := ⟨3, ![3, 1, 12288]⟩
abbrev S2048x2048 : Shape := ⟨2, ![2048, 2048]⟩
abbrev S1x1x2048 : Shape := ⟨3, ![1, 1, 2048]⟩
abbrev S1x2048 : Shape := ⟨2, ![1, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16896x2048, .f32⟩
  | .hbm, ⟨3, _⟩ => ⟨S3x1x12288, .f32⟩
  | .hbm, ⟨4, _⟩ => ⟨S2048x2048, .f32⟩
  | .hbm, ⟨5, _⟩ => ⟨S2048x2048, .bf16⟩
  | .hbm, ⟨6, _⟩ => ⟨S16896x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c2_i32_5 : BitVec 32 := 2#32
  let c0_i32_6 : BitVec 32 := 0#32
  ![v18.toNat, c0_i32_4.toNat, c2_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S16384x2048 : Shape := ⟨2, ![16384, 2048]⟩
abbrev S512x2048 : Shape := ⟨2, ![512, 2048]⟩
abbrev S16896x2048 : Shape := ⟨2, ![16896, 2048]⟩
abbrev S3x1x12288 : Shape := ⟨3, ![3, 1, 12288]⟩
abbrev S2048x2048 : Shape := ⟨2, ![2048, 2048]⟩
abbrev S3x12288 : Shape := ⟨2, ![3, 12288]⟩
abbrev S3x2048 : Shape := ⟨2, ![3, 2048]⟩
abbrev S2x8192x2048 : Shape := ⟨3, ![2, 8192, 2048]⟩
abbrev S2x256x2048 : Shape := ⟨3, ![2, 256, 2048]⟩
abbrev S2x2048 : Shape := ⟨2, ![2, 2048]⟩
abbrev S2x1x2048 : Shape := ⟨3, ![2, 1, 2048]⟩
abbrev S1x2048 : Shape := ⟨2, ![1, 2048]⟩
abbrev S1x1x2048 : Shape := ⟨3, ![1, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16896x2048, .f32⟩
  | .hbm, ⟨3, _⟩ => ⟨S3x1x12288, .f32⟩
  | .hbm, ⟨4, _⟩ => ⟨S2048x2048, .f32⟩
  | .hbm, ⟨5, _⟩ => ⟨S3x12288, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S3x2048, .f32⟩
  | .hbm, ⟨12, _⟩ => ⟨S2x8192x2048, .bf16⟩
  | .hbm, ⟨13, _⟩ => ⟨S2x8192x2048, .f32⟩
  | .hbm, ⟨14, _⟩ => ⟨S2x8192x2048, .f32⟩
  | .hbm, ⟨15, _⟩ => ⟨S2x256x2048, .bf16⟩
  | .hbm, ⟨16, _⟩ => ⟨S2x256x2048, .f32⟩
  | .hbm, ⟨17, _⟩ => ⟨S2x256x2048, .f32⟩
  | .hbm, ⟨18, _⟩ => ⟨S16384x2048, .f32⟩
  | .hbm, ⟨19, _⟩ => ⟨S2x8192x2048, .f32⟩
  | .hbm, ⟨20, _⟩ => ⟨S2x2048, .f32⟩
  | .hbm, ⟨21, _⟩ => ⟨S2x1x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S512x2048, .f32⟩
  | .hbm, ⟨26, _⟩ => ⟨S2x256x2048, .f32⟩
  | .hbm, ⟨27, _⟩ => ⟨S1x2048, .f32⟩
  | .hbm, ⟨28, _⟩ => ⟨S1x1x2048, .f32⟩
  | .hbm, ⟨29, _⟩ => ⟨S2x256x2048, .f32⟩
  | .hbm, ⟨30, _⟩ => ⟨S2x256x2048, .f32⟩
  | .hbm, ⟨31, _⟩ => ⟨S2x256x2048, .f32⟩
  | .hbm, ⟨32, _⟩ => ⟨S16384x2048, .f32⟩
  | .hbm, ⟨33, _⟩ => ⟨S512x2048, .f32⟩
  | .hbm, ⟨34, _⟩ => ⟨S16896x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== LatentIn.lean ====
abbrev S16896x2048 : Shape := ⟨2, ![16896, 2048]⟩
abbrev S2048 : Shape := ⟨1, ![2048]⟩
abbrev S3x1x12288 : Shape := ⟨3, ![3, 1, 12288]⟩
abbrev S2048x1344 : Shape := ⟨2, ![2048, 1344]⟩
abbrev S_ : Shape := ⟨0, ![]⟩
abbrev S2048x1408 : Shape := ⟨2, ![2048, 1408]⟩
abbrev S1x2048 : Shape := ⟨2, ![1, 2048]⟩
abbrev S16896x1408 : Shape := ⟨2, ![16896, 1408]⟩
abbrev S256x2048 : Shape := ⟨2, ![256, 2048]⟩
abbrev S1x1x2048 : Shape := ⟨3, ![1, 1, 2048]⟩
abbrev S256x1408 : Shape := ⟨2, ![256, 1408]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x1344, .f32⟩
  | .hbm, ⟨4, _⟩ => ⟨S_, .i32⟩
  | .hbm, ⟨5, _⟩ => ⟨S_, .f32⟩
  | .hbm, ⟨6, _⟩ => ⟨S2048x1408, .f32⟩
  | .hbm, ⟨7, _⟩ => ⟨S2048x1408, .bf16⟩
  | .hbm, ⟨8, _⟩ => ⟨S1x2048, .f32⟩
  | .hbm, ⟨9, _⟩ => ⟨S16896x1408, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1408, .bf16⟩
  | .local _ .vmem, ⟨8, _⟩ => ⟨S256x1408, .f32⟩
  | .local _ .vmem, ⟨9, _⟩ => ⟨S256x1408, .f32⟩
  | .local _ .vmem, ⟨10, _⟩ => ⟨S256x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![66, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LatentInRefIdeal.lean ====
abbrev S16896x2048 : Shape := ⟨2, ![16896, 2048]⟩
abbrev S2048 : Shape := ⟨1, ![2048]⟩
abbrev S3x1x12288 : Shape := ⟨3, ![3, 1, 12288]⟩
abbrev S2048x1344 : Shape := ⟨2, ![2048, 1344]⟩
abbrev S3x12288 : Shape := ⟨2, ![3, 12288]⟩
abbrev S3x2048 : Shape := ⟨2, ![3, 2048]⟩
abbrev S16384x2048 : Shape := ⟨2, ![16384, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x2048 : Shape := ⟨2, ![2, 2048]⟩
abbrev S2x1x2048 : Shape := ⟨3, ![2, 1, 2048]⟩
abbrev S512x2048 : Shape := ⟨2, ![512, 2048]⟩
abbrev S2x256x2048 : Shape := ⟨3, ![2, 256, 2048]⟩
abbrev S2x256 : Shape := ⟨2, ![2, 256]⟩
abbrev S2x256x1 : Shape := ⟨3, ![2, 256, 1]⟩
abbrev S1x2048 : Shape := ⟨2, ![1, 2048]⟩
abbrev S2x8192x1344 : Shape := ⟨3, ![2, 8192, 1344]⟩
abbrev S2x256x1344 : Shape := ⟨3, ![2, 256, 1344]⟩
abbrev S16384x1344 : Shape := ⟨2, ![16384, 1344]⟩
abbrev S512x1344 : Shape := ⟨2, ![512, 1344]⟩
abbrev S16896x1344 : Shape := ⟨2, ![16896, 1344]⟩
abbrev S16896x1408 : Shape := ⟨2, ![16896, 1408]⟩

abbrev nBuf : Space → Nat
  | .hbm => 77
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x1344, .f32⟩
  | .hbm, ⟨4, _⟩ => ⟨S3x12288, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S16384x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S512x2048, .f32⟩
  | .hbm, ⟨41, _⟩ => ⟨S2x256x2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x2048, .f32⟩
  | .hbm, ⟨59, _⟩ => ⟨S1x2048, .f32⟩
  | .hbm, ⟨60, _⟩ => ⟨S1x1x2048, .f32⟩
  | .hbm, ⟨61, _⟩ => ⟨S_, .f32⟩
  | .hbm, ⟨62, _⟩ => ⟨S1x1x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S2x8192x1344, .f32⟩
  | .hbm, ⟨70, _⟩ => ⟨S2x256x1344, .f32⟩
  | .hbm, ⟨71, _⟩ => ⟨S16384x1344, .f32⟩
  | .hbm, ⟨72, _⟩ => ⟨S512x1344, .f32⟩
  | .hbm, ⟨73, _⟩ => ⟨S16896x1344, .f32⟩
  | .hbm, ⟨74, _⟩ => ⟨S_, .i32⟩
  | .hbm, ⟨75, _⟩ => ⟨S_, .f32⟩
  | .hbm, ⟨76, _⟩ => ⟨S16896x1408, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c : Ref sig .tc := ⟨.hbm, 74, rfl⟩
abbrev main_call0_v0 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== ProjLast.lean ====
abbrev S16384x2048 : Shape := ⟨2, ![16384, 2048]⟩
abbrev S16896x2048 : Shape := ⟨2, ![16896, 2048]⟩
abbrev S3x1x12288 : Shape := ⟨3, ![3, 1, 12288]⟩
abbrev S2048x2048 : Shape := ⟨2, ![2048, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S16896x2048, .f32⟩
  | .hbm, ⟨2, _⟩ => ⟨S3x1x12288, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c2_i32_5 : BitVec 32 := 2#32
  let c0_i32_6 : BitVec 32 := 0#32
  ![v18.toNat, c0_i32_4.toNat, c2_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjLastRefIdeal.lean ====
abbrev S16384x2048 : Shape := ⟨2, ![16384, 2048]⟩
abbrev S16896x2048 : Shape := ⟨2, ![16896, 2048]⟩
abbrev S3x1x12288 : Shape := ⟨3, ![3, 1, 12288]⟩
abbrev S2048x2048 : Shape := ⟨2, ![2048, 2048]⟩
abbrev S3x12288 : Shape := ⟨2, ![3, 12288]⟩
abbrev S3x2048 : Shape := ⟨2, ![3, 2048]⟩
abbrev S2x8192x2048 : Shape := ⟨3, ![2, 8192, 2048]⟩
abbrev S2x2048 : Shape := ⟨2, ![2, 2048]⟩
abbrev S2x1x2048 : Shape := ⟨3, ![2, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16896x2048, .f32⟩
  | .hbm, ⟨2, _⟩ => ⟨S3x1x12288, .f32⟩
  | .hbm, ⟨3, _⟩ => ⟨S2048x2048, .f32⟩
  | .hbm, ⟨4, _⟩ => ⟨S3x12288, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S2x8192x2048, .bf16⟩
  | .hbm, ⟨12, _⟩ => ⟨S2x8192x2048, .f32⟩
  | .hbm, ⟨13, _⟩ => ⟨S2x8192x2048, .f32⟩
  | .hbm, ⟨14, _⟩ => ⟨S16384x2048, .f32⟩
  | .hbm, ⟨15, _⟩ => ⟨S2x8192x2048, .f32⟩
  | .hbm, ⟨16, _⟩ => ⟨S2x2048, .f32⟩
  | .hbm, ⟨17, _⟩ => ⟨S2x1x2048, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Final.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x2048 : Shape := ⟨2, ![16384, 2048]⟩
abbrev S2048 : Shape := ⟨1, ![2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x8192x2048, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LatentUp.lean ====
abbrev S16896x1408 : Shape := ⟨2, ![16896, 1408]⟩
abbrev S768 : Shape := ⟨1, ![768]⟩
abbrev S512 : Shape := ⟨1, ![512]⟩
abbrev S768x3072 : Shape := ⟨2, ![768, 3072]⟩
abbrev S512x4096 : Shape := ⟨2, ![512, 4096]⟩
abbrev S8192x16 : Shape := ⟨2, ![8192, 16]⟩
abbrev S_ : Shape := ⟨0, ![]⟩
abbrev S8192x64 : Shape := ⟨2, ![8192, 64]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S16896x128 : Shape := ⟨2, ![16896, 128]⟩
abbrev S768x16x192 : Shape := ⟨3, ![768, 16, 192]⟩
abbrev S768x16x128 : Shape := ⟨3, ![768, 16, 128]⟩
abbrev S768x2048 : Shape := ⟨2, ![768, 2048]⟩
abbrev S768x16x64 : Shape := ⟨3, ![768, 16, 64]⟩
abbrev S512x16x256 : Shape := ⟨3, ![512, 16, 256]⟩
abbrev S512x16x128 : Shape := ⟨3, ![512, 16, 128]⟩
abbrev S512x2048 : Shape := ⟨2, ![512, 2048]⟩
abbrev S1x768 : Shape := ⟨2, ![1, 768]⟩
abbrev S1x512 : Shape := ⟨2, ![1, 512]⟩
abbrev S16896x4096 : Shape := ⟨2, ![16896, 4096]⟩
abbrev S16896x2048 : Shape := ⟨2, ![16896, 2048]⟩
abbrev S256x1408 : Shape := ⟨2, ![256, 1408]⟩
abbrev S256x128 : Shape := ⟨2, ![256, 128]⟩
abbrev S256x4096 : Shape := ⟨2, ![256, 4096]⟩
abbrev S256x2048 : Shape := ⟨2, ![256, 2048]⟩
abbrev S256x768 : Shape := ⟨2, ![256, 768]⟩
abbrev S256x512 : Shape := ⟨2, ![256, 512]⟩
abbrev S256 : Shape := ⟨1, ![256]⟩
abbrev S256x1 : Shape := ⟨2, ![256, 1]⟩

abbrev nBuf : Space → Nat
  | .hbm => 51
  | .vmem => 18
  | .smem => 0
  | _ => 0

abbrev bufTy : (tb : Table) → Fin (tcTables nBuf tb) → BufTy
  | .hbm, ⟨0, _⟩ => ⟨S16896x1408, .f32⟩
  | .hbm, ⟨1, _⟩ => ⟨S768, .f32⟩
  | .hbm, ⟨2, _⟩ => ⟨S512, .f32⟩
  | .hbm, ⟨3, _⟩ => ⟨S768x3072, .f32⟩
  | .hbm, ⟨4, _⟩ => ⟨S512x4096, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x128, .f32⟩
  | .hbm, ⟨14, _⟩ => ⟨S8192x16, .f32⟩
  | .hbm, ⟨15, _⟩ => ⟨S8192x16, .f32⟩
  | .hbm, ⟨16, _⟩ => ⟨S8192x128, .f32⟩
  | .hbm, ⟨17, _⟩ => ⟨S1x8192x1x128, .f32⟩
  | .hbm, ⟨18, _⟩ => ⟨S2x8192x1x128, .f32⟩
  | .hbm, ⟨19, _⟩ => ⟨S16384x128, .f32⟩
  | .hbm, ⟨20, _⟩ => ⟨S_, .f32⟩
  | .hbm, ⟨21, _⟩ => ⟨S_, .f32⟩
  | .hbm, ⟨22, _⟩ => ⟨S16896x128, .f32⟩
  | .hbm, ⟨23, _⟩ => ⟨S1x8192x1x128, .f32⟩
  | .hbm, ⟨24, _⟩ => ⟨S2x8192x1x128, .f32⟩
  | .hbm, ⟨25, _⟩ => ⟨S16384x128, .f32⟩
  | .hbm, ⟨26, _⟩ => ⟨S_, .i32⟩
  | .hbm, ⟨27, _⟩ => ⟨S_, .f32⟩
  | .hbm, ⟨28, _⟩ => ⟨S16896x128, .f32⟩
  | .hbm, ⟨29, _⟩ => ⟨S768x16x192, .f32⟩
  | .hbm, ⟨30, _⟩ => ⟨S768x16x128, .f32⟩
  | .hbm, ⟨31, _⟩ => ⟨S768x2048, .f32⟩
  | .hbm, ⟨32, _⟩ => ⟨S768x2048, .bf16⟩
  | .hbm, ⟨33, _⟩ => ⟨S768x16x64, .f32⟩
  | .hbm, ⟨34, _⟩ => ⟨S_, .i32⟩
  | .hbm, ⟨35, _⟩ => ⟨S_, .f32⟩
  | .hbm, ⟨36, _⟩ => ⟨S768x16x128, .f32⟩
  | .hbm, ⟨37, _⟩ => ⟨S768x2048, .f32⟩
  | .hbm, ⟨38, _⟩ => ⟨S768x2048, .bf16⟩
  | .hbm, ⟨39, _⟩ => ⟨S512x16x256, .f32⟩
  | .hbm, ⟨40, _⟩ => ⟨S512x16x128, .f32⟩
  | .hbm, ⟨41, _⟩ => ⟨S512x2048, .f32⟩
  | .hbm, ⟨42, _⟩ => ⟨S512x2048, .bf16⟩
  | .hbm, ⟨43, _⟩ => ⟨S512x16x128, .f32⟩
  | .hbm, ⟨44, _⟩ => ⟨S512x2048, .f32⟩
  | .hbm, ⟨45, _⟩ => ⟨S512x2048, .bf16⟩
  | .hbm, ⟨46, _⟩ => ⟨S1x768, .f32⟩
  | .hbm, ⟨47, _⟩ => ⟨S1x512, .f32⟩
  | .hbm, ⟨48, _⟩ => ⟨S16896x4096, .bf16⟩
  | .hbm, ⟨49, _⟩ => ⟨S16896x4096, .bf16⟩
  | .hbm, ⟨50, _⟩ => ⟨S16896x2048, .bf16⟩
  | .local _ .vmem, ⟨0, _⟩ => ⟨S256x1408, .f32⟩
  | .local _ .vmem, ⟨1, _⟩ => ⟨S256x1408, .f32⟩
  | .local _ .vmem, ⟨2, _⟩ => ⟨S1x768, .f32⟩
  | .local _ .vmem, ⟨3, _⟩ => ⟨S1x512, .f32⟩
  | .local _ .vmem, ⟨4, _⟩ => ⟨S768x2048, .bf16⟩
  | .local _ .vmem, ⟨5, _⟩ => ⟨S768x2048, .bf16⟩
  | .local _ .vmem, ⟨6, _⟩ => ⟨S512x2048, .bf16⟩
  | .local _ .vmem, ⟨7, _⟩ => ⟨S512x2048, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x2048, .bf16⟩
  | .local _ .vmem, ⟨17, _⟩ => ⟨S256x2048, .bf16⟩
  | _, _ => ⟨S16896x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_call2_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v31_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LatentUpRefIdeal.lean ====
abbrev S16896x1408 : Shape := ⟨2, ![16896, 1408]⟩
abbrev S768 : Shape := ⟨1, ![768]⟩
abbrev S512 : Shape := ⟨1, ![512]⟩
abbrev S768x3072 : Shape := ⟨2, ![768, 3072]⟩
abbrev S512x4096 : Shape := ⟨2, ![512, 4096]⟩
abbrev S8192x16 : Shape := ⟨2, ![8192, 16]⟩
abbrev S16384x1408 : Shape := ⟨2, ![16384, 1408]⟩
abbrev S2x8192x1408 : Shape := ⟨3, ![2, 8192, 1408]⟩
abbrev S2x8192x768 : Shape := ⟨3, ![2, 8192, 768]⟩
abbrev S2x8192x512 : Shape := ⟨3, ![2, 8192, 512]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x768 : Shape := ⟨3, ![1, 1, 768]⟩
abbrev S2x8192x3072 : Shape := ⟨3, ![2, 8192, 3072]⟩
abbrev S2x8192x16x192 : Shape := ⟨4, ![2, 8192, 16, 192]⟩
abbrev S1x1x512 : Shape := ⟨3, ![1, 1, 512]⟩
abbrev S2x8192x4096 : Shape := ⟨3, ![2, 8192, 4096]⟩
abbrev S2x8192x16x256 : Shape := ⟨4, ![2, 8192, 16, 256]⟩
abbrev S2x8192x16x128 : Shape := ⟨4, ![2, 8192, 16, 128]⟩
abbrev S2x8192x1x64 : Shape := ⟨4, ![2, 8192, 1, 64]⟩
abbrev S512x1408 : Shape := ⟨2, ![512, 1408]⟩
abbrev S2x256x1408 : Shape := ⟨3, ![2, 256, 1408]⟩
abbrev S2x256x768 : Shape := ⟨3, ![2, 256, 768]⟩
abbrev S2x256x512 : Shape := ⟨3, ![2, 256, 512]⟩
abbrev S2x256x64 : Shape := ⟨3, ![2, 256, 64]⟩
abbrev S2x256 : Shape := ⟨2, ![2, 256]⟩
abbrev S2x256x1 : Shape := ⟨3, ![2, 256, 1]⟩
abbrev S2x256x3072 : Shape := ⟨3, ![2, 256, 3072]⟩
abbrev S2x256x16x192 : Shape := ⟨4, ![2, 256, 16, 192]⟩
abbrev S2x256x4096 : Shape := ⟨3, ![2, 256, 4096]⟩
abbrev S2x256x16x256 : Shape := ⟨4, ![2, 256, 16, 256]⟩
abbrev S2x256x16x128 : Shape := ⟨4, ![2, 256, 16, 128]⟩
abbrev S2x256x1x64 : Shape := ⟨4, ![2, 256, 1, 64]⟩
abbrev S1x1x1x64 : Shape := ⟨4, ![1, 1, 1, 64]⟩
abbrev S2x8192x16x64 : Shape := ⟨4, ![2, 8192, 16, 64]⟩
abbrev S8192x1x16 : Shape := ⟨3, ![8192, 1, 16]⟩
abbrev S2x8192x16x32 : Shape := ⟨4, ![2, 8192, 16, 32]⟩
abbrev S2x8192x16x16 : Shape := ⟨4, ![2, 8192, 16, 16]⟩
abbrev S1x8192x1x16 : Shape := ⟨4, ![1, 8192, 1, 16]⟩
abbrev S2x256x16x64 : Shape := ⟨4, ![2, 256, 16, 64]⟩
abbrev S16384x4096 : Shape := ⟨2, ![16384, 4096]⟩
abbrev S16896x4096 : Shape := ⟨2, ![16896, 4096]⟩
abbrev S2x8192x1x32 : Shape := ⟨4, ![2, 8192, 1, 32]⟩
abbrev S2x8192x1x16 : Shape := ⟨4, ![2, 8192, 1, 16]⟩
abbrev S16384x2048 : Shape := ⟨2, ![16384, 2048]⟩
abbrev S512x2048 : Shape := ⟨2, ![512, 2048]⟩
abbrev S16896x2048 : Shape := ⟨2, ![16896, 2048]⟩

abbrev nBuf : Space → Nat
  | .hbm => 227
  | .vmem => 0
  | .smem => 0
  | _ => 0

abbrev hbmTy0_0 (i : Nat) : BufTy := match i % 128 with
  | 0 => ⟨S16896x1408, .f32⟩
  | 1 => ⟨S768, .f32⟩
  | 2 => ⟨S512, .f32⟩
  | 3 => ⟨S768x3072, .f32⟩
  | 4 => ⟨S512x4096, .f32⟩
  | 5 => ⟨S8192x16, .f32⟩
  | 6 => ⟨S8192x16, .f32⟩
  | 7 => ⟨S8192x16, .f32⟩
  | 8 => ⟨S8192x16, .f32⟩
  | 9 => ⟨S16384x1408, .f32⟩
  | 10 => ⟨S2x8192x1408, .f32⟩
  | 11 => ⟨S2x8192x768, .f32⟩
  | 12 => ⟨S2x8192x512, .f32⟩
  | 13 => ⟨S2x8192x64, .f32⟩
  | 14 => ⟨S2x8192x64, .f32⟩
  | 15 => ⟨S2x8192x768, .f32⟩
  | 16 => ⟨S_, .f32⟩
  | 17 => ⟨S2x8192, .f32⟩
  | 18 => ⟨S2x8192x1, .f32⟩
  | 19 => ⟨S_, .f32⟩
  | 20 => ⟨S2x8192x1, .f32⟩
  | 21 => ⟨S2x8192x1, .f32⟩
  | 22 => ⟨S_, .f32⟩
  | 23 => ⟨S2x8192x1, .f32⟩
  | 24 => ⟨S2x8192x1, .f32⟩
  | 25 => ⟨S2x8192x1, .f32⟩
  | 26 => ⟨S2x8192x768, .f32⟩
  | 27 => ⟨S2x8192x768, .f32⟩
  | 28 => ⟨S1x1x768, .f32⟩
  | 29 => ⟨S2x8192x768, .f32⟩
  | 30 => ⟨S2x8192x768, .f32⟩
  | 31 => ⟨S2x8192x3072, .f32⟩
  | 32 => ⟨S2x8192x16x192, .f32⟩
  | 33 => ⟨S2x8192x512, .f32⟩
  | 34 => ⟨S_, .f32⟩
  | 35 => ⟨S2x8192, .f32⟩
  | 36 => ⟨S2x8192x1, .f32⟩
  | 37 => ⟨S_, .f32⟩
  | 38 => ⟨S2x8192x1, .f32⟩
  | 39 => ⟨S2x8192x1, .f32⟩
  | 40 => ⟨S_, .f32⟩
  | 41 => ⟨S2x8192x1, .f32⟩
  | 42 => ⟨S2x8192x1, .f32⟩
  | 43 => ⟨S2x8192x1, .f32⟩
  | 44 => ⟨S2x8192x512, .f32⟩
  | 45 => ⟨S2x8192x512, .f32⟩
  | 46 => ⟨S1x1x512, .f32⟩
  | 47 => ⟨S2x8192x512, .f32⟩
  | 48 => ⟨S2x8192x512, .f32⟩
  | 49 => ⟨S2x8192x4096, .f32⟩
  | 50 => ⟨S2x8192x16x256, .f32⟩
  | 51 => ⟨S2x8192x16x128, .f32⟩
  | 52 => ⟨S2x8192x16x128, .f32⟩
  | 53 => ⟨S2x8192x1x64, .f32⟩
  | 54 => ⟨S512x1408, .f32⟩
  | 55 => ⟨S2x256x1408, .f32⟩
  | 56 => ⟨S2x256x768, .f32⟩
  | 57 => ⟨S2x256x512, .f32⟩
  | 58 => ⟨S2x256x64, .f32⟩
  | 59 => ⟨S2x256x64, .f32⟩
  | 60 => ⟨S2x256x768, .f32⟩
  | 61 => ⟨S_, .f32⟩
  | 62 => ⟨S2x256, .f32⟩
  | 63 => ⟨S2x256x1, .f32⟩
  | 64 => ⟨S_, .f32⟩
  | 65 => ⟨S2x256x1, .f32⟩
  | 66 => ⟨S2x256x1, .f32⟩
  | 67 => ⟨S_, .f32⟩
  | 68 => ⟨S2x256x1, .f32⟩
  | 69 => ⟨S2x256x1, .f32⟩
  | 70 => ⟨S2x256x1, .f32⟩
  | 71 => ⟨S2x256x768, .f32⟩
  | 72 => ⟨S2x256x768, .f32⟩
  | 73 => ⟨S1x1x768, .f32⟩
  | 74 => ⟨S2x256x768, .f32⟩
  | 75 => ⟨S2x256x768, .f32⟩
  | 76 => ⟨S2x256x3072, .f32⟩
  | 77 => ⟨S2x256x16x192, .f32⟩
  | 78 => ⟨S2x256x512, .f32⟩
  | 79 => ⟨S_, .f32⟩
  | 80 => ⟨S2x256, .f32⟩
  | 81 => ⟨S2x256x1, .f32⟩
  | 82 => ⟨S_, .f32⟩
  | 83 => ⟨S2x256x1, .f32⟩
  | 84 => ⟨S2x256x1, .f32⟩
  | 85 => ⟨S_, .f32⟩
  | 86 => ⟨S2x256x1, .f32⟩
  | 87 => ⟨S2x256x1, .f32⟩
  | 88 => ⟨S2x256x1, .f32⟩
  | 89 => ⟨S2x256x512, .f32⟩
  | 90 => ⟨S2x256x512, .f32⟩
  | 91 => ⟨S1x1x512, .f32⟩
  | 92 => ⟨S2x256x512, .f32⟩
  | 93 => ⟨S2x256x512, .f32⟩
  | 94 => ⟨S2x256x4096, .f32⟩
  | 95 => ⟨S2x256x16x256, .f32⟩
  | 96 => ⟨S2x256x16x128, .f32⟩
  | 97 => ⟨S2x256x16x128, .f32⟩
  | 98 => ⟨S2x256x1x64, .f32⟩
  | 99 => ⟨S_, .f32⟩
  | 100 => ⟨S2x8192x16x192, .f32⟩
  | 101 => ⟨S2x8192x16x192, .f32⟩
  | 102 => ⟨S_, .f32⟩
  | 103 => ⟨S2x256x16x192, .f32⟩
  | 104 => ⟨S2x256x16x192, .f32⟩
  | 105 => ⟨S_, .f32⟩
  | 106 => ⟨S1x1x1x64, .f32⟩
  | 107 => ⟨S2x8192x16x128, .f32⟩
  | 108 => ⟨S2x8192x16x64, .f32⟩
  | 109 => ⟨S8192x1x16, .f32⟩
  | 110 => ⟨S8192x1x16, .f32⟩
  | 111 => ⟨S8192x1x16, .f32⟩
  | 112 => ⟨S8192x1x16, .f32⟩
  | 113 => ⟨S2x8192x16x32, .f32⟩
  | 114 => ⟨S2x8192x16x32, .f32⟩
  | 115 => ⟨S2x8192x16x16, .f32⟩
  | 116 => ⟨S2x8192x16x16, .f32⟩
  | 117 => ⟨S1x8192x1x16, .f32⟩
  | 118 => ⟨S2x8192x16x16, .f32⟩
  | 119 => ⟨S2x8192x16x16, .f32⟩
  | 120 => ⟨S1x8192x1x16, .f32⟩
  | 121 => ⟨S2x8192x16x16, .f32⟩
  | 122 => ⟨S2x8192x16x16, .f32⟩
  | 123 => ⟨S2x8192x16x16, .f32⟩
  | 124 => ⟨S1x8192x1x16, .f32⟩
  | 125 => ⟨S2x8192x16x16, .f32⟩
  | 126 => ⟨S2x8192x16x16, .f32⟩
  | 127 => ⟨S1x8192x1x16, .f32⟩
  | _ => ⟨S16896x1408, .f32⟩

abbrev hbmTy0_1 (i : Nat) : BufTy := match i % 128 with
  | 0 => ⟨S2x8192x16x16, .f32⟩
  | 1 => ⟨S2x8192x16x16, .f32⟩
  | 2 => ⟨S2x8192x16x16, .f32⟩
  | 3 => ⟨S2x8192x16x32, .f32⟩
  | 4 => ⟨S2x8192x16x16, .f32⟩
  | 5 => ⟨S2x8192x16x16, .f32⟩
  | 6 => ⟨S1x8192x1x16, .f32⟩
  | 7 => ⟨S2x8192x16x16, .f32⟩
  | 8 => ⟨S2x8192x16x16, .f32⟩
  | 9 => ⟨S1x8192x1x16, .f32⟩
  | 10 => ⟨S2x8192x16x16, .f32⟩
  | 11 => ⟨S2x8192x16x16, .f32⟩
  | 12 => ⟨S2x8192x16x16, .f32⟩
  | 13 => ⟨S1x8192x1x16, .f32⟩
  | 14 => ⟨S2x8192x16x16, .f32⟩
  | 15 => ⟨S2x8192x16x16, .f32⟩
  | 16 => ⟨S1x8192x1x16, .f32⟩
  | 17 => ⟨S2x8192x16x16, .f32⟩
  | 18 => ⟨S2x8192x16x16, .f32⟩
  | 19 => ⟨S2x8192x16x16, .f32⟩
  | 20 => ⟨S2x8192x16x32, .f32⟩
  | 21 => ⟨S2x8192x16x64, .f32⟩
  | 22 => ⟨S2x8192x16x64, .f32⟩
  | 23 => ⟨S2x8192x16x256, .f32⟩
  | 24 => ⟨S2x8192x4096, .f32⟩
  | 25 => ⟨S2x256x16x128, .f32⟩
  | 26 => ⟨S2x256x16x64, .f32⟩
  | 27 => ⟨S2x256x16x64, .f32⟩
  | 28 => ⟨S2x256x16x256, .f32⟩
  | 29 => ⟨S2x256x4096, .f32⟩
  | 30 => ⟨S16384x4096, .f32⟩
  | 31 => ⟨S512x4096, .f32⟩
  | 32 => ⟨S16896x4096, .f32⟩
  | 33 => ⟨S8192x1x16, .f32⟩
  | 34 => ⟨S8192x1x16, .f32⟩
  | 35 => ⟨S8192x1x16, .f32⟩
  | 36 => ⟨S8192x1x16, .f32⟩
  | 37 => ⟨S2x8192x1x32, .f32⟩
  | 38 => ⟨S2x8192x1x32, .f32⟩
  | 39 => ⟨S2x8192x1x16, .f32⟩
  | 40 => ⟨S2x8192x1x16, .f32⟩
  | 41 => ⟨S1x8192x1x16, .f32⟩
  | 42 => ⟨S2x8192x1x16, .f32⟩
  | 43 => ⟨S2x8192x1x16, .f32⟩
  | 44 => ⟨S1x8192x1x16, .f32⟩
  | 45 => ⟨S2x8192x1x16, .f32⟩
  | 46 => ⟨S2x8192x1x16, .f32⟩
  | 47 => ⟨S2x8192x1x16, .f32⟩
  | 48 => ⟨S1x8192x1x16, .f32⟩
  | 49 => ⟨S2x8192x1x16, .f32⟩
  | 50 => ⟨S2x8192x1x16, .f32⟩
  | 51 => ⟨S1x8192x1x16, .f32⟩
  | 52 => ⟨S2x8192x1x16, .f32⟩
  | 53 => ⟨S2x8192x1x16, .f32⟩
  | 54 => ⟨S2x8192x1x16, .f32⟩
  | 55 => ⟨S2x8192x1x32, .f32⟩
  | 56 => ⟨S2x8192x1x16, .f32⟩
  | 57 => ⟨S2x8192x1x16, .f32⟩
  | 58 => ⟨S1x8192x1x16, .f32⟩
  | 59 => ⟨S2x8192x1x16, .f32⟩
  | 60 => ⟨S2x8192x1x16, .f32⟩
  | 61 => ⟨S1x8192x1x16, .f32⟩
  | 62 => ⟨S2x8192x1x16, .f32⟩
  | 63 => ⟨S2x8192x1x16, .f32⟩
  | 64 => ⟨S2x8192x1x16, .f32⟩
  | 65 => ⟨S1x8192x1x16, .f32⟩
  | 66 => ⟨S2x8192x1x16, .f32⟩
  | 67 => ⟨S2x8192x1x16, .f32⟩
  | 68 => ⟨S1x8192x1x16, .f32⟩
  | 69 => ⟨S2x8192x1x16, .f32⟩
  | 70 => ⟨S2x8192x1x16, .f32⟩
  | 71 => ⟨S2x8192x1x16, .f32⟩
  | 72 => ⟨S2x8192x1x32, .f32⟩
  | 73 => ⟨S2x8192x1x64, .f32⟩
  | 74 => ⟨S16384x1408, .f32⟩
  | 75 => ⟨S2x8192x1408, .f32⟩
  | 76 => ⟨S2x8192x64, .f32⟩
  | 77 => ⟨S2x8192x1x64, .f32⟩
  | 78 => ⟨S2x8192x16x64, .f32⟩
  | 79 => ⟨S2x8192x16x64, .f32⟩
  | 80 => ⟨S2x8192x16x256, .f32⟩
  | 81 => ⟨S2x8192x4096, .f32⟩
  | 82 => ⟨S512x1408, .f32⟩
  | 83 => ⟨S2x256x1408, .f32⟩
  | 84 => ⟨S2x256x64, .f32⟩
  | 85 => ⟨S2x256x1x64, .f32⟩
  | 86 => ⟨S2x256x16x64, .f32⟩
  | 87 => ⟨S2x256x16x64, .f32⟩
  | 88 => ⟨S2x256x16x256, .f32⟩
  | 89 => ⟨S2x256x4096, .f32⟩
  | 90 => ⟨S16384x4096, .f32⟩
  | 91 => ⟨S512x4096, .f32⟩
  | 92 => ⟨S16896x4096, .f32⟩
  | 93 => ⟨S16896x4096, .bf16⟩
  | 94 => ⟨S16896x4096, .bf16⟩
  | 95 => ⟨S16384x2048, .f32⟩
  | 96 => ⟨S512x2048, .f32⟩
  | 97 => ⟨S16896x2048, .f32⟩
  | 98 => ⟨S16896x2048, .bf16⟩
  | _ => ⟨S16896x1408, .f32⟩

abbrev hbmTy (i : Nat) : BufTy := match i / 128 with
  | 0 => hbmTy0_0 i
  | 1 => hbmTy0_1 i
  | _ => ⟨S16896x1408, .f32⟩

abbrev bufTy : (tb : Table) → Fin (tcTables nBuf tb) → BufTy
  | .hbm, ⟨i, _⟩ => hbmTy i
  | _, _ => ⟨S16896x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩

abbrev nD : Nat := 1
abbrev τ : Topo := Topo.v7x

variable {F : FTy → Type} [FloatOps F]
-- ==== MlpLast.lean ====
abbrev S16384x2048 : Shape := ⟨2, ![16384, 2048]⟩
abbrev S2048 : Shape := ⟨1, ![2048]⟩
abbrev S3x1x12288 : Shape := ⟨3, ![3, 1, 12288]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S1x1x2048 : Shape := ⟨3, ![1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S3x1x12288, .f32⟩
  | .hbm, ⟨3, _⟩ => ⟨S2048x8192, .f32⟩
  | .hbm, ⟨4, _⟩ => ⟨S8192x2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c3_i32 : BitVec 32 := 3#32
  let c0_i32_5 : BitVec 32 := 0#32
  ![v18.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c4_i32 : BitVec 32 := 4#32
  let c0_i32_5 : BitVec 32 := 0#32
  ![v18.toNat, c0_i32_4.toNat, c4_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c5_i32 : BitVec 32 := 5#32
  let c0_i32_5 : BitVec 32 := 0#32
  ![v18.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpLastRefIdeal.lean ====
abbrev S16384x2048 : Shape := ⟨2, ![16384, 2048]⟩
abbrev S2048 : Shape := ⟨1, ![2048]⟩
abbrev S3x1x12288 : Shape := ⟨3, ![3, 1, 12288]⟩
abbrev S2048x8192 : Shape := ⟨2, ![2048, 8192]⟩
abbrev S8192x2048 : Shape := ⟨2, ![8192, 2048]⟩
abbrev S3x12288 : Shape := ⟨2, ![3, 12288]⟩
abbrev S3x2048 : Shape := ⟨2, ![3, 2048]⟩
abbrev S2x2048 : Shape := ⟨2, ![2, 2048]⟩
abbrev S2x8192x2048 : Shape := ⟨3, ![2, 8192, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x8192 : Shape := ⟨3, ![2, 8192, 8192]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S3x1x12288, .f32⟩
  | .hbm, ⟨3, _⟩ => ⟨S2048x8192, .f32⟩
  | .hbm, ⟨4, _⟩ => ⟨S8192x2048, .f32⟩
  | .hbm, ⟨5, _⟩ => ⟨S3x12288, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S3x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x8192x2048, .f32⟩
  | .hbm, ⟨16, _⟩ => ⟨S2x1x2048, .f32⟩
  | .hbm, ⟨17, _⟩ => ⟨S2x8192x2048, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x2048, .f32⟩
  | .hbm, ⟨29, _⟩ => ⟨S2x8192x2048, .f32⟩
  | .hbm, ⟨30, _⟩ => ⟨S1x1x2048, .f32⟩
  | .hbm, ⟨31, _⟩ => ⟨S2x8192x2048, .f32⟩
  | .hbm, ⟨32, _⟩ => ⟨S2x8192x2048, .f32⟩
  | .hbm, ⟨33, _⟩ => ⟨S2x1x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2x1x2048, .f32⟩
  | .hbm, ⟨40, _⟩ => ⟨S2x8192x2048, .f32⟩
  | .hbm, ⟨41, _⟩ => ⟨S2x8192x2048, .f32⟩
  | .hbm, ⟨42, _⟩ => ⟨S2x8192x8192, .f32⟩
  | .hbm, ⟨43, _⟩ => ⟨S_, .f32⟩
  | .hbm, ⟨44, _⟩ => ⟨S2x8192x8192, .f32⟩
  | .hbm, ⟨45, _⟩ => ⟨S2x8192x8192, .f32⟩
  | .hbm, ⟨46, _⟩ => ⟨S2x8192x8192, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_cst : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== GdnGates.lean ====
abbrev S16896x2048 : Shape := ⟨2, ![16896, 2048]⟩
abbrev S2048 : Shape := ⟨1, ![2048]⟩
abbrev S3x1x12288 : Shape := ⟨3, ![3, 1, 12288]⟩
abbrev S2048x12416 : Shape := ⟨2, ![2048, 12416]⟩
abbrev S2048x128 : Shape := ⟨2, ![2048, 128]⟩
abbrev S1x2048 : Shape := ⟨2, ![1, 2048]⟩
abbrev S16896x128 : Shape := ⟨2, ![16896, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x12416, .f32⟩
  | .hbm, ⟨4, _⟩ => ⟨S2048x128, .f32⟩
  | .hbm, ⟨5, _⟩ => ⟨S2048x128, .bf16⟩
  | .hbm, ⟨6, _⟩ => ⟨S1x2048, .f32⟩
  | .hbm, ⟨7, _⟩ => ⟨S16896x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .bf16⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GdnGatesRefIdeal.lean ====
abbrev S16896x2048 : Shape := ⟨2, ![16896, 2048]⟩
abbrev S2048 : Shape := ⟨1, ![2048]⟩
abbrev S3x1x12288 : Shape := ⟨3, ![3, 1, 12288]⟩
abbrev S2048x12416 : Shape := ⟨2, ![2048, 12416]⟩
abbrev S3x12288 : Shape := ⟨2, ![3, 12288]⟩
abbrev S3x2048 : Shape := ⟨2, ![3, 2048]⟩
abbrev S16384x2048 : Shape := ⟨2, ![16384, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x2048 : Shape := ⟨2, ![2, 2048]⟩
abbrev S2x1x2048 : Shape := ⟨3, ![2, 1, 2048]⟩
abbrev S512x2048 : Shape := ⟨2, ![512, 2048]⟩
abbrev S2x256x2048 : Shape := ⟨3, ![2, 256, 2048]⟩
abbrev S2x256 : Shape := ⟨2, ![2, 256]⟩
abbrev S2x256x1 : Shape := ⟨3, ![2, 256, 1]⟩
abbrev S1x2048 : Shape := ⟨2, ![1, 2048]⟩
abbrev S2x8192x12416 : Shape := ⟨3, ![2, 8192, 12416]⟩
abbrev S2x8192x128 : Shape := ⟨3, ![2, 8192, 128]⟩
abbrev S2x256x12416 : Shape := ⟨3, ![2, 256, 12416]⟩
abbrev S2x256x128 : Shape := ⟨3, ![2, 256, 128]⟩
abbrev S16384x128 : Shape := ⟨2, ![16384, 128]⟩
abbrev S512x128 : Shape := ⟨2, ![512, 128]⟩
abbrev S16896x128 : Shape := ⟨2, ![16896, 128]⟩

abbrev nBuf : Space → Nat
  | .hbm => 76
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x12416, .f32⟩
  | .hbm, ⟨4, _⟩ => ⟨S3x12288, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S16384x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S512x2048, .f32⟩
  | .hbm, ⟨41, _⟩ => ⟨S2x256x2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x2048, .f32⟩
  | .hbm, ⟨59, _⟩ => ⟨S1x2048, .f32⟩
  | .hbm, ⟨60, _⟩ => ⟨S1x1x2048, .f32⟩
  | .hbm, ⟨61, _⟩ => ⟨S_, .f32⟩
  | .hbm, ⟨62, _⟩ => ⟨S1x1x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S2x8192x12416, .f32⟩
  | .hbm, ⟨70, _⟩ => ⟨S2x8192x128, .f32⟩
  | .hbm, ⟨71, _⟩ => ⟨S2x256x12416, .f32⟩
  | .hbm, ⟨72, _⟩ => ⟨S2x256x128, .f32⟩
  | .hbm, ⟨73, _⟩ => ⟨S16384x128, .f32⟩
  | .hbm, ⟨74, _⟩ => ⟨S512x128, .f32⟩
  | .hbm, ⟨75, _⟩ => ⟨S16896x128, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== LstmGates.lean ====
abbrev S16896x2048 : Shape := ⟨2, ![16896, 2048]⟩
abbrev S2048 : Shape := ⟨1, ![2048]⟩
abbrev S3x1x12288 : Shape := ⟨3, ![3, 1, 12288]⟩
abbrev S2048x6176 : Shape := ⟨2, ![2048, 6176]⟩
abbrev S2048x32 : Shape := ⟨2, ![2048, 32]⟩
abbrev S_ : Shape := ⟨0, ![]⟩
abbrev S2048x128 : Shape := ⟨2, ![2048, 128]⟩
abbrev S1x2048 : Shape := ⟨2, ![1, 2048]⟩
abbrev S16896x128 : Shape := ⟨2, ![16896, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x6176, .f32⟩
  | .hbm, ⟨4, _⟩ => ⟨S2048x32, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S1x2048, .f32⟩
  | .hbm, ⟨10, _⟩ => ⟨S16896x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .bf16⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LstmGatesRefIdeal.lean ====
abbrev S16896x2048 : Shape := ⟨2, ![16896, 2048]⟩
abbrev S2048 : Shape := ⟨1, ![2048]⟩
abbrev S3x1x12288 : Shape := ⟨3, ![3, 1, 12288]⟩
abbrev S2048x6176 : Shape := ⟨2, ![2048, 6176]⟩
abbrev S3x12288 : Shape := ⟨2, ![3, 12288]⟩
abbrev S3x2048 : Shape := ⟨2, ![3, 2048]⟩
abbrev S16384x2048 : Shape := ⟨2, ![16384, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x2048 : Shape := ⟨2, ![2, 2048]⟩
abbrev S2x1x2048 : Shape := ⟨3, ![2, 1, 2048]⟩
abbrev S512x2048 : Shape := ⟨2, ![512, 2048]⟩
abbrev S2x256x2048 : Shape := ⟨3, ![2, 256, 2048]⟩
abbrev S2x256 : Shape := ⟨2, ![2, 256]⟩
abbrev S2x256x1 : Shape := ⟨3, ![2, 256, 1]⟩
abbrev S1x2048 : Shape := ⟨2, ![1, 2048]⟩
abbrev S2x8192x6176 : Shape := ⟨3, ![2, 8192, 6176]⟩
abbrev S2x8192x32 : Shape := ⟨3, ![2, 8192, 32]⟩
abbrev S2x256x6176 : Shape := ⟨3, ![2, 256, 6176]⟩
abbrev S2x256x32 : Shape := ⟨3, ![2, 256, 32]⟩
abbrev S16384x32 : Shape := ⟨2, ![16384, 32]⟩
abbrev S512x32 : Shape := ⟨2, ![512, 32]⟩
abbrev S16896x32 : Shape := ⟨2, ![16896, 32]⟩
abbrev S16896x128 : Shape := ⟨2, ![16896, 128]⟩

abbrev nBuf : Space → Nat
  | .hbm => 79
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S3x1x12288, .f32⟩
  | .hbm, ⟨3, _⟩ => ⟨S2048x6176, .f32⟩
  | .hbm, ⟨4, _⟩ => ⟨S3x12288, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S16384x2048, .f32⟩
  | .hbm, ⟨12, _⟩ => ⟨S2x8192x2048, .f32⟩
  | .hbm, ⟨13, _⟩ => ⟨S2x8192x2048, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x2048, .f32⟩
  | .hbm, ⟨25, _⟩ => ⟨S2x8192x2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x2048, .f32⟩
  | .hbm, ⟨36, _⟩ => ⟨S2x8192x2048, .f32⟩
  | .hbm, ⟨37, _⟩ => ⟨S2x1x2048, .f32⟩
  | .hbm, ⟨38, _⟩ => ⟨S2x8192x2048, .f32⟩
  | .hbm, ⟨39, _⟩ => ⟨S2x8192x2048, .f32⟩
  | .hbm, ⟨40, _⟩ => ⟨S512x2048, .f32⟩
  | .hbm, ⟨41, _⟩ => ⟨S2x256x2048, .f32⟩
  | .hbm, ⟨42, _⟩ => ⟨S2x256x2048, .f32⟩
  | .hbm, ⟨43, _⟩ => ⟨S_, .f32⟩
  | .hbm, ⟨44, _⟩ => ⟨S2x256, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S_, .f32⟩
  | .hbm, ⟨50, _⟩ => ⟨S2x256x1, .f32⟩
  | .hbm, ⟨51, _⟩ => ⟨S2x256x1, .f32⟩
  | .hbm, ⟨52, _⟩ => ⟨S2x256x1, .f32⟩
  | .hbm, ⟨53, _⟩ => ⟨S2x256x2048, .f32⟩
  | .hbm, ⟨54, _⟩ => ⟨S2x256x2048, .f32⟩
  | .hbm, ⟨55, _⟩ => ⟨S1x1x2048, .f32⟩
  | .hbm, ⟨56, _⟩ => ⟨S2x256x2048, .f32⟩
  | .hbm, ⟨57, _⟩ => ⟨S2x256x2048, .f32⟩
  | .hbm, ⟨58, _⟩ => ⟨S1x2048, .f32⟩
  | .hbm, ⟨59, _⟩ => ⟨S1x2048, .f32⟩
  | .hbm, ⟨60, _⟩ => ⟨S1x1x2048, .f32⟩
  | .hbm, ⟨61, _⟩ => ⟨S_, .f32⟩
  | .hbm, ⟨62, _⟩ => ⟨S1x1x2048, .f32⟩
  | .hbm, ⟨63, _⟩ => ⟨S1x1x2048, .f32⟩
  | .hbm, ⟨64, _⟩ => ⟨S2x256x2048, .f32⟩
  | .hbm, ⟨65, _⟩ => ⟨S2x256x2048, .f32⟩
  | .hbm, ⟨66, _⟩ => ⟨S1x1x2048, .f32⟩
  | .hbm, ⟨67, _⟩ => ⟨S2x256x2048, .f32⟩
  | .hbm, ⟨68, _⟩ => ⟨S2x256x2048, .f32⟩
  | .hbm, ⟨69, _⟩ => ⟨S2x8192x6176, .f32⟩
  | .hbm, ⟨70, _⟩ => ⟨S2x8192x32, .f32⟩
  | .hbm, ⟨71, _⟩ => ⟨S2x256x6176, .f32⟩
  | .hbm, ⟨72, _⟩ => ⟨S2x256x32, .f32⟩
  | .hbm, ⟨73, _⟩ => ⟨S16384x32, .f32⟩
  | .hbm, ⟨74, _⟩ => ⟨S512x32, .f32⟩
  | .hbm, ⟨75, _⟩ => ⟨S16896x32, .f32⟩
  | .hbm, ⟨76, _⟩ => ⟨S_, .i32⟩
  | .hbm, ⟨77, _⟩ => ⟨S_, .f32⟩
  | .hbm, ⟨78, _⟩ => ⟨S16896x128, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c : Ref sig .tc := ⟨.hbm, 76, rfl⟩
abbrev main_call0_v0 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Ada.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Attn.Steps.lean ====
/- The block of the attention output that one grid point leaves, as an iteration: the sixteen unrolled steps over the
   tiles of the latent keys are the first sixteen terms of two sequences, the row maxima and the weighed sums; one last
   step takes the context keys, and the quotient is stored. -/
module

public import proofs.«01_k».proof.Proof.Gen.AttnIdeal.Value
public import Idealize.ShloMosaic.Lib.ValueIdx
public import Idealize.ShloMosaic.Lib.Pipeline.ValueKit

@[expose] public section

set_option maxRecDepth 16384

noncomputable section

namespace Cert.Proof.AttnSteps

open Cert.AttnIdeal Cert.AttnIdeal.Gen Idealize.ShloMosaic Idealize.ShloMosaic.TcCoe Idealize.SL.Sem

variable {F : FTy → Type} [FloatOps F]

/-- The row maxima before the step over tile `n` of the keys `K`, for the queries `q`. -/
def maxes (q : Vec F S512x256 .bf16) (K : ℕ → Vec F S512x256 .bf16) : ℕ → FVec F S512x1 .f32
  | 0 => k0_pay2
  | n + 1 => k0_pay10 q (maxes q K n) (K n)

/-- The weights of the keys of tile `n`: two to the power of the logits above the new maxima. -/
def weights (q : Vec F S512x256 .bf16) (K : ℕ → Vec F S512x256 .bf16) (n : ℕ) : FVec F S512x512 .bf16 :=
  truncf .bf16 (exp2 (subf (k0_pay9 q (K n)) (broadcastTo S512x512 (maxes q K (n + 1)) broadcasts_S512x1_S512x512))) bitsLt_bf16_f32

/-- The weighed sums before the step over tile `n`: of the values in the left half of the columns, of ones in the right. -/
def sums (q : Vec F S512x256 .bf16) (K : ℕ → Vec F S512x256 .bf16) (V : ℕ → Vec F S512x128 .bf16) : ℕ → FVec F S512x256 .f32
  | 0 => broadcast S512x256 (Scalar.ofBits .f32 0x00000000#32)
  | n + 1 => addf
      (mulf (broadcastTo S512x256 (exp2 (subf (maxes q K n) (maxes q K (n + 1)))) broadcasts_S512x1_S512x256) (sums q K V n))
      (matmul dot_S512x512_S512x256_S512x256_1_0_0_1_n_n none (weights q K n)
        (concatenate S512x256 1 [⟨S512x128, V n⟩, ⟨S512x128, broadcast S512x128 (Scalar.ofBits .bf16 0x3F80#16)⟩]
          concatenates_S512x128_S512x128_S512x256_d1)
        (constant S512x256 .f32 0x00000000#32))

/-- The logits of the context keys. -/
def ctxLogits (q : Vec F S512x256 .bf16) (kc : Vec F S256x256 .bf16) : FVec F S512x256 .f32 :=
  matmul dot_S512x256_S256x256_S512x256_1_1_0_0_n_n none q kc (constant S512x256 .f32 0x00000000#32)

/-- The row maxima after the context keys. -/
def ctxMax (q : Vec F S512x256 .bf16) (kc : Vec F S256x256 .bf16) (M : FVec F S512x1 .f32) : FVec F S512x1 .f32 :=
  maximumf M (shapeCast S512x1
    (multiReduction .maximumf [1] S512 (ctxLogits q kc) 0xFF800000#32 reduces_S512x256_S512 (.inl rfl) rfl) shapeCasts_S512_S512x1)

/-- The weighed sums after the context keys. -/
def ctxSum (q : Vec F S512x256 .bf16) (kc : Vec F S256x256 .bf16) (vc : Vec F S256x128 .bf16) (M : FVec F S512x1 .f32)
    (A : FVec F S512x256 .f32) : FVec F S512x256 .f32 :=
  addf (mulf (broadcastTo S512x256 (exp2 (subf M (ctxMax q kc M))) broadcasts_S512x1_S512x256) A)
    (matmul dot_S512x256_S256x256_S512x256_1_0_0_1_n_n none
      (truncf .bf16 (exp2 (subf (ctxLogits q kc) (broadcastTo S512x256 (ctxMax q kc M) broadcasts_S512x1_S512x256))) bitsLt_bf16_f32)
      (concatenate S256x256 1 [⟨S256x128, vc⟩, ⟨S256x128, broadcast S256x128 (Scalar.ofBits .bf16 0x3F80#16)⟩]
        concatenates_S256x128_S256x128_S256x256_d1)
      (constant S512x256 .f32 0x00000000#32))

/-- The stored quotient: the weighed sums of the values by those of ones. -/
def quotient (A : FVec F S512x256 .f32) : FVec F S512x128 .bf16 :=
  truncf .bf16 (divf (extractStridedSlice S512x128 ![0, 0] A slices_S512x256_o0_0_S512x128)
    (extractStridedSlice S512x128 ![0, 128] A slices_S512x256_o0_128_S512x128)) bitsLt_bf16_f32

/-! ## The unrolled payloads are terms of the sequences

The unrolled body repeats the same five functions under other names; each is one of the first five. -/

theorem same_max : @k0_pay16 F _ = @k0_pay10 F _ ∧ @k0_pay22 F _ = @k0_pay10 F _ ∧ @k0_pay28 F _ = @k0_pay10 F _
    ∧ @k0_pay34 F _ = @k0_pay10 F _ ∧ @k0_pay40 F _ = @k0_pay10 F _ ∧ @k0_pay46 F _ = @k0_pay10 F _ :=
  ⟨rfl, rfl, rfl, rfl, rfl, rfl⟩

theorem same_sum : @k0_pay17 F _ = @k0_pay11 F _ ∧ @k0_pay23 F _ = @k0_pay11 F _ ∧ @k0_pay29 F _ = @k0_pay11 F _
    ∧ @k0_pay35 F _ = @k0_pay11 F _ ∧ @k0_pay41 F _ = @k0_pay11 F _ ∧ @k0_pay47 F _ = @k0_pay11 F _ :=
  ⟨rfl, rfl, rfl, rfl, rfl, rfl⟩

theorem same_max₂ : @k0_pay19 F _ = @k0_pay13 F _ ∧ @k0_pay25 F _ = @k0_pay13 F _ ∧ @k0_pay31 F _ = @k0_pay13 F _
    ∧ @k0_pay37 F _ = @k0_pay13 F _ ∧ @k0_pay43 F _ = @k0_pay13 F _ ∧ @k0_pay49 F _ = @k0_pay13 F _ :=
  ⟨rfl, rfl, rfl, rfl, rfl, rfl⟩

theorem same_weights : @k0_pay20 F _ = @k0_pay14 F _ ∧ @k0_pay26 F _ = @k0_pay14 F _ ∧ @k0_pay32 F _ = @k0_pay14 F _
    ∧ @k0_pay38 F _ = @k0_pay14 F _ ∧ @k0_pay44 F _ = @k0_pay14 F _ ∧ @k0_pay50 F _ = @k0_pay14 F _ :=
  ⟨rfl, rfl, rfl, rfl, rfl, rfl⟩

variable (q : Vec F S512x256 .bf16) (K : ℕ → Vec F S512x256 .bf16) (V : ℕ → Vec F S512x128 .bf16)

/-- The maxima after the first tile, and after the second. -/
theorem max_one : k0_pay4 q (K 0) = maxes q K 1 := rfl
theorem max_two : k0_pay7 q (K 0) (K 1) = maxes q K 2 := rfl
/-- The sums after the first tile. -/
theorem sum_one : k0_pay5 q (K 0) (V 0) = sums q K V 1 := rfl
/-- The weights of the second tile. -/
theorem weights_one : k0_pay8 q (K 0) (K 1) = weights q K 1 := rfl

/-- One tile further on from tile `n`: the maxima. -/
theorem max_succ (n : ℕ) : k0_pay10 q (maxes q K n) (K n) = maxes q K (n + 1) := rfl
/-- Two tiles further on: the maxima. -/
theorem max_succ₂ (n : ℕ) : k0_pay13 q (maxes q K n) (K n) (K (n + 1)) = maxes q K (n + 2) := rfl
/-- Two tiles further on: the weights of the second. -/
theorem weights_succ₂ (n : ℕ) : k0_pay14 q (maxes q K n) (K n) (K (n + 1)) = weights q K (n + 1) := rfl
/-- Two tiles further on: the sums. -/
theorem sum_succ₂ (n : ℕ) : k0_pay11 q (maxes q K n) (sums q K V n) (V n) (maxes q K (n + 1)) (weights q K n) (K (n + 1)) (V (n + 1))
    = sums q K V (n + 2) := rfl
/-- The stored block, from the sequences' last latent terms. -/
theorem stored (n : ℕ) (kc : Vec F S256x256 .bf16) (vc : Vec F S256x128 .bf16) :
    k0_pay1 q (maxes q K n) (sums q K V n) (V n) (maxes q K (n + 1)) (weights q K n) kc vc
      = quotient (ctxSum q kc vc (maxes q K (n + 1)) (sums q K V (n + 1))) := rfl

/-- Tile `n` (below sixteen) of the latent keys of a point: rows `512 n` to `512 n + 511`. -/
def tileK (x : Vec F S8192x256 .bf16) (n : ℕ) : Vec F S512x256 .bf16 := fun j =>
  x (ix2 ⟨512 * (n % 16) + (j 0).val, by have h : (j 0).val < 512 := (j 0).isLt; omega⟩ (j 1))

/-- Tile `n` (below sixteen) of the latent values of a point. -/
def tileV (x : Vec F S8192x128 .bf16) (n : ℕ) : Vec F S512x128 .bf16 := fun j =>
  x (ix2 ⟨512 * (n % 16) + (j 0).val, by have h : (j 0).val < 512 := (j 0).isLt; omega⟩ (j 1))

/-- A load of 512 rows of the keys at a multiple of 512 is a tile. -/
theorem ld_tileK (x : Vec F S8192x256 .bf16) (o : ℕ) (inb : ∀ a, ![o, 0] a + ![512, 256] a ≤ S8192x256.size a) (ho : o % 512 = 0) :
    View.ld (Val := Elt F) (e' := .bf16) x (Rect.unit (s := S8192x256) ![o, 0] ![512, 256] inb) = tileK x (o / 512) := by
  have h : o + 512 ≤ 8192 := inb 0
  funext j
  refine View.ld_unit_apply_of x _ _ inb j _ fun a => ?_
  match a with
  | ⟨0, _⟩ => show 512 * (o / 512 % 16) + (j 0).val = o + (j 0).val; rw [Nat.mod_eq_of_lt (by omega)]; omega
  | ⟨1, _⟩ => exact (Nat.zero_add _).symm

/-- A load of 512 rows of the values at a multiple of 512 is a tile. -/
theorem ld_tileV (x : Vec F S8192x128 .bf16) (o : ℕ) (inb : ∀ a, ![o, 0] a + ![512, 128] a ≤ S8192x128.size a) (ho : o % 512 = 0) :
    View.ld (Val := Elt F) (e' := .bf16) x (Rect.unit (s := S8192x128) ![o, 0] ![512, 128] inb) = tileV x (o / 512) := by
  have h : o + 512 ≤ 8192 := inb 0
  funext j
  refine View.ld_unit_apply_of x _ _ inb j _ fun a => ?_
  match a with
  | ⟨0, _⟩ => show 512 * (o / 512 % 16) + (j 0).val = o + (j 0).val; rw [Nat.mod_eq_of_lt (by omega)]; omega
  | ⟨1, _⟩ => exact (Nat.zero_add _).symm

/-- A load of a whole array is the array. -/
theorem ld_whole {a b : ℕ} (x : Vec F ⟨2, ![a, b]⟩ .bf16) (inb : ∀ i, ![0, 0] i + ![a, b] i ≤ (⟨2, ![a, b]⟩ : Shape).size i) :
    View.ld (Val := Elt F) (e' := .bf16) x (Rect.unit (s := ⟨2, ![a, b]⟩) ![0, 0] ![a, b] inb) = x := by
  funext j
  refine View.ld_unit_apply_of x _ _ inb j _ fun i => ?_
  match i with
  | ⟨0, _⟩ => exact (Nat.zero_add _).symm
  | ⟨1, _⟩ => exact (Nat.zero_add _).symm

set_option backward.isDefEq.respectTransparency false in
/-- What the body leaves in the output's staging memory, whatever the memory it runs in. -/
theorem out_eq (c : Dev nD) (i : grid0.Coords) (arg3 : Memref sig .tc .vmem S512x256 .bf16) (harg3 : arg3.IsWhole)
    (arg4 : Memref sig .tc .vmem S8192x256 .bf16) (harg4 : arg4.IsWhole) (arg5 : Memref sig .tc .vmem S8192x128 .bf16) (harg5 : arg5.IsWhole)
    (arg6 : Memref sig .tc .vmem S256x256 .bf16) (harg6 : arg6.IsWhole) (arg7 : Memref sig .tc .vmem S256x128 .bf16) (harg7 : arg7.IsWhole)
    (arg8 : Memref sig .tc .vmem S512x128 .bf16) (harg8 : arg8.IsWhole) (x0 : Vec F S512x256 .bf16) (x1 : Vec F S8192x256 .bf16)
    (x2 : Vec F S8192x128 .bf16) (x3 : Vec F S256x256 .bf16) (x4 : Vec F S256x128 .bf16) :
    out0_A_5 c i arg3 harg3 arg4 harg4 arg5 harg5 arg6 harg6 arg7 harg7 arg8 harg8 x0 x1 x2 x3 x4
      = quotient (ctxSum x0 x3 x4 (maxes x0 (tileK x1) 16) (sums x0 (tileK x1) (tileV x2) 16)) := by
  unfold out0_A_5
  rw [View.read_writes_eq_canon _ _ _ (cover0_A_5 c _ _ _ _ _ _ _ _ _ _ _ _ _ _ _ _ _ _)]
  unfold kernelRun0_A
  dsimp only
  sl_unfold_words
  simp only [View.readAt_eq_ld, harg3.read_unread, harg4.read_unread, harg5.read_unread, harg6.read_unread, harg7.read_unread]
  refine (View.canon_unit_zero (S := S512x128) (off := ![0, 0]) (funext fun a => by match a with | ⟨0, _⟩ => rfl | ⟨1, _⟩ => rfl) _ _).trans ?_
  obtain ⟨e1, e2, e3, e4, e5, e6⟩ := same_max (F := F)
  obtain ⟨f1, f2, f3, f4, f5, f6⟩ := same_sum (F := F)
  obtain ⟨g1, g2, g3, g4, g5, g6⟩ := same_max₂ (F := F)
  obtain ⟨h1, h2, h3, h4, h5, h6⟩ := same_weights (F := F)
  simp only [e1, e2, e3, e4, e5, e6, f1, f2, f3, f4, f5, f6, g1, g2, g3, g4, g5, g6, h1, h2, h3, h4, h5, h6]
  simp only [ld_whole, ld_tileK, ld_tileV, Nat.reduceMod, Nat.reduceDiv]
  simp only [max_one, max_two, sum_one x0 (tileK x1) (tileV x2), weights_one, max_succ, max_succ₂, weights_succ₂, sum_succ₂, stored, Nat.reduceAdd]

variable (m : (ℓ : Loc nD τ sig) → Buf (Elt F) ℓ)

/-- What a grid point leaves in its block of the output. -/
theorem block_eq (c : Dev nD) (t : Fin cfg0.N) :
    outsAt0 m c t = quotient (ctxSum (iblk m c 0 t) (iblk m c 3 t) (iblk m c 4 t)
      (maxes (iblk m c 0 t) (tileK (X0_1 m c t)) 16) (sums (iblk m c 0 t) (tileK (X0_1 m c t)) (tileV (X0_2 m c t)) 16)) :=
  out_eq c _ _ _ _ _ _ _ _ _ _ _ _ _ _ _ _ _ _

end Cert.Proof.AttnSteps

end
-- ==== Proof.Attn.Blocks.lean ====
/- Where the blocks of a grid point lie in the arrays.  Point `t` is batch `t / 256`, head `t / 16 % 16` and query tile
   `t % 16`. -/
module

public import proofs.«01_k».proof.Proof.Attn.Steps
public import Idealize.ShloMosaic.Lib.Pipeline.ValueKit

@[expose] public section

set_option maxRecDepth 16384

noncomputable section

namespace Cert.Proof.AttnBlocks

open Cert.AttnIdeal Cert.AttnIdeal.Gen Idealize.ShloMosaic Idealize.ShloMosaic.TcCoe Idealize.SL.Sem Cert.Proof.AttnSteps

variable {F : FTy → Type} [FloatOps F]
variable (m : (ℓ : Loc nD τ sig) → Buf (Elt F) ℓ) (c : Dev nD) (t : Fin cfg0.N)

/-- The block indices of the six windows. -/
theorem idx : ∀ t : Fin cfg0.N,
    win0_0.index t = ![t.val / 256 * 16 + t.val % 16, t.val / 16 % 16] ∧ win0_1.index t = ![t.val / 256, t.val / 16 % 16]
    ∧ win0_2.index t = ![t.val / 256, t.val / 16 % 16] ∧ win0_3.index t = ![64 + t.val / 256, t.val / 16 % 16]
    ∧ win0_4.index t = ![64 + t.val / 256, t.val / 16 % 16]
    ∧ win0_5.index t = ![t.val / 256 * 16 + t.val % 16, t.val / 16 % 16] :=
  (by decide +kernel : ∀ t : Fin grid0.N, _)

theorem points (t : Fin cfg0.N) : t.val < 512 := Nat.lt_of_lt_of_eq t.isLt N_0

/-- The queries of a point. -/
theorem query_at (r : Fin 512) (e : Fin 256) : (iblk m c 0 t : Vec F S512x256 .bf16) (ix2 r e)
    = (m ((c : Thread nD τ).loc main_arg0) : Vec F S16896x4096 .bf16)
        (ix2 ⟨(t.val / 256 * 16 + t.val % 16) * 512 + r.val, by have := points t; omega⟩ ⟨t.val / 16 % 16 * 256 + e.val, by omega⟩) := by
  blk_point [iblk, V, idx t]

/-- The context keys of a point. -/
theorem ctxKey_at (k : Fin 256) (e : Fin 256) : (iblk m c 3 t : Vec F S256x256 .bf16) (ix2 k e)
    = (m ((c : Thread nD τ).loc main_arg1) : Vec F S16896x4096 .bf16)
        (ix2 ⟨(64 + t.val / 256) * 256 + k.val, by have := points t; omega⟩ ⟨t.val / 16 % 16 * 256 + e.val, by omega⟩) := by
  blk_point [iblk, V, idx t]

/-- The context values of a point. -/
theorem ctxValue_at (k : Fin 256) (d : Fin 128) : (iblk m c 4 t : Vec F S256x128 .bf16) (ix2 k d)
    = (m ((c : Thread nD τ).loc main_arg2) : Vec F S16896x2048 .bf16)
        (ix2 ⟨(64 + t.val / 256) * 256 + k.val, by have := points t; omega⟩ ⟨t.val / 16 % 16 * 128 + d.val, by omega⟩) := by
  blk_point [iblk, V, idx t]

/-- The latent keys of a point. -/
theorem key_at (k : Fin 8192) (e : Fin 256) : (X0_1 m c t : Vec F S8192x256 .bf16) (ix2 k e)
    = (m ((c : Thread nD τ).loc main_arg1) : Vec F S16896x4096 .bf16)
        (ix2 ⟨t.val / 256 * 8192 + k.val, by have := points t; omega⟩ ⟨t.val / 16 % 16 * 256 + e.val, by omega⟩) := by
  unfold X0_1 Pipeline.Window.fill
  rw [dif_pos (moved0_1 t _)]
  blk_point [iblk, V, idx t]

/-- The latent values of a point. -/
theorem value_at (k : Fin 8192) (d : Fin 128) : (X0_2 m c t : Vec F S8192x128 .bf16) (ix2 k d)
    = (m ((c : Thread nD τ).loc main_arg2) : Vec F S16896x2048 .bf16)
        (ix2 ⟨t.val / 256 * 8192 + k.val, by have := points t; omega⟩ ⟨t.val / 16 % 16 * 128 + d.val, by omega⟩) := by
  unfold X0_2 Pipeline.Window.fill
  rw [dif_pos (moved0_2 t _)]
  blk_point [iblk, V, idx t]

/-- **The result array from its blocks**: it holds `G` if every point's block holds `G` where the block lies. -/
theorem array_of_blocks (G : Vec F S16384x2048 .bf16)
    (hG : ∀ (t : Fin cfg0.N) (r : Fin 512) (d : Fin 128), (outsAt0 m c t : Vec F S512x128 .bf16) (ix2 r d)
      = G (ix2 ⟨(t.val / 256 * 16 + t.val % 16) * 512 + r.val, by have := points t; omega⟩ ⟨t.val / 16 % 16 * 128 + d.val, by omega⟩)) :
    (dats m 0 c).arrAt 5 cfg0.N = G := by
  refine (dats m 0 c).arrAt_eq_of_covers 5 _ (by decide +kernel) fun t _ y => ?_
  blk_simp
  rw [after0_5]
  refine (congrArg (outsAt0 m c t) (eq_ix2 (n0 := 512) (n1 := 128) y)).trans ((hG t (y 0) (y 1)).trans (congrArg G ?_))
  funext a
  apply Fin.ext
  match a with
  | ⟨0, _⟩ =>
      show (t.val / 256 * 16 + t.val % 16) * 512 + (y 0).val = win0_5.index t 0 * 512 + 1 * (y 0).val
      rw [(idx t).2.2.2.2.2, Nat.one_mul]; rfl
  | ⟨1, _⟩ =>
      show t.val / 16 % 16 * 128 + (y 1).val = win0_5.index t 1 * 128 + 1 * (y 1).val
      rw [(idx t).2.2.2.2.2, Nat.one_mul]; rfl

end Cert.Proof.AttnBlocks

end
-- ==== Proof.Attn.Online.lean ====
/- The online softmax, over the extended reals: the running maximum and the rescaled running sum after some prefix of
   the keys, one step that takes a further tile of keys, and the quotient at the end, which is the plain softmax
   average. Plain mathematics: nothing here mentions a kernel. -/
module

public import Idealize.ShloMosaic.PureOps.Ideal.Laws

@[expose] public section

noncomputable section

namespace Cert.Proof.Online

open Idealize.ShloMosaic

/-- A finite nonnegative factor distributes over a sum of extended reals. -/
theorem mul_sum {ι : Type} (c : EReal) (h0 : 0 ≤ c) (ht : c ≠ ⊤) (S : Finset ι) (f : ι → EReal) :
    c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 ht, ih]

/-- A power of two is positive. -/
theorem pow_pos (r : ℝ) : (0 : ℝ) < Real.rpow 2 r := Real.rpow_pos_of_pos two_pos r

/-- The largest of the first `n` logits. -/
def top (s : ℕ → ℝ) (n : ℕ) : EReal := (Finset.range n).sup fun j => (s j : EReal)

/-- The sum of the first `n` values, each weighed by two to the power of its logit above `m`. -/
def weighed (s : ℕ → ℝ) (v : ℕ → EReal) (m : EReal) (n : ℕ) : EReal :=
  ∑ j ∈ Finset.range n, Ideal.exp2 ((s j : EReal) - m) * v j

/-- The maximum of at least one real is real. -/
theorem top_real (s : ℕ → ℝ) {n : ℕ} (hn : 0 < n) : ∃ r : ℝ, top s n = (r : EReal) := by
  obtain ⟨j, -, hj⟩ := Finset.exists_mem_eq_sup (Finset.range n) ⟨0, Finset.mem_range.mpr hn⟩ fun j => (s j : EReal)
  exact ⟨s j, hj⟩

theorem top_zero (s : ℕ → ℝ) : top s 0 = ⊥ := by simp [top]

theorem weighed_zero (s : ℕ → ℝ) (v : ℕ → EReal) (m : EReal) : weighed s v m 0 = 0 := by simp [weighed]

/-- The maximum over a longer prefix: that of the shorter one against that of the tile. -/
theorem top_add (s : ℕ → ℝ) (n B : ℕ) :
    top s (n + B) = max (top s n) (Finset.univ.sup fun k : Fin B => (s (n + k.val) : EReal)) := by
  refine le_antisymm (Finset.sup_le fun j hj => ?_) (max_le ?_ (Finset.sup_le fun k _ => ?_))
  · rcases lt_or_ge j n with h | h
    · exact le_max_of_le_left (Finset.le_sup (f := fun j => (s j : EReal)) (Finset.mem_range.mpr h))
    · have hj' : j < n + B := Finset.mem_range.mp hj
      have hk := Finset.le_sup (f := fun k : Fin B => (s (n + k.val) : EReal)) (Finset.mem_univ ⟨j - n, by omega⟩)
      refine le_max_of_le_right (le_trans (le_of_eq ?_) hk)
      show (s j : EReal) = (s (n + (j - n)) : EReal)
      rw [Nat.add_sub_cancel' h]
  · exact Finset.sup_mono fun j hj => Finset.mem_range.mpr (by have := Finset.mem_range.mp hj; omega)
  · exact Finset.le_sup (f := fun j => (s j : EReal)) (Finset.mem_range.mpr (by omega))

/-- Rescaling: the sum weighed against `m` becomes the one weighed against `m'` when multiplied by the power of two of
    the difference, for the maximum `m` of the prefix (of the empty one as well) and any real `m'`. -/
theorem rescale (s : ℕ → ℝ) (v : ℕ → EReal) (n : ℕ) (r : ℝ) :
    Ideal.exp2 (top s n - (r : EReal)) * weighed s v (top s n) n = weighed s v (r : EReal) n := by
  rcases Nat.eq_zero_or_pos n with rfl | hn
  · rw [weighed_zero, weighed_zero, mul_zero]
  · obtain ⟨t, ht⟩ := top_real s hn
    rw [ht, ← EReal.coe_sub, Ideal.exp2_coe]
    unfold weighed
    rw [mul_sum _ (by exact_mod_cast (pow_pos _).le) (EReal.coe_ne_top _)]
    refine Finset.sum_congr rfl fun j _ => ?_
    rw [← mul_assoc, ← EReal.coe_sub, ← EReal.coe_sub, Ideal.exp2_coe, Ideal.exp2_coe, ← EReal.coe_mul]
    congr 2
    show (2 : ℝ) ^ (t - r) * (2 : ℝ) ^ (s j - t) = (2 : ℝ) ^ (s j - r)
    rw [← Real.rpow_add two_pos]
    congr 1; ring

/-- ONE STEP of the online softmax: from the maximum and the weighed sum of the first `n` keys, and a tile of the next
    `B` keys, the maximum and the weighed sum of the first `n + B`. -/
theorem step (s : ℕ → ℝ) (v : ℕ → EReal) (n B : ℕ) (hB : 0 < B) (m' : EReal)
    (hm : m' = max (top s n) (Finset.univ.sup fun k : Fin B => (s (n + k.val) : EReal))) :
    m' = top s (n + B) ∧
      Ideal.exp2 (top s n - m') * weighed s v (top s n) n
        + ∑ k : Fin B, Ideal.exp2 ((s (n + k.val) : EReal) - m') * v (n + k.val) = weighed s v (top s (n + B)) (n + B) := by
  have hm' : m' = top s (n + B) := hm.trans (top_add s n B).symm
  refine ⟨hm', ?_⟩
  obtain ⟨r, hr⟩ := top_real s (n := n + B) (by omega)
  rw [hm', hr, rescale]
  unfold weighed
  rw [Finset.sum_range_add, Finset.sum_range fun k => Ideal.exp2 ((s (n + k) : EReal) - r) * v (n + k)]

/-- The logarithm of two times a maximum of reals is the maximum of the products. -/
theorem top_scaled (s : ℕ → ℝ) {n : ℕ} {r : ℝ} (h : top s n = (r : EReal)) (hn : 0 < n) :
    top (fun j => s j * Real.log 2) n = ((r * Real.log 2 : ℝ) : EReal) := by
  have hl : (0 : ℝ) ≤ Real.log 2 := Real.log_nonneg one_le_two
  have le : ∀ j < n, s j ≤ r := fun j hj => by
    have := Finset.le_sup (f := fun j => (s j : EReal)) (Finset.mem_range.mpr hj)
    rw [← EReal.coe_le_coe_iff, ← h]; exact this
  refine le_antisymm (Finset.sup_le fun j hj => ?_) ?_
  · exact EReal.coe_le_coe_iff.mpr (mul_le_mul_of_nonneg_right (le j (Finset.mem_range.mp hj)) hl)
  · obtain ⟨j, hj, e⟩ := Finset.exists_mem_eq_sup (Finset.range n) ⟨0, Finset.mem_range.mpr hn⟩ fun j => (s j : EReal)
    have hr : r = s j := by rw [← EReal.coe_eq_coe_iff, ← h]; exact e
    rw [hr]
    exact Finset.le_sup (f := fun j => ((s j * Real.log 2 : ℝ) : EReal)) hj

/-- Two to the power of a difference is the exponential of the differences times the logarithm of two. -/
theorem exp_log (x r : ℝ) : Real.exp (x * Real.log 2 - r * Real.log 2) = Real.rpow 2 (x - r) := by
  show _ = (2 : ℝ) ^ (x - r)
  rw [Real.rpow_def_of_pos two_pos, ← sub_mul, mul_comm]

/-- THE QUOTIENT: the weighed sum of the values by the weighed sum of ones is the softmax average of the values, for
    the softmax of the logits times the logarithm of two, its maximum subtracted. -/
theorem quotient (s : ℕ → ℝ) (v : ℕ → EReal) (n : ℕ) (hn : 0 < n) :
    Ideal.div (weighed s v (top s n) n) (weighed s (fun _ => 1) (top s n) n)
      = ∑ j ∈ Finset.range n, v j *
          Ideal.div (Ideal.exp (((s j * Real.log 2 : ℝ) : EReal) - top (fun j => s j * Real.log 2) n))
            (∑ i ∈ Finset.range n, Ideal.exp (((s i * Real.log 2 : ℝ) : EReal) - top (fun j => s j * Real.log 2) n)) := by
  obtain ⟨r, hr⟩ := top_real s hn
  have e : ∀ j, Ideal.exp (((s j * Real.log 2 : ℝ) : EReal) - top (fun j => s j * Real.log 2) n)
      = ((Real.rpow 2 (s j - r) : ℝ) : EReal) := fun j => by
    rw [top_scaled s hr hn, ← EReal.coe_sub, Ideal.exp_coe, exp_log]
  have hl : ∑ i ∈ Finset.range n, ((Real.rpow 2 (s i - r) : ℝ) : EReal)
      = ((∑ i ∈ Finset.range n, Real.rpow 2 (s i - r) : ℝ) : EReal) :=
    (map_sum (⟨⟨fun x : ℝ => (x : EReal), EReal.coe_zero⟩, EReal.coe_add⟩ : ℝ →+ EReal) _ _).symm
  have hpos : 0 < ∑ i ∈ Finset.range n, Real.rpow 2 (s i - r) :=
    Finset.sum_pos (fun i _ => pow_pos _) ⟨0, Finset.mem_range.mpr hn⟩
  simp only [e]
  have hw : ∀ v : ℕ → EReal, weighed s v (top s n) n = ∑ j ∈ Finset.range n, ((Real.rpow 2 (s j - r) : ℝ) : EReal) * v j := fun v => by
    unfold weighed
    refine Finset.sum_congr rfl fun j _ => ?_
    rw [hr, ← EReal.coe_sub, Ideal.exp2_coe]
  rw [hw, hw]
  simp only [mul_one]
  rw [hl, Ideal.div_coe hpos.ne', mul_comm, mul_sum _ (by exact_mod_cast (one_div_pos.mpr hpos).le) (EReal.coe_ne_top _)]
  refine Finset.sum_congr rfl fun j _ => ?_
  rw [Ideal.div_coe hpos.ne', mul_comm, mul_assoc, mul_comm (v j), ← mul_assoc, mul_comm]
  try (rw [mul_comm])

end Cert.Proof.Online

end
-- ==== Proof.Attn.Row.lean ====
/- One row of the steps, at the extended reals: the row maximum and the weighed sums before step `n` are those of the
   online softmax after `512 n` keys, and the stored quotient is the softmax average over all the keys. -/
module

public import proofs.«01_k».proof.Proof.Attn.Steps
public import proofs.«01_k».proof.Proof.Attn.Online
public import Idealize.ShloMosaic.Lib.Pointwise

@[expose] public section

set_option maxRecDepth 16384

noncomputable section

namespace Cert.Proof.AttnRow

open Cert.AttnIdeal Cert.AttnIdeal.Gen Idealize.ShloMosaic Cert.Proof.AttnSteps

variable (q : Vec Ideal S512x256 .bf16) (K : ℕ → Vec Ideal S512x256 .bf16) (V : ℕ → Vec Ideal S512x128 .bf16)

/-- The f32 word of minus infinity. -/
theorem neg_inf : Ideal.ofBits .f32 0xFF800000#32 = ⊥ := by simp [Ideal.ofBits, Ideal.ieee]

/-- A maximum folded from minus infinity is the supremum. -/
theorem fold_sup {n : ℕ} (f : Fin n → EReal) :
    Finset.univ.fold max (Ideal.ofBits .f32 0xFF800000#32) f = Finset.univ.sup f := by rw [neg_inf]; rfl

/-- Before the first tile a row's maximum is minus infinity. -/
theorem max_zero (r : Fin 512) : maxes q K 0 (ix2 r 0) = (⊥ : EReal) := by
  pointwise [maxes, k0_pay2]
  exact neg_inf

/-- One tile further the maximum takes the tile's logits in. -/
theorem max_succ (n : ℕ) (r : Fin 512) : maxes q K (n + 1) (ix2 r 0)
    = max (maxes q K n (ix2 r 0)) (Finset.univ.sup fun k : Fin 512 => ∑ e : Fin 256, q (ix2 r e) * K n (ix2 k e)) := by
  show k0_pay10 q (maxes q K n) (K n) (ix2 r 0) = _
  pointwise [k0_pay10, k0_pay9]
  rw [fold_sup]

/-- A weight: two to the power of the logit above the new maximum. -/
theorem weights_at (n : ℕ) (r k : Fin 512) : weights q K n (ix2 r k)
    = Ideal.exp2 ((∑ e : Fin 256, q (ix2 r e) * K n (ix2 k e)) - maxes q K (n + 1) (ix2 r 0)) := by
  pointwise [weights, k0_pay9]
  rfl

/-- Before the first tile the sums are zero. -/
theorem sum_zero (r : Fin 512) (d : Fin 256) : sums q K V 0 (ix2 r d) = (0 : EReal) := by
  pointwise [sums]

/-- One tile further the old sums are rescaled to the new maximum and the tile's weighed values (or ones) added. -/
theorem sum_succ (n : ℕ) (r : Fin 512) (d : Fin 256) : sums q K V (n + 1) (ix2 r d)
    = Ideal.exp2 (maxes q K n (ix2 r 0) - maxes q K (n + 1) (ix2 r 0)) * sums q K V n (ix2 r d)
      + ∑ k : Fin 512, weights q K n (ix2 r k) * (if h : d.val < 128 then V n (ix2 k ⟨d.val, h⟩) else 1) := by
  rw [sums]
  pointwise
  rfl

/-- The row maximum after the context keys. -/
theorem ctxMax_at (kc : Vec Ideal S256x256 .bf16) (M : FVec Ideal S512x1 .f32) (r : Fin 512) : ctxMax q kc M (ix2 r 0)
    = max (M (ix2 r 0)) (Finset.univ.sup fun k : Fin 256 => ∑ e : Fin 256, q (ix2 r e) * kc (ix2 k e)) := by
  pointwise [ctxMax, ctxLogits]
  rw [fold_sup]

/-- The weighed sums after the context keys. -/
theorem ctxSum_at (kc : Vec Ideal S256x256 .bf16) (vc : Vec Ideal S256x128 .bf16) (M : FVec Ideal S512x1 .f32)
    (A : FVec Ideal S512x256 .f32) (r : Fin 512) (d : Fin 256) : ctxSum q kc vc M A (ix2 r d)
    = Ideal.exp2 (M (ix2 r 0) - ctxMax q kc M (ix2 r 0)) * A (ix2 r d)
      + ∑ k : Fin 256, Ideal.exp2 ((∑ e : Fin 256, q (ix2 r e) * kc (ix2 k e)) - ctxMax q kc M (ix2 r 0))
          * (if h : d.val < 128 then vc (ix2 k ⟨d.val, h⟩) else 1) := by
  pointwise [ctxSum, ctxLogits]
  rfl

/-- The stored quotient: column `d` of the values' sums by column `d` of the ones' sums. -/
theorem quotient_at (A : FVec Ideal S512x256 .f32) (r : Fin 512) (d : Fin 128) : quotient A (ix2 r d)
    = Ideal.div (A (ix2 r ⟨d.val, by omega⟩)) (A (ix2 r ⟨128 + d.val, by omega⟩)) := by
  pointwise [quotient]

variable {s : ℕ → ℝ} {r : Fin 512}

/-- The running maximum is the maximum of the logits seen so far. -/
theorem maxes_eq (hs : ∀ n < 16, ∀ k : Fin 512, ∑ e : Fin 256, q (ix2 r e) * K n (ix2 k e) = (s (512 * n + k.val) : EReal))
    (n : ℕ) (hn : n ≤ 16) : maxes q K n (ix2 r 0) = Online.top s (512 * n) := by
  induction n with
  | zero => rw [max_zero, Nat.mul_zero, Online.top_zero]
  | succ n ih =>
      rw [max_succ, ih (by omega), Nat.mul_succ, Online.top_add]
      simp only [hs n (by omega)]

/-- The running sums are the weighed sums over the keys seen so far. -/
theorem sums_eq (hs : ∀ n < 16, ∀ k : Fin 512, ∑ e : Fin 256, q (ix2 r e) * K n (ix2 k e) = (s (512 * n + k.val) : EReal))
    (w : ℕ → EReal) (d : Fin 256)
    (hw : ∀ n < 16, ∀ k : Fin 512, (if h : d.val < 128 then V n (ix2 k ⟨d.val, h⟩) else 1) = w (512 * n + k.val))
    (n : ℕ) (hn : n ≤ 16) : sums q K V n (ix2 r d) = Online.weighed s w (Online.top s (512 * n)) (512 * n) := by
  induction n with
  | zero => rw [sum_zero, Nat.mul_zero, Online.weighed_zero]
  | succ n ih =>
      have hm := maxes_eq q K hs (n + 1) hn
      have hstep := Online.step s w (512 * n) 512 (by omega) (Online.top s (512 * (n + 1)))
        (by rw [Nat.mul_succ, Online.top_add])
      rw [sum_succ, maxes_eq q K hs n (by omega), hm, ih (by omega)]
      simp only [weights_at, hm, hs n (by omega), hw n (by omega)]
      rw [hstep.2, Nat.mul_succ]

/-- **One entry of the stored block**: with real logits `s j` (the sixteen latent tiles' keys, then the 256 context
    keys) and values `v j`, it is the softmax average of the values over all 8448 keys, in base `e` of `s j * log 2`. -/
theorem entry (kc : Vec Ideal S256x256 .bf16) (vc : Vec Ideal S256x128 .bf16) (d : Fin 128) (v : ℕ → EReal)
    (hs : ∀ n < 16, ∀ k : Fin 512, ∑ e : Fin 256, q (ix2 r e) * K n (ix2 k e) = (s (512 * n + k.val) : EReal))
    (hc : ∀ k : Fin 256, ∑ e : Fin 256, q (ix2 r e) * kc (ix2 k e) = (s (8192 + k.val) : EReal))
    (hv : ∀ n < 16, ∀ k : Fin 512, V n (ix2 k d) = v (512 * n + k.val))
    (hvc : ∀ k : Fin 256, vc (ix2 k d) = v (8192 + k.val)) :
    quotient (ctxSum q kc vc (maxes q K 16) (sums q K V 16)) (ix2 r d)
      = ∑ j ∈ Finset.range 8448, v j * Ideal.div
          (Ideal.exp (((s j * Real.log 2 : ℝ) : EReal) - Online.top (fun j => s j * Real.log 2) 8448))
          (∑ i ∈ Finset.range 8448, Ideal.exp (((s i * Real.log 2 : ℝ) : EReal) - Online.top (fun j => s j * Real.log 2) 8448)) := by
  have hm : maxes q K 16 (ix2 r 0) = Online.top s 8192 := maxes_eq q K hs 16 le_rfl
  have hM : ctxMax q kc (maxes q K 16) (ix2 r 0) = Online.top s (8192 + 256) := by
    rw [ctxMax_at, hm, Online.top_add]; simp only [hc]
  have hsum : ∀ (D : Fin 256) (w : ℕ → EReal),
      (∀ n < 16, ∀ k : Fin 512, (if h : D.val < 128 then V n (ix2 k ⟨D.val, h⟩) else 1) = w (512 * n + k.val)) →
      (∀ k : Fin 256, (if h : D.val < 128 then vc (ix2 k ⟨D.val, h⟩) else 1) = w (8192 + k.val)) →
      ctxSum q kc vc (maxes q K 16) (sums q K V 16) (ix2 r D) = Online.weighed s w (Online.top s 8448) 8448 := by
    intro D w hw hwc
    have h16 : sums q K V 16 (ix2 r D) = Online.weighed s w (Online.top s 8192) 8192 := sums_eq q K V hs w D hw 16 le_rfl
    have hstep := Online.step s w 8192 256 (by omega) (Online.top s (8192 + 256)) (by rw [Online.top_add])
    rw [ctxSum_at, hM, hm, h16]
    simp only [hc, hwc]
    exact hstep.2
  rw [quotient_at, hsum ⟨d.val, by omega⟩ v (fun n hn k => by rw [dif_pos d.isLt]; exact hv n hn k)
      (fun k => by rw [dif_pos d.isLt]; exact hvc k),
    hsum ⟨128 + d.val, by omega⟩ (fun _ => 1) (fun n hn k => dif_neg (by simp)) (fun k => dif_neg (by simp))]
  exact Online.quotient s v 8448 (by omega)

end Cert.Proof.AttnRow

end
-- ==== Proof.Attn.Ref.lean ====
/- What the reference computes, at an index: with real logits, the softmax average of the values over the 8192 latent keys
   and then the 256 context keys of the query's batch and head. -/
module

public import proofs.«01_k».proof.Proof.Gen.AttnRefIdeal.Read
public import proofs.«01_k».proof.Proof.Attn.Row

@[expose] public section

set_option maxRecDepth 16384

noncomputable section

namespace Cert.Proof.AttnRef

open Cert.AttnRefIdeal Cert.AttnRefIdeal.Gen Cert.AttnRefIdeal.Read Idealize.ShloMosaic

/-- The row of the key array that holds key `j` of batch `b`: the latent keys first, then the context keys. -/
def keyRow (b : Fin 2) (j : Fin 8448) : Fin 16896 :=
  ⟨if j.val < 8192 then b.val * 8192 + j.val else 16384 + (b.val * 256 + (j.val - 8192)), by split_ifs <;> omega⟩

/-- The logit of key `j`, for query `t` of batch `b` and head `h`. -/
def logit (x0 x1 : FVec Ideal S16896x4096 .bf16) (b : Fin 2) (h : Fin 16) (t : Fin 8192) (j : Fin 8448) : EReal :=
  ∑ e : Fin 256, x0 (ix2 (⟨b.val * 8192 + t.val, by omega⟩ : Fin 16896) (⟨h.val * 256 + e.val, by omega⟩ : Fin 4096))
    * x1 (ix2 (keyRow b j) (⟨h.val * 256 + e.val, by omega⟩ : Fin 4096))

variable (x0 x1 : FVec Ideal S16896x4096 .bf16) (x2 : FVec Ideal S16896x2048 .bf16)

/-- The queries, by batch, position and head. -/
theorem query_at (b : Fin 2) (t : Fin 8192) (h : Fin 16) (e : Fin 256) : val_main_v2 (F := Ideal) x0 (ix4 b t h e)
    = x0 (ix2 (⟨b.val * 8192 + t.val, by omega⟩ : Fin 16896) (⟨h.val * 256 + e.val, by omega⟩ : Fin 4096)) := by
  pointwise [val_main_v2, val_main_v1, val_main_v0]

/-- The keys, latent then context, by batch, position and head. -/
theorem key_at (b : Fin 2) (j : Fin 8448) (h : Fin 16) (e : Fin 256) : val_main_v13 (F := Ideal) x1 (ix4 b j h e)
    = x1 (ix2 (keyRow b j) (⟨h.val * 256 + e.val, by omega⟩ : Fin 4096)) := by
  pointwise [val_main_v13, val_main_v8, val_main_v7, val_main_v6, val_main_v5, val_main_v3]
  unfold keyRow
  split_ifs with hj <;> rfl

/-- The values, latent then context, by batch, position and head. -/
theorem value_at (b : Fin 2) (j : Fin 8448) (h : Fin 16) (d : Fin 128) : val_main_v14 (F := Ideal) x2 (ix4 b j h d)
    = x2 (ix2 (keyRow b j) (⟨h.val * 128 + d.val, by omega⟩ : Fin 2048)) := by
  pointwise [val_main_v14, val_main_v12, val_main_v11, val_main_v10, val_main_v9, val_main_v4]
  unfold keyRow
  split_ifs with hj <;> rfl

/-- The f32 word of two. -/
theorem two_bits : Ideal.ofBits .f32 0x40000000#32 = ((2 : ℝ) : EReal) := by
  simp [Ideal.ofBits, Ideal.ieee, -EReal.coe_mul]; norm_num

/-- The logits in base `e`. -/
theorem scaled_at (b : Fin 2) (t : Fin 8192) (h : Fin 16) (j : Fin 8448) :
    val_main_v18 (F := Ideal) x0 x1 (ix4 b h t j) = logit x0 x1 b h t j * (Real.log 2 : ℝ) := by
  pointwise [val_main_v18, val_main_v17, val_main_v16, val_main_v15, val_main_cst]
  simp only [query_at, key_at, two_bits, Ideal.log_coe, logit]
  norm_num

/-- The largest of a row of logits. -/
theorem fold_row (y : FVec Ideal S2x16x8192x8448 .f32) (b : Fin 2) (t : Fin 8192) (h : Fin 16) :
    Host.reduce FloatOps.maximumf y (val_main_cst_0 (F := Ideal)) reducesTo_S2x16x8192x8448_S2x16x8192_d3 h_S_ (ix3 b h t)
      = Finset.univ.sup fun j : Fin 8448 => y (ix4 b h t j) := by
  rw [← AttnRow.fold_sup]
  pointwise [val_main_cst_0]

variable {s : ℕ → ℝ} {b : Fin 2} {h : Fin 16} {t : Fin 8192}

/-- With real logits, the row's maximum. -/
theorem max_at (hs : ∀ j : Fin 8448, logit x0 x1 b h t j = (s j.val : EReal)) :
    val_main_v21 (F := Ideal) x0 x1 (ix3 b h t) = Online.top (fun j => s j * Real.log 2) 8448 := by
  have htop := Online.top_add (fun j => s j * Real.log 2) 0 8448
  rw [Online.top_zero] at htop
  simp only [Nat.zero_add] at htop
  rw [htop]
  have hr : val_main_v19 (F := Ideal) x0 x1 (ix3 b h t)
      = Finset.univ.sup fun j : Fin 8448 => ((s j.val * Real.log 2 : ℝ) : EReal) := by
    unfold val_main_v19
    rw [fold_row]
    simp only [scaled_at, hs, EReal.coe_mul]
  rw [val_main_v21_apply, val_main_v20_apply, val_main_cst_1_apply, hr]
  generalize (Finset.univ.sup fun j : Fin 8448 => ((s j.val * Real.log 2 : ℝ) : EReal)) = y
  show max (Ideal.ofBits .f32 0xFF800000#32) y = max ⊥ y
  rw [AttnRow.neg_inf]

/-- With real logits, the row's exponentials. -/
theorem exp_at (hs : ∀ j : Fin 8448, logit x0 x1 b h t j = (s j.val : EReal)) (j : Fin 8448) :
    val_main_v25 (F := Ideal) x0 x1 (ix4 b h t j)
      = Ideal.exp (((s j.val * Real.log 2 : ℝ) : EReal) - Online.top (fun j => s j * Real.log 2) 8448) := by
  pointwise [val_main_v25, val_main_v24, val_main_v23, val_main_v22]
  rw [max_at x0 x1 hs, scaled_at, hs, EReal.coe_mul]

/-- With real logits, the row's sum of exponentials. -/
theorem total_at (hs : ∀ j : Fin 8448, logit x0 x1 b h t j = (s j.val : EReal)) :
    val_main_v26 (F := Ideal) x0 x1 (ix3 b h t) = ∑ i ∈ Finset.range 8448,
      Ideal.exp (((s i * Real.log 2 : ℝ) : EReal) - Online.top (fun j => s j * Real.log 2) 8448) := by
  rw [Finset.sum_range]
  pointwise [val_main_v26, val_main_cst_2]
  simp only [exp_at x0 x1 hs]

/-- **The reference's entry**: the softmax average of the values, with real logits. -/
theorem entry (hs : ∀ j : Fin 8448, logit x0 x1 b h t j = (s j.val : EReal)) (d : Fin 128) (v : ℕ → EReal)
    (hv : ∀ j : Fin 8448, x2 (ix2 (keyRow b j) (⟨h.val * 128 + d.val, by omega⟩ : Fin 2048)) = v j.val) :
    val_main_v33 (F := Ideal) x0 x1 x2 (ix2 (⟨b.val * 8192 + t.val, by omega⟩ : Fin 16384) (⟨h.val * 128 + d.val, by omega⟩ : Fin 2048))
      = ∑ j ∈ Finset.range 8448, v j * Ideal.div
          (Ideal.exp (((s j * Real.log 2 : ℝ) : EReal) - Online.top (fun j => s j * Real.log 2) 8448))
          (∑ i ∈ Finset.range 8448, Ideal.exp (((s i * Real.log 2 : ℝ) : EReal) - Online.top (fun j => s j * Real.log 2) 8448)) := by
  have hi : idx_main_v32 (ix2 (⟨b.val * 8192 + t.val, by omega⟩ : Fin 16384) (⟨h.val * 128 + d.val, by omega⟩ : Fin 2048))
      = ix4 b t h d := by
    funext a
    match a with
    | ⟨0, _⟩ => apply Fin.ext; show ((b.val * 8192 + t.val) * 2048 + (h.val * 128 + d.val)) / 16777216 = b.val; omega
    | ⟨1, _⟩ => apply Fin.ext; show ((b.val * 8192 + t.val) * 2048 + (h.val * 128 + d.val)) / 2048 % 8192 = t.val; omega
    | ⟨2, _⟩ => apply Fin.ext; show ((b.val * 8192 + t.val) * 2048 + (h.val * 128 + d.val)) / 128 % 16 = h.val; omega
    | ⟨3, _⟩ => apply Fin.ext; show ((b.val * 8192 + t.val) * 2048 + (h.val * 128 + d.val)) % 128 = d.val; omega
  rw [val_main_v33_apply, val_main_v32_apply, hi, Finset.sum_range]
  pointwise [val_main_v31, val_main_v30, val_main_v29, val_main_v28, val_main_v27]
  simp only [value_at, hv, exp_at x0 x1 hs, total_at x0 x1 hs]

end Cert.Proof.AttnRef

end
-- ==== Proof.Attn.Equation.lean ====
/- The attention's equation: with finite queries and keys, the array the kernel leaves is the reference's. -/
module

public import proofs.«01_k».proof.Proof.Attn.Blocks
public import proofs.«01_k».proof.Proof.Attn.Ref

@[expose] public section

set_option maxRecDepth 16384

noncomputable section

namespace Cert.Proof.AttnEquation

open Cert.AttnIdeal Cert.AttnIdeal.Gen Idealize.ShloMosaic Idealize.ShloMosaic.TcCoe Idealize.SL.Sem

/-- A logit of real queries and keys is real. -/
theorem logit_real (x0 x1 : FVec Ideal S16896x4096 .bf16) (h0 : ∀ i, ∃ r : ℝ, x0 i = (r : EReal)) (h1 : ∀ i, ∃ r : ℝ, x1 i = (r : EReal))
    (b : Fin 2) (h : Fin 16) (t : Fin 8192) (j : Fin 8448) : ∃ r : ℝ, AttnRef.logit x0 x1 b h t j = (r : EReal) := by
  choose f0 hf0 using h0
  choose f1 hf1 using h1
  refine ⟨∑ e : Fin 256, f0 (ix2 (⟨b.val * 8192 + t.val, by omega⟩ : Fin 16896) (⟨h.val * 256 + e.val, by omega⟩ : Fin 4096))
    * f1 (ix2 (AttnRef.keyRow b j) (⟨h.val * 256 + e.val, by omega⟩ : Fin 4096)), ?_⟩
  unfold AttnRef.logit
  simp only [hf0, hf1, ← EReal.coe_mul]
  exact (map_sum (⟨⟨Real.toEReal, EReal.coe_zero⟩, EReal.coe_add⟩ : ℝ →+ EReal) _ _).symm

variable (m : (ℓ : Loc nD τ sig) → Buf (Elt Ideal) ℓ) (c : Dev nD)

/-- **One entry of a point's block is the reference's entry.** -/
theorem entry (x0 x1 : FVec Ideal S16896x4096 .bf16) (x2 : FVec Ideal S16896x2048 .bf16)
    (e0 : m ((c : Thread nD τ).loc main_arg0) = x0) (e1 : m ((c : Thread nD τ).loc main_arg1) = x1)
    (e2 : m ((c : Thread nD τ).loc main_arg2) = x2)
    (h0 : ∀ i, ∃ r : ℝ, x0 i = (r : EReal)) (h1 : ∀ i, ∃ r : ℝ, x1 i = (r : EReal))
    (t : Fin cfg0.N) (r : Fin 512) (d : Fin 128) : (outsAt0 m c t : Vec Ideal S512x128 .bf16) (ix2 r d)
      = Cert.AttnRefIdeal.Read.val_main_v33 (F := Ideal) x0 x1 x2
          (ix2 ⟨(t.val / 256 * 16 + t.val % 16) * 512 + r.val, by have := AttnBlocks.points t; omega⟩
            ⟨t.val / 16 % 16 * 128 + d.val, by omega⟩) := by
  have ht := AttnBlocks.points t
  let b : Fin 2 := ⟨t.val / 256, by omega⟩
  let h : Fin 16 := ⟨t.val / 16 % 16, by omega⟩
  let p : Fin 8192 := ⟨t.val % 16 * 512 + r.val, by omega⟩
  choose g hg using fun j => logit_real x0 x1 h0 h1 b h p j
  let s : ℕ → ℝ := fun j => if hj : j < 8448 then g ⟨j, hj⟩ else 0
  let v : ℕ → EReal := fun j => if hj : j < 8448 then
    x2 (ix2 (AttnRef.keyRow b ⟨j, hj⟩) (⟨h.val * 128 + d.val, by omega⟩ : Fin 2048)) else 0
  have hs : ∀ j : Fin 8448, AttnRef.logit x0 x1 b h p j = (s j.val : EReal) := fun j => by
    rw [hg j, show s j.val = g j from dif_pos j.isLt]
  have hv : ∀ j : Fin 8448, x2 (ix2 (AttnRef.keyRow b j) (⟨h.val * 128 + d.val, by omega⟩ : Fin 2048)) = v j.val :=
    fun j => (dif_pos j.isLt : v j.val = _).symm
  have hrow : ∀ e : Fin 256, (iblk m c 0 t : Vec Ideal S512x256 .bf16) (ix2 r e)
      = x0 (ix2 (⟨b.val * 8192 + p.val, by omega⟩ : Fin 16896) (⟨h.val * 256 + e.val, by omega⟩ : Fin 4096)) := fun e => by
    rw [AttnBlocks.query_at, e0]
    congr 2
    apply Fin.ext
    show (t.val / 256 * 16 + t.val % 16) * 512 + r.val = t.val / 256 * 8192 + (t.val % 16 * 512 + r.val)
    omega
  -- the latent keys and values
  have hlat : ∀ n < 16, ∀ k : Fin 512, 512 * n + k.val < 8192 := fun n hn k => by omega
  have hkrow : ∀ (n : ℕ) (hn : n < 16) (k : Fin 512),
      (⟨t.val / 256 * 8192 + (512 * (n % 16) + k.val), by omega⟩ : Fin 16896) = AttnRef.keyRow b ⟨512 * n + k.val, by omega⟩ := fun n hn k => by
    apply Fin.ext
    show t.val / 256 * 8192 + (512 * (n % 16) + k.val) = if 512 * n + k.val < 8192 then t.val / 256 * 8192 + (512 * n + k.val) else _
    rw [if_pos (hlat n hn k), Nat.mod_eq_of_lt hn]
  have hcrow : ∀ k : Fin 256,
      (⟨(64 + t.val / 256) * 256 + k.val, by omega⟩ : Fin 16896) = AttnRef.keyRow b ⟨8192 + k.val, by omega⟩ := fun k => by
    apply Fin.ext
    show (64 + t.val / 256) * 256 + k.val = if 8192 + k.val < 8192 then _ else 16384 + (t.val / 256 * 256 + (8192 + k.val - 8192))
    rw [if_neg (by omega)]
    omega
  have hrhs := AttnRef.entry x0 x1 x2 hs d v hv
  have hlhs := AttnRow.entry (r := r) (s := s) (iblk m c 0 t) (AttnSteps.tileK (X0_1 m c t)) (AttnSteps.tileV (X0_2 m c t))
    (iblk m c 3 t) (iblk m c 4 t) d v
    (fun n hn k => by
      rw [← hs ⟨512 * n + k.val, by have := hlat n hn k; omega⟩]
      unfold AttnRef.logit
      refine Finset.sum_congr rfl fun e _ => ?_
      rw [hrow e, ← hkrow n hn k]
      exact congrArg _ ((AttnBlocks.key_at m c t _ e).trans (congrFun e1 _)))
    (fun k => by
      rw [← hs ⟨8192 + k.val, by omega⟩]
      unfold AttnRef.logit
      refine Finset.sum_congr rfl fun e _ => ?_
      rw [hrow e, ← hcrow k]
      exact congrArg _ ((AttnBlocks.ctxKey_at m c t _ e).trans (congrFun e1 _)))
    (fun n hn k => by
      rw [← hv ⟨512 * n + k.val, by have := hlat n hn k; omega⟩, ← hkrow n hn k]
      exact (AttnBlocks.value_at m c t _ d).trans (congrFun e2 _))
    (fun k => by
      rw [← hv ⟨8192 + k.val, by omega⟩, ← hcrow k]
      exact (AttnBlocks.ctxValue_at m c t _ d).trans (congrFun e2 _))
  have hout : (⟨b.val * 8192 + p.val, by omega⟩ : Fin 16384) = ⟨(t.val / 256 * 16 + t.val % 16) * 512 + r.val, by omega⟩ := by
    apply Fin.ext
    show t.val / 256 * 8192 + (t.val % 16 * 512 + r.val) = (t.val / 256 * 16 + t.val % 16) * 512 + r.val
    omega
  rw [hout] at hrhs
  exact (congrFun (AttnSteps.block_eq m c t) (ix2 r d)).trans (hlhs.trans hrhs.symm)

/-- **The attention's equation.** -/
theorem array (x0 x1 : FVec Ideal S16896x4096 .bf16) (x2 : FVec Ideal S16896x2048 .bf16)
    (e0 : m ((c : Thread nD τ).loc main_arg0) = x0) (e1 : m ((c : Thread nD τ).loc main_arg1) = x1)
    (e2 : m ((c : Thread nD τ).loc main_arg2) = x2)
    (h0 : ∀ i, ∃ r : ℝ, x0 i = (r : EReal)) (h1 : ∀ i, ∃ r : ℝ, x1 i = (r : EReal)) :
    (dats m 0 c).arrAt 5 cfg0.N = Cert.AttnRefIdeal.Read.val_main_v33 (F := Ideal) x0 x1 x2 :=
  AttnBlocks.array_of_blocks m c _ fun t r d => entry m c x0 x1 x2 e0 e1 e2 h0 h1 t r d

end Cert.Proof.AttnEquation

end
-- ==== Proof.Attn.Finite.lean ====
/- What the precondition says: every query and every key is a real number. -/
module

public import proofs.«01_k».proof.Proof.Gen.Pre_finite_logits
public import Idealize.ShloMosaic.Lib.ReduceAll
public import Idealize.ShloMosaic.Lib.Affine
public import Idealize.ShloMosaic.PureOps.Ideal.Laws

@[expose] public section

set_option maxRecDepth 16384

noncomputable section

namespace Cert.Proof.AttnFinite

open Cert.Pre_finite_logits Cert.Pre_finite_logits.Gen Idealize.ShloMosaic

/-- An extended real between the infinities is a real. -/
theorem real_of_between (x : EReal)
    (h : IntOp.andi (Ideal.cmp .olt x (Ideal.ofBits .f32 0x7F800000#32)) (Ideal.cmp .ogt x (Ideal.ofBits .f32 0xFF800000#32)) = 1#1) :
    ∃ r : ℝ, x = (r : EReal) := by
  have h1 : Ideal.ofBits .f32 0x7F800000#32 = ⊤ := by simp [Ideal.ofBits, Ideal.ieee]
  have h2 : Ideal.ofBits .f32 0xFF800000#32 = ⊥ := by simp [Ideal.ofBits, Ideal.ieee]
  rw [h1, h2] at h
  induction x with
  | bot => simp [Ideal.cmp, IntOp.andi] at h
  | top => simp [Ideal.cmp, IntOp.andi] at h
  | coe r => exact ⟨r, rfl⟩

/-- Where the precondition is one, the queries and the keys are real. -/
theorem real (x0 x1 : FVec Ideal S16896x4096 .bf16) (x2 : FVec Ideal S16896x2048 .bf16)
    (h : Cert.Pre_finite_logits.fn (F := Ideal) x0 x1 x2 = fun _ => 1#1) :
    (∀ i, ∃ r : ℝ, x0 i = (r : EReal)) ∧ ∀ i, ∃ r : ℝ, x1 i = (r : EReal) := by
  have hj := congrFun h (Shape.Idx.first h_S_)
  unfold Cert.Pre_finite_logits.fn at hj
  obtain ⟨ha, hb⟩ := IntOp.andi_eq_one.mp hj
  have : Subsingleton S_.Idx := ⟨fun a b => funext fun i => i.elim0⟩
  exact ⟨fun i => real_of_between _ (Host.reduce_andi_all _ _ _ _ _ ha i),
    fun i => real_of_between _ (Host.reduce_andi_all _ _ _ _ _ hb i)⟩

end Cert.Proof.AttnFinite

end
-- ==== Proof.Mlp.Steps.lean ====
/- What a grid point leaves behind: the modulated rows and the running sum in the two scratch buffers, and at the last
   hidden tile the result block. -/
module

public import proofs.«01_k».proof.Proof.Gen.MlpIdeal.Frame
public import Idealize.ShloMosaic.Lib.Pipeline.ValueKit
public import Idealize.ShloMosaic.Lib.Pipeline.ReadBack

@[expose] public section

set_option maxRecDepth 16384

noncomputable section

namespace Cert.Proof.MlpSteps

open Cert.MlpIdeal Cert.MlpIdeal.Gen Idealize.ShloMosaic Idealize.ShloMosaic.TcCoe Idealize.SL.Sem

variable (m : (ℓ : Loc nD τ sig) → Buf (Elt Ideal) ℓ) (c : Dev nD) (t : Fin cfg0.N)

/-- The first hidden tile of a row tile stores the modulated rows. -/
theorem rows_first (h : t.val % 8 = 0) : (outsAt0 m c t.val t.isLt).2.1
    = k0_pay1 (F := Ideal) (iblk m c 0 t) (iblk m c 1 t) (iblk m c 2 t) (iblk m c 3 t) := by
  rw [outsAt0_A m c t h (by omega)]
  frame_out

/-- The other hidden tiles keep them. -/
theorem rows_next (h : ¬t.val % 8 = 0) : (outsAt0 m c t.val t.isLt).2.1
    = (outsAt0 m c (t.val - 1) (Nat.lt_of_le_of_lt (Nat.sub_le _ _) t.isLt)).2.1 := by
  by_cases h1 : t.val % 8 = 7
  · rw [outsAt0_C m c t h h1]; rfl
  · rw [outsAt0_B m c t h h1]; rfl

/-- The first hidden tile begins the sum at zero. -/
theorem sum_first (h : t.val % 8 = 0) : (outsAt0 m c t.val t.isLt).2.2
    = k0_pay3 (F := Ideal) (outsAt0 m c t.val t.isLt).2.1 (iblk m c 5 t) (k0_pay2 (F := Ideal)) (iblk m c 6 t) := by
  rw [rows_first m c t h, outsAt0_A m c t h (by omega)]
  frame_out

/-- The other hidden tiles add to it. -/
theorem sum_next (h : ¬t.val % 8 = 0) : (outsAt0 m c t.val t.isLt).2.2
    = k0_pay3 (F := Ideal) (outsAt0 m c t.val t.isLt).2.1 (iblk m c 5 t)
        (outsAt0 m c (t.val - 1) (Nat.lt_of_le_of_lt (Nat.sub_le _ _) t.isLt)).2.2 (iblk m c 6 t) := by
  rw [rows_next m c t h]
  by_cases h1 : t.val % 8 = 7
  · rw [outsAt0_C m c t h h1]; frame_out; simp only [read_unread_whole]
  · rw [outsAt0_B m c t h h1]; frame_out; simp only [read_unread_whole]

/-- The last hidden tile stores the result block. -/
theorem result_last (h : t.val % 8 = 7) : (outsAt0 m c t.val t.isLt).1
    = k0_pay4 (F := Ideal) (iblk m c 0 t) (iblk m c 4 t) (outsAt0 m c t.val t.isLt).2.2 := by
  rw [sum_next m c t (by omega), rows_next m c t (by omega), outsAt0_C m c t (by omega) h]
  frame_out
  simp only [read_unread_whole]

end Cert.Proof.MlpSteps

end
-- ==== Proof.Mlp.Row.lean ====
/- One row of the MLP: the modulated row, a hidden unit, and the row's entry of the result. -/
module

public import proofs.«01_k».proof.Proof.Gen.MlpIdeal.Skeleton
public import Idealize.ShloMosaic.Lib.Pointwise

@[expose] public section

set_option maxRecDepth 16384

noncomputable section

namespace Cert.Proof.MlpRow

open Cert.MlpIdeal Cert.MlpIdeal.Gen Idealize.ShloMosaic

/-- Entry `e` of a row `x` divided by its root mean square, weighted by `g`, scaled by `1 + scale` and shifted. -/
def unit (x g shift scale : Fin 2048 → EReal) (e : Fin 2048) : EReal :=
  x e * Ideal.rsqrt (Ideal.div (∑ i : Fin 2048, x i * x i) (Ideal.ofBits .f32 0x45000000#32) + Ideal.ofBits .f32 0x358637BD#32) * g e
    * (Ideal.ofBits .f32 0x3F800000#32 + scale e) + shift e

/-- A hidden unit: the squared positive part of the row `u` times a column of the first weights. -/
def hidden (u w : Fin 2048 → EReal) : EReal := max (∑ e : Fin 2048, u e * w e) 0 * max (∑ e : Fin 2048, u e * w e) 0

/-- The modulated rows of a block. -/
theorem unit_at (x : Vec Ideal S512x2048 .f32) (g : Vec Ideal S1x2048 .f32) (sh sc : Vec Ideal S1x1x2048 .f32) (r : Fin 512) (e : Fin 2048) :
    k0_pay1 (F := Ideal) x g sh sc (ix2 r e) = unit (fun i => x (ix2 r i)) (fun i => g (ix2 (0 : Fin 1) i))
      (fun i => sh (ix3 (0 : Fin 1) (0 : Fin 1) i)) (fun i => sc (ix3 (0 : Fin 1) (0 : Fin 1) i)) e := by
  pointwise [k0_pay1, unit]

/-- The cleared sum. -/
theorem clear_at (r : Fin 512) (d : Fin 2048) : k0_pay2 (F := Ideal) (ix2 r d) = 0 := by
  pointwise [k0_pay2]

/-- A step adds the products of 1024 hidden units with the second weights. -/
theorem step_at (u : Vec Ideal S512x2048 .bf16) (w : Vec Ideal S2048x1024 .bf16) (a : Vec Ideal S512x2048 .f32) (v : Vec Ideal S1024x2048 .bf16)
    (r : Fin 512) (d : Fin 2048) : k0_pay3 (F := Ideal) u w a v (ix2 r d)
      = a (ix2 r d) + ∑ k : Fin 1024, hidden (fun e => u (ix2 r e)) (fun e => w (ix2 e k)) * v (ix2 k d) := by
  pointwise [k0_pay3, hidden]

/-- The result: the row plus the gated sum. -/
theorem gated_at (x : Vec Ideal S512x2048 .f32) (g : Vec Ideal S1x1x2048 .f32) (a : Vec Ideal S512x2048 .f32) (r : Fin 512) (d : Fin 2048) :
    k0_pay4 (F := Ideal) x g a (ix2 r d) = x (ix2 r d) + g (ix3 (0 : Fin 1) (0 : Fin 1) d) * a (ix2 r d) := by
  pointwise [k0_pay4]

end Cert.Proof.MlpRow

end
-- ==== Proof.Mlp.Blocks.lean ====
/- Where the blocks of a grid point lie in the arrays.  Point `t` is row tile `t / 8` and hidden tile `t % 8`. -/
module

public import proofs.«01_k».proof.Proof.Mlp.Steps
public import proofs.«01_k».proof.Proof.Mlp.Row

@[expose] public section

set_option maxRecDepth 16384

noncomputable section

namespace Cert.Proof.MlpBlocks

open Cert.MlpIdeal Cert.MlpIdeal.Gen Idealize.ShloMosaic Idealize.ShloMosaic.TcCoe Idealize.SL.Sem

variable (m : (ℓ : Loc nD τ sig) → Buf (Elt Ideal) ℓ) (c : Dev nD) (t : Fin cfg0.N)

/-- The block indices of the eight windows. -/
theorem idx : ∀ t : Fin cfg0.N,
    win0_0.index t = ![t.val / 8, 0] ∧ win0_1.index t = ![0, 0] ∧ win0_2.index t = ![min (t.val / 128) 2, 0, 3]
    ∧ win0_3.index t = ![min (t.val / 128) 2, 0, 4] ∧ win0_4.index t = ![min (t.val / 128) 2, 0, 5]
    ∧ win0_5.index t = ![0, t.val % 8] ∧ win0_6.index t = ![t.val % 8, 0] ∧ win0_7.index t = ![t.val / 8, 0] :=
  (by decide +kernel : ∀ t : Fin grid0.N, _)

theorem points (t : Fin cfg0.N) : t.val < 264 := Nat.lt_of_lt_of_eq t.isLt N_0

/-- The row of the array that is row `r` of a point's tile. -/
def row (n : ℕ) (hn : n < cfg0.N) (r : Fin 512) : Fin 16896 :=
  ⟨n / 8 * 512 + r.val, by have := points ⟨n, hn⟩; simp only at this; omega⟩

/-- The modulation that a row takes: its batch's, or the context's. -/
def batch (ρ : Fin 16896) : Fin 3 := ⟨min (ρ.val / 8192) 2, by omega⟩

/-- The input rows of a point. -/
theorem row_at (r : Fin 512) (e : Fin 2048) : (iblk m c 0 t : Vec Ideal S512x2048 .f32) (ix2 r e)
    = (m ((c : Thread nD τ).loc main_arg0) : Vec Ideal S16896x2048 .f32) (ix2 (row t.val t.isLt r) e) := by
  unfold row
  blk_point [iblk, V, idx t]

/-- The weight of the norm. -/
theorem weight_at (e : Fin 2048) : (iblk m c 1 t : Vec Ideal S1x2048 .f32) (ix2 (0 : Fin 1) e)
    = (m ((c : Thread nD τ).loc main_arg1) : Vec Ideal S2048 .f32) (ix1 e) := by
  blk_point [iblk, V, idx t]

/-- The shift of a point's rows. -/
theorem shift_at (r : Fin 512) (e : Fin 2048) : (iblk m c 2 t : Vec Ideal S1x1x2048 .f32) (ix3 (0 : Fin 1) (0 : Fin 1) e)
    = (m ((c : Thread nD τ).loc main_arg2) : Vec Ideal S3x1x12288 .f32)
        (ix3 (batch (row t.val t.isLt r)) (0 : Fin 1) ⟨6144 + e.val, by omega⟩) := by
  have h := points t
  have hb : batch (row t.val t.isLt r) = ⟨min (t.val / 128) 2, by omega⟩ := by
    apply Fin.ext; show min ((t.val / 8 * 512 + r.val) / 8192) 2 = min (t.val / 128) 2; omega
  rw [hb]
  blk_point [iblk, V, idx t]

/-- The scale of a point's rows. -/
theorem scale_at (r : Fin 512) (e : Fin 2048) : (iblk m c 3 t : Vec Ideal S1x1x2048 .f32) (ix3 (0 : Fin 1) (0 : Fin 1) e)
    = (m ((c : Thread nD τ).loc main_arg2) : Vec Ideal S3x1x12288 .f32)
        (ix3 (batch (row t.val t.isLt r)) (0 : Fin 1) ⟨8192 + e.val, by omega⟩) := by
  have h := points t
  have hb : batch (row t.val t.isLt r) = ⟨min (t.val / 128) 2, by omega⟩ := by
    apply Fin.ext; show min ((t.val / 8 * 512 + r.val) / 8192) 2 = min (t.val / 128) 2; omega
  rw [hb]
  blk_point [iblk, V, idx t]

/-- The gate of a point's rows. -/
theorem gate_at (r : Fin 512) (e : Fin 2048) : (iblk m c 4 t : Vec Ideal S1x1x2048 .f32) (ix3 (0 : Fin 1) (0 : Fin 1) e)
    = (m ((c : Thread nD τ).loc main_arg2) : Vec Ideal S3x1x12288 .f32)
        (ix3 (batch (row t.val t.isLt r)) (0 : Fin 1) ⟨10240 + e.val, by omega⟩) := by
  have h := points t
  have hb : batch (row t.val t.isLt r) = ⟨min (t.val / 128) 2, by omega⟩ := by
    apply Fin.ext; show min ((t.val / 8 * 512 + r.val) / 8192) 2 = min (t.val / 128) 2; omega
  rw [hb]
  blk_point [iblk, V, idx t]

/-- The first weights of a point's hidden tile. -/
theorem first_at (e : Fin 2048) (k : Fin 1024) : (iblk m c 5 t : Vec Ideal S2048x1024 .bf16) (ix2 e k)
    = (m ((c : Thread nD τ).loc main_arg3) : Vec Ideal S2048x8192 .f32) (ix2 e ⟨t.val % 8 * 1024 + k.val, by omega⟩) := by
  blk_point [iblk, V, idx t]

/-- The second weights of a point's hidden tile. -/
theorem second_at (k : Fin 1024) (d : Fin 2048) : (iblk m c 6 t : Vec Ideal S1024x2048 .bf16) (ix2 k d)
    = (m ((c : Thread nD τ).loc main_arg4) : Vec Ideal S8192x2048 .f32) (ix2 ⟨t.val % 8 * 1024 + k.val, by omega⟩ d) := by
  blk_point [iblk, V, idx t]

end Cert.Proof.MlpBlocks

end
-- ==== Proof.Mlp.Array.lean ====
/- The array the MLP's call leaves: in every row, the input plus the gated feed-forward of the modulated row. -/
module

public import proofs.«01_k».proof.Proof.Mlp.Blocks

@[expose] public section

set_option maxRecDepth 16384

noncomputable section

namespace Cert.Proof.MlpArray

open Cert.MlpIdeal Cert.MlpIdeal.Gen Idealize.ShloMosaic Idealize.ShloMosaic.TcCoe Idealize.SL.Sem Cert.Proof.MlpBlocks

section Spec

variable (X : Vec Ideal S16896x2048 .f32) (G : Vec Ideal S2048 .f32) (M : Vec Ideal S3x1x12288 .f32)
  (W1 : Vec Ideal S2048x8192 .f32) (W2 : Vec Ideal S8192x2048 .f32)

/-- Row `ρ` of the input, normalised and modulated. -/
def modulated (ρ : Fin 16896) : Fin 2048 → EReal :=
  MlpRow.unit (fun i => X (ix2 ρ i)) (fun i => G (ix1 i))
    (fun i => M (ix3 (batch ρ) (0 : Fin 1) (⟨6144 + i.val, by omega⟩ : Fin 12288)))
    (fun i => M (ix3 (batch ρ) (0 : Fin 1) (⟨8192 + i.val, by omega⟩ : Fin 12288)))

/-- Hidden unit `k` of row `ρ` times its weight in column `d`. -/
def part (ρ : Fin 16896) (d : Fin 2048) (k : Fin 8192) : EReal :=
  MlpRow.hidden (modulated X G M ρ) (fun e => W1 (ix2 e k)) * W2 (ix2 k d)

/-- Entry `(ρ, d)` of the result. -/
def result (ρ : Fin 16896) (d : Fin 2048) : EReal :=
  X (ix2 ρ d) + M (ix3 (batch ρ) (0 : Fin 1) (⟨10240 + d.val, by omega⟩ : Fin 12288)) * ∑ k : Fin 8192, part X G M W1 W2 ρ d k

end Spec

variable (m : (ℓ : Loc nD τ sig) → Buf (Elt Ideal) ℓ) (c : Dev nD)

/-- The arguments of the call, as the launch finds them. -/
abbrev arg0 : Vec Ideal S16896x2048 .f32 := m ((c : Thread nD τ).loc main_arg0)
abbrev arg1 : Vec Ideal S2048 .f32 := m ((c : Thread nD τ).loc main_arg1)
abbrev arg2 : Vec Ideal S3x1x12288 .f32 := m ((c : Thread nD τ).loc main_arg2)
abbrev arg3 : Vec Ideal S2048x8192 .f32 := m ((c : Thread nD τ).loc main_arg3)
abbrev arg4 : Vec Ideal S8192x2048 .f32 := m ((c : Thread nD τ).loc main_arg4)

/-- The first scratch holds the tile's modulated rows at every point. -/
theorem rows (n : ℕ) (hn : n < cfg0.N) (r : Fin 512) (e : Fin 2048) : (outsAt0 m c n hn).2.1 (ix2 r e)
    = modulated (arg0 m c) (arg1 m c) (arg2 m c) (row n hn r) e := by
  induction n with
  | zero =>
      rw [MlpSteps.rows_first m c ⟨0, hn⟩ rfl, MlpRow.unit_at]
      simp only [row_at, weight_at, shift_at m c _ r, scale_at m c _ r]
      rfl
  | succ n ih =>
      by_cases h : (n + 1) % 8 = 0
      · rw [MlpSteps.rows_first m c ⟨n + 1, hn⟩ h, MlpRow.unit_at]
        simp only [row_at, weight_at, shift_at m c _ r, scale_at m c _ r]
        rfl
      · rw [MlpSteps.rows_next m c ⟨n + 1, hn⟩ h]
        refine (ih (by omega)).trans ?_
        have hr : row n (by omega) r = row (n + 1) hn r := by
          apply Fin.ext; show n / 8 * 512 + r.val = (n + 1) / 8 * 512 + r.val; omega
        rw [hr]

/-- What one point adds to the running sum. -/
def added (t : Fin cfg0.N) (i : S512x2048.Idx) : EReal :=
  ∑ k : Fin 1024, part (arg0 m c) (arg1 m c) (arg2 m c) (arg3 m c) (arg4 m c) (row t.val t.isLt (i 0)) (i 1)
    (⟨t.val % 8 * 1024 + k.val, by omega⟩ : Fin 8192)

/-- A step's products, in terms of the arrays. -/
theorem step (t : Fin cfg0.N) (a : Vec Ideal S512x2048 .f32) (i : S512x2048.Idx) :
    k0_pay3 (F := Ideal) (outsAt0 m c t.val t.isLt).2.1 (iblk m c 5 t) a (iblk m c 6 t) i = a i + added m c t i := by
  obtain ⟨r, d, rfl⟩ : ∃ (r : Fin 512) (d : Fin 2048), i = ix2 r d := ⟨i 0, i 1, eq_ix2 i⟩
  rw [MlpRow.step_at]
  simp only [rows, first_at, second_at]
  rfl

/-- At a tile's last point the second scratch holds the sum over all hidden units. -/
theorem total (t : Fin cfg0.N) (ht : t.val % 8 = 7) (r : Fin 512) (d : Fin 2048) : (outsAt0 m c t.val t.isLt).2.2 (ix2 r d)
    = ∑ k : Fin 8192, part (arg0 m c) (arg1 m c) (arg2 m c) (arg3 m c) (arg4 m c) (row t.val t.isLt r) d k := by
  refine (Pipeline.eq_sum_fin_of_reset_step_apply_of_flush (M := EReal) (fun n h => (outsAt0 m c n h).2.2) 8 (fun _ => 0) (added m c)
    (fun t h i => ?_) (fun t h i => ?_) t ht (ix2 r d)).trans ?_
  · show (outsAt0 m c t.val t.isLt).2.2 i = _
    rw [MlpSteps.sum_first m c t h, step]
    obtain ⟨r, d, rfl⟩ : ∃ (r : Fin 512) (d : Fin 2048), i = ix2 r d := ⟨i 0, i 1, eq_ix2 i⟩
    rw [MlpRow.clear_at]
  · show (outsAt0 m c t.val t.isLt).2.2 i = _
    rw [MlpSteps.sum_next m c t h, step]
  · rw [zero_add]
    refine Fin.sum_mul_add_congr fun s k hl => ?_
    have hr : row (8 * (t.val / 8) + s.val) (Pipeline.run_point_lt_of_flush t ht s) r = row t.val t.isLt r := by
      apply Fin.ext; show (8 * (t.val / 8) + s.val) / 8 * 512 + r.val = t.val / 8 * 512 + r.val; omega
    have hk : (⟨(8 * (t.val / 8) + s.val) % 8 * 1024 + k.val, by omega⟩ : Fin 8192) = ⟨s.val * 1024 + k.val, hl⟩ := by
      apply Fin.ext; show (8 * (t.val / 8) + s.val) % 8 * 1024 + k.val = s.val * 1024 + k.val; omega
    show part _ _ _ _ _ (row (8 * (t.val / 8) + s.val) _ r) d ⟨(8 * (t.val / 8) + s.val) % 8 * 1024 + k.val, _⟩ = _
    rw [hr, hk]

/-- **The array the call leaves**: any array that holds `result` at every entry. -/
theorem array (R : Vec Ideal S16896x2048 .f32)
    (hR : ∀ (ρ : Fin 16896) (d : Fin 2048), R (ix2 ρ d) = result (arg0 m c) (arg1 m c) (arg2 m c) (arg3 m c) (arg4 m c) ρ d) :
    (dats m 0 c).arrAt 7 cfg0.N = R := by
  refine (dats m 0 c).arrAt_eq_of_covers 7 _ (by decide +kernel) fun t hf y => ?_
  have ht := (flush0_7 t).mp hf
  blk_simp
  rw [after0_7, MlpSteps.result_last m c t ht]
  obtain ⟨r, d, rfl⟩ : ∃ (r : Fin 512) (d : Fin 2048), y = ix2 r d := ⟨y 0, y 1, eq_ix2 (n0 := 512) (n1 := 2048) y⟩
  refine (MlpRow.gated_at _ _ _ r d).trans ?_
  rw [total m c t ht, row_at, gate_at m c t r]
  refine (hR (row t.val t.isLt r) d).symm.trans (congrArg R ?_)
  funext a
  apply Fin.ext
  match a with
  | ⟨0, _⟩ =>
      show t.val / 8 * 512 + r.val = win0_7.index t 0 * 512 + 1 * r.val
      rw [(idx t).2.2.2.2.2.2.2, Nat.one_mul]; rfl
  | ⟨1, _⟩ =>
      show d.val = win0_7.index t 1 * 2048 + 1 * d.val
      rw [(idx t).2.2.2.2.2.2.2, Nat.one_mul]; exact (Nat.zero_add _).symm

end Cert.Proof.MlpArray

end
-- ==== Proof.Mlp.Ref.lean ====
/- What the MLP's reference computes, at an index. -/
module

public import proofs.«01_k».proof.Proof.Gen.MlpRefIdeal.Read
public import proofs.«01_k».proof.Proof.Mlp.Array

@[expose] public section

set_option maxRecDepth 16384

noncomputable section

namespace Cert.Proof.MlpRef

open Cert.MlpRefIdeal Cert.MlpRefIdeal.Gen Cert.MlpRefIdeal.Read Idealize.ShloMosaic Cert.Proof.MlpBlocks Cert.Proof.MlpArray

variable (x0 : FVec Ideal S16896x2048 .f32) (x1 : FVec Ideal S2048 .f32) (x2 : FVec Ideal S3x1x12288 .f32)
  (x3 : FVec Ideal S2048x8192 .f32) (x4 : FVec Ideal S8192x2048 .f32)

/-- A latent row of a batch. -/
def latent (b : Fin 2) (t : Fin 8192) : Fin 16896 := ⟨b.val * 8192 + t.val, by omega⟩

/-- A context row of a batch. -/
def context (b : Fin 2) (t : Fin 256) : Fin 16896 := ⟨16384 + (b.val * 256 + t.val), by omega⟩

theorem batch_latent (b : Fin 2) (t : Fin 8192) : batch (latent b t) = ⟨b.val, by omega⟩ := by
  apply Fin.ext; show min ((b.val * 8192 + t.val) / 8192) 2 = b.val; omega

theorem batch_context (b : Fin 2) (t : Fin 256) : batch (context b t) = ⟨2, by omega⟩ := by
  apply Fin.ext; show min ((16384 + (b.val * 256 + t.val)) / 8192) 2 = 2; omega

/-- The latent rows, by batch and position. -/
theorem rowX_at (b : Fin 2) (t : Fin 8192) (e : Fin 2048) :
    val_main_v27 (F := Ideal) x0 (ix3 b t e) = x0 (ix2 (latent b t) e) := by
  unfold latent
  pointwise [val_main_v27, val_main_v26]

/-- The modulated latent rows. -/
theorem modX_at (b : Fin 2) (t : Fin 8192) (e : Fin 2048) :
    val_main_v51 (F := Ideal) x0 x1 x2 (ix3 b t e) = modulated x0 x1 x2 (latent b t) e := by
  unfold modulated MlpRow.unit
  rw [batch_latent]
  pointwise [val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v34, val_main_v33, val_main_v32, val_main_v31, val_main_cst, val_main_cst_0, val_main_cst_1, val_main_cst_2,
    val_main_v11, val_main_v10, val_main_v5, val_main_v4, val_main_v0]
  simp only [rowX_at]

/-- The latent rows' results. -/
theorem outX_at (b : Fin 2) (t : Fin 8192) (d : Fin 2048) :
    val_main_v58 (F := Ideal) x0 x1 x2 x3 x4 (ix3 b t d) = result x0 x1 x2 x3 x4 (latent b t) d := by
  unfold result part MlpRow.hidden
  rw [batch_latent]
  pointwise [val_main_v58, val_main_v57, val_main_v56, val_main_v55, val_main_v54, val_main_v53, val_main_call0_v0,
    val_main_call0_cst, val_main_v52, val_main_v30, val_main_v12, val_main_v6, val_main_v0]
  simp only [rowX_at, modX_at]

/-- The context rows, by batch and position. -/
theorem rowC_at (b : Fin 2) (t : Fin 256) (e : Fin 2048) :
    val_main_v29 (F := Ideal) x0 (ix3 b t e) = x0 (ix2 (context b t) e) := by
  unfold context
  pointwise [val_main_v29, val_main_v28]

/-- The modulated context rows. -/
theorem modC_at (b : Fin 2) (t : Fin 256) (e : Fin 2048) :
    val_main_v80 (F := Ideal) x0 x1 x2 (ix3 b t e) = modulated x0 x1 x2 (context b t) e := by
  unfold modulated MlpRow.unit
  rw [batch_context]
  pointwise [val_main_v80, val_main_v79, val_main_v78, val_main_v77, val_main_v76, val_main_v75, val_main_v74, val_main_v73,
    val_main_v72, val_main_v71, val_main_v70, val_main_v69, val_main_v68, val_main_v67, val_main_v66, val_main_v65, val_main_v64,
    val_main_v63, val_main_v62, val_main_v61, val_main_v60, val_main_cst_3, val_main_cst_4, val_main_cst_5, val_main_cst_6,
    val_main_v24, val_main_v23, val_main_v18, val_main_v17, val_main_v13]
  simp only [rowC_at]

/-- The context rows' results. -/
theorem outC_at (b : Fin 2) (t : Fin 256) (d : Fin 2048) :
    val_main_v87 (F := Ideal) x0 x1 x2 x3 x4 (ix3 b t d) = result x0 x1 x2 x3 x4 (context b t) d := by
  unfold result part MlpRow.hidden
  rw [batch_context]
  pointwise [val_main_v87, val_main_v86, val_main_v85, val_main_v84, val_main_v83, val_main_v82, val_main_call1_v0,
    val_main_call1_cst, val_main_v81, val_main_v59, val_main_v25, val_main_v19, val_main_v13]
  simp only [rowC_at, modC_at]

/-- **The reference's entry.** -/
theorem entry (ρ : Fin 16896) (d : Fin 2048) :
    val_main_v90 (F := Ideal) x0 x1 x2 x3 x4 (ix2 ρ d) = result x0 x1 x2 x3 x4 ρ d := by
  pointwise [val_main_v90, val_main_v89, val_main_v88]
  by_cases h : ρ.val < 16384
  · rw [dif_pos h, outX_at]
    have hρ : latent ⟨ρ.val / 8192, by omega⟩ ⟨ρ.val % 8192, by omega⟩ = ρ := by
      apply Fin.ext; show ρ.val / 8192 * 8192 + ρ.val % 8192 = ρ.val; omega
    rw [hρ]
  · rw [dif_neg h]
    refine (outC_at x0 x1 x2 x3 x4 _ _ _).trans ?_
    have hρ : context ⟨(ρ.val - 16384) / 256, by omega⟩ ⟨(ρ.val - 16384) % 256, by omega⟩ = ρ := by
      apply Fin.ext; show 16384 + ((ρ.val - 16384) / 256 * 256 + (ρ.val - 16384) % 256) = ρ.val; omega
    rw [hρ]

end Cert.Proof.MlpRef

end
-- ==== Proof.Mlp.Equation.lean ====
/- The MLP's equation: the array the kernel leaves is the reference's. -/
module

public import proofs.«01_k».proof.Proof.Mlp.Ref

@[expose] public section

set_option maxRecDepth 16384

noncomputable section

namespace Cert.Proof.MlpEquation

open Cert.MlpIdeal Cert.MlpIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16896x2048 .f32) (x1 : FVec Ideal S2048 .f32)
    (x2 : FVec Ideal S3x1x12288 .f32) (x3 : FVec Ideal S2048x8192 .f32) (x4 : FVec Ideal S8192x2048 .f32)
    (h0 : MlpArray.arg0 m c = x0) (h1 : MlpArray.arg1 m c = x1) (h2 : MlpArray.arg2 m c = x2) (h3 : MlpArray.arg3 m c = x3)
    (h4 : MlpArray.arg4 m c = x4) :
    (dats m 0 c).arrAt 7 cfg0.N = Cert.MlpRefIdeal.Read.val_main_v90 (F := Ideal) x0 x1 x2 x3 x4 := by
  subst h0 h1 h2 h3 h4
  exact MlpArray.array m c _ fun ρ d => MlpRef.entry _ _ _ _ _ ρ d

end Cert.Proof.MlpEquation

end
-- ==== Proof.Streams.Rows.lean ====
/- What the calls beside the attention and the MLP share: the rows of the two streams, normed and modulated, and a scratch
   that a tile's first point fills and its other points keep. -/
module

public import proofs.«01_k».proof.Proof.Mlp.Ref

@[expose] public section

noncomputable section

namespace Cert.Proof.Streams

open Cert.Proof.MlpBlocks Cert.Proof.MlpRef

/-- Entry `e` of row `ρ`, normed, scaled and shifted by the first two chunks of its stream's modulation. -/
def normed (X : Fin 16896 → Fin 2048 → EReal) (G : Fin 2048 → EReal) (M : Fin 3 → Fin 12288 → EReal) (ρ : Fin 16896) : Fin 2048 → EReal :=
  MlpRow.unit (X ρ) G (fun i => M (batch ρ) ⟨i.val, by omega⟩) (fun i => M (batch ρ) ⟨2048 + i.val, by omega⟩)

/-- Row `ρ`, normed and modulated, times a column of weights. -/
def projected (X : Fin 16896 → Fin 2048 → EReal) (G : Fin 2048 → EReal) (M : Fin 3 → Fin 12288 → EReal) (w : Fin 2048 → EReal)
    (ρ : Fin 16896) : EReal := ∑ e : Fin 2048, normed X G M ρ e * w e

/-- Contents that the first of every `J` points sets to `g`, and the others keep, are `g` everywhere, if `g` does not change
    within the `J` points. -/
theorem carried {α : Type} {N J : ℕ} (f g : (n : ℕ) → n < N → α)
    (first : ∀ (n : ℕ) (hn : n < N), n % J = 0 → f n hn = g n hn)
    (next : ∀ (n : ℕ) (hn : n + 1 < N), ¬(n + 1) % J = 0 → f (n + 1) hn = f n (Nat.lt_of_succ_lt hn))
    (same : ∀ (n : ℕ) (hn : n + 1 < N), ¬(n + 1) % J = 0 → g n (Nat.lt_of_succ_lt hn) = g (n + 1) hn) :
    ∀ (n : ℕ) (hn : n < N), f n hn = g n hn := by
  intro n
  induction n with
  | zero => exact fun hn => first 0 hn (Nat.zero_mod J)
  | succ n ih =>
      intro hn
      by_cases h : (n + 1) % J = 0
      · exact first (n + 1) hn h
      · rw [next n hn h, ih, same n hn h]

/-- A latent row, from its number. -/
theorem latent_of (ρ : Fin 16896) (h : ρ.val < 16384) :
    latent ⟨ρ.val / 8192, by omega⟩ ⟨ρ.val % 8192, by omega⟩ = ρ := by
  apply Fin.ext; show ρ.val / 8192 * 8192 + ρ.val % 8192 = ρ.val; omega

/-- A context row, from its number. -/
theorem context_of (ρ : Fin 16896) (h : ¬ρ.val < 16384) :
    context ⟨(ρ.val - 16384) / 256, by omega⟩ ⟨(ρ.val - 16384) % 256, by omega⟩ = ρ := by
  apply Fin.ext; show 16384 + ((ρ.val - 16384) / 256 * 256 + (ρ.val - 16384) % 256) = ρ.val; omega

end Cert.Proof.Streams

end
-- ==== Proof.GdnIn.Kernel.lean ====
/- The input projection of the gated delta net: what its call leaves.  Point `t` is row tile `t / 6` and column tile `t % 6`;
   the first column tile fills the scratch with the tile's normed and modulated rows, the others keep it. -/
module

public import proofs.«01_k».proof.Proof.Gen.GdnInIdeal.Frame
public import Idealize.ShloMosaic.Lib.Pipeline.ValueKit
public import Idealize.ShloMosaic.Lib.Pipeline.ReadBack
public import proofs.«01_k».proof.Proof.Streams.Rows

@[expose] public section

set_option maxRecDepth 16384

noncomputable section

namespace Cert.Proof.GdnInKernel

open Cert.GdnInIdeal Cert.GdnInIdeal.Gen Idealize.ShloMosaic Idealize.ShloMosaic.TcCoe Idealize.SL.Sem
open Cert.Proof.MlpBlocks (batch)

/-- The modulated rows of a block. -/
theorem unit_at (x : Vec Ideal S512x2048 .f32) (g : Vec Ideal S1x2048 .f32) (sh sc : Vec Ideal S1x1x2048 .f32) (r : Fin 512) (e : Fin 2048) :
    k0_pay1 (F := Ideal) x g sh sc (ix2 r e) = MlpRow.unit (fun i => x (ix2 r i)) (fun i => g (ix2 (0 : Fin 1) i))
      (fun i => sh (ix3 (0 : Fin 1) (0 : Fin 1) i)) (fun i => sc (ix3 (0 : Fin 1) (0 : Fin 1) i)) e := by
  pointwise [k0_pay1, MlpRow.unit]

/-- A block of the product. -/
theorem product_at (u : Vec Ideal S512x2048 .bf16) (w : Vec Ideal S2048x2048 .bf16) (r : Fin 512) (d : Fin 2048) :
    k0_pay2 (F := Ideal) u w (ix2 r d) = ∑ e : Fin 2048, u (ix2 r e) * w (ix2 e d) := by
  pointwise [k0_pay2]

variable (m : (ℓ : Loc nD τ sig) → Buf (Elt Ideal) ℓ) (c : Dev nD) (t : Fin cfg0.N)

/-- The first column tile of a row tile stores the modulated rows. -/
theorem rows_first (h : t.val % 6 = 0) : (outsAt0 m c t.val t.isLt).2
    = k0_pay1 (F := Ideal) (iblk m c 0 t) (iblk m c 1 t) (iblk m c 2 t) (iblk m c 3 t) := by
  rw [outsAt0_A m c t h]
  frame_out

/-- The other column tiles keep them. -/
theorem rows_next (h : ¬t.val % 6 = 0) : (outsAt0 m c t.val t.isLt).2
    = (outsAt0 m c (t.val - 1) (Nat.lt_of_le_of_lt (Nat.sub_le _ _) t.isLt)).2 := by
  rw [outsAt0_B m c t h]; rfl

/-- Every point stores its block of the product. -/
theorem block : (outsAt0 m c t.val t.isLt).1 = k0_pay2 (F := Ideal) (outsAt0 m c t.val t.isLt).2 (iblk m c 4 t) := by
  by_cases h : t.val % 6 = 0
  · rw [rows_first m c t h, outsAt0_A m c t h]
    frame_out
  · rw [rows_next m c t h, outsAt0_B m c t h]
    frame_out
    simp only [read_unread_whole]

/-- The block indices of the six windows. -/
theorem idx : ∀ t : Fin cfg0.N,
    win0_0.index t = ![t.val / 6, 0] ∧ win0_1.index t = ![0, 0] ∧ win0_2.index t = ![min (t.val / 96) 2, 0, 0]
    ∧ win0_3.index t = ![min (t.val / 96) 2, 0, 1] ∧ win0_4.index t = ![0, t.val % 6] ∧ win0_5.index t = ![t.val / 6, t.val % 6] :=
  (by decide +kernel : ∀ t : Fin grid0.N, _)

theorem points (t : Fin cfg0.N) : t.val < 198 := Nat.lt_of_lt_of_eq t.isLt N_0

/-- The row of the array that is row `r` of a point's tile. -/
def row (n : ℕ) (hn : n < cfg0.N) (r : Fin 512) : Fin 16896 :=
  ⟨n / 6 * 512 + r.val, by have := points ⟨n, hn⟩; simp only at this; omega⟩

/-- The column of the array that is column `d` of a point's tile. -/
def col (d : Fin 2048) : Fin 12288 := ⟨t.val % 6 * 2048 + d.val, by omega⟩

theorem batch_row (r : Fin 512) : batch (row t.val t.isLt r) = ⟨min (t.val / 96) 2, by omega⟩ := by
  have h := points t
  apply Fin.ext; show min ((t.val / 6 * 512 + r.val) / 8192) 2 = min (t.val / 96) 2; omega

/-- The arguments of the call by their indices, as the launch finds them. -/
abbrev X (ρ : Fin 16896) (e : Fin 2048) : EReal := (m ((c : Thread nD τ).loc main_arg0) : Vec Ideal S16896x2048 .f32) (ix2 ρ e)
abbrev G (e : Fin 2048) : EReal := (m ((c : Thread nD τ).loc main_arg1) : Vec Ideal S2048 .f32) (ix1 e)
abbrev M (b : Fin 3) (i : Fin 12288) : EReal := (m ((c : Thread nD τ).loc main_arg2) : Vec Ideal S3x1x12288 .f32) (ix3 b (0 : Fin 1) i)
abbrev W (e : Fin 2048) (d : Fin 12416) : EReal := (m ((c : Thread nD τ).loc main_arg3) : Vec Ideal S2048x12416 .f32) (ix2 e d)

/-- The input rows of a point. -/
theorem row_at (r : Fin 512) (e : Fin 2048) :
    (iblk m c 0 t : Vec Ideal S512x2048 .f32) (ix2 r e) = X m c (row t.val t.isLt r) e := by
  unfold row
  blk_point [iblk, V, idx t]

/-- The weight of the norm. -/
theorem weight_at (e : Fin 2048) : (iblk m c 1 t : Vec Ideal S1x2048 .f32) (ix2 (0 : Fin 1) e) = G m c e := by
  blk_point [iblk, V, idx t]

/-- The shift of a point's rows. -/
theorem shift_at (r : Fin 512) (e : Fin 2048) : (iblk m c 2 t : Vec Ideal S1x1x2048 .f32) (ix3 (0 : Fin 1) (0 : Fin 1) e)
    = M m c (batch (row t.val t.isLt r)) ⟨e.val, by omega⟩ := by
  rw [batch_row]
  blk_point [iblk, V, idx t]

/-- The scale of a point's rows. -/
theorem scale_at (r : Fin 512) (e : Fin 2048) : (iblk m c 3 t : Vec Ideal S1x1x2048 .f32) (ix3 (0 : Fin 1) (0 : Fin 1) e)
    = M m c (batch (row t.val t.isLt r)) ⟨2048 + e.val, by omega⟩ := by
  rw [batch_row]
  blk_point [iblk, V, idx t]

/-- The weights of a point's column tile. -/
theorem column_at (e : Fin 2048) (d : Fin 2048) : (iblk m c 4 t : Vec Ideal S2048x2048 .bf16) (ix2 e d)
    = W m c e ⟨t.val % 6 * 2048 + d.val, by omega⟩ := by
  blk_point [iblk, V, idx t]

/-- The scratch holds the tile's modulated rows at every point. -/
theorem rows (n : ℕ) (hn : n < cfg0.N) (r : Fin 512) (e : Fin 2048) : (outsAt0 m c n hn).2 (ix2 r e)
    = Streams.normed (X m c) (G m c) (M m c) (row n hn r) e := by
  refine Streams.carried (J := 6) (fun n hn => (outsAt0 m c n hn).2 (ix2 r e))
    (fun n hn => Streams.normed (X m c) (G m c) (M m c) (row n hn r) e) (fun n hn h => ?_) (fun n hn h => ?_) (fun n hn h => ?_) n hn
  · show (outsAt0 m c n hn).2 (ix2 r e) = _
    rw [rows_first m c ⟨n, hn⟩ h, unit_at]
    simp only [row_at, weight_at, shift_at m c _ r, scale_at m c _ r]
    rfl
  · exact congrFun (rows_next m c ⟨n + 1, hn⟩ h) (ix2 r e)
  · have hr : row n (Nat.lt_of_succ_lt hn) r = row (n + 1) hn r := by
      apply Fin.ext; show n / 6 * 512 + r.val = (n + 1) / 6 * 512 + r.val; omega
    simp only [hr]

/-- **The array the call leaves**: any array that holds the projected rows at every entry. -/
theorem array (R : Vec Ideal S16896x12288 .f32) (hR : ∀ (ρ : Fin 16896) (d : Fin 12288),
      R (ix2 ρ d) = Streams.projected (X m c) (G m c) (M m c) (fun e => W m c e ⟨d.val, by omega⟩) ρ) :
    (dats m 0 c).arrAt 5 cfg0.N = R := by
  refine (dats m 0 c).arrAt_eq_of_covers 5 _ (by decide +kernel) fun t hf y => ?_
  blk_simp
  rw [after0_5, block m c t]
  obtain ⟨r, d, rfl⟩ : ∃ (r : Fin 512) (d : Fin 2048), y = ix2 r d := ⟨y 0, y 1, eq_ix2 (n0 := 512) (n1 := 2048) y⟩
  refine (product_at _ _ r d).trans ?_
  simp only [rows, column_at]
  refine (hR (row t.val t.isLt r) (col t d)).symm.trans (congrArg R ?_)
  funext a
  apply Fin.ext
  match a with
  | ⟨0, _⟩ =>
      show t.val / 6 * 512 + r.val = win0_5.index t 0 * 512 + 1 * r.val
      rw [(idx t).2.2.2.2.2, Nat.one_mul]; rfl
  | ⟨1, _⟩ =>
      show t.val % 6 * 2048 + d.val = win0_5.index t 1 * 2048 + 1 * d.val
      rw [(idx t).2.2.2.2.2, Nat.one_mul]; rfl

end Cert.Proof.GdnInKernel

end
-- ==== Proof.GdnIn.Ref.lean ====
/- The input projection of the gated delta net: what its reference computes, at an index, and the equation. -/
module

public import proofs.«01_k».proof.Proof.Gen.GdnInRefIdeal.Read
public import proofs.«01_k».proof.Proof.GdnIn.Kernel

@[expose] public section

set_option maxRecDepth 16384

noncomputable section

namespace Cert.Proof.GdnInRef

open Cert.GdnInRefIdeal Cert.GdnInRefIdeal.Gen Cert.GdnInRefIdeal.Read Idealize.ShloMosaic Cert.Proof.MlpRef

variable (x0 : FVec Ideal S16896x2048 .f32) (x1 : FVec Ideal S2048 .f32) (x2 : FVec Ideal S3x1x12288 .f32)
  (x3 : FVec Ideal S2048x12416 .f32)

/-- The reference's normed and modulated rows, from its arguments. -/
abbrev normed (ρ : Fin 16896) : Fin 2048 → EReal :=
  Streams.normed (fun ρ e => x0 (ix2 ρ e)) (fun e => x1 (ix1 e)) (fun b i => x2 (ix3 b (0 : Fin 1) i)) ρ

/-- The latent rows, by batch and position. -/
theorem rowX_at (b : Fin 2) (t : Fin 8192) (e : Fin 2048) :
    val_main_v8 (F := Ideal) x0 (ix3 b t e) = x0 (ix2 (latent b t) e) := by
  unfold latent
  pointwise [val_main_v8, val_main_v7]

/-- The modulated latent rows. -/
theorem modX_at (b : Fin 2) (t : Fin 8192) (e : Fin 2048) :
    val_main_v31 (F := Ideal) x0 x1 x2 (ix3 b t e) = normed x0 x1 x2 (latent b t) e := by
  unfold normed Streams.normed MlpRow.unit
  rw [batch_latent]
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_v14, val_main_v13, val_main_v12, val_main_v11, val_main_v10, val_main_v9, val_main_cst, val_main_cst_0, val_main_cst_1,
    val_main_cst_2, val_main_v2, val_main_v1, val_main_v0]
  simp only [rowX_at]

/-- The context rows, by batch and position. -/
theorem rowC_at (b : Fin 2) (t : Fin 256) (e : Fin 2048) :
    val_main_v33 (F := Ideal) x0 (ix3 b t e) = x0 (ix2 (context b t) e) := by
  unfold context
  pointwise [val_main_v33, val_main_v32]

/-- The modulated context rows. -/
theorem modC_at (b : Fin 2) (t : Fin 256) (e : Fin 2048) :
    val_main_v56 (F := Ideal) x0 x1 x2 (ix3 b t e) = normed x0 x1 x2 (context b t) e := by
  unfold normed Streams.normed MlpRow.unit
  rw [batch_context]
  pointwise [val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v38, val_main_v37, val_main_v36, val_main_v35, val_main_v34, val_main_cst_3, val_main_cst_4,
    val_main_cst_5, val_main_cst_6, val_main_v2, val_main_v1, val_main_v0]
  simp only [rowC_at]

/-- The latent rows' projections. -/
theorem outX_at (b : Fin 2) (t : Fin 8192) (d : Fin 12288) : val_main_v58 (F := Ideal) x0 x1 x2 x3 (ix3 b t d)
    = ∑ e : Fin 2048, normed x0 x1 x2 (latent b t) e * x3 (ix2 e ⟨d.val, by omega⟩) := by
  pointwise [val_main_v58, val_main_v57]
  simp only [modX_at]

/-- The context rows' projections. -/
theorem outC_at (b : Fin 2) (t : Fin 256) (d : Fin 12288) : val_main_v60 (F := Ideal) x0 x1 x2 x3 (ix3 b t d)
    = ∑ e : Fin 2048, normed x0 x1 x2 (context b t) e * x3 (ix2 e ⟨d.val, by omega⟩) := by
  pointwise [val_main_v60, val_main_v59]
  simp only [modC_at]

/-- **The reference's entry.** -/
theorem entry (ρ : Fin 16896) (d : Fin 12288) : val_main_v63 (F := Ideal) x0 x1 x2 x3 (ix2 ρ d)
    = ∑ e : Fin 2048, normed x0 x1 x2 ρ e * x3 (ix2 e ⟨d.val, by omega⟩) := by
  pointwise [val_main_v63, val_main_v62, val_main_v61]
  by_cases h : ρ.val < 16384
  · rw [dif_pos h]
    refine (outX_at x0 x1 x2 x3 _ _ _).trans ?_
    rw [Streams.latent_of ρ h]
  · rw [dif_neg h]
    refine (outC_at x0 x1 x2 x3 _ _ _).trans ?_
    rw [Streams.context_of ρ h]

end Cert.Proof.GdnInRef

namespace Cert.Proof.GdnInEquation

open Cert.GdnInIdeal Cert.GdnInIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16896x2048 .f32) (x1 : FVec Ideal S2048 .f32)
    (x2 : FVec Ideal S3x1x12288 .f32) (x3 : FVec Ideal S2048x12416 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    (dats m 0 c).arrAt 5 cfg0.N = Cert.GdnInRefIdeal.Read.val_main_v63 (F := Ideal) x0 x1 x2 x3 := by
  subst h0 h1 h2 h3
  exact GdnInKernel.array m c _ fun ρ d => GdnInRef.entry _ _ _ _ ρ d

end Cert.Proof.GdnInEquation

end
-- ==== Proof.LstmIn.Kernel.lean ====
/- The input projection of the mLSTM: what its call leaves.  Point `t` is row tile `t / 3` and column tile `t % 3`;
   the first column tile fills the scratch with the tile's normed and modulated rows, the others keep it. -/
module

public import proofs.«01_k».proof.Proof.Gen.LstmInIdeal.Frame
public import Idealize.ShloMosaic.Lib.Pipeline.ValueKit
public import Idealize.ShloMosaic.Lib.Pipeline.ReadBack
public import proofs.«01_k».proof.Proof.GdnIn.Kernel

@[expose] public section

set_option maxRecDepth 16384

noncomputable section

namespace Cert.Proof.LstmInKernel

open Cert.LstmInIdeal Cert.LstmInIdeal.Gen Idealize.ShloMosaic Idealize.ShloMosaic.TcCoe Idealize.SL.Sem
open Cert.Proof.MlpBlocks (batch)

/-- The modulated rows of a block. -/
theorem unit_at (x : Vec Ideal S512x2048 .f32) (g : Vec Ideal S1x2048 .f32) (sh sc : Vec Ideal S1x1x2048 .f32) (r : Fin 512) (e : Fin 2048) :
    k0_pay1 (F := Ideal) x g sh sc (ix2 r e) = MlpRow.unit (fun i => x (ix2 r i)) (fun i => g (ix2 (0 : Fin 1) i))
      (fun i => sh (ix3 (0 : Fin 1) (0 : Fin 1) i)) (fun i => sc (ix3 (0 : Fin 1) (0 : Fin 1) i)) e :=
  GdnInKernel.unit_at x g sh sc r e

/-- A block of the product. -/
theorem product_at (u : Vec Ideal S512x2048 .bf16) (w : Vec Ideal S2048x2048 .bf16) (r : Fin 512) (d : Fin 2048) :
    k0_pay2 (F := Ideal) u w (ix2 r d) = ∑ e : Fin 2048, u (ix2 r e) * w (ix2 e d) :=
  GdnInKernel.product_at u w r d

variable (m : (ℓ : Loc nD τ sig) → Buf (Elt Ideal) ℓ) (c : Dev nD) (t : Fin cfg0.N)

/-- The first column tile of a row tile stores the modulated rows. -/
theorem rows_first (h : t.val % 3 = 0) : (outsAt0 m c t.val t.isLt).2
    = k0_pay1 (F := Ideal) (iblk m c 0 t) (iblk m c 1 t) (iblk m c 2 t) (iblk m c 3 t) := by
  rw [outsAt0_A m c t h]
  frame_out

/-- The other column tiles keep them. -/
theorem rows_next (h : ¬t.val % 3 = 0) : (outsAt0 m c t.val t.isLt).2
    = (outsAt0 m c (t.val - 1) (Nat.lt_of_le_of_lt (Nat.sub_le _ _) t.isLt)).2 := by
  rw [outsAt0_B m c t h]; rfl

/-- Every point stores its block of the product. -/
theorem block : (outsAt0 m c t.val t.isLt).1 = k0_pay2 (F := Ideal) (outsAt0 m c t.val t.isLt).2 (iblk m c 4 t) := by
  by_cases h : t.val % 3 = 0
  · rw [rows_first m c t h, outsAt0_A m c t h]
    frame_out
  · rw [rows_next m c t h, outsAt0_B m c t h]
    frame_out
    simp only [read_unread_whole]

/-- The block indices of the six windows. -/
theorem idx : ∀ t : Fin cfg0.N,
    win0_0.index t = ![t.val / 3, 0] ∧ win0_1.index t = ![0, 0] ∧ win0_2.index t = ![min (t.val / 48) 2, 0, 0]
    ∧ win0_3.index t = ![min (t.val / 48) 2, 0, 1] ∧ win0_4.index t = ![0, t.val % 3] ∧ win0_5.index t = ![t.val / 3, t.val % 3] :=
  (by decide +kernel : ∀ t : Fin grid0.N, _)

theorem points (t : Fin cfg0.N) : t.val < 99 := Nat.lt_of_lt_of_eq t.isLt N_0

/-- The row of the array that is row `r` of a point's tile. -/
def row (n : ℕ) (hn : n < cfg0.N) (r : Fin 512) : Fin 16896 :=
  ⟨n / 3 * 512 + r.val, by have := points ⟨n, hn⟩; simp only at this; omega⟩

/-- The column of the array that is column `d` of a point's tile. -/
def col (d : Fin 2048) : Fin 6144 := ⟨t.val % 3 * 2048 + d.val, by omega⟩

theorem batch_row (r : Fin 512) : batch (row t.val t.isLt r) = ⟨min (t.val / 48) 2, by omega⟩ := by
  have h := points t
  apply Fin.ext; show min ((t.val / 3 * 512 + r.val) / 8192) 2 = min (t.val / 48) 2; omega

/-- The arguments of the call by their indices, as the launch finds them. -/
abbrev X (ρ : Fin 16896) (e : Fin 2048) : EReal := (m ((c : Thread nD τ).loc main_arg0) : Vec Ideal S16896x2048 .f32) (ix2 ρ e)
abbrev G (e : Fin 2048) : EReal := (m ((c : Thread nD τ).loc main_arg1) : Vec Ideal S2048 .f32) (ix1 e)
abbrev M (b : Fin 3) (i : Fin 12288) : EReal := (m ((c : Thread nD τ).loc main_arg2) : Vec Ideal S3x1x12288 .f32) (ix3 b (0 : Fin 1) i)
abbrev W (e : Fin 2048) (d : Fin 6176) : EReal := (m ((c : Thread nD τ).loc main_arg3) : Vec Ideal S2048x6176 .f32) (ix2 e d)

/-- The input rows of a point. -/
theorem row_at (r : Fin 512) (e : Fin 2048) :
    (iblk m c 0 t : Vec Ideal S512x2048 .f32) (ix2 r e) = X m c (row t.val t.isLt r) e := by
  unfold row
  blk_point [iblk, V, idx t]

/-- The weight of the norm. -/
theorem weight_at (e : Fin 2048) : (iblk m c 1 t : Vec Ideal S1x2048 .f32) (ix2 (0 : Fin 1) e) = G m c e := by
  blk_point [iblk, V, idx t]

/-- The shift of a point's rows. -/
theorem shift_at (r : Fin 512) (e : Fin 2048) : (iblk m c 2 t : Vec Ideal S1x1x2048 .f32) (ix3 (0 : Fin 1) (0 : Fin 1) e)
    = M m c (batch (row t.val t.isLt r)) ⟨e.val, by omega⟩ := by
  rw [batch_row]
  blk_point [iblk, V, idx t]

/-- The scale of a point's rows. -/
theorem scale_at (r : Fin 512) (e : Fin 2048) : (iblk m c 3 t : Vec Ideal S1x1x2048 .f32) (ix3 (0 : Fin 1) (0 : Fin 1) e)
    = M m c (batch (row t.val t.isLt r)) ⟨2048 + e.val, by omega⟩ := by
  rw [batch_row]
  blk_point [iblk, V, idx t]

/-- The weights of a point's column tile. -/
theorem column_at (e : Fin 2048) (d : Fin 2048) : (iblk m c 4 t : Vec Ideal S2048x2048 .bf16) (ix2 e d)
    = W m c e ⟨t.val % 3 * 2048 + d.val, by omega⟩ := by
  blk_point [iblk, V, idx t]

/-- The scratch holds the tile's modulated rows at every point. -/
theorem rows (n : ℕ) (hn : n < cfg0.N) (r : Fin 512) (e : Fin 2048) : (outsAt0 m c n hn).2 (ix2 r e)
    = Streams.normed (X m c) (G m c) (M m c) (row n hn r) e := by
  refine Streams.carried (J := 3) (fun n hn => (outsAt0 m c n hn).2 (ix2 r e))
    (fun n hn => Streams.normed (X m c) (G m c) (M m c) (row n hn r) e) (fun n hn h => ?_) (fun n hn h => ?_) (fun n hn h => ?_) n hn
  · show (outsAt0 m c n hn).2 (ix2 r e) = _
    rw [rows_first m c ⟨n, hn⟩ h, unit_at]
    simp only [row_at, weight_at, shift_at m c _ r, scale_at m c _ r]
    rfl
  · exact congrFun (rows_next m c ⟨n + 1, hn⟩ h) (ix2 r e)
  · have hr : row n (Nat.lt_of_succ_lt hn) r = row (n + 1) hn r := by
      apply Fin.ext; show n / 3 * 512 + r.val = (n + 1) / 3 * 512 + r.val; omega
    simp only [hr]

/-- **The array the call leaves**: any array that holds the projected rows at every entry. -/
theorem array (R : Vec Ideal S16896x6144 .f32) (hR : ∀ (ρ : Fin 16896) (d : Fin 6144),
      R (ix2 ρ d) = Streams.projected (X m c) (G m c) (M m c) (fun e => W m c e ⟨d.val, by omega⟩) ρ) :
    (dats m 0 c).arrAt 5 cfg0.N = R := by
  refine (dats m 0 c).arrAt_eq_of_covers 5 _ (by decide +kernel) fun t hf y => ?_
  blk_simp
  rw [after0_5, block m c t]
  obtain ⟨r, d, rfl⟩ : ∃ (r : Fin 512) (d : Fin 2048), y = ix2 r d := ⟨y 0, y 1, eq_ix2 (n0 := 512) (n1 := 2048) y⟩
  refine (product_at _ _ r d).trans ?_
  simp only [rows, column_at]
  refine (hR (row t.val t.isLt r) (col t d)).symm.trans (congrArg R ?_)
  funext a
  apply Fin.ext
  match a with
  | ⟨0, _⟩ =>
      show t.val / 3 * 512 + r.val = win0_5.index t 0 * 512 + 1 * r.val
      rw [(idx t).2.2.2.2.2, Nat.one_mul]; rfl
  | ⟨1, _⟩ =>
      show t.val % 3 * 2048 + d.val = win0_5.index t 1 * 2048 + 1 * d.val
      rw [(idx t).2.2.2.2.2, Nat.one_mul]; rfl

end Cert.Proof.LstmInKernel

end
-- ==== Proof.LstmIn.Ref.lean ====
/- The input projection of the mLSTM: what its reference computes, at an index, and the equation. -/
module

public import proofs.«01_k».proof.Proof.Gen.LstmInRefIdeal.Read
public import proofs.«01_k».proof.Proof.GdnIn.Ref
public import proofs.«01_k».proof.Proof.LstmIn.Kernel

@[expose] public section

set_option maxRecDepth 16384

noncomputable section

namespace Cert.Proof.LstmInRef

open Cert.LstmInRefIdeal Cert.LstmInRefIdeal.Gen Cert.LstmInRefIdeal.Read Idealize.ShloMosaic Cert.Proof.MlpRef
open Cert.Proof.GdnInRef (normed)

variable (x0 : FVec Ideal S16896x2048 .f32) (x1 : FVec Ideal S2048 .f32) (x2 : FVec Ideal S3x1x12288 .f32)
  (x3 : FVec Ideal S2048x6176 .f32)

/-- The modulated latent rows: the first steps are those of the other projection. -/
theorem modX_at (b : Fin 2) (t : Fin 8192) (e : Fin 2048) :
    val_main_v31 (F := Ideal) x0 x1 x2 (ix3 b t e) = normed x0 x1 x2 (latent b t) e :=
  GdnInRef.modX_at x0 x1 x2 b t e

/-- The modulated context rows. -/
theorem modC_at (b : Fin 2) (t : Fin 256) (e : Fin 2048) :
    val_main_v56 (F := Ideal) x0 x1 x2 (ix3 b t e) = normed x0 x1 x2 (context b t) e :=
  GdnInRef.modC_at x0 x1 x2 b t e

/-- The latent rows' projections. -/
theorem outX_at (b : Fin 2) (t : Fin 8192) (d : Fin 6144) : val_main_v58 (F := Ideal) x0 x1 x2 x3 (ix3 b t d)
    = ∑ e : Fin 2048, normed x0 x1 x2 (latent b t) e * x3 (ix2 e ⟨d.val, by omega⟩) := by
  pointwise [val_main_v58, val_main_v57]
  simp only [modX_at]

/-- The context rows' projections. -/
theorem outC_at (b : Fin 2) (t : Fin 256) (d : Fin 6144) : val_main_v60 (F := Ideal) x0 x1 x2 x3 (ix3 b t d)
    = ∑ e : Fin 2048, normed x0 x1 x2 (context b t) e * x3 (ix2 e ⟨d.val, by omega⟩) := by
  pointwise [val_main_v60, val_main_v59]
  simp only [modC_at]

/-- **The reference's entry.** -/
theorem entry (ρ : Fin 16896) (d : Fin 6144) : val_main_v63 (F := Ideal) x0 x1 x2 x3 (ix2 ρ d)
    = ∑ e : Fin 2048, normed x0 x1 x2 ρ e * x3 (ix2 e ⟨d.val, by omega⟩) := by
  pointwise [val_main_v63, val_main_v62, val_main_v61]
  by_cases h : ρ.val < 16384
  · rw [dif_pos h]
    refine (outX_at x0 x1 x2 x3 _ _ _).trans ?_
    rw [Streams.latent_of ρ h]
  · rw [dif_neg h]
    refine (outC_at x0 x1 x2 x3 _ _ _).trans ?_
    rw [Streams.context_of ρ h]

end Cert.Proof.LstmInRef

namespace Cert.Proof.LstmInEquation

open Cert.LstmInIdeal Cert.LstmInIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16896x2048 .f32) (x1 : FVec Ideal S2048 .f32)
    (x2 : FVec Ideal S3x1x12288 .f32) (x3 : FVec Ideal S2048x6176 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    (dats m 0 c).arrAt 5 cfg0.N = Cert.LstmInRefIdeal.Read.val_main_v63 (F := Ideal) x0 x1 x2 x3 := by
  subst h0 h1 h2 h3
  exact LstmInKernel.array m c _ fun ρ d => LstmInRef.entry _ _ _ _ ρ d

end Cert.Proof.LstmInEquation

end
-- ==== Proof.GdnOut.Row.lean ====
/- One row of the gated delta net's output: the normed and gated heads, and their products with the weights. -/
module

public import proofs.«01_k».proof.Proof.Gen.GdnOutIdeal.Skeleton
public import Idealize.ShloMosaic.Lib.Pointwise

@[expose] public section

set_option maxRecDepth 16384

noncomputable section

namespace Cert.Proof.GdnOutRow

open Cert.GdnOutIdeal Cert.GdnOutIdeal.Gen Idealize.ShloMosaic

/-- A head's entry `o`, divided by the root mean square of the head's entries `os`, weighted by `g`, times silu of `z`. -/
def gated (os : Fin 128 → EReal) (o g z : EReal) : EReal :=
  o * Ideal.rsqrt (Ideal.div (∑ i : Fin 128, os i * os i) (Ideal.ofBits .f32 0x43000000#32) + Ideal.ofBits .f32 0x358637BD#32) * g
    * (z * Ideal.div (Ideal.ofBits .f32 0x3F800000#32) (Ideal.ofBits .f32 0x3F800000#32 + Ideal.exp (0 - z)))

variable (f b z : Vec Ideal S512x1024 .f32) (g : Vec Ideal S1x128 .f32)

/-- What a step stores into the running sum. -/
def step (a : Vec Ideal S512x2048 .f32) (w : Vec Ideal S1024x2048 .bf16) : FVec Ideal S512x2048 .f32 :=
  k0_pay1 (F := Ideal) (k0_pay5 g) (k0_pay6 f b z g) (k0_pay11 (k0_pay5 g) (k0_pay7 f b) (k0_pay8 z) (k0_pay9 f b) k0_pay10)
    (k0_pay12 (k0_pay4 f b) z (k0_pay5 g))
    (k0_pay17 (k0_pay5 g) (k0_pay13 (k0_pay4 f b)) (k0_pay14 z) (k0_pay15 (k0_pay4 f b)) k0_pay16)
    (k0_pay18 (k0_pay4 f b) z (k0_pay5 g))
    (k0_pay23 (k0_pay5 g) (k0_pay19 (k0_pay4 f b)) (k0_pay20 z) (k0_pay21 (k0_pay4 f b)) k0_pay22)
    (k0_pay24 (k0_pay4 f b) z (k0_pay5 g))
    (k0_pay25 (k0_pay4 f b)) (k0_pay26 z) (k0_pay27 (k0_pay4 f b)) k0_pay28 a w

/-- Column `k` of the gated heads. -/
def column (r : Fin 512) (k : Fin 1024) : EReal :=
  gated (fun i => f (ix2 r ⟨k.val / 128 * 128 + i.val, by omega⟩) + b (ix2 r ⟨k.val / 128 * 128 + i.val, by omega⟩))
    (f (ix2 r k) + b (ix2 r k)) (g (ix2 (0 : Fin 1) ⟨k.val % 128, by omega⟩)) (z (ix2 r k))

/-- A column in the head that begins at `c`. -/
theorem column_of (r : Fin 512) (c : ℕ) (hc : c % 128 = 0) (hl : c + 128 ≤ 1024) (i : Fin 128) (k : Fin 1024) (h : k.val = c + i.val) :
    column f b z g r k = gated (fun i => f (ix2 r ⟨c + i.val, by omega⟩) + b (ix2 r ⟨c + i.val, by omega⟩))
      (f (ix2 r ⟨c + i.val, by omega⟩) + b (ix2 r ⟨c + i.val, by omega⟩)) (g (ix2 (0 : Fin 1) i)) (z (ix2 r ⟨c + i.val, by omega⟩)) := by
  obtain ⟨k, hk⟩ := k
  simp only at h
  subst h
  have hd : (c + i.val) / 128 * 128 = c := by omega
  have hm : (⟨(c + i.val) % 128, by omega⟩ : Fin 128) = i := Fin.ext (by show (c + i.val) % 128 = i.val; omega)
  unfold column
  simp only [hd, hm]

theorem head0 (r : Fin 512) (i : Fin 128) (k : Fin 1024) (h : k.val = 0 + i.val) :
    k0_pay6 (F := Ideal) f b z g (ix2 r i) = column f b z g r k := by
  rw [column_of f b z g r 0 rfl (by decide) i k h]
  pointwise [k0_pay6, k0_pay4, k0_pay5, gated]

theorem head1 (r : Fin 512) (i : Fin 128) (k : Fin 1024) (h : k.val = 128 + i.val) :
    k0_pay11 (F := Ideal) (k0_pay5 g) (k0_pay7 f b) (k0_pay8 z) (k0_pay9 f b) k0_pay10 (ix2 r i) = column f b z g r k := by
  rw [column_of f b z g r 128 rfl (by decide) i k h]
  pointwise [k0_pay11, k0_pay5, k0_pay7, k0_pay8, k0_pay9, k0_pay10, k0_pay4, gated]

theorem head2 (r : Fin 512) (i : Fin 128) (k : Fin 1024) (h : k.val = 256 + i.val) :
    k0_pay12 (F := Ideal) (k0_pay4 f b) z (k0_pay5 g) (ix2 r i) = column f b z g r k := by
  rw [column_of f b z g r 256 rfl (by decide) i k h]
  pointwise [k0_pay12, k0_pay4, k0_pay5, gated]

theorem head3 (r : Fin 512) (i : Fin 128) (k : Fin 1024) (h : k.val = 384 + i.val) :
    k0_pay17 (F := Ideal) (k0_pay5 g) (k0_pay13 (k0_pay4 f b)) (k0_pay14 z) (k0_pay15 (k0_pay4 f b)) k0_pay16 (ix2 r i) = column f b z g r k := by
  rw [column_of f b z g r 384 rfl (by decide) i k h]
  pointwise [k0_pay17, k0_pay5, k0_pay13, k0_pay14, k0_pay15, k0_pay16, k0_pay4, gated]

theorem head4 (r : Fin 512) (i : Fin 128) (k : Fin 1024) (h : k.val = 512 + i.val) :
    k0_pay18 (F := Ideal) (k0_pay4 f b) z (k0_pay5 g) (ix2 r i) = column f b z g r k := by
  rw [column_of f b z g r 512 rfl (by decide) i k h]
  pointwise [k0_pay18, k0_pay4, k0_pay5, gated]

theorem head5 (r : Fin 512) (i : Fin 128) (k : Fin 1024) (h : k.val = 640 + i.val) :
    k0_pay23 (F := Ideal) (k0_pay5 g) (k0_pay19 (k0_pay4 f b)) (k0_pay20 z) (k0_pay21 (k0_pay4 f b)) k0_pay22 (ix2 r i) = column f b z g r k := by
  rw [column_of f b z g r 640 rfl (by decide) i k h]
  pointwise [k0_pay23, k0_pay5, k0_pay19, k0_pay20, k0_pay21, k0_pay22, k0_pay4, gated]

theorem head6 (r : Fin 512) (i : Fin 128) (k : Fin 1024) (h : k.val = 768 + i.val) :
    k0_pay24 (F := Ideal) (k0_pay4 f b) z (k0_pay5 g) (ix2 r i) = column f b z g r k := by
  rw [column_of f b z g r 768 rfl (by decide) i k h]
  pointwise [k0_pay24, k0_pay4, k0_pay5, gated]

/-- A step adds the products of the gated heads with the weights. -/
theorem step_at (a : Vec Ideal S512x2048 .f32) (w : Vec Ideal S1024x2048 .bf16) (r : Fin 512) (d : Fin 2048) :
    step f b z g a w (ix2 r d) = a (ix2 r d) + ∑ k : Fin 1024, column f b z g r k * w (ix2 k d) := by
  unfold step
  pointwise [k0_pay1]
  refine congrArg (a (ix2 r d) + ·) (Finset.sum_congr rfl fun k _ => congrArg (· * w (ix2 k d)) ?_)
  split
  · exact head0 f b z g r _ k (by simp)
  split
  · exact head1 f b z g r _ k (by simp only; omega)
  split
  · exact head2 f b z g r _ k (by simp only; omega)
  split
  · exact head3 f b z g r _ k (by simp only; omega)
  split
  · exact head4 f b z g r _ k (by simp only; omega)
  split
  · exact head5 f b z g r _ k (by simp only; omega)
  split
  · exact head6 f b z g r _ k (by simp only; omega)
  · rw [column_of f b z g r 896 rfl (by decide) ⟨k.val - 128 - 128 - 128 - 128 - 128 - 128 - 128, by omega⟩ k (by simp only; omega)]
    pointwise [k0_pay25, k0_pay26, k0_pay27, k0_pay28, k0_pay5, k0_pay4, gated]

/-- The cleared sum. -/
theorem clear_at (r : Fin 512) (d : Fin 2048) : k0_pay3 (F := Ideal) (ix2 r d) = 0 := by
  pointwise [k0_pay3]

/-- The result: the row plus the gated sum. -/
theorem result_at (x : Vec Ideal S512x2048 .f32) (m : Vec Ideal S1x1x2048 .f32) (a : Vec Ideal S512x2048 .f32) (r : Fin 512) (d : Fin 2048) :
    k0_pay2 (F := Ideal) x m a (ix2 r d) = x (ix2 r d) + m (ix3 (0 : Fin 1) (0 : Fin 1) d) * a (ix2 r d) := by
  pointwise [k0_pay2]

end Cert.Proof.GdnOutRow

end
-- ==== Proof.GdnOut.Kernel.lean ====
/- The output projection of the gated delta net: what its call leaves.  Point `t` is row tile `t / 4` and tile `t % 4` of the
   contracted columns; the scratch carries the running sum. -/
module

public import proofs.«01_k».proof.Proof.Gen.GdnOutIdeal.Frame
public import Idealize.ShloMosaic.Lib.Pipeline.ValueKit
public import Idealize.ShloMosaic.Lib.Pipeline.ReadBack
public import proofs.«01_k».proof.Proof.GdnOut.Row
public import proofs.«01_k».proof.Proof.Streams.Rows

@[expose] public section

set_option maxRecDepth 16384

noncomputable section

namespace Cert.Proof.GdnOutKernel

open Cert.GdnOutIdeal Cert.GdnOutIdeal.Gen Idealize.ShloMosaic Idealize.ShloMosaic.TcCoe Idealize.SL.Sem
open Cert.Proof.MlpBlocks (batch)

section Spec

variable (F B : Fin 16896 → Fin 4096 → EReal) (Z : Fin 16896 → Fin 12288 → EReal) (X : Fin 16896 → Fin 2048 → EReal)
  (G : Fin 128 → EReal) (M : Fin 3 → Fin 12288 → EReal) (W : Fin 4096 → Fin 2048 → EReal)

/-- Column `k` of the gated heads of row `ρ`. -/
def column (ρ : Fin 16896) (k : Fin 4096) : EReal :=
  GdnOutRow.gated (fun i => F ρ ⟨k.val / 128 * 128 + i.val, by omega⟩ + B ρ ⟨k.val / 128 * 128 + i.val, by omega⟩)
    (F ρ k + B ρ k) (G ⟨k.val % 128, by omega⟩) (Z ρ ⟨8192 + k.val, by omega⟩)

/-- Entry `(ρ, d)` of the result. -/
def result (ρ : Fin 16896) (d : Fin 2048) : EReal :=
  X ρ d + M (batch ρ) ⟨4096 + d.val, by omega⟩ * ∑ k : Fin 4096, column F B Z G ρ k * W k d

end Spec

variable (m : (ℓ : Loc nD τ sig) → Buf (Elt Ideal) ℓ) (c : Dev nD) (t : Fin cfg0.N)

/-- The first tile begins the sum at zero. -/
theorem sum_first (h : t.val % 4 = 0) : (outsAt0 m c t.val t.isLt).2
    = GdnOutRow.step (iblk m c 0 t) (iblk m c 1 t) (iblk m c 2 t) (iblk m c 4 t) (k0_pay3 (F := Ideal)) (iblk m c 6 t) := by
  rw [outsAt0_A m c t h (by omega)]
  frame_out
  rfl

/-- The other tiles add to it. -/
theorem sum_next (h : ¬t.val % 4 = 0) : (outsAt0 m c t.val t.isLt).2
    = GdnOutRow.step (iblk m c 0 t) (iblk m c 1 t) (iblk m c 2 t) (iblk m c 4 t)
        (outsAt0 m c (t.val - 1) (Nat.lt_of_le_of_lt (Nat.sub_le _ _) t.isLt)).2 (iblk m c 6 t) := by
  by_cases h1 : t.val % 4 = 3
  · rw [outsAt0_C m c t h h1]; frame_out; simp only [read_unread_whole]; rfl
  · rw [outsAt0_B m c t h h1]; frame_out; simp only [read_unread_whole]; rfl

/-- The last tile stores the result block. -/
theorem result_last (h : t.val % 4 = 3) : (outsAt0 m c t.val t.isLt).1
    = k0_pay2 (F := Ideal) (iblk m c 3 t) (iblk m c 5 t) (outsAt0 m c t.val t.isLt).2 := by
  rw [sum_next m c t (by omega), outsAt0_C m c t (by omega) h]
  frame_out
  simp only [read_unread_whole]
  rfl

/-- The block indices of the eight windows. -/
theorem idx : ∀ t : Fin cfg0.N,
    win0_0.index t = ![t.val / 4, t.val % 4] ∧ win0_1.index t = ![t.val / 4, t.val % 4] ∧ win0_2.index t = ![t.val / 4, 8 + t.val % 4]
    ∧ win0_3.index t = ![t.val / 4, 0] ∧ win0_4.index t = ![0, 0] ∧ win0_5.index t = ![min (t.val / 64) 2, 0, 2]
    ∧ win0_6.index t = ![t.val % 4, 0] ∧ win0_7.index t = ![t.val / 4, 0] :=
  (by decide +kernel : ∀ t : Fin grid0.N, _)

theorem points (t : Fin cfg0.N) : t.val < 132 := Nat.lt_of_lt_of_eq t.isLt N_0

/-- The row of the array that is row `r` of a point's tile. -/
def row (n : ℕ) (hn : n < cfg0.N) (r : Fin 512) : Fin 16896 :=
  ⟨n / 4 * 512 + r.val, by have := points ⟨n, hn⟩; simp only at this; omega⟩

theorem batch_row (r : Fin 512) : batch (row t.val t.isLt r) = ⟨min (t.val / 64) 2, by omega⟩ := by
  have h := points t
  apply Fin.ext; show min ((t.val / 4 * 512 + r.val) / 8192) 2 = min (t.val / 64) 2; omega

/-- The arguments of the call by their indices, as the launch finds them. -/
abbrev F (ρ : Fin 16896) (k : Fin 4096) : EReal := (m ((c : Thread nD τ).loc main_arg0) : Vec Ideal S16896x4096 .f32) (ix2 ρ k)
abbrev B (ρ : Fin 16896) (k : Fin 4096) : EReal := (m ((c : Thread nD τ).loc main_arg1) : Vec Ideal S16896x4096 .f32) (ix2 ρ k)
abbrev Z (ρ : Fin 16896) (k : Fin 12288) : EReal := (m ((c : Thread nD τ).loc main_arg2) : Vec Ideal S16896x12288 .f32) (ix2 ρ k)
abbrev X (ρ : Fin 16896) (d : Fin 2048) : EReal := (m ((c : Thread nD τ).loc main_arg3) : Vec Ideal S16896x2048 .f32) (ix2 ρ d)
abbrev G (i : Fin 128) : EReal := (m ((c : Thread nD τ).loc main_arg4) : Vec Ideal S128 .f32) (ix1 i)
abbrev M (b : Fin 3) (i : Fin 12288) : EReal := (m ((c : Thread nD τ).loc main_arg5) : Vec Ideal S3x1x12288 .f32) (ix3 b (0 : Fin 1) i)
abbrev W (k : Fin 4096) (d : Fin 2048) : EReal := (m ((c : Thread nD τ).loc main_arg6) : Vec Ideal S4096x2048 .f32) (ix2 k d)

/-- The forward direction's columns of a point. -/
theorem forward_at (r : Fin 512) (k : Fin 1024) : (iblk m c 0 t : Vec Ideal S512x1024 .f32) (ix2 r k)
    = F m c (row t.val t.isLt r) ⟨t.val % 4 * 1024 + k.val, by omega⟩ := by
  unfold row
  blk_point [iblk, V, idx t]

/-- The backward direction's columns of a point. -/
theorem backward_at (r : Fin 512) (k : Fin 1024) : (iblk m c 1 t : Vec Ideal S512x1024 .f32) (ix2 r k)
    = B m c (row t.val t.isLt r) ⟨t.val % 4 * 1024 + k.val, by omega⟩ := by
  unfold row
  blk_point [iblk, V, idx t]

/-- The output gate's columns of a point. -/
theorem z_at (r : Fin 512) (k : Fin 1024) : (iblk m c 2 t : Vec Ideal S512x1024 .f32) (ix2 r k)
    = Z m c (row t.val t.isLt r) ⟨8192 + (t.val % 4 * 1024 + k.val), by omega⟩ := by
  have hz : (⟨8192 + (t.val % 4 * 1024 + k.val), by omega⟩ : Fin 12288) = ⟨(8 + t.val % 4) * 1024 + k.val, by omega⟩ := by
    apply Fin.ext; show 8192 + (t.val % 4 * 1024 + k.val) = (8 + t.val % 4) * 1024 + k.val; omega
  rw [hz]
  unfold row
  blk_point [iblk, V, idx t]

/-- The rows of the stream at a point. -/
theorem row_at (r : Fin 512) (d : Fin 2048) :
    (iblk m c 3 t : Vec Ideal S512x2048 .f32) (ix2 r d) = X m c (row t.val t.isLt r) d := by
  unfold row
  blk_point [iblk, V, idx t]

/-- The weight of the norm. -/
theorem weight_at (i : Fin 128) : (iblk m c 4 t : Vec Ideal S1x128 .f32) (ix2 (0 : Fin 1) i) = G m c i := by
  blk_point [iblk, V, idx t]

/-- The gate of a point's rows. -/
theorem gate_at (r : Fin 512) (d : Fin 2048) : (iblk m c 5 t : Vec Ideal S1x1x2048 .f32) (ix3 (0 : Fin 1) (0 : Fin 1) d)
    = M m c (batch (row t.val t.isLt r)) ⟨4096 + d.val, by omega⟩ := by
  rw [batch_row]
  blk_point [iblk, V, idx t]

/-- The weights of a point. -/
theorem weights_at (k : Fin 1024) (d : Fin 2048) : (iblk m c 6 t : Vec Ideal S1024x2048 .bf16) (ix2 k d)
    = W m c ⟨t.val % 4 * 1024 + k.val, by omega⟩ d := by
  blk_point [iblk, V, idx t]

/-- Column `k` of the gated heads of row `ρ` of the arrays. -/
abbrev columnOf (ρ : Fin 16896) (k : Fin 4096) : EReal := column (F m c) (B m c) (Z m c) (G m c) ρ k

/-- A point's gated heads, in terms of the arrays. -/
theorem column_at (r : Fin 512) (k : Fin 1024) :
    GdnOutRow.column (iblk m c 0 t) (iblk m c 1 t) (iblk m c 2 t) (iblk m c 4 t) r k
      = columnOf m c (row t.val t.isLt r) ⟨t.val % 4 * 1024 + k.val, by omega⟩ := by
  unfold GdnOutRow.column columnOf column
  simp only [forward_at, backward_at, z_at, weight_at]
  have hi : ∀ i : Fin 128, (⟨t.val % 4 * 1024 + (k.val / 128 * 128 + i.val), by omega⟩ : Fin 4096)
      = ⟨(t.val % 4 * 1024 + k.val) / 128 * 128 + i.val, by omega⟩ := fun i => Fin.ext (by
    show t.val % 4 * 1024 + (k.val / 128 * 128 + i.val) = (t.val % 4 * 1024 + k.val) / 128 * 128 + i.val; omega)
  have hg : (⟨k.val % 128, by omega⟩ : Fin 128) = ⟨(t.val % 4 * 1024 + k.val) % 128, by omega⟩ := Fin.ext (by
    show k.val % 128 = (t.val % 4 * 1024 + k.val) % 128; omega)
  simp only [hi, hg]

/-- What one point adds to the running sum. -/
def added (t : Fin cfg0.N) (i : S512x2048.Idx) : EReal :=
  ∑ k : Fin 1024, columnOf m c (row t.val t.isLt (i 0)) (⟨t.val % 4 * 1024 + k.val, by omega⟩ : Fin 4096)
    * W m c ⟨t.val % 4 * 1024 + k.val, by omega⟩ (i 1)

/-- A step's products, in terms of the arrays. -/
theorem step (a : Vec Ideal S512x2048 .f32) (i : S512x2048.Idx) :
    GdnOutRow.step (iblk m c 0 t) (iblk m c 1 t) (iblk m c 2 t) (iblk m c 4 t) a (iblk m c 6 t) i = a i + added m c t i := by
  obtain ⟨r, d, rfl⟩ : ∃ (r : Fin 512) (d : Fin 2048), i = ix2 r d := ⟨i 0, i 1, eq_ix2 i⟩
  rw [GdnOutRow.step_at]
  simp only [column_at, weights_at]
  rfl

/-- At a tile's last point the scratch holds the sum over all columns. -/
theorem total (ht : t.val % 4 = 3) (r : Fin 512) (d : Fin 2048) : (outsAt0 m c t.val t.isLt).2 (ix2 r d)
    = ∑ k : Fin 4096, columnOf m c (row t.val t.isLt r) k * W m c k d := by
  refine (Pipeline.eq_sum_fin_of_reset_step_apply_of_flush (M := EReal) (fun n h => (outsAt0 m c n h).2) 4 (fun _ => 0) (added m c)
    (fun t h i => ?_) (fun t h i => ?_) t ht (ix2 r d)).trans ?_
  · show (outsAt0 m c t.val t.isLt).2 i = _
    rw [sum_first m c t h, step]
    obtain ⟨r, d, rfl⟩ : ∃ (r : Fin 512) (d : Fin 2048), i = ix2 r d := ⟨i 0, i 1, eq_ix2 i⟩
    rw [GdnOutRow.clear_at]
  · show (outsAt0 m c t.val t.isLt).2 i = _
    rw [sum_next m c t h, step]
  · rw [zero_add]
    refine Fin.sum_mul_add_congr fun s k hl => ?_
    have hr : row (4 * (t.val / 4) + s.val) (Pipeline.run_point_lt_of_flush t ht s) r = row t.val t.isLt r := by
      apply Fin.ext; show (4 * (t.val / 4) + s.val) / 4 * 512 + r.val = t.val / 4 * 512 + r.val; omega
    have hk : (⟨(4 * (t.val / 4) + s.val) % 4 * 1024 + k.val, by omega⟩ : Fin 4096) = ⟨s.val * 1024 + k.val, hl⟩ := by
      apply Fin.ext; show (4 * (t.val / 4) + s.val) % 4 * 1024 + k.val = s.val * 1024 + k.val; omega
    show columnOf m c (row (4 * (t.val / 4) + s.val) _ r) ⟨(4 * (t.val / 4) + s.val) % 4 * 1024 + k.val, _⟩
      * W m c ⟨(4 * (t.val / 4) + s.val) % 4 * 1024 + k.val, _⟩ d = _
    rw [hr, hk]

/-- **The array the call leaves**: any array that holds `result` at every entry. -/
theorem array (R : Vec Ideal S16896x2048 .f32) (hR : ∀ (ρ : Fin 16896) (d : Fin 2048),
      R (ix2 ρ d) = result (F m c) (B m c) (Z m c) (X m c) (G m c) (M m c) (W m c) ρ d) :
    (dats m 0 c).arrAt 7 cfg0.N = R := by
  refine (dats m 0 c).arrAt_eq_of_covers 7 _ (by decide +kernel) fun t hf y => ?_
  have ht := (flush0_7 t).mp hf
  blk_simp
  rw [after0_7, result_last m c t ht]
  obtain ⟨r, d, rfl⟩ : ∃ (r : Fin 512) (d : Fin 2048), y = ix2 r d := ⟨y 0, y 1, eq_ix2 (n0 := 512) (n1 := 2048) y⟩
  refine (GdnOutRow.result_at _ _ _ r d).trans ?_
  rw [total m c t ht, row_at, gate_at m c t r]
  refine (hR (row t.val t.isLt r) d).symm.trans (congrArg R ?_)
  funext a
  apply Fin.ext
  match a with
  | ⟨0, _⟩ =>
      show t.val / 4 * 512 + r.val = win0_7.index t 0 * 512 + 1 * r.val
      rw [(idx t).2.2.2.2.2.2.2, Nat.one_mul]; rfl
  | ⟨1, _⟩ =>
      show d.val = win0_7.index t 1 * 2048 + 1 * d.val
      rw [(idx t).2.2.2.2.2.2.2, Nat.one_mul]; exact (Nat.zero_add _).symm

end Cert.Proof.GdnOutKernel

end
-- ==== Proof.GdnOut.Ref.lean ====
/- The output projection of the gated delta net: what its reference computes, at an index, and the equation. -/
module

public import proofs.«01_k».proof.Proof.Gen.GdnOutRefIdeal.Read
public import proofs.«01_k».proof.Proof.GdnOut.Kernel

@[expose] public section

set_option maxRecDepth 16384

noncomputable section

namespace Cert.Proof.GdnOutRef

open Cert.GdnOutRefIdeal Cert.GdnOutRefIdeal.Gen Cert.GdnOutRefIdeal.Read Idealize.ShloMosaic Cert.Proof.MlpRef
open Cert.Proof.MlpBlocks (batch)

/-- A column of the gated heads, by head and position in the head. -/
theorem column_head (F B : Fin 16896 → Fin 4096 → EReal) (Z : Fin 16896 → Fin 12288 → EReal) (G : Fin 128 → EReal)
    (ρ : Fin 16896) (h : Fin 32) (i : Fin 128) : GdnOutKernel.column F B Z G ρ ⟨h.val * 128 + i.val, by omega⟩
      = GdnOutRow.gated (fun j => F ρ ⟨h.val * 128 + j.val, by omega⟩ + B ρ ⟨h.val * 128 + j.val, by omega⟩)
          (F ρ ⟨h.val * 128 + i.val, by omega⟩ + B ρ ⟨h.val * 128 + i.val, by omega⟩) (G i)
          (Z ρ ⟨8192 + (h.val * 128 + i.val), by omega⟩) := by
  have hd : (h.val * 128 + i.val) / 128 * 128 = h.val * 128 := by omega
  have hm : (⟨(h.val * 128 + i.val) % 128, by omega⟩ : Fin 128) = i :=
    Fin.ext (by show (h.val * 128 + i.val) % 128 = i.val; omega)
  unfold GdnOutKernel.column
  simp only [hd, hm]

variable (x0 x1 : FVec Ideal S16896x4096 .f32) (x2 : FVec Ideal S16896x12288 .f32) (x3 : FVec Ideal S16896x2048 .f32)
  (x4 : FVec Ideal S128 .f32) (x5 : FVec Ideal S3x1x12288 .f32) (x6 : FVec Ideal S4096x2048 .f32)

/-- A column of the gated heads, from the reference's arguments. -/
abbrev column (ρ : Fin 16896) (k : Fin 4096) : EReal :=
  GdnOutKernel.column (fun ρ k => x0 (ix2 ρ k)) (fun ρ k => x1 (ix2 ρ k)) (fun ρ k => x2 (ix2 ρ k)) (fun i => x4 (ix1 i)) ρ k

/-- The sum of the two directions in the latent rows, by batch, position and head. -/
theorem sumX_at (b : Fin 2) (t : Fin 8192) (h : Fin 32) (i : Fin 128) : val_main_v12 (F := Ideal) x0 x1 (ix4 b t h i)
    = x0 (ix2 (latent b t) ⟨h.val * 128 + i.val, by omega⟩) + x1 (ix2 (latent b t) ⟨h.val * 128 + i.val, by omega⟩) := by
  unfold latent
  pointwise [val_main_v12, val_main_v11, val_main_v10, val_main_v9, val_main_v8]

/-- The output gate's argument in the latent rows. -/
theorem zX_at (b : Fin 2) (t : Fin 8192) (h : Fin 32) (i : Fin 128) : val_main_v14 (F := Ideal) x2 (ix4 b t h i)
    = x2 (ix2 (latent b t) ⟨8192 + (h.val * 128 + i.val), by omega⟩) := by
  unfold latent
  pointwise [val_main_v14, val_main_v13, val_main_v7]

/-- The gated latent heads. -/
theorem gatedX_at (b : Fin 2) (t : Fin 8192) (h : Fin 32) (i : Fin 128) : val_main_v29 (F := Ideal) x0 x1 x2 x4 (ix4 b t h i)
    = column x0 x1 x2 x4 (latent b t) ⟨h.val * 128 + i.val, by omega⟩ := by
  unfold column
  rw [column_head]
  unfold GdnOutRow.gated
  pointwise [val_main_v29, val_main_v28, val_main_v27, val_main_v26, val_main_v25, val_main_v24, val_main_v23, val_main_v22,
    val_main_v21, val_main_v20, val_main_v19, val_main_v18, val_main_v17, val_main_v16, val_main_v15, val_main_cst, val_main_cst_0,
    val_main_cst_1, val_main_call0_v0, val_main_call0_v1, val_main_call0_v2, val_main_call0_v3, val_main_call0_v4,
    val_main_call0_v5, val_main_call0_cst, val_main_call0_cst_0]
  simp only [sumX_at, zX_at, zero_sub, zero_add]

/-- The gated latent heads, joined. -/
theorem joinedX_at (b : Fin 2) (t : Fin 8192) (k : Fin 4096) : val_main_v30 (F := Ideal) x0 x1 x2 x4 (ix3 b t k)
    = column x0 x1 x2 x4 (latent b t) k := by
  pointwise [val_main_v30]
  refine (gatedX_at x0 x1 x2 x4 b t ⟨k.val / 128, by omega⟩ ⟨k.val % 128, by omega⟩).trans (congrArg _ (Fin.ext ?_))
  show k.val / 128 * 128 + k.val % 128 = k.val
  omega

/-- The sum of the two directions in the context rows, by batch, position and head. -/
theorem sumC_at (b : Fin 2) (t : Fin 256) (h : Fin 32) (i : Fin 128) : val_main_v36 (F := Ideal) x0 x1 (ix4 b t h i)
    = x0 (ix2 (context b t) ⟨h.val * 128 + i.val, by omega⟩) + x1 (ix2 (context b t) ⟨h.val * 128 + i.val, by omega⟩) := by
  unfold context
  pointwise [val_main_v36, val_main_v35, val_main_v34, val_main_v33, val_main_v32]

/-- The output gate's argument in the context rows. -/
theorem zC_at (b : Fin 2) (t : Fin 256) (h : Fin 32) (i : Fin 128) : val_main_v38 (F := Ideal) x2 (ix4 b t h i)
    = x2 (ix2 (context b t) ⟨8192 + (h.val * 128 + i.val), by omega⟩) := by
  unfold context
  pointwise [val_main_v38, val_main_v37, val_main_v7]

/-- The gated context heads. -/
theorem gatedC_at (b : Fin 2) (t : Fin 256) (h : Fin 32) (i : Fin 128) : val_main_v53 (F := Ideal) x0 x1 x2 x4 (ix4 b t h i)
    = column x0 x1 x2 x4 (context b t) ⟨h.val * 128 + i.val, by omega⟩ := by
  unfold column
  rw [column_head]
  unfold GdnOutRow.gated
  pointwise [val_main_v53, val_main_v52, val_main_v51, val_main_v50, val_main_v49, val_main_v48, val_main_v47, val_main_v46,
    val_main_v45, val_main_v44, val_main_v43, val_main_v42, val_main_v41, val_main_v40, val_main_v39, val_main_cst_2, val_main_cst_3,
    val_main_cst_4, val_main_call1_v0, val_main_call1_v1, val_main_call1_v2, val_main_call1_v3, val_main_call1_v4,
    val_main_call1_v5, val_main_call1_cst, val_main_call1_cst_0]
  simp only [sumC_at, zC_at, zero_sub, zero_add]

/-- The gated context heads, joined. -/
theorem joinedC_at (b : Fin 2) (t : Fin 256) (k : Fin 4096) : val_main_v54 (F := Ideal) x0 x1 x2 x4 (ix3 b t k)
    = column x0 x1 x2 x4 (context b t) k := by
  pointwise [val_main_v54]
  refine (gatedC_at x0 x1 x2 x4 b t ⟨k.val / 128, by omega⟩ ⟨k.val % 128, by omega⟩).trans (congrArg _ (Fin.ext ?_))
  show k.val / 128 * 128 + k.val % 128 = k.val
  omega

/-- A result row, from the reference's arguments. -/
abbrev result (ρ : Fin 16896) (d : Fin 2048) : EReal :=
  GdnOutKernel.result (fun ρ k => x0 (ix2 ρ k)) (fun ρ k => x1 (ix2 ρ k)) (fun ρ k => x2 (ix2 ρ k)) (fun ρ d => x3 (ix2 ρ d))
    (fun i => x4 (ix1 i)) (fun b i => x5 (ix3 b (0 : Fin 1) i)) (fun k d => x6 (ix2 k d)) ρ d

/-- The latent rows' results. -/
theorem outX_at (b : Fin 2) (t : Fin 8192) (d : Fin 2048) :
    val_main_v62 (F := Ideal) x0 x1 x2 x3 x4 x5 x6 (ix3 b t d) = result x0 x1 x2 x3 x4 x5 x6 (latent b t) d := by
  unfold result GdnOutKernel.result
  rw [batch_latent]
  pointwise [val_main_v62, val_main_v61, val_main_v60, val_main_v59, val_main_v58, val_main_v57, val_main_v56, val_main_v31,
    val_main_v3, val_main_v0]
  simp only [joinedX_at]
  rfl

/-- The context rows' results. -/
theorem outC_at (b : Fin 2) (t : Fin 256) (d : Fin 2048) :
    val_main_v69 (F := Ideal) x0 x1 x2 x3 x4 x5 x6 (ix3 b t d) = result x0 x1 x2 x3 x4 x5 x6 (context b t) d := by
  unfold result GdnOutKernel.result
  rw [batch_context]
  pointwise [val_main_v69, val_main_v68, val_main_v67, val_main_v66, val_main_v65, val_main_v64, val_main_v63, val_main_v55,
    val_main_v3, val_main_v0]
  simp only [joinedC_at]
  rfl

/-- **The reference's entry.** -/
theorem entry (ρ : Fin 16896) (d : Fin 2048) :
    val_main_v72 (F := Ideal) x0 x1 x2 x3 x4 x5 x6 (ix2 ρ d) = result x0 x1 x2 x3 x4 x5 x6 ρ d := by
  pointwise [val_main_v72, val_main_v71, val_main_v70]
  by_cases h : ρ.val < 16384
  · rw [dif_pos h]
    refine (outX_at x0 x1 x2 x3 x4 x5 x6 _ _ _).trans ?_
    rw [Streams.latent_of ρ h]
  · rw [dif_neg h]
    refine (outC_at x0 x1 x2 x3 x4 x5 x6 _ _ _).trans ?_
    rw [Streams.context_of ρ h]

end Cert.Proof.GdnOutRef

namespace Cert.Proof.GdnOutEquation

open Cert.GdnOutIdeal Cert.GdnOutIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 x1 : FVec Ideal S16896x4096 .f32)
    (x2 : FVec Ideal S16896x12288 .f32) (x3 : FVec Ideal S16896x2048 .f32) (x4 : FVec Ideal S128 .f32)
    (x5 : FVec Ideal S3x1x12288 .f32) (x6 : FVec Ideal S4096x2048 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) :
    (dats m 0 c).arrAt 7 cfg0.N = Cert.GdnOutRefIdeal.Read.val_main_v72 (F := Ideal) x0 x1 x2 x3 x4 x5 x6 := by
  subst h0 h1 h2 h3 h4 h5 h6
  exact GdnOutKernel.array m c _ fun ρ d => GdnOutRef.entry _ _ _ _ _ _ _ ρ d

end Cert.Proof.GdnOutEquation

end
-- ==== Proof.LstmOut.Row.lean ====
/- One row of the mLSTM's output: the normed and gated heads, and their products with the weights. -/
module

public import proofs.«01_k».proof.Proof.Gen.LstmOutIdeal.Skeleton
public import Idealize.ShloMosaic.Lib.Pointwise

@[expose] public section

set_option maxRecDepth 16384

noncomputable section

namespace Cert.Proof.LstmOutRow

open Cert.LstmOutIdeal Cert.LstmOutIdeal.Gen Idealize.ShloMosaic

/-- A head's entry `o`, divided by the root mean square of the head's entries `os`, weighted by `g`, times the sigmoid of `z`. -/
def gated (os : Fin 256 → EReal) (o g z : EReal) : EReal :=
  o * Ideal.rsqrt (Ideal.div (∑ i : Fin 256, os i * os i) (Ideal.ofBits .f32 0x43800000#32) + Ideal.ofBits .f32 0x358637BD#32) * g
    * Ideal.div (Ideal.ofBits .f32 0x3F800000#32) (Ideal.ofBits .f32 0x3F800000#32 + Ideal.exp (0 - z))

variable (f b z : Vec Ideal S512x2048 .f32) (g : Vec Ideal S1x2048 .f32)

/-- What a point stores. -/
def result (x : Vec Ideal S512x2048 .f32) (m : Vec Ideal S1x1x2048 .f32) (w : Vec Ideal S2048x2048 .bf16) : FVec Ideal S512x2048 .f32 :=
  k0_pay1 (F := Ideal) z (k0_pay4 f b z g) (k0_pay7 z (k0_pay5 f b) (k0_pay6 g)) (k0_pay8 (k0_pay2 f b) z (k0_pay3 g))
    (k0_pay11 z (k0_pay9 (k0_pay2 f b)) (k0_pay10 (k0_pay3 g))) (k0_pay12 (k0_pay2 f b) z (k0_pay3 g))
    (k0_pay15 z (k0_pay13 (k0_pay2 f b)) (k0_pay14 (k0_pay3 g))) (k0_pay16 (k0_pay2 f b) z (k0_pay3 g))
    (k0_pay17 (k0_pay2 f b)) (k0_pay18 (k0_pay3 g)) x m w

/-- Column `k` of the gated heads. -/
def column (r : Fin 512) (k : Fin 2048) : EReal :=
  gated (fun i => f (ix2 r ⟨k.val / 256 * 256 + i.val, by omega⟩) + b (ix2 r ⟨k.val / 256 * 256 + i.val, by omega⟩))
    (f (ix2 r k) + b (ix2 r k)) (g (ix2 (0 : Fin 1) k)) (z (ix2 r k))

/-- A column in the head that begins at `c`. -/
theorem column_of (r : Fin 512) (c : ℕ) (hc : c % 256 = 0) (hl : c + 256 ≤ 2048) (i : Fin 256) (k : Fin 2048) (h : k.val = c + i.val) :
    column f b z g r k = gated (fun i => f (ix2 r ⟨c + i.val, by omega⟩) + b (ix2 r ⟨c + i.val, by omega⟩))
      (f (ix2 r ⟨c + i.val, by omega⟩) + b (ix2 r ⟨c + i.val, by omega⟩)) (g (ix2 (0 : Fin 1) ⟨c + i.val, by omega⟩))
      (z (ix2 r ⟨c + i.val, by omega⟩)) := by
  obtain ⟨k, hk⟩ := k
  simp only at h
  subst h
  have hd : (c + i.val) / 256 * 256 = c := by omega
  unfold column
  simp only [hd]

theorem head0 (r : Fin 512) (i : Fin 256) (k : Fin 2048) (h : k.val = 0 + i.val) :
    k0_pay4 (F := Ideal) f b z g (ix2 r i) = column f b z g r k := by
  rw [column_of f b z g r 0 rfl (by decide) i k h]
  pointwise [k0_pay4, k0_pay2, k0_pay3, gated]

theorem head1 (r : Fin 512) (i : Fin 256) (k : Fin 2048) (h : k.val = 256 + i.val) :
    k0_pay7 (F := Ideal) z (k0_pay5 f b) (k0_pay6 g) (ix2 r i) = column f b z g r k := by
  rw [column_of f b z g r 256 rfl (by decide) i k h]
  pointwise [k0_pay7, k0_pay5, k0_pay6, k0_pay2, k0_pay3, gated]

theorem head2 (r : Fin 512) (i : Fin 256) (k : Fin 2048) (h : k.val = 512 + i.val) :
    k0_pay8 (F := Ideal) (k0_pay2 f b) z (k0_pay3 g) (ix2 r i) = column f b z g r k := by
  rw [column_of f b z g r 512 rfl (by decide) i k h]
  pointwise [k0_pay8, k0_pay2, k0_pay3, gated]

theorem head3 (r : Fin 512) (i : Fin 256) (k : Fin 2048) (h : k.val = 768 + i.val) :
    k0_pay11 (F := Ideal) z (k0_pay9 (k0_pay2 f b)) (k0_pay10 (k0_pay3 g)) (ix2 r i) = column f b z g r k := by
  rw [column_of f b z g r 768 rfl (by decide) i k h]
  pointwise [k0_pay11, k0_pay9, k0_pay10, k0_pay2, k0_pay3, gated]

theorem head4 (r : Fin 512) (i : Fin 256) (k : Fin 2048) (h : k.val = 1024 + i.val) :
    k0_pay12 (F := Ideal) (k0_pay2 f b) z (k0_pay3 g) (ix2 r i) = column f b z g r k := by
  rw [column_of f b z g r 1024 rfl (by decide) i k h]
  pointwise [k0_pay12, k0_pay2, k0_pay3, gated]

theorem head5 (r : Fin 512) (i : Fin 256) (k : Fin 2048) (h : k.val = 1280 + i.val) :
    k0_pay15 (F := Ideal) z (k0_pay13 (k0_pay2 f b)) (k0_pay14 (k0_pay3 g)) (ix2 r i) = column f b z g r k := by
  rw [column_of f b z g r 1280 rfl (by decide) i k h]
  pointwise [k0_pay15, k0_pay13, k0_pay14, k0_pay2, k0_pay3, gated]

theorem head6 (r : Fin 512) (i : Fin 256) (k : Fin 2048) (h : k.val = 1536 + i.val) :
    k0_pay16 (F := Ideal) (k0_pay2 f b) z (k0_pay3 g) (ix2 r i) = column f b z g r k := by
  rw [column_of f b z g r 1536 rfl (by decide) i k h]
  pointwise [k0_pay16, k0_pay2, k0_pay3, gated]

/-- A point stores the row plus the gated products of the heads with the weights. -/
theorem result_at (x : Vec Ideal S512x2048 .f32) (m : Vec Ideal S1x1x2048 .f32) (w : Vec Ideal S2048x2048 .bf16) (r : Fin 512)
    (d : Fin 2048) : result f b z g x m w (ix2 r d)
      = x (ix2 r d) + m (ix3 (0 : Fin 1) (0 : Fin 1) d) * ∑ k : Fin 2048, column f b z g r k * w (ix2 k d) := by
  unfold result
  pointwise [k0_pay1]
  refine congrArg (fun s => x (ix2 r d) + m (ix3 (0 : Fin 1) (0 : Fin 1) d) * s)
    (Finset.sum_congr rfl fun k _ => congrArg (· * w (ix2 k d)) ?_)
  split
  · exact head0 f b z g r _ k (by simp)
  split
  · exact head1 f b z g r _ k (by simp only; omega)
  split
  · exact head2 f b z g r _ k (by simp only; omega)
  split
  · exact head3 f b z g r _ k (by simp only; omega)
  split
  · exact head4 f b z g r _ k (by simp only; omega)
  split
  · exact head5 f b z g r _ k (by simp only; omega)
  split
  · exact head6 f b z g r _ k (by simp only; omega)
  · rw [column_of f b z g r 1792 rfl (by decide) ⟨k.val - 256 - 256 - 256 - 256 - 256 - 256 - 256, by omega⟩ k (by simp only; omega)]
    pointwise [k0_pay17, k0_pay18, k0_pay3, k0_pay2, gated]

end Cert.Proof.LstmOutRow

end
-- ==== Proof.LstmOut.Kernel.lean ====
/- The output projection of the mLSTM: what its call leaves.  Point `t` is row tile `t`. -/
module

public import proofs.«01_k».proof.Proof.Gen.LstmOutIdeal.Frame
public import Idealize.ShloMosaic.Lib.Pipeline.ValueKit
public import Idealize.ShloMosaic.Lib.Pipeline.ReadBack
public import proofs.«01_k».proof.Proof.LstmOut.Row
public import proofs.«01_k».proof.Proof.Streams.Rows

@[expose] public section

set_option maxRecDepth 16384

noncomputable section

namespace Cert.Proof.LstmOutKernel

open Cert.LstmOutIdeal Cert.LstmOutIdeal.Gen Idealize.ShloMosaic Idealize.ShloMosaic.TcCoe Idealize.SL.Sem
open Cert.Proof.MlpBlocks (batch)

section Spec

variable (F B : Fin 16896 → Fin 2048 → EReal) (Z : Fin 16896 → Fin 6144 → EReal) (X : Fin 16896 → Fin 2048 → EReal)
  (G : Fin 8 → Fin 256 → EReal) (M : Fin 3 → Fin 12288 → EReal) (W : Fin 2048 → Fin 2048 → EReal)

/-- Column `k` of the gated heads of row `ρ`. -/
def column (ρ : Fin 16896) (k : Fin 2048) : EReal :=
  LstmOutRow.gated (fun i => F ρ ⟨k.val / 256 * 256 + i.val, by omega⟩ + B ρ ⟨k.val / 256 * 256 + i.val, by omega⟩)
    (F ρ k + B ρ k) (G ⟨k.val / 256, by omega⟩ ⟨k.val % 256, by omega⟩) (Z ρ ⟨4096 + k.val, by omega⟩)

/-- Entry `(ρ, d)` of the result. -/
def result (ρ : Fin 16896) (d : Fin 2048) : EReal :=
  X ρ d + M (batch ρ) ⟨4096 + d.val, by omega⟩ * ∑ k : Fin 2048, column F B Z G ρ k * W k d

end Spec

variable (m : (ℓ : Loc nD τ sig) → Buf (Elt Ideal) ℓ) (c : Dev nD) (t : Fin cfg0.N)

/-- The tile the body leaves, as a function of the tiles it reads. -/
theorem left_eq (f b z x : Vec Ideal S512x2048 .f32) (g : Vec Ideal S1x2048 .f32) (m : Vec Ideal S1x1x2048 .f32)
    (w : Vec Ideal S2048x2048 .bf16) :
    out0_7 (F := Ideal) f b z x g m w = LstmOutRow.result f b z g x m w := by
  have hx : ∀ y : Vec Ideal S512x2048 .f32, View.ld y r0_0 = y := fun y => View.ld_unit_lit _ y (by decide)
  have hg : View.ld g r0_1 = g := View.ld_unit_lit _ g (by decide)
  have hm : View.ld m r0_2 = m := View.ld_unit_lit _ m (by decide)
  have hw : View.ld w r0_3 = w := View.ld_unit_lit _ w (by decide)
  unfold out0_7
  refine (View.canon_cons_unit_lit _ _ _ (by decide)).trans ?_
  unfold k0_pay20 k0_pay19 LstmOutRow.result
  rw [hx f, hx b, hx z, hx x, hg, hm, hw]

/-- The block a point leaves. -/
theorem block : (dats m 0 c).after 7 t = LstmOutRow.result (iblk m c 0 t) (iblk m c 1 t) (iblk m c 2 t) (iblk m c 4 t) (iblk m c 3 t)
    (iblk m c 5 t) (iblk m c 6 t) := by
  rw [after0_7]
  exact left_eq _ _ _ _ _ _ _

/-- The block indices of the eight windows. -/
theorem idx : ∀ t : Fin cfg0.N,
    win0_0.index t = ![t.val, 0] ∧ win0_1.index t = ![t.val, 0] ∧ win0_2.index t = ![t.val, 2]
    ∧ win0_3.index t = ![t.val, 0] ∧ win0_4.index t = ![0, 0] ∧ win0_5.index t = ![min (t.val / 16) 2, 0, 2]
    ∧ win0_6.index t = ![0, 0] ∧ win0_7.index t = ![t.val, 0] :=
  (by decide +kernel : ∀ t : Fin grid0.N, _)

theorem points (t : Fin cfg0.N) : t.val < 33 := Nat.lt_of_lt_of_eq t.isLt N_0

/-- The row of the array that is row `r` of a point's tile. -/
def row (r : Fin 512) : Fin 16896 := ⟨t.val * 512 + r.val, by have := points t; omega⟩

theorem batch_row (r : Fin 512) : batch (row t r) = ⟨min (t.val / 16) 2, by omega⟩ := by
  have h := points t
  apply Fin.ext; show min ((t.val * 512 + r.val) / 8192) 2 = min (t.val / 16) 2; omega

/-- The arguments of the call by their indices, as the launch finds them. -/
abbrev F (ρ : Fin 16896) (k : Fin 2048) : EReal := (m ((c : Thread nD τ).loc main_arg0) : Vec Ideal S16896x2048 .f32) (ix2 ρ k)
abbrev B (ρ : Fin 16896) (k : Fin 2048) : EReal := (m ((c : Thread nD τ).loc main_arg1) : Vec Ideal S16896x2048 .f32) (ix2 ρ k)
abbrev Z (ρ : Fin 16896) (k : Fin 6144) : EReal := (m ((c : Thread nD τ).loc main_arg2) : Vec Ideal S16896x6144 .f32) (ix2 ρ k)
abbrev X (ρ : Fin 16896) (d : Fin 2048) : EReal := (m ((c : Thread nD τ).loc main_arg3) : Vec Ideal S16896x2048 .f32) (ix2 ρ d)
abbrev G (h : Fin 8) (i : Fin 256) : EReal := (m ((c : Thread nD τ).loc main_arg4) : Vec Ideal S8x256 .f32) (ix2 h i)
abbrev M (b : Fin 3) (i : Fin 12288) : EReal := (m ((c : Thread nD τ).loc main_arg5) : Vec Ideal S3x1x12288 .f32) (ix3 b (0 : Fin 1) i)
abbrev W (k : Fin 2048) (d : Fin 2048) : EReal := (m ((c : Thread nD τ).loc main_arg6) : Vec Ideal S2048x2048 .f32) (ix2 k d)

/-- The forward direction's rows of a point. -/
theorem forward_at (r : Fin 512) (k : Fin 2048) :
    (iblk m c 0 t : Vec Ideal S512x2048 .f32) (ix2 r k) = F m c (row t r) k := by
  unfold row
  blk_point [iblk, V, idx t]

/-- The backward direction's rows of a point. -/
theorem backward_at (r : Fin 512) (k : Fin 2048) :
    (iblk m c 1 t : Vec Ideal S512x2048 .f32) (ix2 r k) = B m c (row t r) k := by
  unfold row
  blk_point [iblk, V, idx t]

/-- The output gate's rows of a point. -/
theorem z_at (r : Fin 512) (k : Fin 2048) :
    (iblk m c 2 t : Vec Ideal S512x2048 .f32) (ix2 r k) = Z m c (row t r) ⟨4096 + k.val, by omega⟩ := by
  unfold row
  blk_point [iblk, V, idx t]

/-- The rows of the stream at a point. -/
theorem row_at (r : Fin 512) (d : Fin 2048) :
    (iblk m c 3 t : Vec Ideal S512x2048 .f32) (ix2 r d) = X m c (row t r) d := by
  unfold row
  blk_point [iblk, V, idx t]

/-- The weight of the norm. -/
theorem weight_at (k : Fin 2048) : (iblk m c 4 t : Vec Ideal S1x2048 .f32) (ix2 (0 : Fin 1) k)
    = G m c ⟨k.val / 256, by omega⟩ ⟨k.val % 256, by omega⟩ := by
  blk_point [iblk, V, idx t]

/-- The gate of a point's rows. -/
theorem gate_at (r : Fin 512) (d : Fin 2048) : (iblk m c 5 t : Vec Ideal S1x1x2048 .f32) (ix3 (0 : Fin 1) (0 : Fin 1) d)
    = M m c (batch (row t r)) ⟨4096 + d.val, by omega⟩ := by
  rw [batch_row]
  blk_point [iblk, V, idx t]

/-- The weights. -/
theorem weights_at (k : Fin 2048) (d : Fin 2048) : (iblk m c 6 t : Vec Ideal S2048x2048 .bf16) (ix2 k d) = W m c k d := by
  blk_point [iblk, V, idx t]

/-- A point's gated heads, in terms of the arrays. -/
theorem column_at (r : Fin 512) (k : Fin 2048) :
    LstmOutRow.column (iblk m c 0 t) (iblk m c 1 t) (iblk m c 2 t) (iblk m c 4 t) r k
      = column (F m c) (B m c) (Z m c) (G m c) (row t r) k := by
  unfold LstmOutRow.column column
  simp only [forward_at, backward_at, z_at, weight_at]

/-- **The array the call leaves**: any array that holds `result` at every entry. -/
theorem array (R : Vec Ideal S16896x2048 .f32) (hR : ∀ (ρ : Fin 16896) (d : Fin 2048),
      R (ix2 ρ d) = result (F m c) (B m c) (Z m c) (X m c) (G m c) (M m c) (W m c) ρ d) :
    (dats m 0 c).arrAt 7 cfg0.N = R := by
  refine (dats m 0 c).arrAt_eq_of_covers 7 _ (by decide +kernel) fun t hf y => ?_
  blk_simp
  rw [block m c t]
  obtain ⟨r, d, rfl⟩ : ∃ (r : Fin 512) (d : Fin 2048), y = ix2 r d := ⟨y 0, y 1, eq_ix2 (n0 := 512) (n1 := 2048) y⟩
  refine (LstmOutRow.result_at _ _ _ _ _ _ _ r d).trans ?_
  rw [row_at, gate_at m c t r]
  simp only [column_at, weights_at]
  refine (hR (row t r) d).symm.trans (congrArg R ?_)
  funext a
  apply Fin.ext
  match a with
  | ⟨0, _⟩ =>
      show t.val * 512 + r.val = win0_7.index t 0 * 512 + 1 * r.val
      rw [(idx t).2.2.2.2.2.2.2, Nat.one_mul]; rfl
  | ⟨1, _⟩ =>
      show d.val = win0_7.index t 1 * 2048 + 1 * d.val
      rw [(idx t).2.2.2.2.2.2.2, Nat.one_mul]; exact (Nat.zero_add _).symm

end Cert.Proof.LstmOutKernel

end
-- ==== Proof.LstmOut.Ref.lean ====
/- The output projection of the mLSTM: what its reference computes, at an index, and the equation. -/
module

public import proofs.«01_k».proof.Proof.Gen.LstmOutRefIdeal.Read
public import proofs.«01_k».proof.Proof.LstmOut.Kernel

@[expose] public section

set_option maxRecDepth 16384

noncomputable section

namespace Cert.Proof.LstmOutRef

open Cert.LstmOutRefIdeal Cert.LstmOutRefIdeal.Gen Cert.LstmOutRefIdeal.Read Idealize.ShloMosaic Cert.Proof.MlpRef
open Cert.Proof.MlpBlocks (batch)

/-- A column of the gated heads, by head and position in the head. -/
theorem column_head (F B : Fin 16896 → Fin 2048 → EReal) (Z : Fin 16896 → Fin 6144 → EReal) (G : Fin 8 → Fin 256 → EReal)
    (ρ : Fin 16896) (h : Fin 8) (i : Fin 256) : LstmOutKernel.column F B Z G ρ ⟨h.val * 256 + i.val, by omega⟩
      = LstmOutRow.gated (fun j => F ρ ⟨h.val * 256 + j.val, by omega⟩ + B ρ ⟨h.val * 256 + j.val, by omega⟩)
          (F ρ ⟨h.val * 256 + i.val, by omega⟩ + B ρ ⟨h.val * 256 + i.val, by omega⟩) (G h i)
          (Z ρ ⟨4096 + (h.val * 256 + i.val), by omega⟩) := by
  have hd : (h.val * 256 + i.val) / 256 * 256 = h.val * 256 := by omega
  have hh : (⟨(h.val * 256 + i.val) / 256, by omega⟩ : Fin 8) = h :=
    Fin.ext (by show (h.val * 256 + i.val) / 256 = h.val; omega)
  have hm : (⟨(h.val * 256 + i.val) % 256, by omega⟩ : Fin 256) = i :=
    Fin.ext (by show (h.val * 256 + i.val) % 256 = i.val; omega)
  unfold LstmOutKernel.column
  simp only [hd, hh, hm]

variable (x0 x1 : FVec Ideal S16896x2048 .f32) (x2 : FVec Ideal S16896x6144 .f32) (x3 : FVec Ideal S16896x2048 .f32)
  (x4 : FVec Ideal S8x256 .f32) (x5 : FVec Ideal S3x1x12288 .f32) (x6 : FVec Ideal S2048x2048 .f32)

/-- A column of the gated heads, from the reference's arguments. -/
abbrev column (ρ : Fin 16896) (k : Fin 2048) : EReal :=
  LstmOutKernel.column (fun ρ k => x0 (ix2 ρ k)) (fun ρ k => x1 (ix2 ρ k)) (fun ρ k => x2 (ix2 ρ k)) (fun h i => x4 (ix2 h i)) ρ k

/-- The sum of the two directions in the latent rows, by batch, position and head. -/
theorem sumX_at (b : Fin 2) (t : Fin 8192) (h : Fin 8) (i : Fin 256) : val_main_v12 (F := Ideal) x0 x1 (ix4 b t h i)
    = x0 (ix2 (latent b t) ⟨h.val * 256 + i.val, by omega⟩) + x1 (ix2 (latent b t) ⟨h.val * 256 + i.val, by omega⟩) := by
  unfold latent
  pointwise [val_main_v12, val_main_v11, val_main_v10, val_main_v9, val_main_v8]

/-- The output gate's argument in the latent rows. -/
theorem zX_at (b : Fin 2) (t : Fin 8192) (h : Fin 8) (i : Fin 256) : val_main_v14 (F := Ideal) x2 (ix4 b t h i)
    = x2 (ix2 (latent b t) ⟨4096 + (h.val * 256 + i.val), by omega⟩) := by
  unfold latent
  pointwise [val_main_v14, val_main_v13, val_main_v7]

/-- The gated latent heads. -/
theorem gatedX_at (b : Fin 2) (t : Fin 8192) (h : Fin 8) (i : Fin 256) : val_main_v34 (F := Ideal) x0 x1 x2 x4 (ix4 b t h i)
    = column x0 x1 x2 x4 (latent b t) ⟨h.val * 256 + i.val, by omega⟩ := by
  unfold column
  rw [column_head]
  unfold LstmOutRow.gated
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_cst, val_main_cst_0, val_main_cst_1, val_main_cst_2,
    val_main_cst_3]
  simp only [sumX_at, zX_at, zero_sub, zero_add]

/-- The gated latent heads, joined. -/
theorem joinedX_at (b : Fin 2) (t : Fin 8192) (k : Fin 2048) : val_main_v35 (F := Ideal) x0 x1 x2 x4 (ix3 b t k)
    = column x0 x1 x2 x4 (latent b t) k := by
  pointwise [val_main_v35]
  refine (gatedX_at x0 x1 x2 x4 b t ⟨k.val / 256, by omega⟩ ⟨k.val % 256, by omega⟩).trans (congrArg _ (Fin.ext ?_))
  show k.val / 256 * 256 + k.val % 256 = k.val
  omega

/-- The sum of the two directions in the context rows, by batch, position and head. -/
theorem sumC_at (b : Fin 2) (t : Fin 256) (h : Fin 8) (i : Fin 256) : val_main_v41 (F := Ideal) x0 x1 (ix4 b t h i)
    = x0 (ix2 (context b t) ⟨h.val * 256 + i.val, by omega⟩) + x1 (ix2 (context b t) ⟨h.val * 256 + i.val, by omega⟩) := by
  unfold context
  pointwise [val_main_v41, val_main_v40, val_main_v39, val_main_v38, val_main_v37]

/-- The output gate's argument in the context rows. -/
theorem zC_at (b : Fin 2) (t : Fin 256) (h : Fin 8) (i : Fin 256) : val_main_v43 (F := Ideal) x2 (ix4 b t h i)
    = x2 (ix2 (context b t) ⟨4096 + (h.val * 256 + i.val), by omega⟩) := by
  unfold context
  pointwise [val_main_v43, val_main_v42, val_main_v7]

/-- The gated context heads. -/
theorem gatedC_at (b : Fin 2) (t : Fin 256) (h : Fin 8) (i : Fin 256) : val_main_v63 (F := Ideal) x0 x1 x2 x4 (ix4 b t h i)
    = column x0 x1 x2 x4 (context b t) ⟨h.val * 256 + i.val, by omega⟩ := by
  unfold column
  rw [column_head]
  unfold LstmOutRow.gated
  pointwise [val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_cst_4, val_main_cst_5, val_main_cst_6, val_main_cst_7,
    val_main_cst_8]
  simp only [sumC_at, zC_at, zero_sub, zero_add]

/-- The gated context heads, joined. -/
theorem joinedC_at (b : Fin 2) (t : Fin 256) (k : Fin 2048) : val_main_v64 (F := Ideal) x0 x1 x2 x4 (ix3 b t k)
    = column x0 x1 x2 x4 (context b t) k := by
  pointwise [val_main_v64]
  refine (gatedC_at x0 x1 x2 x4 b t ⟨k.val / 256, by omega⟩ ⟨k.val % 256, by omega⟩).trans (congrArg _ (Fin.ext ?_))
  show k.val / 256 * 256 + k.val % 256 = k.val
  omega

/-- A result row, from the reference's arguments. -/
abbrev result (ρ : Fin 16896) (d : Fin 2048) : EReal :=
  LstmOutKernel.result (fun ρ k => x0 (ix2 ρ k)) (fun ρ k => x1 (ix2 ρ k)) (fun ρ k => x2 (ix2 ρ k)) (fun ρ d => x3 (ix2 ρ d))
    (fun h i => x4 (ix2 h i)) (fun b i => x5 (ix3 b (0 : Fin 1) i)) (fun k d => x6 (ix2 k d)) ρ d

/-- The latent rows' results. -/
theorem outX_at (b : Fin 2) (t : Fin 8192) (d : Fin 2048) :
    val_main_v72 (F := Ideal) x0 x1 x2 x3 x4 x5 x6 (ix3 b t d) = result x0 x1 x2 x3 x4 x5 x6 (latent b t) d := by
  unfold result LstmOutKernel.result
  rw [batch_latent]
  pointwise [val_main_v72, val_main_v71, val_main_v70, val_main_v69, val_main_v68, val_main_v67, val_main_v66, val_main_v36,
    val_main_v3, val_main_v0]
  simp only [joinedX_at]
  rfl

/-- The context rows' results. -/
theorem outC_at (b : Fin 2) (t : Fin 256) (d : Fin 2048) :
    val_main_v79 (F := Ideal) x0 x1 x2 x3 x4 x5 x6 (ix3 b t d) = result x0 x1 x2 x3 x4 x5 x6 (context b t) d := by
  unfold result LstmOutKernel.result
  rw [batch_context]
  pointwise [val_main_v79, val_main_v78, val_main_v77, val_main_v76, val_main_v75, val_main_v74, val_main_v73, val_main_v65,
    val_main_v3, val_main_v0]
  simp only [joinedC_at]
  rfl

/-- **The reference's entry.** -/
theorem entry (ρ : Fin 16896) (d : Fin 2048) :
    val_main_v82 (F := Ideal) x0 x1 x2 x3 x4 x5 x6 (ix2 ρ d) = result x0 x1 x2 x3 x4 x5 x6 ρ d := by
  pointwise [val_main_v82, val_main_v81, val_main_v80]
  by_cases h : ρ.val < 16384
  · rw [dif_pos h]
    refine (outX_at x0 x1 x2 x3 x4 x5 x6 _ _ _).trans ?_
    rw [Streams.latent_of ρ h]
  · rw [dif_neg h]
    refine (outC_at x0 x1 x2 x3 x4 x5 x6 _ _ _).trans ?_
    rw [Streams.context_of ρ h]

end Cert.Proof.LstmOutRef

namespace Cert.Proof.LstmOutEquation

open Cert.LstmOutIdeal Cert.LstmOutIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 x1 : FVec Ideal S16896x2048 .f32)
    (x2 : FVec Ideal S16896x6144 .f32) (x3 : FVec Ideal S16896x2048 .f32) (x4 : FVec Ideal S8x256 .f32)
    (x5 : FVec Ideal S3x1x12288 .f32) (x6 : FVec Ideal S2048x2048 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) :
    (dats m 0 c).arrAt 7 cfg0.N = Cert.LstmOutRefIdeal.Read.val_main_v82 (F := Ideal) x0 x1 x2 x3 x4 x5 x6 := by
  subst h0 h1 h2 h3 h4 h5 h6
  exact LstmOutKernel.array m c _ fun ρ d => LstmOutRef.entry _ _ _ _ _ _ _ ρ d

end Cert.Proof.LstmOutEquation

end
-- ==== Proof.Proj.Kernel.lean ====
/- The output projection of the attention: what its call leaves.  Point `t` is row tile `t`: the latent
   tiles first, then the context tile, whose rows come from an array of their own. -/
module

public import proofs.«01_k».proof.Proof.Gen.ProjIdeal.Frame
public import Idealize.ShloMosaic.Lib.Pipeline.ValueKit
public import Idealize.ShloMosaic.Lib.Pipeline.ReadBack
public import proofs.«01_k».proof.Proof.Streams.Rows

@[expose] public section

set_option maxRecDepth 16384

noncomputable section

namespace Cert.Proof.ProjKernel

open Cert.ProjIdeal Cert.ProjIdeal.Gen Idealize.ShloMosaic Idealize.ShloMosaic.TcCoe Idealize.SL.Sem
open Cert.Proof.MlpBlocks (batch)

section Spec

variable (O : Fin 16384 → Fin 2048 → EReal) (C : Fin 512 → Fin 2048 → EReal) (X : Fin 16896 → Fin 2048 → EReal)
  (M : Fin 3 → Fin 12288 → EReal) (W : Fin 2048 → Fin 2048 → EReal)

/-- The attention's output in row `ρ`: a latent row's, or a context row's. -/
def attended (ρ : Fin 16896) (k : Fin 2048) : EReal :=
  if h : ρ.val < 16384 then O ⟨ρ.val, h⟩ k else C ⟨ρ.val - 16384, by omega⟩ k

/-- Entry `(ρ, d)` of the result. -/
def result (ρ : Fin 16896) (d : Fin 2048) : EReal :=
  X ρ d + M (batch ρ) ⟨4096 + d.val, by omega⟩ * ∑ k : Fin 2048, attended O C ρ k * W k d

end Spec

/-- A latent block: the rows plus the gated products. -/
theorem latent_at (x : Vec Ideal S512x2048 .f32) (g : Vec Ideal S1x1x2048 .f32) (a : Vec Ideal S512x2048 .bf16)
    (w : Vec Ideal S2048x2048 .bf16) (r : Fin 512) (d : Fin 2048) : k0_pay1 (F := Ideal) x g a w (ix2 r d)
      = x (ix2 r d) + g (ix3 (0 : Fin 1) (0 : Fin 1) d) * ∑ k : Fin 2048, a (ix2 r k) * w (ix2 k d) := by
  pointwise [k0_pay1]

/-- A context block: the same. -/
theorem context_at (x : Vec Ideal S512x2048 .f32) (g : Vec Ideal S1x1x2048 .f32) (a : Vec Ideal S512x2048 .bf16)
    (w : Vec Ideal S2048x2048 .bf16) (r : Fin 512) (d : Fin 2048) : k0_pay2 (F := Ideal) x g a w (ix2 r d)
      = x (ix2 r d) + g (ix3 (0 : Fin 1) (0 : Fin 1) d) * ∑ k : Fin 2048, a (ix2 r k) * w (ix2 k d) := by
  pointwise [k0_pay2]

variable (m : (ℓ : Loc nD τ sig) → Buf (Elt Ideal) ℓ) (c : Dev nD) (t : Fin cfg0.N)

theorem points (t : Fin cfg0.N) : t.val < 33 := Nat.lt_of_lt_of_eq t.isLt N_0

/-- What a latent point stores. -/
theorem latent_block (h : t.val < 32) : outsAt0 m c t.val t.isLt
    = k0_pay1 (F := Ideal) (iblk m c 2 t) (iblk m c 3 t) (iblk m c 0 t) (iblk m c 4 t) := by
  rw [outsAt0_A m c t h (by omega)]
  frame_out

/-- What the context point stores. -/
theorem context_block (h : ¬t.val < 32) : outsAt0 m c t.val t.isLt
    = k0_pay2 (F := Ideal) (iblk m c 2 t) (iblk m c 3 t) (iblk m c 1 t) (iblk m c 4 t) := by
  have := points t
  rw [outsAt0_B m c t h (by omega)]
  frame_out

/-- The block indices of the six windows. -/
theorem idx : ∀ t : Fin cfg0.N,
    win0_0.index t = ![min t.val 31, 0] ∧ win0_1.index t = ![t.val - 32, 0] ∧ win0_2.index t = ![t.val, 0]
    ∧ win0_3.index t = ![min (t.val / 16) 2, 0, 2] ∧ win0_4.index t = ![0, 0] ∧ win0_5.index t = ![t.val, 0] :=
  (by decide +kernel : ∀ t : Fin grid0.N, _)

/-- The row of the array that is row `r` of a point's tile. -/
def row (r : Fin 512) : Fin 16896 := ⟨t.val * 512 + r.val, by have := points t; omega⟩

theorem batch_row (r : Fin 512) : batch (row t r) = ⟨min (t.val / 16) 2, by omega⟩ := by
  have h := points t
  apply Fin.ext; show min ((t.val * 512 + r.val) / 8192) 2 = min (t.val / 16) 2; omega

/-- The arguments of the call by their indices, as the launch finds them. -/
abbrev O (ρ : Fin 16384) (k : Fin 2048) : EReal := (m ((c : Thread nD τ).loc main_arg0) : Vec Ideal S16384x2048 .bf16) (ix2 ρ k)
abbrev C (ρ : Fin 512) (k : Fin 2048) : EReal := (m ((c : Thread nD τ).loc main_arg1) : Vec Ideal S512x2048 .bf16) (ix2 ρ k)
abbrev X (ρ : Fin 16896) (d : Fin 2048) : EReal := (m ((c : Thread nD τ).loc main_arg2) : Vec Ideal S16896x2048 .f32) (ix2 ρ d)
abbrev M (b : Fin 3) (i : Fin 12288) : EReal := (m ((c : Thread nD τ).loc main_arg3) : Vec Ideal S3x1x12288 .f32) (ix3 b (0 : Fin 1) i)
abbrev W (k : Fin 2048) (d : Fin 2048) : EReal := (m ((c : Thread nD τ).loc main_arg4) : Vec Ideal S2048x2048 .f32) (ix2 k d)

/-- The attention's output at a latent point. -/
theorem latent_in_at (h : t.val < 32) (r : Fin 512) (k : Fin 2048) :
    (iblk m c 0 t : Vec Ideal S512x2048 .bf16) (ix2 r k) = attended (O m c) (C m c) (row t r) k := by
  have hr : (row t r).val < 16384 := by show t.val * 512 + r.val < 16384; omega
  have hm : min t.val 31 = t.val := by omega
  have hi : win0_0.index t = ![t.val, 0] := by rw [(idx t).1, hm]
  unfold attended
  rw [dif_pos hr]
  unfold row
  blk_point [iblk, V, hi]

/-- The attention's output at the context point. -/
theorem context_in_at (h : ¬t.val < 32) (r : Fin 512) (k : Fin 2048) :
    (iblk m c 1 t : Vec Ideal S512x2048 .bf16) (ix2 r k) = attended (O m c) (C m c) (row t r) k := by
  have hp := points t
  have hr : ¬(row t r).val < 16384 := by show ¬t.val * 512 + r.val < 16384; omega
  have hm : t.val - 32 = 0 := by omega
  have hi : win0_1.index t = ![0, 0] := by rw [(idx t).2.1, hm]
  have hs : (⟨(row t r).val - 16384, by omega⟩ : Fin 512) = r := by
    apply Fin.ext; show t.val * 512 + r.val - 16384 = r.val; omega
  unfold attended
  rw [dif_neg hr, hs]
  blk_point [iblk, V, hi]

/-- The rows of the stream at a point. -/
theorem row_at (r : Fin 512) (d : Fin 2048) :
    (iblk m c 2 t : Vec Ideal S512x2048 .f32) (ix2 r d) = X m c (row t r) d := by
  unfold row
  blk_point [iblk, V, idx t]

/-- The gate of a point's rows. -/
theorem gate_at (r : Fin 512) (d : Fin 2048) : (iblk m c 3 t : Vec Ideal S1x1x2048 .f32) (ix3 (0 : Fin 1) (0 : Fin 1) d)
    = M m c (batch (row t r)) ⟨4096 + d.val, by omega⟩ := by
  rw [batch_row]
  blk_point [iblk, V, idx t]

/-- The weights. -/
theorem weights_at (k : Fin 2048) (d : Fin 2048) : (iblk m c 4 t : Vec Ideal S2048x2048 .bf16) (ix2 k d) = W m c k d := by
  blk_point [iblk, V, idx t]

/-- What a point stores, in terms of the arrays. -/
theorem block_at (r : Fin 512) (d : Fin 2048) : outsAt0 m c t.val t.isLt (ix2 r d)
    = result (O m c) (C m c) (X m c) (M m c) (W m c) (row t r) d := by
  by_cases h : t.val < 32
  · rw [latent_block m c t h, latent_at, row_at, gate_at m c t r]
    simp only [latent_in_at m c t h, weights_at]
    rfl
  · rw [context_block m c t h, context_at, row_at, gate_at m c t r]
    simp only [context_in_at m c t h, weights_at]
    rfl

/-- **The array the call leaves**: any array that holds `result` at every entry. -/
theorem array (R : Vec Ideal S16896x2048 .f32) (hR : ∀ (ρ : Fin 16896) (d : Fin 2048),
      R (ix2 ρ d) = result (O m c) (C m c) (X m c) (M m c) (W m c) ρ d) :
    (dats m 0 c).arrAt 5 cfg0.N = R := by
  refine (dats m 0 c).arrAt_eq_of_covers 5 _ (by decide +kernel) fun t hf y => ?_
  blk_simp
  rw [after0_5]
  obtain ⟨r, d, rfl⟩ : ∃ (r : Fin 512) (d : Fin 2048), y = ix2 r d := ⟨y 0, y 1, eq_ix2 (n0 := 512) (n1 := 2048) y⟩
  refine (block_at m c t r d).trans ?_
  refine (hR (row t r) d).symm.trans (congrArg R ?_)
  funext a
  apply Fin.ext
  match a with
  | ⟨0, _⟩ =>
      show t.val * 512 + r.val = win0_5.index t 0 * 512 + 1 * r.val
      rw [(idx t).2.2.2.2.2, Nat.one_mul]; rfl
  | ⟨1, _⟩ =>
      show d.val = win0_5.index t 1 * 2048 + 1 * d.val
      rw [(idx t).2.2.2.2.2, Nat.one_mul]; exact (Nat.zero_add _).symm

end Cert.Proof.ProjKernel

end
-- ==== Proof.Proj.Ref.lean ====
/- The output projection of the attention: what its reference computes, at an index, and the equation. -/
module

public import proofs.«01_k».proof.Proof.Gen.ProjRefIdeal.Read
public import proofs.«01_k».proof.Proof.Proj.Kernel

@[expose] public section

set_option maxRecDepth 16384

noncomputable section

namespace Cert.Proof.ProjRef

open Cert.ProjRefIdeal Cert.ProjRefIdeal.Gen Cert.ProjRefIdeal.Read Idealize.ShloMosaic Cert.Proof.MlpRef
open Cert.Proof.MlpBlocks (batch)

variable (x0 : FVec Ideal S16384x2048 .bf16) (x1 : FVec Ideal S512x2048 .bf16) (x2 : FVec Ideal S16896x2048 .f32)
  (x3 : FVec Ideal S3x1x12288 .f32) (x4 : FVec Ideal S2048x2048 .f32)

/-- The attention's output in a row, from the reference's arguments. -/
abbrev attended (ρ : Fin 16896) (k : Fin 2048) : EReal :=
  ProjKernel.attended (fun ρ k => x0 (ix2 ρ k)) (fun ρ k => x1 (ix2 ρ k)) ρ k

/-- A result row, from the reference's arguments. -/
abbrev result (ρ : Fin 16896) (d : Fin 2048) : EReal :=
  ProjKernel.result (fun ρ k => x0 (ix2 ρ k)) (fun ρ k => x1 (ix2 ρ k)) (fun ρ d => x2 (ix2 ρ d))
    (fun b i => x3 (ix3 b (0 : Fin 1) i)) (fun k d => x4 (ix2 k d)) ρ d

/-- The attention's output in the latent rows, by batch and position. -/
theorem inX_at (b : Fin 2) (t : Fin 8192) (k : Fin 2048) :
    val_main_v8 (F := Ideal) x0 (ix3 b t k) = attended x0 x1 (latent b t) k := by
  have h : (latent b t).val < 16384 := by show b.val * 8192 + t.val < 16384; omega
  unfold attended ProjKernel.attended
  rw [dif_pos h]
  unfold latent
  pointwise [val_main_v8, val_main_v7]

/-- The attention's output in the context rows, by batch and position. -/
theorem inC_at (b : Fin 2) (t : Fin 256) (k : Fin 2048) :
    val_main_v11 (F := Ideal) x1 (ix3 b t k) = attended x0 x1 (context b t) k := by
  have h : ¬(context b t).val < 16384 := by show ¬16384 + (b.val * 256 + t.val) < 16384; omega
  have hs : (⟨(context b t).val - 16384, by omega⟩ : Fin 512) = ⟨b.val * 256 + t.val, by omega⟩ := by
    apply Fin.ext; show 16384 + (b.val * 256 + t.val) - 16384 = b.val * 256 + t.val; omega
  unfold attended ProjKernel.attended
  rw [dif_neg h, hs]
  pointwise [val_main_v11, val_main_v10]

/-- The latent rows' results. -/
theorem outX_at (b : Fin 2) (t : Fin 8192) (d : Fin 2048) :
    val_main_v19 (F := Ideal) x0 x2 x3 x4 (ix3 b t d) = result x0 x1 x2 x3 x4 (latent b t) d := by
  unfold result ProjKernel.result
  rw [batch_latent]
  pointwise [val_main_v19, val_main_v18, val_main_v17, val_main_v16, val_main_v15, val_main_v14, val_main_v13, val_main_v9,
    val_main_v3, val_main_v0]
  simp only [inX_at x0 x1]
  rfl

/-- The context rows' results. -/
theorem outC_at (b : Fin 2) (t : Fin 256) (d : Fin 2048) :
    val_main_v26 (F := Ideal) x1 x2 x3 x4 (ix3 b t d) = result x0 x1 x2 x3 x4 (context b t) d := by
  unfold result ProjKernel.result
  rw [batch_context]
  pointwise [val_main_v26, val_main_v25, val_main_v24, val_main_v23, val_main_v22, val_main_v21, val_main_v20, val_main_v12,
    val_main_v3, val_main_v0]
  simp only [inC_at x0 x1]
  rfl

/-- **The reference's entry.** -/
theorem entry (ρ : Fin 16896) (d : Fin 2048) :
    val_main_v29 (F := Ideal) x0 x1 x2 x3 x4 (ix2 ρ d) = result x0 x1 x2 x3 x4 ρ d := by
  pointwise [val_main_v29, val_main_v28, val_main_v27]
  by_cases h : ρ.val < 16384
  · rw [dif_pos h]
    refine (outX_at x0 x1 x2 x3 x4 _ _ _).trans ?_
    rw [Streams.latent_of ρ h]
  · rw [dif_neg h]
    refine (outC_at x0 x1 x2 x3 x4 _ _ _).trans ?_
    rw [Streams.context_of ρ h]

end Cert.Proof.ProjRef

namespace Cert.Proof.ProjEquation

open Cert.ProjIdeal Cert.ProjIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16384x2048 .bf16)
    (x1 : FVec Ideal S512x2048 .bf16) (x2 : FVec Ideal S16896x2048 .f32) (x3 : FVec Ideal S3x1x12288 .f32)
    (x4 : FVec Ideal S2048x2048 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) :
    (dats m 0 c).arrAt 5 cfg0.N = Cert.ProjRefIdeal.Read.val_main_v29 (F := Ideal) x0 x1 x2 x3 x4 := by
  subst h0 h1 h2 h3 h4
  exact ProjKernel.array m c _ fun ρ d => ProjRef.entry _ _ _ _ _ ρ d

end Cert.Proof.ProjEquation

end
-- ==== Proof.LatentIn.Kernel.lean ====
/- The input projection of the attention: what its call leaves.  Point `t` is row tile `t`, of all columns; the weights come
   with columns of zeros up to 1408. -/
module

public import proofs.«01_k».proof.Proof.Gen.LatentInIdeal.Frame
public import Idealize.ShloMosaic.Lib.Pipeline.ValueKit
public import Idealize.ShloMosaic.Lib.Pipeline.ReadBack
public import proofs.«01_k».proof.Proof.Streams.Rows

@[expose] public section

set_option maxRecDepth 16384

noncomputable section

namespace Cert.Proof.LatentInKernel

open Cert.LatentInIdeal Cert.LatentInIdeal.Gen Idealize.ShloMosaic Idealize.ShloMosaic.TcCoe Idealize.SL.Sem
open Cert.Proof.MlpBlocks (batch)

/-- The modulated rows of a block. -/
theorem unit_at (x : Vec Ideal S256x2048 .f32) (g : Vec Ideal S1x2048 .f32) (sh sc : Vec Ideal S1x1x2048 .f32) (r : Fin 256) (e : Fin 2048) :
    k0_pay1 (F := Ideal) x g sh sc (ix2 r e) = MlpRow.unit (fun i => x (ix2 r i)) (fun i => g (ix2 (0 : Fin 1) i))
      (fun i => sh (ix3 (0 : Fin 1) (0 : Fin 1) i)) (fun i => sc (ix3 (0 : Fin 1) (0 : Fin 1) i)) e := by
  pointwise [k0_pay1, MlpRow.unit]

/-- A block of the product. -/
theorem product_at (u : Vec Ideal S256x2048 .bf16) (w : Vec Ideal S2048x1408 .bf16) (r : Fin 256) (d : Fin 1408) :
    k0_pay2 (F := Ideal) u w (ix2 r d) = ∑ e : Fin 2048, u (ix2 r e) * w (ix2 e d) := by
  pointwise [k0_pay2]

variable (m : (ℓ : Loc nD τ sig) → Buf (Elt Ideal) ℓ) (c : Dev nD) (t : Fin cfg0.N)

/-- What a point stores. -/
theorem block : outsAt0 m c t
    = k0_pay2 (F := Ideal) (k0_pay1 (iblk m c 0 t) (iblk m c 1 t) (iblk m c 2 t) (iblk m c 3 t)) (iblk m c 4 t) := by
  unfold outsAt0
  frame_out

/-- The block indices of the six windows. -/
theorem idx : ∀ t : Fin cfg0.N,
    win0_0.index t = ![t.val, 0] ∧ win0_1.index t = ![0, 0] ∧ win0_2.index t = ![min (t.val / 32) 2, 0, 0]
    ∧ win0_3.index t = ![min (t.val / 32) 2, 0, 1] ∧ win0_4.index t = ![0, 0] ∧ win0_5.index t = ![t.val, 0] :=
  (by decide +kernel : ∀ t : Fin grid0.N, _)

theorem points (t : Fin cfg0.N) : t.val < 66 := Nat.lt_of_lt_of_eq t.isLt N_0

/-- The row of the array that is row `r` of a point's tile. -/
def row (r : Fin 256) : Fin 16896 := ⟨t.val * 256 + r.val, by have := points t; omega⟩

theorem batch_row (r : Fin 256) : batch (row t r) = ⟨min (t.val / 32) 2, by omega⟩ := by
  have h := points t
  apply Fin.ext; show min ((t.val * 256 + r.val) / 8192) 2 = min (t.val / 32) 2; omega

/-- The arguments of the call by their indices, as the launch finds them. -/
abbrev X (ρ : Fin 16896) (e : Fin 2048) : EReal := (m ((c : Thread nD τ).loc main_arg0) : Vec Ideal S16896x2048 .f32) (ix2 ρ e)
abbrev G (e : Fin 2048) : EReal := (m ((c : Thread nD τ).loc main_arg1) : Vec Ideal S2048 .f32) (ix1 e)
abbrev M (b : Fin 3) (i : Fin 12288) : EReal := (m ((c : Thread nD τ).loc main_arg2) : Vec Ideal S3x1x12288 .f32) (ix3 b (0 : Fin 1) i)
abbrev W (e : Fin 2048) (d : Fin 1344) : EReal := (m ((c : Thread nD τ).loc main_arg3) : Vec Ideal S2048x1344 .f32) (ix2 e d)

/-- The input rows of a point. -/
theorem row_at (r : Fin 256) (e : Fin 2048) :
    (iblk m c 0 t : Vec Ideal S256x2048 .f32) (ix2 r e) = X m c (row t r) e := by
  unfold row
  blk_point [iblk, V, idx t]

/-- The weight of the norm. -/
theorem weight_held : V m c main_v2
    = shapeCast S1x2048 (m ((c : Thread nD τ).loc main_arg1) : Vec Ideal S2048 .f32) shapeCasts_S2048_S1x2048 := by
  simp only [V, hostOps0, hostOps0_1, hostOps0_2, List.flatten_cons, List.flatten_nil, List.cons_append, List.nil_append]
  after_results_simp
  rfl

/-- The columns as the call finds them: the weights, rounded, with columns of zeros after them. -/
theorem columns_held : V m c main_v1
    = (truncf .bf16 (pad S2048x1408 ![0, 0] ![0, 64] ![0, 0] (m ((c : Thread nD τ).loc main_arg3) : Vec Ideal S2048x1344 .f32)
        (sitofp (F := Ideal) .f32 (constantI S_ 32 0#32)) pads_S2048x1344_S2048x1408_000_0640 h_S_) bitsLt_bf16_f32
        : Vec Ideal S2048x1408 .bf16) := by
  simp only [V, hostOps0, hostOps0_1, hostOps0_2, List.flatten_cons, List.flatten_nil, List.cons_append, List.nil_append]
  after_results_simp
  rfl

/-- The weight of the norm. -/
theorem weight_at (e : Fin 2048) : (iblk m c 1 t : Vec Ideal S1x2048 .f32) (ix2 (0 : Fin 1) e) = G m c e := by
  blk_simp [iblk, idx t]
  rw [weight_held]
  pointwise
  blk_ext [idx t]

/-- The shift of a point's rows. -/
theorem shift_at (r : Fin 256) (e : Fin 2048) : (iblk m c 2 t : Vec Ideal S1x1x2048 .f32) (ix3 (0 : Fin 1) (0 : Fin 1) e)
    = M m c (batch (row t r)) ⟨e.val, by omega⟩ := by
  rw [batch_row]
  blk_point [iblk, V, idx t]

/-- The scale of a point's rows. -/
theorem scale_at (r : Fin 256) (e : Fin 2048) : (iblk m c 3 t : Vec Ideal S1x1x2048 .f32) (ix3 (0 : Fin 1) (0 : Fin 1) e)
    = M m c (batch (row t r)) ⟨2048 + e.val, by omega⟩ := by
  rw [batch_row]
  blk_point [iblk, V, idx t]

/-- A column of the weights, or of zeros. -/
def padded (W : Fin 2048 → Fin 1344 → EReal) (e : Fin 2048) (d : Fin 1408) : EReal :=
  if h : d.val < 1344 then W e ⟨d.val, h⟩ else 0

/-- The integer nought, as a number. -/
theorem zero_held : FloatOps.sitofp (F := Ideal) (w := 32) .f32 0#32 = (0 : EReal) := by
  show (((0#32 : BitVec 32).toInt : ℝ) : EReal) = 0
  rw [show (0#32 : BitVec 32).toInt = 0 from rfl, Int.cast_zero, EReal.coe_zero]

/-- The padded weights by their indices. -/
theorem padded_at (w : Vec Ideal S2048x1344 .f32) (e : Fin 2048) (d : Fin 1408) :
    (truncf .bf16 (pad S2048x1408 ![0, 0] ![0, 64] ![0, 0] w (sitofp (F := Ideal) .f32 (constantI S_ 32 0#32))
      pads_S2048x1344_S2048x1408_000_0640 h_S_) bitsLt_bf16_f32 : Vec Ideal S2048x1408 .bf16) (ix2 e d)
      = padded (fun e d => w (ix2 e d)) e d := by
  unfold padded
  pointwise
  simp only [zero_held]

/-- The columns of the weights are read whole at every point. -/
theorem whole_at (e : Fin 2048) (d : Fin 1408) : (win0_4.blk t).view.emb (ix2 e d) = (ix2 e d : S2048x1408.Idx) := by
  funext a
  apply Fin.ext
  match a with
  | ⟨0, _⟩ =>
      show win0_4.index t 0 * 2048 + 1 * e.val = e.val
      rw [(idx t).2.2.2.2.1, Nat.one_mul]; exact Nat.zero_add _
  | ⟨1, _⟩ =>
      show win0_4.index t 1 * 1408 + 1 * d.val = d.val
      rw [(idx t).2.2.2.2.1, Nat.one_mul]; exact Nat.zero_add _

/-- The weights. -/
theorem column_at (e : Fin 2048) (d : Fin 1408) :
    (iblk m c 4 t : Vec Ideal S2048x1408 .bf16) (ix2 e d) = padded (W m c) e d := by
  blk_simp [iblk, idx t]
  rw [columns_held]
  exact (congrArg _ (whole_at t e d)).trans (padded_at _ e d)

/-- **The array the call leaves**: any array that holds the projected rows at every entry. -/
theorem array (R : Vec Ideal S16896x1408 .f32) (hR : ∀ (ρ : Fin 16896) (d : Fin 1408),
      R (ix2 ρ d) = Streams.projected (X m c) (G m c) (M m c) (fun e => padded (W m c) e d) ρ) :
    (dats m 0 c).arrAt 5 cfg0.N = R := by
  refine (dats m 0 c).arrAt_eq_of_covers 5 _ (by decide +kernel) fun t hf y => ?_
  blk_simp
  rw [after0_5, block m c t]
  obtain ⟨r, d, rfl⟩ : ∃ (r : Fin 256) (d : Fin 1408), y = ix2 r d := ⟨y 0, y 1, eq_ix2 (n0 := 256) (n1 := 1408) y⟩
  refine (product_at _ _ r d).trans ?_
  simp only [unit_at, row_at, weight_at, shift_at m c _ r, scale_at m c _ r, column_at]
  refine (hR (row t r) d).symm.trans (congrArg R ?_)
  funext a
  apply Fin.ext
  match a with
  | ⟨0, _⟩ =>
      show t.val * 256 + r.val = win0_5.index t 0 * 256 + 1 * r.val
      rw [(idx t).2.2.2.2.2, Nat.one_mul]; rfl
  | ⟨1, _⟩ =>
      show d.val = win0_5.index t 1 * 1408 + 1 * d.val
      rw [(idx t).2.2.2.2.2, Nat.one_mul]; exact (Nat.zero_add _).symm

end Cert.Proof.LatentInKernel

end
-- ==== Proof.LatentIn.Ref.lean ====
/- The input projection of the latent attention: what its reference computes, at an index, and the equation. -/
module

public import proofs.«01_k».proof.Proof.Gen.LatentInRefIdeal.Read
public import proofs.«01_k».proof.Proof.GdnIn.Ref
public import proofs.«01_k».proof.Proof.LatentIn.Kernel

@[expose] public section

set_option maxRecDepth 16384

noncomputable section

namespace Cert.Proof.LatentInRef

open Cert.LatentInRefIdeal Cert.LatentInRefIdeal.Gen Cert.LatentInRefIdeal.Read Idealize.ShloMosaic Cert.Proof.MlpRef
open Cert.Proof.GdnInRef (normed)

variable (x0 : FVec Ideal S16896x2048 .f32) (x1 : FVec Ideal S2048 .f32) (x2 : FVec Ideal S3x1x12288 .f32)
  (x3 : FVec Ideal S2048x1344 .f32)

/-- The modulated latent rows: the first steps are those of the other projection. -/
theorem modX_at (b : Fin 2) (t : Fin 8192) (e : Fin 2048) :
    val_main_v31 (F := Ideal) x0 x1 x2 (ix3 b t e) = normed x0 x1 x2 (latent b t) e :=
  GdnInRef.modX_at x0 x1 x2 b t e

/-- The modulated context rows. -/
theorem modC_at (b : Fin 2) (t : Fin 256) (e : Fin 2048) :
    val_main_v56 (F := Ideal) x0 x1 x2 (ix3 b t e) = normed x0 x1 x2 (context b t) e :=
  GdnInRef.modC_at x0 x1 x2 b t e

/-- The latent rows' projections. -/
theorem outX_at (b : Fin 2) (t : Fin 8192) (d : Fin 1344) : val_main_v57 (F := Ideal) x0 x1 x2 x3 (ix3 b t d)
    = ∑ e : Fin 2048, normed x0 x1 x2 (latent b t) e * x3 (ix2 e d) := by
  pointwise [val_main_v57]
  simp only [modX_at]

/-- The context rows' projections. -/
theorem outC_at (b : Fin 2) (t : Fin 256) (d : Fin 1344) : val_main_v58 (F := Ideal) x0 x1 x2 x3 (ix3 b t d)
    = ∑ e : Fin 2048, normed x0 x1 x2 (context b t) e * x3 (ix2 e d) := by
  pointwise [val_main_v58]
  simp only [modC_at]

/-- The projections of all the rows. -/
theorem rows_at (ρ : Fin 16896) (d : Fin 1344) : val_main_v61 (F := Ideal) x0 x1 x2 x3 (ix2 ρ d)
    = ∑ e : Fin 2048, normed x0 x1 x2 ρ e * x3 (ix2 e d) := by
  pointwise [val_main_v61, val_main_v60, val_main_v59]
  by_cases h : ρ.val < 16384
  · rw [dif_pos h]
    refine (outX_at x0 x1 x2 x3 _ _ _).trans ?_
    rw [Streams.latent_of ρ h]
  · rw [dif_neg h]
    refine (outC_at x0 x1 x2 x3 _ _ _).trans ?_
    rw [Streams.context_of ρ h]

/-- **The reference's entry**: a projection, or a column of zeros. -/
theorem entry (ρ : Fin 16896) (d : Fin 1408) : val_main_v62 (F := Ideal) x0 x1 x2 x3 (ix2 ρ d)
    = ∑ e : Fin 2048, normed x0 x1 x2 ρ e * LatentInKernel.padded (fun e d => x3 (ix2 e d)) e d := by
  unfold LatentInKernel.padded
  pointwise [val_main_v62, val_main_call0_v0, val_main_c]
  by_cases h : d.val < 1344
  · simp only [dif_pos h]
    exact rows_at x0 x1 x2 x3 ρ ⟨d.val, h⟩
  · simp only [dif_neg h, mul_zero, Finset.sum_const_zero]
    exact LatentInKernel.zero_held

end Cert.Proof.LatentInRef

namespace Cert.Proof.LatentInEquation

open Cert.LatentInIdeal Cert.LatentInIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16896x2048 .f32) (x1 : FVec Ideal S2048 .f32)
    (x2 : FVec Ideal S3x1x12288 .f32) (x3 : FVec Ideal S2048x1344 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    (dats m 0 c).arrAt 5 cfg0.N = Cert.LatentInRefIdeal.Read.val_main_v62 (F := Ideal) x0 x1 x2 x3 := by
  subst h0 h1 h2 h3
  exact LatentInKernel.array m c _ fun ρ d => LatentInRef.entry _ _ _ _ ρ d

end Cert.Proof.LatentInEquation

end
-- ==== Proof.ProjLast.Kernel.lean ====
/- The output projection of the last attention, which keeps the latent rows only: what its call leaves.  Point `t` is row
   tile `t`. -/
module

public import proofs.«01_k».proof.Proof.Gen.ProjLastIdeal.Frame
public import Idealize.ShloMosaic.Lib.Pipeline.ValueKit
public import Idealize.ShloMosaic.Lib.Pipeline.ReadBack
public import proofs.«01_k».proof.Proof.Streams.Rows

@[expose] public section

set_option maxRecDepth 16384

noncomputable section

namespace Cert.Proof.ProjLastKernel

open Cert.ProjLastIdeal Cert.ProjLastIdeal.Gen Idealize.ShloMosaic Idealize.ShloMosaic.TcCoe Idealize.SL.Sem

/-- Entry `(ρ, d)` of the result: the row plus its gated products. -/
def result (O : Fin 16384 → Fin 2048 → EReal) (X : Fin 16896 → Fin 2048 → EReal) (M : Fin 3 → Fin 12288 → EReal)
    (W : Fin 2048 → Fin 2048 → EReal) (ρ : Fin 16384) (d : Fin 2048) : EReal :=
  X ⟨ρ.val, by omega⟩ d + M ⟨ρ.val / 8192, by omega⟩ ⟨4096 + d.val, by omega⟩ * ∑ k : Fin 2048, O ρ k * W k d

/-- A block: the rows plus the gated products. -/
theorem stored_at (x : Vec Ideal S512x2048 .f32) (g : Vec Ideal S1x1x2048 .f32) (a : Vec Ideal S512x2048 .bf16)
    (w : Vec Ideal S2048x2048 .bf16) (r : Fin 512) (d : Fin 2048) : k0_pay1 (F := Ideal) x g a w (ix2 r d)
      = x (ix2 r d) + g (ix3 (0 : Fin 1) (0 : Fin 1) d) * ∑ k : Fin 2048, a (ix2 r k) * w (ix2 k d) := by
  pointwise [k0_pay1]

/-- What the body leaves, from the blocks it reads. -/
theorem left_eq (a : Vec Ideal S512x2048 .bf16) (x : Vec Ideal S512x2048 .f32) (g : Vec Ideal S1x1x2048 .f32)
    (w : Vec Ideal S2048x2048 .bf16) : out0_4 (F := Ideal) a x g w = k0_pay1 x g a w := by
  have ha : View.ld a r0_0 = a := View.ld_unit_lit _ a (by decide)
  have hx : View.ld x r0_0 = x := View.ld_unit_lit _ x (by decide)
  have hg : View.ld g r0_1 = g := View.ld_unit_lit _ g (by decide)
  have hw : View.ld w r0_2 = w := View.ld_unit_lit _ w (by decide)
  unfold out0_4
  refine (View.canon_cons_unit_lit _ _ _ (by decide)).trans ?_
  rw [ha, hx, hg, hw]

variable (m : (ℓ : Loc nD τ sig) → Buf (Elt Ideal) ℓ) (c : Dev nD) (t : Fin cfg0.N)

theorem points (t : Fin cfg0.N) : t.val < 32 := Nat.lt_of_lt_of_eq t.isLt N_0

/-- What a point stores. -/
theorem block : (dats m 0 c).after 4 t
    = k0_pay1 (F := Ideal) (iblk m c 1 t) (iblk m c 2 t) (iblk m c 0 t) (iblk m c 3 t) := by
  rw [after0_4]
  exact left_eq _ _ _ _

/-- The block indices of the five windows. -/
theorem idx : ∀ t : Fin cfg0.N,
    win0_0.index t = ![t.val, 0] ∧ win0_1.index t = ![t.val, 0] ∧ win0_2.index t = ![t.val / 16, 0, 2]
    ∧ win0_3.index t = ![0, 0] ∧ win0_4.index t = ![t.val, 0] :=
  (by decide +kernel : ∀ t : Fin grid0.N, _)

/-- The row of the array that is row `r` of a point's tile. -/
def row (r : Fin 512) : Fin 16384 := ⟨t.val * 512 + r.val, by have := points t; omega⟩

theorem batch_row (r : Fin 512) : (⟨(row t r).val / 8192, by omega⟩ : Fin 3) = ⟨t.val / 16, by have := points t; omega⟩ := by
  have h := points t
  apply Fin.ext; show (t.val * 512 + r.val) / 8192 = t.val / 16; omega

/-- The arguments of the call by their indices, as the launch finds them. -/
abbrev O (ρ : Fin 16384) (k : Fin 2048) : EReal := (m ((c : Thread nD τ).loc main_arg0) : Vec Ideal S16384x2048 .bf16) (ix2 ρ k)
abbrev X (ρ : Fin 16896) (d : Fin 2048) : EReal := (m ((c : Thread nD τ).loc main_arg1) : Vec Ideal S16896x2048 .f32) (ix2 ρ d)
abbrev M (b : Fin 3) (i : Fin 12288) : EReal := (m ((c : Thread nD τ).loc main_arg2) : Vec Ideal S3x1x12288 .f32) (ix3 b (0 : Fin 1) i)
abbrev W (k : Fin 2048) (d : Fin 2048) : EReal := (m ((c : Thread nD τ).loc main_arg3) : Vec Ideal S2048x2048 .f32) (ix2 k d)

/-- The attention's output at a point. -/
theorem in_at (r : Fin 512) (k : Fin 2048) : (iblk m c 0 t : Vec Ideal S512x2048 .bf16) (ix2 r k) = O m c (row t r) k := by
  unfold row
  blk_point [iblk, V, idx t]

/-- The rows of the stream at a point. -/
theorem row_at (r : Fin 512) (d : Fin 2048) :
    (iblk m c 1 t : Vec Ideal S512x2048 .f32) (ix2 r d) = X m c ⟨(row t r).val, by omega⟩ d := by
  unfold row
  blk_point [iblk, V, idx t]

/-- The gate of a point's rows. -/
theorem gate_at (r : Fin 512) (d : Fin 2048) : (iblk m c 2 t : Vec Ideal S1x1x2048 .f32) (ix3 (0 : Fin 1) (0 : Fin 1) d)
    = M m c ⟨(row t r).val / 8192, by omega⟩ ⟨4096 + d.val, by omega⟩ := by
  rw [batch_row]
  blk_point [iblk, V, idx t]

/-- The weights. -/
theorem weights_at (k : Fin 2048) (d : Fin 2048) : (iblk m c 3 t : Vec Ideal S2048x2048 .bf16) (ix2 k d) = W m c k d := by
  blk_point [iblk, V, idx t]

/-- What a point stores, in terms of the arrays. -/
theorem block_at (r : Fin 512) (d : Fin 2048) : ((dats m 0 c).after 4 t : Vec Ideal S512x2048 .f32) (ix2 r d)
    = result (O m c) (X m c) (M m c) (W m c) (row t r) d := by
  rw [block m c t, stored_at, row_at, gate_at m c t r]
  simp only [in_at, weights_at]
  rfl

/-- **The array the call leaves**: any array that holds `result` at every entry. -/
theorem array (R : Vec Ideal S16384x2048 .f32) (hR : ∀ (ρ : Fin 16384) (d : Fin 2048),
      R (ix2 ρ d) = result (O m c) (X m c) (M m c) (W m c) ρ d) :
    (dats m 0 c).arrAt 4 cfg0.N = R := by
  refine (dats m 0 c).arrAt_eq_of_covers 4 _ (by decide +kernel) fun t hf y => ?_
  blk_simp
  obtain ⟨r, d, rfl⟩ : ∃ (r : Fin 512) (d : Fin 2048), y = ix2 r d := ⟨y 0, y 1, eq_ix2 (n0 := 512) (n1 := 2048) y⟩
  refine (block_at m c t r d).trans ?_
  refine (hR (row t r) d).symm.trans (congrArg R ?_)
  funext a
  apply Fin.ext
  match a with
  | ⟨0, _⟩ =>
      show t.val * 512 + r.val = win0_4.index t 0 * 512 + 1 * r.val
      rw [(idx t).2.2.2.2, Nat.one_mul]; rfl
  | ⟨1, _⟩ =>
      show d.val = win0_4.index t 1 * 2048 + 1 * d.val
      rw [(idx t).2.2.2.2, Nat.one_mul]; exact (Nat.zero_add _).symm

end Cert.Proof.ProjLastKernel

end
-- ==== Proof.ProjLast.Ref.lean ====
/- The output projection of the last attention: what its reference computes, at an index, and the equation. -/
module

public import proofs.«01_k».proof.Proof.Gen.ProjLastRefIdeal.Read
public import proofs.«01_k».proof.Proof.ProjLast.Kernel

@[expose] public section

set_option maxRecDepth 16384

noncomputable section

namespace Cert.Proof.ProjLastRef

open Cert.ProjLastRefIdeal Cert.ProjLastRefIdeal.Gen Cert.ProjLastRefIdeal.Read Idealize.ShloMosaic

variable (x0 : FVec Ideal S16384x2048 .bf16) (x1 : FVec Ideal S16896x2048 .f32) (x2 : FVec Ideal S3x1x12288 .f32)
  (x3 : FVec Ideal S2048x2048 .f32)

/-- **The reference's entry.** -/
theorem entry (ρ : Fin 16384) (d : Fin 2048) : val_main_v17 (F := Ideal) x0 x1 x2 x3 (ix2 ρ d)
    = ProjLastKernel.result (fun ρ k => x0 (ix2 ρ k)) (fun ρ d => x1 (ix2 ρ d)) (fun b i => x2 (ix3 b (0 : Fin 1) i))
        (fun k d => x3 (ix2 k d)) ρ d := by
  unfold ProjLastKernel.result
  pointwise [val_main_v17, val_main_v16, val_main_v15, val_main_v14, val_main_v13, val_main_v12, val_main_v11, val_main_v10,
    val_main_v9, val_main_v8, val_main_v7, val_main_v3, val_main_v0]

end Cert.Proof.ProjLastRef

namespace Cert.Proof.ProjLastEquation

open Cert.ProjLastIdeal Cert.ProjLastIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16384x2048 .bf16)
    (x1 : FVec Ideal S16896x2048 .f32) (x2 : FVec Ideal S3x1x12288 .f32) (x3 : FVec Ideal S2048x2048 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    (dats m 0 c).arrAt 4 cfg0.N = Cert.ProjLastRefIdeal.Read.val_main_v17 (F := Ideal) x0 x1 x2 x3 := by
  subst h0 h1 h2 h3
  exact ProjLastKernel.array m c _ fun ρ d => ProjLastRef.entry _ _ _ _ ρ d

end Cert.Proof.ProjLastEquation

end
-- ==== Proof.Final.Kernel.lean ====
/- The norm of the latent stream after the last layer: what its call leaves.  Point `t` is row tile `t`. -/
module

public import proofs.«01_k».proof.Proof.Gen.FinalIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FinalKernel

open Cert.FinalIdeal Cert.FinalIdeal.Gen Idealize.ShloMosaic Idealize.ShloMosaic.TcCoe Idealize.SL.Sem

/-- Entry `d` of a row, divided by the root of the row's mean square and scaled. -/
def result (x : Fin 2048 → EReal) (g : Fin 2048 → EReal) (d : Fin 2048) : EReal :=
  x d * Ideal.rsqrt (Ideal.div (∑ k : Fin 2048, x k * x k) (Ideal.ofBits .f32 0x45000000#32) + Ideal.ofBits .f32 0x358637BD#32) * g d

/-- A block: each row normed. -/
theorem stored_at (x : Vec Ideal S512x2048 .f32) (g : Vec Ideal S1x2048 .f32) (r : Fin 512) (d : Fin 2048) :
    k0_pay1 (F := Ideal) x g (ix2 r d) = result (fun k => x (ix2 r k)) (fun k => g (ix2 (0 : Fin 1) k)) d := by
  unfold result
  pointwise [k0_pay1]

/-- What the body leaves, from the blocks it reads. -/
theorem left_eq (x : Vec Ideal S512x2048 .f32) (g : Vec Ideal S1x2048 .f32) : out0_2 (F := Ideal) x g = k0_pay1 x g := by
  have hx : View.ld x r0_0 = x := View.ld_unit_lit _ x (by decide)
  have hg : View.ld g r0_1 = g := View.ld_unit_lit _ g (by decide)
  unfold out0_2
  refine (View.canon_cons_unit_lit _ _ _ (by decide)).trans ?_
  rw [hx, hg]

variable (m : (ℓ : Loc nD τ sig) → Buf (Elt Ideal) ℓ) (c : Dev nD) (t : Fin cfg0.N)

theorem points (t : Fin cfg0.N) : t.val < 32 := Nat.lt_of_lt_of_eq t.isLt N_0

/-- What a point stores. -/
theorem block : (dats m 0 c).after 2 t = k0_pay1 (F := Ideal) (iblk m c 0 t) (iblk m c 1 t) := by
  rw [after0_2]
  exact left_eq _ _

/-- The block indices of the three windows. -/
theorem idx : ∀ t : Fin cfg0.N,
    win0_0.index t = ![t.val, 0] ∧ win0_1.index t = ![0, 0] ∧ win0_2.index t = ![t.val, 0] :=
  (by decide +kernel : ∀ t : Fin grid0.N, _)

/-- The row of the array that is row `r` of a point's tile. -/
def row (r : Fin 512) : Fin 16384 := ⟨t.val * 512 + r.val, by have := points t; omega⟩

/-- The arguments of the call by their indices, as the launch finds them. -/
abbrev X (ρ : Fin 16384) (d : Fin 2048) : EReal := (m ((c : Thread nD τ).loc main_arg0) : Vec Ideal S16384x2048 .f32) (ix2 ρ d)
abbrev G (d : Fin 2048) : EReal := (m ((c : Thread nD τ).loc main_arg1) : Vec Ideal S2048 .f32) (ix1 d)

/-- The rows of the stream at a point. -/
theorem row_at (r : Fin 512) (d : Fin 2048) : (iblk m c 0 t : Vec Ideal S512x2048 .f32) (ix2 r d) = X m c (row t r) d := by
  unfold row
  blk_point [iblk, V, idx t]

/-- The scale. -/
theorem scale_at (d : Fin 2048) : (iblk m c 1 t : Vec Ideal S1x2048 .f32) (ix2 (0 : Fin 1) d) = G m c d := by
  blk_point [iblk, V, idx t]

/-- What a point stores, in terms of the arrays. -/
theorem block_at (r : Fin 512) (d : Fin 2048) :
    ((dats m 0 c).after 2 t : Vec Ideal S512x2048 .f32) (ix2 r d) = result (X m c (row t r)) (G m c) d := by
  rw [block m c t, stored_at]
  simp only [row_at, scale_at]

/-- **The array the call leaves**: any array that holds `result` at every entry. -/
theorem array (R : Vec Ideal S16384x2048 .f32) (hR : ∀ (ρ : Fin 16384) (d : Fin 2048), R (ix2 ρ d) = result (X m c ρ) (G m c) d) :
    (dats m 0 c).arrAt 2 cfg0.N = R := by
  refine (dats m 0 c).arrAt_eq_of_covers 2 _ (by decide +kernel) fun t hf y => ?_
  blk_simp
  obtain ⟨r, d, rfl⟩ : ∃ (r : Fin 512) (d : Fin 2048), y = ix2 r d := ⟨y 0, y 1, eq_ix2 (n0 := 512) (n1 := 2048) y⟩
  refine (block_at m c t r d).trans ?_
  refine (hR (row t r) d).symm.trans (congrArg R ?_)
  funext a
  apply Fin.ext
  match a with
  | ⟨0, _⟩ =>
      show t.val * 512 + r.val = win0_2.index t 0 * 512 + 1 * r.val
      rw [(idx t).2.2, Nat.one_mul]; rfl
  | ⟨1, _⟩ =>
      show d.val = win0_2.index t 1 * 2048 + 1 * d.val
      rw [(idx t).2.2, Nat.one_mul]; exact (Nat.zero_add _).symm

end Cert.Proof.FinalKernel

end
-- ==== Proof.Final.Ref.lean ====
/- The norm of the latent stream after the last layer: what its reference computes, at an index, and the equation. -/
module

public import proofs.«01_k».proof.Proof.Gen.FinalRefIdeal.Read
public import proofs.«01_k».proof.Proof.Final.Kernel

@[expose] public section

set_option maxRecDepth 16384

noncomputable section

namespace Cert.Proof.FinalRef

open Cert.FinalRefIdeal Cert.FinalRefIdeal.Gen Cert.FinalRefIdeal.Read Idealize.ShloMosaic

variable (x0 : FVec Ideal S16384x2048 .f32) (x1 : FVec Ideal S2048 .f32)

/-- **The reference's entry.** -/
theorem entry (ρ : Fin 16384) (d : Fin 2048) : val_main_v14 (F := Ideal) x0 x1 (ix2 ρ d)
    = FinalKernel.result (fun k => x0 (ix2 ρ k)) (fun k => x1 (ix1 k)) d := by
  unfold FinalKernel.result
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]

end Cert.Proof.FinalRef

namespace Cert.Proof.FinalEquation

open Cert.FinalIdeal Cert.FinalIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16384x2048 .f32)
    (x1 : FVec Ideal S2048 .f32)
    (h0 : m ((c : Thread nD τ).loc main_arg0) = x0) (h1 : m ((c : Thread nD τ).loc main_arg1) = x1) :
    (dats m 0 c).arrAt 2 cfg0.N = Cert.FinalRefIdeal.Read.val_main_v14 (F := Ideal) x0 x1 := by
  subst h0 h1
  exact FinalKernel.array m c _ fun ρ d => FinalRef.entry _ _ ρ d

end Cert.Proof.FinalEquation

end
-- ==== Proof.LatentUp.Turn.lean ====
/- The rotary turn of a block of 128 lanes: what the kernel stores of a block, lane by lane, and the blocks of 128 columns
   that a point's queries and keys are made of. -/
module

public import proofs.«01_k».proof.Proof.Gen.LatentUpIdeal.Frame
public import Idealize.ShloMosaic.Lib.Pipeline.ValueKit
public import Idealize.ShloMosaic.Lib.Pointwise

@[expose] public section

set_option maxRecDepth 16384

noncomputable section

namespace Cert.Proof.LatentUpTurn

open Cert.LatentUpIdeal Cert.LatentUpIdeal.Gen Idealize.ShloMosaic Idealize.ShloMosaic.TcCoe Idealize.SL.Sem

/-- The lane whose entry is turned with lane `l`'s: sixteen on in the first half of a group of 32, sixteen back in the second. -/
def partner (l : Fin 128) : Fin 128 := if l.val % 32 < 16 then ⟨(l.val + 16) % 128, by omega⟩ else ⟨(l.val + 112) % 128, by omega⟩

/-- A turned block: each lane times the cosines, plus its partner times the sines. -/
def turned (x C S : FVec Ideal S256x128 .f32) : FVec Ideal S256x128 .bf16 :=
  k0_pay14 (F := Ideal) x C S k0_pay11 (k0_pay12 x) (k0_pay13 x)

/-- The mask of the lanes in the first half of their group of 32. -/
theorem mask_at (r : Fin 256) (l : Fin 128) : k0_pay11 (ix2 r l) = if l.val % 32 < 16 then 1#1 else 0#1 := by
  pointwise [k0_pay11]
  revert l
  decide +kernel

/-- A turned block, lane by lane. -/
theorem turned_at (x C S : FVec Ideal S256x128 .f32) (r : Fin 256) (l : Fin 128) :
    turned x C S (ix2 r l) = x (ix2 r l) * C (ix2 r l) + x (ix2 r (partner l)) * S (ix2 r l) := by
  unfold turned partner
  pointwise [k0_pay14, k0_pay12, k0_pay13]
  rw [mask_at]
  by_cases h : l.val % 32 < 16
  · simp only [h, if_true]
    have e : (⟨(l.val + 128 - 112) % 128, by omega⟩ : Fin 128) = ⟨(l.val + 16) % 128, by omega⟩ := by
      apply Fin.ext; show (l.val + 128 - 112) % 128 = (l.val + 16) % 128; omega
    rw [← e]
    rfl
  · simp only [h, if_false]
    have e : (⟨(l.val + 128 - 16) % 128, by omega⟩ : Fin 128) = ⟨(l.val + 112) % 128, by omega⟩ := by
      apply Fin.ext; show (l.val + 128 - 16) % 128 = (l.val + 112) % 128; omega
    rw [← e]
    rfl

/-- The block of 128 columns that begins at column `128 j`. -/
abbrev columns (j : Fin 32) : Rect S256x4096 :=
  Rect.unit (s := S256x4096) ![0, 128 * j.val] S256x128.size fun a => match a with
    | ⟨0, _⟩ => (by decide : 0 + 256 ≤ 256)
    | ⟨1, _⟩ => (by have := j.isLt; show 128 * j.val + 128 ≤ 4096; omega)

/-- An entry of a block, by its column in the array. -/
theorem emb_at (j : Fin 32) (r : Fin 256) (l : Fin 128) :
    (columns j).emb (ix2 r l) = (ix2 r ⟨128 * j.val + l.val, by omega⟩ : S256x4096.Idx) := by
  funext a
  apply Fin.ext
  match a with
  | ⟨0, _⟩ => show 0 + 1 * r.val = r.val; omega
  | ⟨1, _⟩ => show 128 * j.val + 1 * l.val = 128 * j.val + l.val; omega

/-- A block of 128 columns with its contents, as it is written. -/
abbrev piece (B : Fin 32 → FVec Ideal S256x128 .bf16) (j : Fin 32) : View.Piece (Elt Ideal) S256x4096 .bf16 := ⟨columns j, B j⟩

/-- An array written block by block holds, at a column, the column's entry of its block. -/
theorem pieces_at (B : Fin 32 → FVec Ideal S256x128 .bf16) (L : List (View.Piece (Elt Ideal) S256x4096 .bf16))
    (hL : ∀ j, piece B j ∈ L) (hB : ∀ p ∈ L, ∃ j, p = piece B j) (r : Fin 256) (n : Fin 4096) :
    View.canon L (ix2 r n) = B ⟨n.val / 128, by omega⟩ (ix2 r ⟨n.val % 128, by omega⟩) := by
  have hn : (columns ⟨n.val / 128, by omega⟩).emb (ix2 r ⟨n.val % 128, by omega⟩) = ix2 r n := by
    rw [emb_at]
    congr 1
    apply Fin.ext; show 128 * (n.val / 128) + n.val % 128 = n.val; omega
  refine View.canon_eq_of_allAt L (ix2 r n) _ ?_ ?_
  · refine ⟨_, hL ⟨n.val / 128, by omega⟩, ?_⟩
    rw [← hn]
    exact (columns _).idx_mem _
  · intro p hp
    obtain ⟨j, rfl⟩ := hB p hp
    intro x hx
    obtain ⟨r', l, rfl⟩ : ∃ (r' : Fin 256) (l : Fin 128), x = ix2 r' l := ⟨x 0, x 1, eq_ix2 (n0 := 256) (n1 := 128) x⟩
    have hx := (emb_at j r' l).symm.trans hx
    have h0 : r' = r := congrFun hx 0
    have h1 : 128 * j.val + l.val = n.val := congrArg Fin.val (congrFun hx 1)
    have hk : j = ⟨n.val / 128, by omega⟩ := by apply Fin.ext; show j.val = n.val / 128; omega
    have hl : l = ⟨n.val % 128, by omega⟩ := by apply Fin.ext; show l.val = n.val % 128; omega
    show B j (ix2 r' l) = _
    subst h0
    rw [hl]
    exact congrArg (fun i => B i _) hk

/-- The blocks, last first: each is there, and nothing else. -/
theorem in_list (B : Fin 32 → FVec Ideal S256x128 .bf16) (j : Fin 32) : piece B j ∈ List.ofFn fun k : Fin 32 => piece B k.rev :=
  List.mem_ofFn.mpr ⟨j.rev, congrArg (piece B) (Fin.rev_rev j)⟩

theorem of_list (B : Fin 32 → FVec Ideal S256x128 .bf16) (p : View.Piece (Elt Ideal) S256x4096 .bf16)
    (hp : p ∈ List.ofFn fun k : Fin 32 => piece B k.rev) : ∃ j, p = piece B j := by
  obtain ⟨k, hk⟩ := List.mem_ofFn.mp hp
  exact ⟨k.rev, hk.symm⟩

/-- A block of 128 of the 2048 columns of the products lies among them. -/
theorem inside (j : Fin 32) : S256x2048.Slices ![0, j.val / 2 * 128] S256x128 :=
  ⟨rfl, fun a => match a with
    | ⟨0, _⟩ => (by decide : 0 + 256 ≤ 256)
    | ⟨1, _⟩ => (by have := j.isLt; show j.val / 2 * 128 + 128 ≤ 2048; omega)⟩

/-- Block `j` of the queries: columns of the plain products, or a turned block of the others. -/
def queryBlock (N R : FVec Ideal S256x2048 .f32) (C S : FVec Ideal S256x128 .f32) (j : Fin 32) : FVec Ideal S256x128 .bf16 :=
  if j.val % 2 = 0 then
    truncf .bf16 (extractStridedSlice S256x128 ![0, j.val / 2 * 128] N (inside j)) bitsLt_bf16_f32
  else turned (extractStridedSlice S256x128 ![0, j.val / 2 * 128] R (inside j)) C S

/-- A point's queries, at a column. -/
theorem queries_at (x0 : Vec Ideal S256x1408 .f32) (x1 : Vec Ideal S1x768 .f32) (x2 : Vec Ideal S1x512 .f32) (x3 x4 : Vec Ideal S768x2048 .bf16)
    (x5 x6 : Vec Ideal S512x2048 .bf16) (x7 x8 : Vec Ideal S256x128 .f32) (r : Fin 256) (n : Fin 4096) :
    out0_9 x0 x1 x2 x3 x4 x5 x6 x7 x8 (ix2 r n) = queryBlock (k0_pay91 x0 x1 x2 x3 x4 x5 x6 x7 x8) (k0_pay92 x0 x1 x2 x3 x4 x5 x6 x7 x8)
      (k0_pay89 x0 x1 x2 x3 x4 x5 x6 x7 x8) (k0_pay90 x0 x1 x2 x3 x4 x5 x6 x7 x8) ⟨n.val / 128, by omega⟩ (ix2 r ⟨n.val % 128, by omega⟩) := by
  have h : out0_9 x0 x1 x2 x3 x4 x5 x6 x7 x8 = View.canon (List.ofFn fun k : Fin 32 => piece (queryBlock
      (k0_pay91 x0 x1 x2 x3 x4 x5 x6 x7 x8) (k0_pay92 x0 x1 x2 x3 x4 x5 x6 x7 x8) (k0_pay89 x0 x1 x2 x3 x4 x5 x6 x7 x8)
      (k0_pay90 x0 x1 x2 x3 x4 x5 x6 x7 x8)) k.rev) := by
    unfold out0_9
    rfl
  rw [h]
  generalize queryBlock _ _ _ _ = B
  exact pieces_at B _ (in_list B) (of_list B) r n

/-- Block `j` of the keys: columns of the plain products, or the block that all heads share. -/
def keyBlock (N : FVec Ideal S256x2048 .f32) (R : FVec Ideal S256x128 .bf16) (j : Fin 32) : FVec Ideal S256x128 .bf16 :=
  if j.val % 2 = 0 then truncf .bf16 (extractStridedSlice S256x128 ![0, j.val / 2 * 128] N (inside j)) bitsLt_bf16_f32 else R

/-- A point's keys, at a column. -/
theorem keys_at (x0 : Vec Ideal S256x1408 .f32) (x1 : Vec Ideal S1x768 .f32) (x2 : Vec Ideal S1x512 .f32) (x3 x4 : Vec Ideal S768x2048 .bf16)
    (x5 x6 : Vec Ideal S512x2048 .bf16) (x7 x8 : Vec Ideal S256x128 .f32) (r : Fin 256) (n : Fin 4096) :
    out0_10 x0 x1 x2 x3 x4 x5 x6 x7 x8 (ix2 r n) = keyBlock (k0_pay93 x0 x1 x2 x3 x4 x5 x6 x7 x8) (k0_pay94 x0 x1 x2 x3 x4 x5 x6 x7 x8)
      ⟨n.val / 128, by omega⟩ (ix2 r ⟨n.val % 128, by omega⟩) := by
  have h : out0_10 x0 x1 x2 x3 x4 x5 x6 x7 x8 = View.canon (List.ofFn fun k : Fin 32 => piece (keyBlock
      (k0_pay93 x0 x1 x2 x3 x4 x5 x6 x7 x8) (k0_pay94 x0 x1 x2 x3 x4 x5 x6 x7 x8)) k.rev) := by
    unfold out0_10
    rfl
  rw [h]
  generalize keyBlock _ _ = B
  exact pieces_at B _ (in_list B) (of_list B) r n

/-- An entry of a block of the queries. -/
theorem queryBlock_at (N R : FVec Ideal S256x2048 .f32) (C S : FVec Ideal S256x128 .f32) (j : Fin 32) (r : Fin 256) (l : Fin 128) :
    queryBlock N R C S j (ix2 r l) = if j.val % 2 = 0 then N (ix2 r ⟨j.val / 2 * 128 + l.val, by omega⟩) else
      R (ix2 r ⟨j.val / 2 * 128 + l.val, by omega⟩) * C (ix2 r l)
        + R (ix2 r ⟨j.val / 2 * 128 + (partner l).val, by omega⟩) * S (ix2 r l) := by
  unfold queryBlock
  by_cases h : j.val % 2 = 0
  · simp only [h, if_true]
    pointwise
  · simp only [h, if_false]
    rw [turned_at]
    pointwise

/-- An entry of a block of the keys. -/
theorem keyBlock_at (N : FVec Ideal S256x2048 .f32) (R : FVec Ideal S256x128 .bf16) (j : Fin 32) (r : Fin 256) (l : Fin 128) :
    keyBlock N R j (ix2 r l) = if j.val % 2 = 0 then N (ix2 r ⟨j.val / 2 * 128 + l.val, by omega⟩) else R (ix2 r l) := by
  unfold keyBlock
  by_cases h : j.val % 2 = 0
  · simp only [h, if_true]
    pointwise
  · simp only [h, if_false]

end Cert.Proof.LatentUpTurn

end
-- ==== Proof.LatentUp.Row.lean ====
/- One row of the up-projection: the two normed parts of the row, a head's query, key and value, and the rotary turn of a
   group of 128 lanes by a position's cosines and sines. -/
module

public import proofs.«01_k».proof.Proof.LatentUp.Turn

@[expose] public section

set_option maxRecDepth 16384

noncomputable section

namespace Cert.Proof.LatentUpRow

open Idealize.ShloMosaic
open Cert.Proof.LatentUpTurn (partner)

/-- Entry `e` of a row `x` divided by its root mean square, weighted by `g`; `d` is the row's length. -/
def unit {n : ℕ} (d : EReal) (x g : Fin n → EReal) (e : Fin n) : EReal :=
  x e * Ideal.rsqrt (Ideal.div (∑ i : Fin n, x i * x i) d + Ideal.ofBits .f32 0x358637BD#32) * g e

/-- The normed query part of a row, and the normed part that keys and values come from. -/
def latentQ (x : Fin 1408 → EReal) (g : Fin 768 → EReal) : Fin 768 → EReal :=
  unit (Ideal.ofBits .f32 0x44400000#32) (fun i => x ⟨i.val, by omega⟩) g
def latentK (x : Fin 1408 → EReal) (g : Fin 512 → EReal) : Fin 512 → EReal :=
  unit (Ideal.ofBits .f32 0x44000000#32) (fun i => x ⟨768 + i.val, by omega⟩) g

/-- Entry `j` of head `h`: of the scaled queries, and of the keys and values together. -/
def upQ (x : Fin 1408 → EReal) (g : Fin 768 → EReal) (w : Fin 768 → Fin 3072 → EReal) (h : Fin 16) (j : Fin 192) : EReal :=
  (∑ e : Fin 768, latentQ x g e * w e ⟨h.val * 192 + j.val, by omega⟩) * Ideal.ofBits .f32 0x3DD53B95#32
def upK (x : Fin 1408 → EReal) (g : Fin 512 → EReal) (w : Fin 512 → Fin 4096 → EReal) (h : Fin 16) (j : Fin 256) : EReal :=
  ∑ e : Fin 512, latentK x g e * w e ⟨h.val * 256 + j.val, by omega⟩

/-- The rotary turn of 128 lanes, of which the first 64 turn: in each half of these, lane `a` with lane `16 + a`. -/
def turn (x : Fin 128 → EReal) (cr sr cc sc : Fin 16 → EReal) (l : Fin 128) : EReal :=
  if h0 : l.val < 16 then x l * cr ⟨l.val, h0⟩ - x ⟨l.val + 16, by omega⟩ * sr ⟨l.val, h0⟩
  else if h1 : l.val < 32 then x ⟨l.val - 16, by omega⟩ * sr ⟨l.val - 16, by omega⟩ + x l * cr ⟨l.val - 16, by omega⟩
  else if h2 : l.val < 48 then x l * cc ⟨l.val - 32, by omega⟩ - x ⟨l.val + 16, by omega⟩ * sc ⟨l.val - 32, by omega⟩
  else if h3 : l.val < 64 then x ⟨l.val - 16, by omega⟩ * sc ⟨l.val - 48, by omega⟩ + x l * cc ⟨l.val - 48, by omega⟩
  else x l

/-- The turn of the first 64 lanes, half by half: the lanes of each half by its own tables. -/
theorem turn_halves (f : Fin 128 → EReal) (g : Fin 64 → EReal) (hf : ∀ k : Fin 64, f ⟨k.val, by omega⟩ = g k)
    (cr sr cc sc : Fin 16 → EReal) (l : Fin 64) :
    (if h : l.val < 32 then
      if h' : l.val < 16 then g ⟨l.val, by omega⟩ * cr ⟨l.val, by omega⟩ - g ⟨16 + l.val, by omega⟩ * sr ⟨l.val, by omega⟩
      else g ⟨l.val - 16, by omega⟩ * sr ⟨l.val - 16, by omega⟩ + g ⟨16 + (l.val - 16), by omega⟩ * cr ⟨l.val - 16, by omega⟩
    else
      if h' : l.val - 32 < 16 then
        g ⟨32 + (l.val - 32), by omega⟩ * cc ⟨l.val - 32, by omega⟩ - g ⟨32 + (16 + (l.val - 32)), by omega⟩ * sc ⟨l.val - 32, by omega⟩
      else g ⟨32 + (l.val - 32 - 16), by omega⟩ * sc ⟨l.val - 32 - 16, by omega⟩
        + g ⟨32 + (16 + (l.val - 32 - 16)), by omega⟩ * cc ⟨l.val - 32 - 16, by omega⟩)
      = turn f cr sr cc sc ⟨l.val, by omega⟩ := by
  have at' : ∀ (n k : ℕ) (hn : n < 128) (hk : k < 64), n = k → f ⟨n, hn⟩ = g ⟨k, hk⟩ := by
    intro n k hn hk e
    subst e
    exact hf ⟨n, hk⟩
  have in' : ∀ (a : Fin 16 → EReal) (n k : ℕ) (hn : n < 16) (hk : k < 16), n = k → a ⟨n, hn⟩ = a ⟨k, hk⟩ := by
    intro a n k hn hk e
    subst e
    rfl
  unfold turn
  by_cases h0 : l.val < 16
  · rw [dif_pos (show l.val < 32 by omega), dif_pos h0, dif_pos h0, at' l.val l.val _ _ rfl, at' (l.val + 16) (16 + l.val) _ _ (by omega)]
  · by_cases h1 : l.val < 32
    · rw [dif_pos h1, dif_neg h0, dif_neg h0, dif_pos h1, at' l.val (16 + (l.val - 16)) _ _ (by omega), at' (l.val - 16) (l.val - 16) _ _ rfl]
    · by_cases h2 : l.val < 48
      · rw [dif_neg h1, dif_pos (show l.val - 32 < 16 by omega), dif_neg h0, dif_neg h1, dif_pos h2,
          at' l.val (32 + (l.val - 32)) _ _ (by omega), at' (l.val + 16) (32 + (16 + (l.val - 32))) _ _ (by omega)]
      · rw [dif_neg h1, dif_neg (show ¬l.val - 32 < 16 by omega), dif_neg h0, dif_neg h1, dif_neg h2, dif_pos (show l.val < 64 by omega),
          at' l.val (32 + (16 + (l.val - 32 - 16))) _ _ (by omega), at' (l.val - 16) (32 + (l.val - 32 - 16)) _ _ (by omega),
          in' cc (l.val - 48) (l.val - 32 - 16) _ _ (by omega), in' sc (l.val - 48) (l.val - 32 - 16) _ _ (by omega)]

/-- Lane `l` of a row's 128 lanes, turned by the row's position; a context row has none. -/
def placed (CR SR CC SC : Fin 8192 → Fin 16 → EReal) (ρ : Fin 16896) (x : Fin 128 → EReal) (l : Fin 128) : EReal :=
  if ρ.val < 16384 then
    turn x (CR ⟨ρ.val % 8192, by omega⟩) (SR ⟨ρ.val % 8192, by omega⟩) (CC ⟨ρ.val % 8192, by omega⟩) (SC ⟨ρ.val % 8192, by omega⟩) l
  else x l

/-- The 64 turning lanes of a head's query, and zeros after them. -/
def queryLanes (f : Fin 192 → EReal) (l : Fin 128) : EReal := if h : l.val < 64 then f ⟨128 + l.val, by omega⟩ else 0

/-- Entry `n` of a head of 256, from its first 128 entries and the turned rest. -/
def head (f : Fin 128 → EReal) (g : Fin 128 → EReal) (n : Fin 256) : EReal :=
  if h : n.val < 128 then f ⟨n.val, h⟩ else g ⟨n.val - 128, by omega⟩

section Entries

variable (x : Fin 1408 → EReal) (gQ : Fin 768 → EReal) (gK : Fin 512 → EReal) (wQ : Fin 768 → Fin 3072 → EReal)
  (wK : Fin 512 → Fin 4096 → EReal) (CR SR CC SC : Fin 8192 → Fin 16 → EReal) (ρ : Fin 16896)

/-- Entry `n` of row `ρ`: of the queries, of the keys, and of the values. -/
def query (n : Fin 4096) : EReal :=
  head (fun l => upQ x gQ wQ ⟨n.val / 256, by omega⟩ ⟨l.val, by omega⟩)
    (placed CR SR CC SC ρ (queryLanes (upQ x gQ wQ ⟨n.val / 256, by omega⟩))) ⟨n.val % 256, by omega⟩
def key (n : Fin 4096) : EReal :=
  head (fun l => upK x gK wK ⟨n.val / 256, by omega⟩ ⟨l.val, by omega⟩)
    (placed CR SR CC SC ρ fun l => x ⟨1280 + l.val, by omega⟩) ⟨n.val % 256, by omega⟩
def value (n : Fin 2048) : EReal := upK x gK wK ⟨n.val / 128, by omega⟩ ⟨128 + n.val % 128, by omega⟩

end Entries

/-- The table of cosines at a row: one beyond the turning lanes, and in the context rows. -/
def cosine (CR CC : Fin 8192 → Fin 16 → EReal) (ρ : Fin 16896) (l : Fin 128) : EReal :=
  if ρ.val < 16384 then
    if h0 : l.val < 16 then CR ⟨ρ.val % 8192, by omega⟩ ⟨l.val, h0⟩
    else if h1 : l.val < 32 then CR ⟨ρ.val % 8192, by omega⟩ ⟨l.val - 16, by omega⟩
    else if h2 : l.val < 48 then CC ⟨ρ.val % 8192, by omega⟩ ⟨l.val - 32, by omega⟩
    else if h3 : l.val < 64 then CC ⟨ρ.val % 8192, by omega⟩ ⟨l.val - 48, by omega⟩
    else 1
  else 1

/-- The table of sines at a row, with their signs: zero beyond the turning lanes, and in the context rows. -/
def sine (SR SC : Fin 8192 → Fin 16 → EReal) (ρ : Fin 16896) (l : Fin 128) : EReal :=
  if ρ.val < 16384 then
    if h0 : l.val < 16 then -SR ⟨ρ.val % 8192, by omega⟩ ⟨l.val, h0⟩
    else if h1 : l.val < 32 then SR ⟨ρ.val % 8192, by omega⟩ ⟨l.val - 16, by omega⟩
    else if h2 : l.val < 48 then -SC ⟨ρ.val % 8192, by omega⟩ ⟨l.val - 32, by omega⟩
    else if h3 : l.val < 64 then SC ⟨ρ.val % 8192, by omega⟩ ⟨l.val - 48, by omega⟩
    else 0
  else 0

/-- A turning lane's partner. -/
theorem partner_first (l : Fin 128) (h : l.val % 32 < 16) : (partner l).val = (l.val + 16) % 128 := by
  unfold partner; rw [if_pos h]
theorem partner_second (l : Fin 128) (h : ¬l.val % 32 < 16) : (partner l).val = (l.val + 112) % 128 := by
  unfold partner; rw [if_neg h]

/-- **The two ways of turning agree**: each lane by the tables, its partner's entry added, is the rotary turn. -/
theorem placed_eq (CR SR CC SC : Fin 8192 → Fin 16 → EReal) (ρ : Fin 16896) (x : Fin 128 → EReal) (l : Fin 128) :
    x l * cosine CR CC ρ l + x (partner l) * sine SR SC ρ l = placed CR SR CC SC ρ x l := by
  unfold cosine sine placed
  by_cases hρ : ρ.val < 16384
  · simp only [hρ, if_true]
    unfold turn
    by_cases h0 : l.val < 16
    · have hp : partner l = ⟨l.val + 16, by omega⟩ := Fin.ext (by rw [partner_first l (by omega)]; show (l.val + 16) % 128 = l.val + 16; omega)
      simp only [h0, dif_pos, hp, mul_neg, sub_eq_add_neg]
    · by_cases h1 : l.val < 32
      · have hp : partner l = ⟨l.val - 16, by omega⟩ := Fin.ext (by rw [partner_second l (by omega)]; show (l.val + 112) % 128 = l.val - 16; omega)
        simp only [h0, h1, dif_pos, dif_neg, hp, not_false_eq_true]
        exact add_comm _ _
      · by_cases h2 : l.val < 48
        · have hp : partner l = ⟨l.val + 16, by omega⟩ := Fin.ext (by rw [partner_first l (by omega)]; show (l.val + 16) % 128 = l.val + 16; omega)
          simp only [h0, h1, h2, dif_pos, dif_neg, hp, not_false_eq_true, mul_neg, sub_eq_add_neg]
        · by_cases h3 : l.val < 64
          · have hp : partner l = ⟨l.val - 16, by omega⟩ := Fin.ext (by rw [partner_second l (by omega)]; show (l.val + 112) % 128 = l.val - 16; omega)
            simp only [h0, h1, h2, h3, dif_pos, dif_neg, hp, not_false_eq_true]
            exact add_comm _ _
          · simp only [h0, h1, h2, h3, dif_neg, not_false_eq_true, mul_one, mul_zero, add_zero]
  · simp only [hρ, if_false, mul_one, mul_zero, add_zero]

end Cert.Proof.LatentUpRow

end
-- ==== Proof.LatentUp.RefRows.lean ====
/- The up-projection's reference, by stream: its normed rows, their products with the weights, and the rotary turns. -/
module

public import proofs.«01_k».proof.Proof.Gen.LatentUpRefIdeal.Read
public import proofs.«01_k».proof.Proof.LatentUp.Row
public import proofs.«01_k».proof.Proof.Streams.Rows

@[expose] public section

set_option maxRecDepth 16384

noncomputable section

namespace Cert.Proof.LatentUpRefRows

open Cert.LatentUpRefIdeal Cert.LatentUpRefIdeal.Gen Cert.LatentUpRefIdeal.Read Idealize.ShloMosaic Cert.Proof.MlpRef
open Cert.Proof.LatentUpRow

variable (x0 : FVec Ideal S16896x1408 .f32) (x1 : FVec Ideal S768 .f32) (x2 : FVec Ideal S512 .f32) (x3 : FVec Ideal S768x3072 .f32)
  (x4 : FVec Ideal S512x4096 .f32) (x5 x6 x7 x8 : FVec Ideal S8192x16 .f32)

/-- The arguments by their indices. -/
abbrev X (ρ : Fin 16896) (e : Fin 1408) : EReal := x0 (ix2 ρ e)
abbrev GQ (e : Fin 768) : EReal := x1 (ix1 e)
abbrev GK (e : Fin 512) : EReal := x2 (ix1 e)
abbrev WQ (e : Fin 768) (d : Fin 3072) : EReal := x3 (ix2 e d)
abbrev WK (e : Fin 512) (d : Fin 4096) : EReal := x4 (ix2 e d)
abbrev T (x : FVec Ideal S8192x16 .f32) (p : Fin 8192) (i : Fin 16) : EReal := x (ix2 p i)

/-- The normed query part of the latent rows. -/
theorem normQX_at (b : Fin 2) (t : Fin 8192) (e : Fin 768) :
    val_main_v18 (F := Ideal) x0 x1 (ix3 b t e) = latentQ (X x0 (latent b t)) (GQ x1) e := by
  unfold latentQ unit latent
  pointwise [val_main_v18, val_main_v17, val_main_v16, val_main_v15, val_main_v14, val_main_v13, val_main_v12, val_main_v11, val_main_cst_1,
    val_main_v10, val_main_v9, val_main_cst_0, val_main_v8, val_main_v7, val_main_cst, val_main_v6, val_main_v2, val_main_v1, val_main_v0]

/-- The normed part of the latent rows that keys and values come from. -/
theorem normKX_at (b : Fin 2) (t : Fin 8192) (e : Fin 512) :
    val_main_v33 (F := Ideal) x0 x2 (ix3 b t e) = latentK (X x0 (latent b t)) (GK x2) e := by
  unfold latentK unit latent
  pointwise [val_main_v33, val_main_v32, val_main_v31, val_main_v30, val_main_v29, val_main_v28, val_main_v27, val_main_v26, val_main_cst_4,
    val_main_v25, val_main_v24, val_main_cst_3, val_main_v23, val_main_v22, val_main_cst_2, val_main_v21, val_main_v3, val_main_v1, val_main_v0]

/-- The same of the context rows. -/
theorem normQC_at (b : Fin 2) (t : Fin 256) (e : Fin 768) :
    val_main_v57 (F := Ideal) x0 x1 (ix3 b t e) = latentQ (X x0 (context b t)) (GQ x1) e := by
  unfold latentQ unit context
  pointwise [val_main_v57, val_main_v56, val_main_v55, val_main_v54, val_main_v53, val_main_v52, val_main_v51, val_main_v50, val_main_cst_7,
    val_main_v49, val_main_v48, val_main_cst_6, val_main_v47, val_main_v46, val_main_cst_5, val_main_v45, val_main_v41, val_main_v40, val_main_v39]

theorem normKC_at (b : Fin 2) (t : Fin 256) (e : Fin 512) :
    val_main_v72 (F := Ideal) x0 x2 (ix3 b t e) = latentK (X x0 (context b t)) (GK x2) e := by
  unfold latentK unit context
  pointwise [val_main_v72, val_main_v71, val_main_v70, val_main_v69, val_main_v68, val_main_v67, val_main_v66, val_main_v65, val_main_cst_10,
    val_main_v64, val_main_v63, val_main_cst_9, val_main_v62, val_main_v61, val_main_cst_8, val_main_v60, val_main_v42, val_main_v40, val_main_v39]

/-- The scaled queries of the latent rows, by heads. -/
theorem upQX_at (b : Fin 2) (t : Fin 8192) (h : Fin 16) (j : Fin 192) :
    val_main_v79 (F := Ideal) x0 x1 x3 (ix4 b t h j) = upQ (X x0 (latent b t)) (GQ x1) (WQ x3) h j := by
  unfold upQ
  pointwise [val_main_v79, val_main_v78, val_main_cst_11, val_main_v20, val_main_v19]
  simp only [normQX_at]

/-- Their keys and values. -/
theorem upKX_at (b : Fin 2) (t : Fin 8192) (h : Fin 16) (j : Fin 256) :
    val_main_v35 (F := Ideal) x0 x2 x4 (ix4 b t h j) = upK (X x0 (latent b t)) (GK x2) (WK x4) h j := by
  unfold upK
  pointwise [val_main_v35, val_main_v34]
  simp only [normKX_at]

/-- The same of the context rows. -/
theorem upQC_at (b : Fin 2) (t : Fin 256) (h : Fin 16) (j : Fin 192) :
    val_main_v81 (F := Ideal) x0 x1 x3 (ix4 b t h j) = upQ (X x0 (context b t)) (GQ x1) (WQ x3) h j := by
  unfold upQ
  pointwise [val_main_v81, val_main_v80, val_main_cst_12, val_main_v59, val_main_v58]
  simp only [normQC_at]

theorem upKC_at (b : Fin 2) (t : Fin 256) (h : Fin 16) (j : Fin 256) :
    val_main_v74 (F := Ideal) x0 x2 x4 (ix4 b t h j) = upK (X x0 (context b t)) (GK x2) (WK x4) h j := by
  unfold upK
  pointwise [val_main_v74, val_main_v73]
  simp only [normKC_at]

/-- The turned lanes of the queries. -/
theorem turnQ_at (b : Fin 2) (t : Fin 8192) (h : Fin 16) (l : Fin 64) :
    val_main_v125 (F := Ideal) x0 x1 x3 x5 x6 x7 x8 (ix4 b t h l)
      = turn (queryLanes (upQ (X x0 (latent b t)) (GQ x1) (WQ x3) h)) (T x5 t) (T x6 t) (T x7 t) (T x8 t) ⟨l.val, by omega⟩ := by
  pointwise [val_main_v125, val_main_v124, val_main_v123, val_main_v122, val_main_v121, val_main_v120, val_main_v119, val_main_v118,
    val_main_v117, val_main_v116, val_main_v115, val_main_v114, val_main_v113, val_main_v112, val_main_v111, val_main_v110, val_main_v109,
    val_main_v108, val_main_v107, val_main_v106, val_main_v105, val_main_v104, val_main_v103, val_main_v102, val_main_v101, val_main_v100,
    val_main_v99, val_main_v98, val_main_v97, val_main_v96, val_main_v95, val_main_v94, val_main_v93, val_main_v92, val_main_v91,
    val_main_v90, val_main_v89, val_main_v88, val_main_v87, val_main_v86, val_main_v85, val_main_v84]
  simp only [upQX_at]
  refine turn_halves _ (fun k => upQ (X x0 (latent b t)) (GQ x1) (WQ x3) h ⟨128 + k.val, by omega⟩) (fun k => ?_)
    (T x5 t) (T x6 t) (T x7 t) (T x8 t) l
  exact dif_pos k.isLt

/-- The turned lanes of the keys. -/
theorem turnK_at (b : Fin 2) (t : Fin 8192) (h : Fin 1) (l : Fin 64) :
    val_main_v177 (F := Ideal) x0 x5 x6 x7 x8 (ix4 b t h l)
      = turn (fun l => X x0 (latent b t) ⟨1280 + l.val, by omega⟩) (T x5 t) (T x6 t) (T x7 t) (T x8 t) ⟨l.val, by omega⟩ := by
  unfold latent
  pointwise [val_main_v177, val_main_v176, val_main_v175, val_main_v174, val_main_v173, val_main_v172, val_main_v171, val_main_v170,
    val_main_v169, val_main_v168, val_main_v167, val_main_v166, val_main_v165, val_main_v164, val_main_v163, val_main_v162, val_main_v161,
    val_main_v160, val_main_v159, val_main_v158, val_main_v157, val_main_v156, val_main_v155, val_main_v154, val_main_v153, val_main_v152,
    val_main_v151, val_main_v150, val_main_v149, val_main_v148, val_main_v147, val_main_v146, val_main_v145, val_main_v144, val_main_v143,
    val_main_v142, val_main_v141, val_main_v140, val_main_v139, val_main_v138, val_main_v137, val_main_v38, val_main_v4, val_main_v1, val_main_v0]
  exact turn_halves (fun l => X x0 (latent b t) ⟨1280 + l.val, by omega⟩) (fun k => X x0 (latent b t) ⟨1280 + k.val, by omega⟩)
    (fun k => rfl) (T x5 t) (T x6 t) (T x7 t) (T x8 t) l

end Cert.Proof.LatentUpRefRows

end
-- ==== Proof.LatentUp.Products.lean ====
/- The products of a point's tile: its normed rows, and these times the weights. -/
module

public import proofs.«01_k».proof.Proof.LatentUp.Row

@[expose] public section

set_option maxRecDepth 16384

noncomputable section

namespace Cert.Proof.LatentUpProducts

open Cert.LatentUpIdeal Cert.LatentUpIdeal.Gen Idealize.ShloMosaic Idealize.ShloMosaic.TcCoe Idealize.SL.Sem
open Cert.Proof.LatentUpRow

/-- The normed query part of a tile's rows. -/
theorem latentQ_at (x : Vec Ideal S256x1408 .f32) (g : Vec Ideal S1x768 .f32) (r : Fin 256) (e : Fin 768) :
    k0_pay2 (F := Ideal) x g (ix2 r e) = latentQ (fun i => x (ix2 r i)) (fun i => g (ix2 (0 : Fin 1) i)) e := by
  pointwise [k0_pay2, latentQ, unit]

/-- The normed part that keys and values come from. -/
theorem latentK_at (x : Vec Ideal S256x1408 .f32) (g : Vec Ideal S1x512 .f32) (r : Fin 256) (e : Fin 512) :
    k0_pay3 (F := Ideal) x g (ix2 r e) = latentK (fun i => x (ix2 r i)) (fun i => g (ix2 (0 : Fin 1) i)) e := by
  pointwise [k0_pay3, latentK, unit]

/-- The scaled products with the first query weights. -/
theorem plainQ_at (u : Vec Ideal S256x768 .bf16) (w : Vec Ideal S768x2048 .bf16) (r : Fin 256) (n : Fin 2048) :
    k0_pay7 (F := Ideal) u (k0_pay6 w) (constant S256x2048 .f32 0x00000000#32) (ix2 r n)
      = (∑ e : Fin 768, u (ix2 r e) * w (ix2 e n)) * Ideal.ofBits .f32 0x3DD53B95#32 := by
  pointwise [k0_pay7, k0_pay6]

/-- The scaled products with the query weights that turn. -/
theorem turningQ_at (u : Vec Ideal S256x768 .bf16) (w : Vec Ideal S768x2048 .bf16) (r : Fin 256) (n : Fin 2048) :
    k0_pay8 (F := Ideal) u w (ix2 r n) = (∑ e : Fin 768, u (ix2 r e) * w (ix2 e n)) * Ideal.ofBits .f32 0x3DD53B95#32 := by
  pointwise [k0_pay8]

/-- The products with the key weights. -/
theorem plainK_at (u : Vec Ideal S256x512 .bf16) (w : Vec Ideal S512x2048 .bf16) (r : Fin 256) (n : Fin 2048) :
    k0_pay9 (F := Ideal) u w (ix2 r n) = ∑ e : Fin 512, u (ix2 r e) * w (ix2 e n) := by
  pointwise [k0_pay9]

/-- The products with the value weights. -/
theorem value_at (u : Vec Ideal S256x512 .bf16) (w : Vec Ideal S512x2048 .bf16) (r : Fin 256) (n : Fin 2048) :
    k0_pay10 (F := Ideal) u w (ix2 r n) = ∑ e : Fin 512, u (ix2 r e) * w (ix2 e n) := by
  pointwise [k0_pay10]

/-- The lanes of the keys that all heads share. -/
theorem shared_at (x : Vec Ideal S256x1408 .f32) (r : Fin 256) (l : Fin 128) :
    k0_pay1 (F := Ideal) x (ix2 r l) = x (ix2 r ⟨1280 + l.val, by omega⟩) := by
  pointwise [k0_pay1]

/-- The tables, as they come. -/
theorem cosines_at (x : Vec Ideal S256x128 .f32) (r : Fin 256) (l : Fin 128) : k0_pay4 (F := Ideal) x (ix2 r l) = x (ix2 r l) := by
  pointwise [k0_pay4]
theorem sines_at (x : Vec Ideal S256x128 .f32) (r : Fin 256) (l : Fin 128) : k0_pay5 (F := Ideal) x (ix2 r l) = x (ix2 r l) := by
  pointwise [k0_pay5]

section Tile

variable (x0 : Vec Ideal S256x1408 .f32) (x1 : Vec Ideal S1x768 .f32) (x2 : Vec Ideal S1x512 .f32) (x3 x4 : Vec Ideal S768x2048 .bf16)
  (x5 x6 : Vec Ideal S512x2048 .bf16) (x7 x8 : Vec Ideal S256x128 .f32) (r : Fin 256)

/-- A point's scaled products with the query weights, from its blocks. -/
theorem tilePlainQ_at (n : Fin 2048) : k0_pay91 x0 x1 x2 x3 x4 x5 x6 x7 x8 (ix2 r n)
    = (∑ e : Fin 768, latentQ (fun i => x0 (ix2 r i)) (fun i => x1 (ix2 (0 : Fin 1) i)) e * x3 (ix2 e n)) * Ideal.ofBits .f32 0x3DD53B95#32 := by
  have h0 : View.ld x0 r0_0 = x0 := View.ld_unit_lit _ x0 (by decide)
  have h1 : View.ld x1 r0_1 = x1 := View.ld_unit_lit _ x1 (by decide)
  have h3 : View.ld x3 r0_4 = x3 := View.ld_unit_lit _ x3 (by decide)
  unfold k0_pay91 k0_pay87
  rw [h0, h1, h3]
  refine (plainQ_at _ _ r n).trans ?_
  simp only [latentQ_at]

theorem tileTurningQ_at (n : Fin 2048) : k0_pay92 x0 x1 x2 x3 x4 x5 x6 x7 x8 (ix2 r n)
    = (∑ e : Fin 768, latentQ (fun i => x0 (ix2 r i)) (fun i => x1 (ix2 (0 : Fin 1) i)) e * x4 (ix2 e n)) * Ideal.ofBits .f32 0x3DD53B95#32 := by
  have h0 : View.ld x0 r0_0 = x0 := View.ld_unit_lit _ x0 (by decide)
  have h1 : View.ld x1 r0_1 = x1 := View.ld_unit_lit _ x1 (by decide)
  have h4 : View.ld x4 r0_4 = x4 := View.ld_unit_lit _ x4 (by decide)
  unfold k0_pay92 k0_pay87
  rw [h0, h1, h4]
  refine (turningQ_at _ _ r n).trans ?_
  simp only [latentQ_at]

/-- A point's products with the key weights. -/
theorem tilePlainK_at (n : Fin 2048) : k0_pay93 x0 x1 x2 x3 x4 x5 x6 x7 x8 (ix2 r n)
    = ∑ e : Fin 512, latentK (fun i => x0 (ix2 r i)) (fun i => x2 (ix2 (0 : Fin 1) i)) e * x5 (ix2 e n) := by
  have h0 : View.ld x0 r0_0 = x0 := View.ld_unit_lit _ x0 (by decide)
  have h2 : View.ld x2 r0_2 = x2 := View.ld_unit_lit _ x2 (by decide)
  have h5 : View.ld x5 r0_5 = x5 := View.ld_unit_lit _ x5 (by decide)
  unfold k0_pay93 k0_pay88
  rw [h0, h2, h5]
  refine (plainK_at _ _ r n).trans ?_
  simp only [latentK_at]

/-- A point's values. -/
theorem values_at (n : Fin 2048) : out0_11 x0 x1 x2 x3 x4 x5 x6 x7 x8 (ix2 r n)
    = ∑ e : Fin 512, latentK (fun i => x0 (ix2 r i)) (fun i => x2 (ix2 (0 : Fin 1) i)) e * x6 (ix2 e n) := by
  have h0 : View.ld x0 r0_0 = x0 := View.ld_unit_lit _ x0 (by decide)
  have h2 : View.ld x2 r0_2 = x2 := View.ld_unit_lit _ x2 (by decide)
  have h6 : View.ld x6 r0_5 = x6 := View.ld_unit_lit _ x6 (by decide)
  have h : out0_11 x0 x1 x2 x3 x4 x5 x6 x7 x8 = k0_pay10 (k0_pay3 x0 x2) x6 := by
    unfold out0_11
    refine (View.canon_cons_unit_lit _ _ _ (by decide)).trans ?_
    unfold k0_pay88
    rw [h0, h2, h6]
  rw [h]
  refine (value_at _ _ r n).trans ?_
  simp only [latentK_at]

/-- A point's tables, and the block of the keys that all heads share. -/
theorem tileCosines_at (l : Fin 128) : k0_pay89 x0 x1 x2 x3 x4 x5 x6 x7 x8 (ix2 r l) = x7 (ix2 r l) := by
  have h7 : View.ld x7 r0_3 = x7 := View.ld_unit_lit _ x7 (by decide)
  unfold k0_pay89
  rw [h7]
  exact cosines_at x7 r l

theorem tileSines_at (l : Fin 128) : k0_pay90 x0 x1 x2 x3 x4 x5 x6 x7 x8 (ix2 r l) = x8 (ix2 r l) := by
  have h8 : View.ld x8 r0_3 = x8 := View.ld_unit_lit _ x8 (by decide)
  unfold k0_pay90
  rw [h8]
  exact sines_at x8 r l

theorem tileShared_at (l : Fin 128) : k0_pay94 x0 x1 x2 x3 x4 x5 x6 x7 x8 (ix2 r l)
    = x0 (ix2 r ⟨1280 + l.val, by omega⟩) * x7 (ix2 r l) + x0 (ix2 r ⟨1280 + (LatentUpTurn.partner l).val, by omega⟩) * x8 (ix2 r l) := by
  have h0 : View.ld x0 r0_0 = x0 := View.ld_unit_lit _ x0 (by decide)
  refine (LatentUpTurn.turned_at (k0_pay86 x0 x1 x2 x3 x4 x5 x6 x7 x8) (k0_pay89 x0 x1 x2 x3 x4 x5 x6 x7 x8)
    (k0_pay90 x0 x1 x2 x3 x4 x5 x6 x7 x8) r l).trans ?_
  rw [tileCosines_at, tileSines_at]
  unfold k0_pay86
  rw [h0, shared_at, shared_at]

end Tile

end Cert.Proof.LatentUpProducts

end
-- ==== Proof.LatentUp.Tile.lean ====
/- What a point of the up-projection stores: the rows' queries, keys and values, from what its blocks hold. -/
module

public import proofs.«01_k».proof.Proof.LatentUp.Products

@[expose] public section

set_option maxRecDepth 16384

noncomputable section

namespace Cert.Proof.LatentUpTile

open Cert.LatentUpIdeal Cert.LatentUpIdeal.Gen Idealize.ShloMosaic Idealize.ShloMosaic.TcCoe Idealize.SL.Sem
open Cert.Proof.LatentUpRow

variable (x0 : Vec Ideal S256x1408 .f32) (x1 : Vec Ideal S1x768 .f32) (x2 : Vec Ideal S1x512 .f32) (x3 x4 : Vec Ideal S768x2048 .bf16)
  (x5 x6 : Vec Ideal S512x2048 .bf16) (x7 x8 : Vec Ideal S256x128 .f32) (r : Fin 256)

variable (x : Fin 1408 → EReal) (gQ : Fin 768 → EReal) (gK : Fin 512 → EReal) (wQ : Fin 768 → Fin 3072 → EReal)
  (wK : Fin 512 → Fin 4096 → EReal) (CR SR CC SC : Fin 8192 → Fin 16 → EReal) (ρ : Fin 16896)

/-- The products with the padded weights: the head's turning lanes, and zeros. -/
theorem lanes_at (u : Fin 768 → EReal) (h4 : ∀ (e : Fin 768) (k : Fin 2048), x4 (ix2 e k)
      = if h : k.val % 128 < 64 then wQ e ⟨k.val / 128 * 192 + (128 + k.val % 128), by omega⟩ else 0)
    (hu : u = latentQ x gQ) (h : Fin 16) (l : Fin 128) :
    (∑ e : Fin 768, u e * x4 (ix2 e ⟨h.val * 128 + l.val, by omega⟩)) * Ideal.ofBits .f32 0x3DD53B95#32
      = queryLanes (upQ x gQ wQ h) l := by
  have hd : (h.val * 128 + l.val) / 128 = h.val := by omega
  have hm : (h.val * 128 + l.val) % 128 = l.val := by omega
  subst hu
  unfold queryLanes upQ
  by_cases hl : l.val < 64
  · simp only [h4, hd, hm, dif_pos hl]
  · simp only [h4, hd, hm, dif_neg hl, mul_zero, Finset.sum_const_zero, zero_mul]

/-- The queries. -/
theorem query_at (n : Fin 4096) (h0 : ∀ i, x0 (ix2 r i) = x i) (h1 : ∀ i, x1 (ix2 (0 : Fin 1) i) = gQ i)
    (h3 : ∀ (e : Fin 768) (k : Fin 2048), x3 (ix2 e k) = wQ e ⟨k.val / 128 * 192 + k.val % 128, by omega⟩)
    (h4 : ∀ (e : Fin 768) (k : Fin 2048), x4 (ix2 e k)
      = if h : k.val % 128 < 64 then wQ e ⟨k.val / 128 * 192 + (128 + k.val % 128), by omega⟩ else 0)
    (h7 : ∀ l, x7 (ix2 r l) = cosine CR CC ρ l) (h8 : ∀ l, x8 (ix2 r l) = sine SR SC ρ l) :
    out0_9 x0 x1 x2 x3 x4 x5 x6 x7 x8 (ix2 r n) = query x gQ wQ CR SR CC SC ρ n := by
  have e0 : (fun i => x0 (ix2 r i)) = x := funext h0
  have e1 : (fun i => x1 (ix2 (0 : Fin 1) i)) = gQ := funext h1
  rw [LatentUpTurn.queries_at, LatentUpTurn.queryBlock_at]
  unfold query head
  by_cases h : n.val % 256 < 128
  · rw [if_pos (show n.val / 128 % 2 = 0 by omega), dif_pos h, LatentUpProducts.tilePlainQ_at, e0, e1]
    unfold upQ
    simp only [h3]
    congr 1
    refine Finset.sum_congr rfl fun e _ => ?_
    congr 2
    apply Fin.ext
    show (n.val / 128 / 2 * 128 + n.val % 128) / 128 * 192 + (n.val / 128 / 2 * 128 + n.val % 128) % 128 = n.val / 256 * 192 + n.val % 256
    omega
  · have hh : n.val / 128 / 2 = n.val / 256 := by omega
    have hl : n.val % 256 - 128 = n.val % 128 := by omega
    rw [if_neg (show ¬n.val / 128 % 2 = 0 by omega), dif_neg h, LatentUpProducts.tileTurningQ_at, LatentUpProducts.tileTurningQ_at,
      LatentUpProducts.tileCosines_at, LatentUpProducts.tileSines_at, h7, h8, e0, e1]
    simp only [hh, hl]
    rw [lanes_at x4 x gQ wQ _ h4 rfl ⟨n.val / 256, by omega⟩ ⟨n.val % 128, by omega⟩,
      lanes_at x4 x gQ wQ _ h4 rfl ⟨n.val / 256, by omega⟩ (LatentUpTurn.partner ⟨n.val % 128, by omega⟩)]
    exact placed_eq CR SR CC SC ρ _ _

/-- The keys. -/
theorem key_at (n : Fin 4096) (h0 : ∀ i, x0 (ix2 r i) = x i) (h2 : ∀ i, x2 (ix2 (0 : Fin 1) i) = gK i)
    (h5 : ∀ (e : Fin 512) (k : Fin 2048), x5 (ix2 e k) = wK e ⟨k.val / 128 * 256 + k.val % 128, by omega⟩)
    (h7 : ∀ l, x7 (ix2 r l) = cosine CR CC ρ l) (h8 : ∀ l, x8 (ix2 r l) = sine SR SC ρ l) :
    out0_10 x0 x1 x2 x3 x4 x5 x6 x7 x8 (ix2 r n) = key x gK wK CR SR CC SC ρ n := by
  have e0 : (fun i => x0 (ix2 r i)) = x := funext h0
  have e2 : (fun i => x2 (ix2 (0 : Fin 1) i)) = gK := funext h2
  rw [LatentUpTurn.keys_at, LatentUpTurn.keyBlock_at]
  unfold key head
  by_cases h : n.val % 256 < 128
  · rw [if_pos (show n.val / 128 % 2 = 0 by omega), dif_pos h, LatentUpProducts.tilePlainK_at, e0, e2]
    unfold upK
    simp only [h5]
    refine Finset.sum_congr rfl fun e _ => ?_
    congr 2
    apply Fin.ext
    show (n.val / 128 / 2 * 128 + n.val % 128) / 128 * 256 + (n.val / 128 / 2 * 128 + n.val % 128) % 128 = n.val / 256 * 256 + n.val % 256
    omega
  · have hl : n.val % 256 - 128 = n.val % 128 := by omega
    rw [if_neg (show ¬n.val / 128 % 2 = 0 by omega), dif_neg h, LatentUpProducts.tileShared_at, h0, h0, h7, h8]
    simp only [hl]
    exact placed_eq CR SR CC SC ρ (fun l => x ⟨1280 + l.val, by omega⟩) ⟨n.val % 128, by omega⟩

/-- The values. -/
theorem value_at (n : Fin 2048) (h0 : ∀ i, x0 (ix2 r i) = x i) (h2 : ∀ i, x2 (ix2 (0 : Fin 1) i) = gK i)
    (h6 : ∀ (e : Fin 512) (k : Fin 2048), x6 (ix2 e k) = wK e ⟨k.val / 128 * 256 + (128 + k.val % 128), by omega⟩) :
    out0_11 x0 x1 x2 x3 x4 x5 x6 x7 x8 (ix2 r n) = value x gK wK n := by
  have e0 : (fun i => x0 (ix2 r i)) = x := funext h0
  have e2 : (fun i => x2 (ix2 (0 : Fin 1) i)) = gK := funext h2
  rw [LatentUpProducts.values_at, e0, e2]
  unfold value upK
  simp only [h6]

end Cert.Proof.LatentUpTile

end
-- ==== Proof.LatentUp.Tables.lean ====
/- The tables of cosines and sines as the up-projection's call finds them: a row's lanes by its position, ones and zeros
   beyond the turning lanes and in the context rows. -/
module

public import proofs.«01_k».proof.Proof.LatentUp.Row
public import Idealize.ShloMosaic.Lib.Pipeline.ReadBack
public import Idealize.ShloMosaic.Lib.IdealHost
public import proofs.«01_k».proof.Proof.LatentIn.Kernel

@[expose] public section

set_option maxRecDepth 16384

noncomputable section

namespace Cert.Proof.LatentUpTables

open Cert.LatentUpIdeal Cert.LatentUpIdeal.Gen Idealize.ShloMosaic Idealize.ShloMosaic.TcCoe Idealize.SL.Sem
open Cert.Proof.LatentUpRow (cosine sine)

/-- One stream's positions, laid out for both batches and padded by the context rows. -/
def rows (T : FVec Ideal S8192x128 .f32) (v : FVec Ideal S_ .f32) : FVec Ideal S16896x128 .f32 :=
  pad S16896x128 ![0, 0] ![512, 0] ![0, 0] (shapeCast S16384x128 (broadcastInDim S2x8192x1x128 ![0, 1, 2, 3]
    bcast_S1x8192x1x128_S2x8192x1x128_0_1_2_3 (shapeCast S1x8192x1x128 T shapeCasts_S8192x128_S1x8192x1x128))
    shapeCasts_S2x8192x1x128_S16384x128) v pads_S16384x128_S16896x128_05120_000 h_S_

/-- An entry of them. -/
theorem rows_at (T : FVec Ideal S8192x128 .f32) (v : FVec Ideal S_ .f32) (ρ : Fin 16896) (l : Fin 128) :
    rows T v (ix2 ρ l) = if ρ.val < 16384 then T (ix2 ⟨ρ.val % 8192, by omega⟩ l) else v (Shape.Idx.first h_S_) := by
  pointwise [rows]
  rfl

/-- A position's lanes: four tables of 16, and a constant in the rest. -/
def lanes (a b c d : FVec Ideal S8192x16 .f32) (e : FVec Ideal S_ .f32) : FVec Ideal S8192x128 .f32 :=
  concatenate S8192x128 1 [⟨S8192x16, a⟩, ⟨S8192x16, b⟩, ⟨S8192x16, c⟩, ⟨S8192x16, d⟩,
    ⟨S8192x64, broadcastInDim S8192x64 ![] bcast_S_S8192x64 e⟩] concatenates_S8192x16_S8192x16_S8192x16_S8192x16_S8192x64_S8192x128_d1

/-- The table of cosines. -/
def cosines (cr cc : FVec Ideal S8192x16 .f32) : FVec Ideal S16896x128 .f32 :=
  rows (lanes cr cr cc cc (constant S_ .f32 0x3F800000#32)) (constant S_ .f32 0x3F800000#32)

/-- The table of sines. -/
def sines (sr sc : FVec Ideal S8192x16 .f32) : FVec Ideal S16896x128 .f32 :=
  rows (lanes (Host.negf sr) sr (Host.negf sc) sc (constant S_ .f32 0x00000000#32)) (sitofp .f32 (constantI S_ 32 0#32))

/-- The bounds of the four parts, counted from the first lane. -/
theorem second (n : ℕ) : (n - 16 < 16) = (n < 32) := propext (by omega)
theorem third (n : ℕ) : (n - 32 < 16) = (n < 48) := propext (by omega)
theorem fourth (n : ℕ) : (n - 48 < 16) = (n < 64) := propext (by omega)

/-- Their entries. -/
theorem cosines_at (cr cc : FVec Ideal S8192x16 .f32) (ρ : Fin 16896) (l : Fin 128) :
    cosines cr cc (ix2 ρ l) = cosine (fun p i => cr (ix2 p i)) (fun p i => cc (ix2 p i)) ρ l := by
  unfold cosines cosine
  rw [rows_at]
  pointwise [lanes]
  simp only [Nat.sub_sub, Nat.reduceAdd, second, third, fourth]

theorem sines_at (sr sc : FVec Ideal S8192x16 .f32) (ρ : Fin 16896) (l : Fin 128) :
    sines sr sc (ix2 ρ l) = sine (fun p i => sr (ix2 p i)) (fun p i => sc (ix2 p i)) ρ l := by
  unfold sines sine
  rw [rows_at]
  pointwise [lanes]
  simp only [Nat.sub_sub, Nat.reduceAdd, second, third, fourth, LatentInKernel.zero_held]

variable (m : (ℓ : Loc nD τ sig) → Buf (Elt Ideal) ℓ) (c : Dev nD)

/-- What the call's windows hold of them. -/
theorem cosines_held : V m c main_v9 = cosines (m ((c : Thread nD τ).loc main_arg5) : Vec Ideal S8192x16 .f32)
    (m ((c : Thread nD τ).loc main_arg7) : Vec Ideal S8192x16 .f32) := by
  simp only [V, hostOps0, hostOps0_1, hostOps0_2, hostOps0_3, hostOps0_4, hostOps0_5, hostOps0_6, List.flatten_cons, List.flatten_nil,
    List.cons_append, List.nil_append]
  after_results_simp
  rfl

theorem sines_held : V m c main_v13 = sines (m ((c : Thread nD τ).loc main_arg6) : Vec Ideal S8192x16 .f32)
    (m ((c : Thread nD τ).loc main_arg8) : Vec Ideal S8192x16 .f32) := by
  simp only [V, hostOps0, hostOps0_1, hostOps0_2, hostOps0_3, hostOps0_4, hostOps0_5, hostOps0_6, List.flatten_cons, List.flatten_nil,
    List.cons_append, List.nil_append]
  after_results_simp
  rfl

end Cert.Proof.LatentUpTables

end
-- ==== Proof.LatentUp.Weights.lean ====
/- The weights of the up-projection as its call finds them: by heads, the columns that turn padded to 128, rounded. -/
module

public import proofs.«01_k».proof.Proof.Gen.LatentUpIdeal.Frame
public import Idealize.ShloMosaic.Lib.Pipeline.ValueKit
public import Idealize.ShloMosaic.Lib.Pipeline.ReadBack
public import proofs.«01_k».proof.Proof.LatentIn.Kernel

@[expose] public section

set_option maxRecDepth 16384

noncomputable section

namespace Cert.Proof.LatentUpWeights

open Cert.LatentUpIdeal Cert.LatentUpIdeal.Gen Idealize.ShloMosaic Idealize.ShloMosaic.TcCoe Idealize.SL.Sem

/-- The query weights of the lanes that do not turn. -/
def plainQ (w : Vec Ideal S768x3072 .f32) : Vec Ideal S768x2048 .bf16 :=
  truncf (F := Ideal) .bf16 (shapeCast S768x2048 (extractStridedSlice S768x16x128 ![0, 0, 0] (shapeCast S768x16x192 w shapeCasts_S768x3072_S768x16x192)
    slices_S768x16x192_S768x16x128_0_0_0) shapeCasts_S768x16x128_S768x2048) bitsLt_bf16_f32

/-- The query weights of the lanes that turn, and zeros. -/
def turningQ (w : Vec Ideal S768x3072 .f32) : Vec Ideal S768x2048 .bf16 :=
  truncf (F := Ideal) .bf16 (shapeCast S768x2048 (pad S768x16x128 ![0, 0, 0] ![0, 0, 64] ![0, 0, 0] (extractStridedSlice S768x16x64 ![0, 0, 128]
    (shapeCast S768x16x192 w shapeCasts_S768x3072_S768x16x192) slices_S768x16x192_S768x16x64_0_0_128)
    (sitofp (F := Ideal) .f32 (constantI S_ 32 0#32)) pads_S768x16x64_S768x16x128_000_000_0640 h_S_) shapeCasts_S768x16x128_S768x2048) bitsLt_bf16_f32

/-- The key weights. -/
def plainK (w : Vec Ideal S512x4096 .f32) : Vec Ideal S512x2048 .bf16 :=
  truncf (F := Ideal) .bf16 (shapeCast S512x2048 (extractStridedSlice S512x16x128 ![0, 0, 0] (shapeCast S512x16x256 w shapeCasts_S512x4096_S512x16x256)
    slices_S512x16x256_S512x16x128_0_0_0) shapeCasts_S512x16x128_S512x2048) bitsLt_bf16_f32

/-- The value weights. -/
def plainV (w : Vec Ideal S512x4096 .f32) : Vec Ideal S512x2048 .bf16 :=
  truncf (F := Ideal) .bf16 (shapeCast S512x2048 (extractStridedSlice S512x16x128 ![0, 0, 128] (shapeCast S512x16x256 w shapeCasts_S512x4096_S512x16x256)
    slices_S512x16x256_S512x16x128_0_0_128) shapeCasts_S512x16x128_S512x2048) bitsLt_bf16_f32

/-- Their entries. -/
theorem plainQ_at (w : Vec Ideal S768x3072 .f32) (e : Fin 768) (n : Fin 2048) :
    plainQ w (ix2 e n) = w (ix2 e ⟨n.val / 128 * 192 + n.val % 128, by omega⟩) := by
  pointwise [plainQ]

theorem turningQ_at (w : Vec Ideal S768x3072 .f32) (e : Fin 768) (n : Fin 2048) :
    turningQ w (ix2 e n) = if h : n.val % 128 < 64 then w (ix2 e ⟨n.val / 128 * 192 + (128 + n.val % 128), by omega⟩) else 0 := by
  have hn : n.val / 128 < 16 := by omega
  pointwise [turningQ]
  simp only [hn, true_and, LatentInKernel.zero_held]

theorem plainK_at (w : Vec Ideal S512x4096 .f32) (e : Fin 512) (n : Fin 2048) :
    plainK w (ix2 e n) = w (ix2 e ⟨n.val / 128 * 256 + n.val % 128, by omega⟩) := by
  pointwise [plainK]

theorem plainV_at (w : Vec Ideal S512x4096 .f32) (e : Fin 512) (n : Fin 2048) :
    plainV w (ix2 e n) = w (ix2 e ⟨n.val / 128 * 256 + (128 + n.val % 128), by omega⟩) := by
  pointwise [plainV]

variable (m : (ℓ : Loc nD τ sig) → Buf (Elt Ideal) ℓ) (c : Dev nD)

/-- What the call's windows hold of them. -/
theorem plainQ_held : V m c main_v17 = plainQ (m ((c : Thread nD τ).loc main_arg3) : Vec Ideal S768x3072 .f32) := by
  simp only [V, hostOps0, hostOps0_1, hostOps0_2, hostOps0_3, hostOps0_4, hostOps0_5, hostOps0_6, List.flatten_cons, List.flatten_nil,
    List.cons_append, List.nil_append]
  after_results_simp
  rfl

theorem turningQ_held : V m c main_v21 = turningQ (m ((c : Thread nD τ).loc main_arg3) : Vec Ideal S768x3072 .f32) := by
  simp only [V, hostOps0, hostOps0_1, hostOps0_2, hostOps0_3, hostOps0_4, hostOps0_5, hostOps0_6, List.flatten_cons, List.flatten_nil,
    List.cons_append, List.nil_append]
  after_results_simp
  rfl

theorem plainK_held : V m c main_v25 = plainK (m ((c : Thread nD τ).loc main_arg4) : Vec Ideal S512x4096 .f32) := by
  simp only [V, hostOps0, hostOps0_1, hostOps0_2, hostOps0_3, hostOps0_4, hostOps0_5, hostOps0_6, List.flatten_cons, List.flatten_nil,
    List.cons_append, List.nil_append]
  after_results_simp
  rfl

theorem plainV_held : V m c main_v28 = plainV (m ((c : Thread nD τ).loc main_arg4) : Vec Ideal S512x4096 .f32) := by
  simp only [V, hostOps0, hostOps0_1, hostOps0_2, hostOps0_3, hostOps0_4, hostOps0_5, hostOps0_6, List.flatten_cons, List.flatten_nil,
    List.cons_append, List.nil_append]
  after_results_simp
  rfl

/-- The norms' weights. -/
theorem normQ_held : V m c main_v29
    = shapeCast S1x768 (m ((c : Thread nD τ).loc main_arg1) : Vec Ideal S768 .f32) shapeCasts_S768_S1x768 := by
  simp only [V, hostOps0, hostOps0_1, hostOps0_2, hostOps0_3, hostOps0_4, hostOps0_5, hostOps0_6, List.flatten_cons, List.flatten_nil,
    List.cons_append, List.nil_append]
  after_results_simp
  rfl

theorem normK_held : V m c main_v30
    = shapeCast S1x512 (m ((c : Thread nD τ).loc main_arg2) : Vec Ideal S512 .f32) shapeCasts_S512_S1x512 := by
  simp only [V, hostOps0, hostOps0_1, hostOps0_2, hostOps0_3, hostOps0_4, hostOps0_5, hostOps0_6, List.flatten_cons, List.flatten_nil,
    List.cons_append, List.nil_append]
  after_results_simp
  rfl

end Cert.Proof.LatentUpWeights

end
-- ==== Proof.LatentUp.Kernel.lean ====
/- The up-projection of the latent attention: what its call leaves.  Point `t` is row tile `t`, of all heads. -/
module

public import proofs.«01_k».proof.Proof.LatentUp.Tile
public import proofs.«01_k».proof.Proof.LatentUp.Tables
public import proofs.«01_k».proof.Proof.LatentUp.Weights

@[expose] public section

set_option maxRecDepth 16384

noncomputable section

namespace Cert.Proof.LatentUpKernel

open Cert.LatentUpIdeal Cert.LatentUpIdeal.Gen Idealize.ShloMosaic Idealize.ShloMosaic.TcCoe Idealize.SL.Sem
open Cert.Proof.LatentUpRow

variable (m : (ℓ : Loc nD τ sig) → Buf (Elt Ideal) ℓ) (c : Dev nD) (t : Fin cfg0.N)

/-- The block indices of the twelve windows. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

theorem points (t : Fin cfg0.N) : t.val < 66 := Nat.lt_of_lt_of_eq t.isLt N_0

/-- The row of the array that is row `r` of a point's tile. -/
def row (r : Fin 256) : Fin 16896 := ⟨t.val * 256 + r.val, by have := points t; omega⟩

/-- The arguments of the call by their indices, as the launch finds them. -/
abbrev X (ρ : Fin 16896) (e : Fin 1408) : EReal := (m ((c : Thread nD τ).loc main_arg0) : Vec Ideal S16896x1408 .f32) (ix2 ρ e)
abbrev GQ (e : Fin 768) : EReal := (m ((c : Thread nD τ).loc main_arg1) : Vec Ideal S768 .f32) (ix1 e)
abbrev GK (e : Fin 512) : EReal := (m ((c : Thread nD τ).loc main_arg2) : Vec Ideal S512 .f32) (ix1 e)
abbrev WQ (e : Fin 768) (d : Fin 3072) : EReal := (m ((c : Thread nD τ).loc main_arg3) : Vec Ideal S768x3072 .f32) (ix2 e d)
abbrev WK (e : Fin 512) (d : Fin 4096) : EReal := (m ((c : Thread nD τ).loc main_arg4) : Vec Ideal S512x4096 .f32) (ix2 e d)
abbrev CR (p : Fin 8192) (i : Fin 16) : EReal := (m ((c : Thread nD τ).loc main_arg5) : Vec Ideal S8192x16 .f32) (ix2 p i)
abbrev SR (p : Fin 8192) (i : Fin 16) : EReal := (m ((c : Thread nD τ).loc main_arg6) : Vec Ideal S8192x16 .f32) (ix2 p i)
abbrev CC (p : Fin 8192) (i : Fin 16) : EReal := (m ((c : Thread nD τ).loc main_arg7) : Vec Ideal S8192x16 .f32) (ix2 p i)
abbrev SC (p : Fin 8192) (i : Fin 16) : EReal := (m ((c : Thread nD τ).loc main_arg8) : Vec Ideal S8192x16 .f32) (ix2 p i)

/-- The rows of a point. -/
theorem row_at (r : Fin 256) (e : Fin 1408) : (iblk m c 0 t : Vec Ideal S256x1408 .f32) (ix2 r e) = X m c (row t r) e := by
  unfold row
  blk_point [iblk, V, idx t]

/-- The weights of the two norms. -/
theorem normQ_at (e : Fin 768) : (iblk m c 1 t : Vec Ideal S1x768 .f32) (ix2 (0 : Fin 1) e) = GQ m c e := by
  blk_simp [iblk, idx t]
  rw [LatentUpWeights.normQ_held]
  pointwise
  blk_ext [idx t]

theorem normK_at (e : Fin 512) : (iblk m c 2 t : Vec Ideal S1x512 .f32) (ix2 (0 : Fin 1) e) = GK m c e := by
  blk_simp [iblk, idx t]
  rw [LatentUpWeights.normK_held]
  pointwise
  blk_ext [idx t]

/-- The weights are read whole at every point. -/
theorem whole3_at (e : Fin 768) (d : Fin 2048) : (win0_3.blk t).view.emb (ix2 e d) = (ix2 e d : S768x2048.Idx) := by
  funext a
  apply Fin.ext
  match a with
  | ⟨0, _⟩ =>
      show win0_3.index t 0 * 768 + 1 * e.val = e.val
      rw [(idx t).2.2.2.1, Nat.one_mul]; exact Nat.zero_add _
  | ⟨1, _⟩ =>
      show win0_3.index t 1 * 2048 + 1 * d.val = d.val
      rw [(idx t).2.2.2.1, Nat.one_mul]; exact Nat.zero_add _

theorem whole4_at (e : Fin 768) (d : Fin 2048) : (win0_4.blk t).view.emb (ix2 e d) = (ix2 e d : S768x2048.Idx) := by
  funext a
  apply Fin.ext
  match a with
  | ⟨0, _⟩ =>
      show win0_4.index t 0 * 768 + 1 * e.val = e.val
      rw [(idx t).2.2.2.2.1, Nat.one_mul]; exact Nat.zero_add _
  | ⟨1, _⟩ =>
      show win0_4.index t 1 * 2048 + 1 * d.val = d.val
      rw [(idx t).2.2.2.2.1, Nat.one_mul]; exact Nat.zero_add _

theorem whole5_at (e : Fin 512) (d : Fin 2048) : (win0_5.blk t).view.emb (ix2 e d) = (ix2 e d : S512x2048.Idx) := by
  funext a
  apply Fin.ext
  match a with
  | ⟨0, _⟩ =>
      show win0_5.index t 0 * 512 + 1 * e.val = e.val
      rw [(idx t).2.2.2.2.2.1, Nat.one_mul]; exact Nat.zero_add _
  | ⟨1, _⟩ =>
      show win0_5.index t 1 * 2048 + 1 * d.val = d.val
      rw [(idx t).2.2.2.2.2.1, Nat.one_mul]; exact Nat.zero_add _

theorem whole6_at (e : Fin 512) (d : Fin 2048) : (win0_6.blk t).view.emb (ix2 e d) = (ix2 e d : S512x2048.Idx) := by
  funext a
  apply Fin.ext
  match a with
  | ⟨0, _⟩ =>
      show win0_6.index t 0 * 512 + 1 * e.val = e.val
      rw [(idx t).2.2.2.2.2.2.1, Nat.one_mul]; exact Nat.zero_add _
  | ⟨1, _⟩ =>
      show win0_6.index t 1 * 2048 + 1 * d.val = d.val
      rw [(idx t).2.2.2.2.2.2.1, Nat.one_mul]; exact Nat.zero_add _

/-- The weights. -/
theorem plainQ_at (e : Fin 768) (k : Fin 2048) : (iblk m c 3 t : Vec Ideal S768x2048 .bf16) (ix2 e k)
    = WQ m c e ⟨k.val / 128 * 192 + k.val % 128, by omega⟩ := by
  blk_simp [iblk, idx t]
  rw [LatentUpWeights.plainQ_held]
  exact (congrArg _ (whole3_at t e k)).trans (LatentUpWeights.plainQ_at _ e k)

theorem turningQ_at (e : Fin 768) (k : Fin 2048) : (iblk m c 4 t : Vec Ideal S768x2048 .bf16) (ix2 e k)
    = if h : k.val % 128 < 64 then WQ m c e ⟨k.val / 128 * 192 + (128 + k.val % 128), by omega⟩ else 0 := by
  blk_simp [iblk, idx t]
  rw [LatentUpWeights.turningQ_held]
  exact (congrArg _ (whole4_at t e k)).trans (LatentUpWeights.turningQ_at _ e k)

theorem plainK_at (e : Fin 512) (k : Fin 2048) : (iblk m c 5 t : Vec Ideal S512x2048 .bf16) (ix2 e k)
    = WK m c e ⟨k.val / 128 * 256 + k.val % 128, by omega⟩ := by
  blk_simp [iblk, idx t]
  rw [LatentUpWeights.plainK_held]
  exact (congrArg _ (whole5_at t e k)).trans (LatentUpWeights.plainK_at _ e k)

theorem plainV_at (e : Fin 512) (k : Fin 2048) : (iblk m c 6 t : Vec Ideal S512x2048 .bf16) (ix2 e k)
    = WK m c e ⟨k.val / 128 * 256 + (128 + k.val % 128), by omega⟩ := by
  blk_simp [iblk, idx t]
  rw [LatentUpWeights.plainV_held]
  exact (congrArg _ (whole6_at t e k)).trans (LatentUpWeights.plainV_at _ e k)

/-- A point's rows of the tables. -/
theorem place7_at (r : Fin 256) (l : Fin 128) : (win0_7.blk t).view.emb (ix2 r l) = (ix2 (row t r) l : S16896x128.Idx) := by
  funext a
  apply Fin.ext
  match a with
  | ⟨0, _⟩ =>
      show win0_7.index t 0 * 256 + 1 * r.val = t.val * 256 + r.val
      rw [(idx t).2.2.2.2.2.2.2.1, Nat.one_mul]; rfl
  | ⟨1, _⟩ =>
      show win0_7.index t 1 * 128 + 1 * l.val = l.val
      rw [(idx t).2.2.2.2.2.2.2.1, Nat.one_mul]; exact Nat.zero_add _

theorem place8_at (r : Fin 256) (l : Fin 128) : (win0_8.blk t).view.emb (ix2 r l) = (ix2 (row t r) l : S16896x128.Idx) := by
  funext a
  apply Fin.ext
  match a with
  | ⟨0, _⟩ =>
      show win0_8.index t 0 * 256 + 1 * r.val = t.val * 256 + r.val
      rw [(idx t).2.2.2.2.2.2.2.2.1, Nat.one_mul]; rfl
  | ⟨1, _⟩ =>
      show win0_8.index t 1 * 128 + 1 * l.val = l.val
      rw [(idx t).2.2.2.2.2.2.2.2.1, Nat.one_mul]; exact Nat.zero_add _

/-- The tables. -/
theorem cosines_at (r : Fin 256) (l : Fin 128) : (iblk m c 7 t : Vec Ideal S256x128 .f32) (ix2 r l)
    = cosine (CR m c) (CC m c) (row t r) l := by
  blk_simp [iblk, idx t]
  rw [LatentUpTables.cosines_held]
  exact (congrArg _ (place7_at t r l)).trans (LatentUpTables.cosines_at _ _ (row t r) l)

theorem sines_at (r : Fin 256) (l : Fin 128) : (iblk m c 8 t : Vec Ideal S256x128 .f32) (ix2 r l)
    = sine (SR m c) (SC m c) (row t r) l := by
  blk_simp [iblk, idx t]
  rw [LatentUpTables.sines_held]
  exact (congrArg _ (place8_at t r l)).trans (LatentUpTables.sines_at _ _ (row t r) l)

/-- **The queries the call leaves**: any array that holds them at every entry. -/
theorem queries (R : Vec Ideal S16896x4096 .bf16) (hR : ∀ (ρ : Fin 16896) (n : Fin 4096), R (ix2 ρ n) = query (X m c ρ) (GQ m c) (WQ m c) (CR m c) (SR m c) (CC m c) (SC m c) ρ n) :
    (dats m 0 c).arrAt 9 cfg0.N = R := by
  refine (dats m 0 c).arrAt_eq_of_covers 9 _ (by decide +kernel) fun t hf y => ?_
  blk_simp
  rw [after0_9]
  obtain ⟨r, n, rfl⟩ : ∃ (r : Fin 256) (n : Fin 4096), y = ix2 r n := ⟨y 0, y 1, eq_ix2 (n0 := 256) (n1 := 4096) y⟩
  refine (LatentUpTile.query_at _ _ _ _ _ _ _ _ _ r (X m c (row t r)) (GQ m c) (WQ m c) (CR m c) (SR m c) (CC m c) (SC m c) (row t r) n (row_at m c t r) (normQ_at m c t)
    (plainQ_at m c t) (turningQ_at m c t) (cosines_at m c t r) (sines_at m c t r)).trans ?_
  refine (hR (row t r) n).symm.trans (congrArg R ?_)
  funext a
  apply Fin.ext
  match a with
  | ⟨0, _⟩ =>
      show t.val * 256 + r.val = win0_9.index t 0 * 256 + 1 * r.val
      rw [(idx t).2.2.2.2.2.2.2.2.2.1, Nat.one_mul]; rfl
  | ⟨1, _⟩ =>
      show n.val = win0_9.index t 1 * 4096 + 1 * n.val
      rw [(idx t).2.2.2.2.2.2.2.2.2.1, Nat.one_mul]; exact (Nat.zero_add _).symm

/-- **The keys the call leaves**: any array that holds them at every entry. -/
theorem keys (R : Vec Ideal S16896x4096 .bf16) (hR : ∀ (ρ : Fin 16896) (n : Fin 4096), R (ix2 ρ n) = key (X m c ρ) (GK m c) (WK m c) (CR m c) (SR m c) (CC m c) (SC m c) ρ n) :
    (dats m 0 c).arrAt 10 cfg0.N = R := by
  refine (dats m 0 c).arrAt_eq_of_covers 10 _ (by decide +kernel) fun t hf y => ?_
  blk_simp
  rw [after0_10]
  obtain ⟨r, n, rfl⟩ : ∃ (r : Fin 256) (n : Fin 4096), y = ix2 r n := ⟨y 0, y 1, eq_ix2 (n0 := 256) (n1 := 4096) y⟩
  refine (LatentUpTile.key_at _ _ _ _ _ _ _ _ _ r (X m c (row t r)) (GK m c) (WK m c) (CR m c) (SR m c) (CC m c) (SC m c) (row t r) n (row_at m c t r) (normK_at m c t)
    (plainK_at m c t) (cosines_at m c t r) (sines_at m c t r)).trans ?_
  refine (hR (row t r) n).symm.trans (congrArg R ?_)
  funext a
  apply Fin.ext
  match a with
  | ⟨0, _⟩ =>
      show t.val * 256 + r.val = win0_10.index t 0 * 256 + 1 * r.val
      rw [(idx t).2.2.2.2.2.2.2.2.2.2.1, Nat.one_mul]; rfl
  | ⟨1, _⟩ =>
      show n.val = win0_10.index t 1 * 4096 + 1 * n.val
      rw [(idx t).2.2.2.2.2.2.2.2.2.2.1, Nat.one_mul]; exact (Nat.zero_add _).symm

/-- **The values the call leaves**: any array that holds them at every entry. -/
theorem values (R : Vec Ideal S16896x2048 .bf16) (hR : ∀ (ρ : Fin 16896) (n : Fin 2048), R (ix2 ρ n) = value (X m c ρ) (GK m c) (WK m c) n) :
    (dats m 0 c).arrAt 11 cfg0.N = R := by
  refine (dats m 0 c).arrAt_eq_of_covers 11 _ (by decide +kernel) fun t hf y => ?_
  blk_simp
  rw [after0_11]
  obtain ⟨r, n, rfl⟩ : ∃ (r : Fin 256) (n : Fin 2048), y = ix2 r n := ⟨y 0, y 1, eq_ix2 (n0 := 256) (n1 := 2048) y⟩
  refine (LatentUpTile.value_at _ _ _ _ _ _ _ _ _ r (X m c (row t r)) (GK m c) (WK m c) n (row_at m c t r) (normK_at m c t) (plainV_at m c t)).trans ?_
  refine (hR (row t r) n).symm.trans (congrArg R ?_)
  funext a
  apply Fin.ext
  match a with
  | ⟨0, _⟩ =>
      show t.val * 256 + r.val = win0_11.index t 0 * 256 + 1 * r.val
      rw [(idx t).2.2.2.2.2.2.2.2.2.2.2, Nat.one_mul]; rfl
  | ⟨1, _⟩ =>
      show n.val = win0_11.index t 1 * 2048 + 1 * n.val
      rw [(idx t).2.2.2.2.2.2.2.2.2.2.2, Nat.one_mul]; exact (Nat.zero_add _).symm

end Cert.Proof.LatentUpKernel

end
-- ==== Proof.LatentUp.Ref.lean ====
/- The up-projection: what its reference computes, at an index, and the equations. -/
module

public import proofs.«01_k».proof.Proof.LatentUp.RefRows
public import proofs.«01_k».proof.Proof.LatentUp.Kernel

@[expose] public section

set_option maxRecDepth 16384

noncomputable section

namespace Cert.Proof.LatentUpRef

open Cert.LatentUpRefIdeal Cert.LatentUpRefIdeal.Gen Cert.LatentUpRefIdeal.Read Idealize.ShloMosaic Cert.Proof.MlpRef
open Cert.Proof.LatentUpRow Cert.Proof.LatentUpRefRows

variable (x0 : FVec Ideal S16896x1408 .f32) (x1 : FVec Ideal S768 .f32) (x2 : FVec Ideal S512 .f32) (x3 : FVec Ideal S768x3072 .f32)
  (x4 : FVec Ideal S512x4096 .f32) (x5 x6 x7 x8 : FVec Ideal S8192x16 .f32)

/-- A latent row is turned by its position; a context row is not. -/
theorem placed_latent (CR SR CC SC : Fin 8192 → Fin 16 → EReal) (b : Fin 2) (t : Fin 8192) (x : Fin 128 → EReal) (l : Fin 128) :
    placed CR SR CC SC (latent b t) x l = turn x (CR t) (SR t) (CC t) (SC t) l := by
  have h : (latent b t).val < 16384 := by show b.val * 8192 + t.val < 16384; omega
  have ht : (⟨(latent b t).val % 8192, by omega⟩ : Fin 8192) = t := by
    apply Fin.ext; show (b.val * 8192 + t.val) % 8192 = t.val; omega
  unfold placed
  rw [if_pos h, ht]

theorem placed_context (CR SR CC SC : Fin 8192 → Fin 16 → EReal) (b : Fin 2) (t : Fin 256) (x : Fin 128 → EReal) (l : Fin 128) :
    placed CR SR CC SC (context b t) x l = x l := by
  have h : ¬(context b t).val < 16384 := by show ¬16384 + (b.val * 256 + t.val) < 16384; omega
  unfold placed
  rw [if_neg h]

/-- The lanes beyond the turning ones stay. -/
theorem turn_rest (x : Fin 128 → EReal) (cr sr cc sc : Fin 16 → EReal) (l : Fin 128) (h : ¬l.val < 64) : turn x cr sr cc sc l = x l := by
  unfold turn
  rw [dif_neg (by omega), dif_neg (by omega), dif_neg (by omega), dif_neg h]

/-- The queries of the latent rows, by heads. -/
theorem queryX_at (b : Fin 2) (t : Fin 8192) (d : Fin 4096) : val_main_v128 (F := Ideal) x0 x1 x3 x5 x6 x7 x8 (ix3 b t d)
    = query (X x0 (latent b t)) (GQ x1) (WQ x3) (T x5) (T x6) (T x7) (T x8) (latent b t) d := by
  unfold query head
  pointwise [val_main_v128, val_main_v127, val_main_v126, val_main_v82, val_main_cst_13, val_main_v83]
  by_cases h : d.val % 256 < 128
  · simp only [dif_pos h]
    exact upQX_at x0 x1 x3 b t _ _
  · simp only [dif_neg h]
    rw [placed_latent]
    by_cases h' : d.val % 256 - 128 < 64
    · simp only [dif_pos h']
      exact turnQ_at x0 x1 x3 x5 x6 x7 x8 b t _ _
    · simp only [dif_neg h']
      rw [turn_rest _ _ _ _ _ _ h']
      unfold queryLanes
      simp only [dif_neg h']

/-- The queries of the context rows. -/
theorem queryC_at (b : Fin 2) (t : Fin 256) (d : Fin 4096) : val_main_v133 (F := Ideal) x0 x1 x3 (ix3 b t d)
    = query (X x0 (context b t)) (GQ x1) (WQ x3) (T x5) (T x6) (T x7) (T x8) (context b t) d := by
  unfold query head
  pointwise [val_main_v133, val_main_v132, val_main_v131, val_main_v82, val_main_cst_13, val_main_v130, val_main_v129]
  by_cases h : d.val % 256 < 128
  · simp only [dif_pos h]
    exact upQC_at x0 x1 x3 b t _ _
  · simp only [dif_neg h]
    rw [placed_context]
    unfold queryLanes
    by_cases h' : d.val % 256 - 128 < 64
    · simp only [dif_pos h']
      exact upQC_at x0 x1 x3 b t _ _
    · simp only [dif_neg h']

/-- The keys of the latent rows. -/
theorem keyX_at (b : Fin 2) (t : Fin 8192) (d : Fin 4096) : val_main_v185 (F := Ideal) x0 x2 x4 x5 x6 x7 x8 (ix3 b t d)
    = key (X x0 (latent b t)) (GK x2) (WK x4) (T x5) (T x6) (T x7) (T x8) (latent b t) d := by
  unfold key head
  pointwise [val_main_v185, val_main_v184, val_main_v183, val_main_v182, val_main_v181, val_main_v180, val_main_v179, val_main_v178, val_main_v36]
  by_cases h : d.val % 256 < 128
  · simp only [dif_pos h]
    exact upKX_at x0 x2 x4 b t _ _
  · simp only [dif_neg h]
    refine Eq.trans ?_ (placed_latent _ _ _ _ b t _ _).symm
    by_cases h' : d.val % 256 - 128 < 64
    · simp only [dif_pos h']
      exact turnK_at x0 x5 x6 x7 x8 b t _ _
    · simp only [dif_neg h']
      refine Eq.trans ?_ (turn_rest _ _ _ _ _ _ h').symm
      refine congrArg (fun i => x0 (ix2 (latent b t) i)) (Fin.ext ?_)
      show 1344 + (d.val % 256 - 128 - 64) = 1280 + (d.val % 256 - 128)
      omega

/-- The keys of the context rows. -/
theorem keyC_at (b : Fin 2) (t : Fin 256) (d : Fin 4096) : val_main_v193 (F := Ideal) x0 x2 x4 (ix3 b t d)
    = key (X x0 (context b t)) (GK x2) (WK x4) (T x5) (T x6) (T x7) (T x8) (context b t) d := by
  unfold key head
  pointwise [val_main_v193, val_main_v192, val_main_v191, val_main_v190, val_main_v189, val_main_v188, val_main_v187, val_main_v186,
    val_main_v77, val_main_v75, val_main_v43, val_main_v40, val_main_v39]
  by_cases h : d.val % 256 < 128
  · simp only [dif_pos h]
    exact upKC_at x0 x2 x4 b t _ _
  · simp only [dif_neg h]
    refine Eq.trans ?_ (placed_context _ _ _ _ b t _ _).symm
    by_cases h' : d.val % 256 - 128 < 64
    · simp only [dif_pos h']
      rfl
    · simp only [dif_neg h']
      refine congrArg (fun i => x0 (ix2 (context b t) i)) (Fin.ext ?_)
      show 1344 + (d.val % 256 - 128 - 64) = 1280 + (d.val % 256 - 128)
      omega

/-- **The reference's queries.** -/
theorem queries (ρ : Fin 16896) (d : Fin 4096) : val_main_v197 (F := Ideal) x0 x1 x3 x5 x6 x7 x8 (ix2 ρ d)
    = query (X x0 ρ) (GQ x1) (WQ x3) (T x5) (T x6) (T x7) (T x8) ρ d := by
  pointwise [val_main_v197, val_main_v136, val_main_v135, val_main_v134]
  by_cases h : ρ.val < 16384
  · rw [dif_pos h]
    refine (queryX_at x0 x1 x3 x5 x6 x7 x8 _ _ _).trans ?_
    rw [Streams.latent_of ρ h]
  · rw [dif_neg h]
    refine (queryC_at x0 x1 x3 x5 x6 x7 x8 _ _ _).trans ?_
    rw [Streams.context_of ρ h]

/-- **The reference's keys.** -/
theorem keys (ρ : Fin 16896) (d : Fin 4096) : val_main_v198 (F := Ideal) x0 x2 x4 x5 x6 x7 x8 (ix2 ρ d)
    = key (X x0 ρ) (GK x2) (WK x4) (T x5) (T x6) (T x7) (T x8) ρ d := by
  pointwise [val_main_v198, val_main_v196, val_main_v195, val_main_v194]
  by_cases h : ρ.val < 16384
  · rw [dif_pos h]
    refine (keyX_at x0 x2 x4 x5 x6 x7 x8 _ _ _).trans ?_
    rw [Streams.latent_of ρ h]
  · rw [dif_neg h]
    refine (keyC_at x0 x2 x4 x5 x6 x7 x8 _ _ _).trans ?_
    rw [Streams.context_of ρ h]

/-- The values of the latent rows, and of the context rows. -/
theorem valueX_at (r : Fin 16384) (d : Fin 2048) : val_main_v199 (F := Ideal) x0 x2 x4 (ix2 r d)
    = val_main_v35 (F := Ideal) x0 x2 x4 (ix4 (⟨r.val / 8192, by omega⟩ : Fin 2) (⟨r.val % 8192, by omega⟩ : Fin 8192)
        (⟨d.val / 128, by omega⟩ : Fin 16) (⟨128 + d.val % 128, by omega⟩ : Fin 256)) := by
  pointwise [val_main_v199, val_main_v37]

theorem valueC_at (r : Fin 512) (d : Fin 2048) : val_main_v200 (F := Ideal) x0 x2 x4 (ix2 r d)
    = val_main_v74 (F := Ideal) x0 x2 x4 (ix4 (⟨r.val / 256, by omega⟩ : Fin 2) (⟨r.val % 256, by omega⟩ : Fin 256)
        (⟨d.val / 128, by omega⟩ : Fin 16) (⟨128 + d.val % 128, by omega⟩ : Fin 256)) := by
  pointwise [val_main_v200, val_main_v76]

/-- **The reference's values.** -/
theorem values (ρ : Fin 16896) (d : Fin 2048) : val_main_v202 (F := Ideal) x0 x2 x4 (ix2 ρ d) = value (X x0 ρ) (GK x2) (WK x4) d := by
  pointwise [val_main_v202, val_main_v201]
  by_cases h : ρ.val < 16384
  · rw [dif_pos h]
    refine (valueX_at x0 x2 x4 _ _).trans ((upKX_at x0 x2 x4 _ _ _ _).trans ?_)
    rw [Streams.latent_of ρ h]
    rfl
  · rw [dif_neg h]
    refine (valueC_at x0 x2 x4 _ _).trans ((upKC_at x0 x2 x4 _ _ _ _).trans ?_)
    rw [Streams.context_of ρ h]
    rfl

end Cert.Proof.LatentUpRef

namespace Cert.Proof.LatentUpEquation

open Cert.LatentUpIdeal Cert.LatentUpIdeal.Gen Idealize.ShloMosaic Idealize.ShloMosaic.TcCoe Idealize.SL.Sem

variable (m : (ℓ : Loc nD τ sig) → Buf (Elt Ideal) ℓ) (c : Dev nD) (x0 : FVec Ideal S16896x1408 .f32) (x1 : FVec Ideal S768 .f32)
  (x2 : FVec Ideal S512 .f32) (x3 : FVec Ideal S768x3072 .f32) (x4 : FVec Ideal S512x4096 .f32) (x5 x6 x7 x8 : FVec Ideal S8192x16 .f32)

/-- **The equations**: from equal arguments, equal queries, keys and values. -/
theorem queries (h0 : m ((c : Thread nD τ).loc main_arg0) = x0) (h1 : m ((c : Thread nD τ).loc main_arg1) = x1)
    (h3 : m ((c : Thread nD τ).loc main_arg3) = x3) (h5 : m ((c : Thread nD τ).loc main_arg5) = x5)
    (h6 : m ((c : Thread nD τ).loc main_arg6) = x6) (h7 : m ((c : Thread nD τ).loc main_arg7) = x7)
    (h8 : m ((c : Thread nD τ).loc main_arg8) = x8) :
    (dats m 0 c).arrAt 9 cfg0.N = Cert.LatentUpRefIdeal.Read.val_main_v197 (F := Ideal) x0 x1 x3 x5 x6 x7 x8 := by
  subst h0 h1 h3 h5 h6 h7 h8
  exact LatentUpKernel.queries m c _ fun ρ d => LatentUpRef.queries _ _ _ _ _ _ _ ρ d

theorem keys (h0 : m ((c : Thread nD τ).loc main_arg0) = x0) (h2 : m ((c : Thread nD τ).loc main_arg2) = x2)
    (h4 : m ((c : Thread nD τ).loc main_arg4) = x4) (h5 : m ((c : Thread nD τ).loc main_arg5) = x5)
    (h6 : m ((c : Thread nD τ).loc main_arg6) = x6) (h7 : m ((c : Thread nD τ).loc main_arg7) = x7)
    (h8 : m ((c : Thread nD τ).loc main_arg8) = x8) :
    (dats m 0 c).arrAt 10 cfg0.N = Cert.LatentUpRefIdeal.Read.val_main_v198 (F := Ideal) x0 x2 x4 x5 x6 x7 x8 := by
  subst h0 h2 h4 h5 h6 h7 h8
  exact LatentUpKernel.keys m c _ fun ρ d => LatentUpRef.keys _ _ _ _ _ _ _ ρ d

theorem values (h0 : m ((c : Thread nD τ).loc main_arg0) = x0) (h2 : m ((c : Thread nD τ).loc main_arg2) = x2)
    (h4 : m ((c : Thread nD τ).loc main_arg4) = x4) :
    (dats m 0 c).arrAt 11 cfg0.N = Cert.LatentUpRefIdeal.Read.val_main_v202 (F := Ideal) x0 x2 x4 := by
  subst h0 h2 h4
  exact LatentUpKernel.values m c _ fun ρ d => LatentUpRef.values _ _ _ ρ d

end Cert.Proof.LatentUpEquation

end
-- ==== Proof.MlpLast.Steps.lean ====
/- The MLP of the last layer: what a grid point leaves behind: the modulated rows and the running sum in the two scratch buffers, and at the last
   hidden tile the result block. -/
module

public import proofs.«01_k».proof.Proof.Gen.MlpLastIdeal.Frame
public import Idealize.ShloMosaic.Lib.Pipeline.ValueKit
public import Idealize.ShloMosaic.Lib.Pipeline.ReadBack

@[expose] public section

set_option maxRecDepth 16384

noncomputable section

namespace Cert.Proof.MlpLastSteps

open Cert.MlpLastIdeal Cert.MlpLastIdeal.Gen Idealize.ShloMosaic Idealize.ShloMosaic.TcCoe Idealize.SL.Sem

variable (m : (ℓ : Loc nD τ sig) → Buf (Elt Ideal) ℓ) (c : Dev nD) (t : Fin cfg0.N)

/-- The first hidden tile of a row tile stores the modulated rows. -/
theorem rows_first (h : t.val % 8 = 0) : (outsAt0 m c t.val t.isLt).2.1
    = k0_pay1 (F := Ideal) (iblk m c 0 t) (iblk m c 1 t) (iblk m c 2 t) (iblk m c 3 t) := by
  rw [outsAt0_A m c t h (by omega)]
  frame_out

/-- The other hidden tiles keep them. -/
theorem rows_next (h : ¬t.val % 8 = 0) : (outsAt0 m c t.val t.isLt).2.1
    = (outsAt0 m c (t.val - 1) (Nat.lt_of_le_of_lt (Nat.sub_le _ _) t.isLt)).2.1 := by
  by_cases h1 : t.val % 8 = 7
  · rw [outsAt0_C m c t h h1]; rfl
  · rw [outsAt0_B m c t h h1]; rfl

/-- The first hidden tile begins the sum at zero. -/
theorem sum_first (h : t.val % 8 = 0) : (outsAt0 m c t.val t.isLt).2.2
    = k0_pay3 (F := Ideal) (outsAt0 m c t.val t.isLt).2.1 (iblk m c 5 t) (k0_pay2 (F := Ideal)) (iblk m c 6 t) := by
  rw [rows_first m c t h, outsAt0_A m c t h (by omega)]
  frame_out

/-- The other hidden tiles add to it. -/
theorem sum_next (h : ¬t.val % 8 = 0) : (outsAt0 m c t.val t.isLt).2.2
    = k0_pay3 (F := Ideal) (outsAt0 m c t.val t.isLt).2.1 (iblk m c 5 t)
        (outsAt0 m c (t.val - 1) (Nat.lt_of_le_of_lt (Nat.sub_le _ _) t.isLt)).2.2 (iblk m c 6 t) := by
  rw [rows_next m c t h]
  by_cases h1 : t.val % 8 = 7
  · rw [outsAt0_C m c t h h1]; frame_out; simp only [read_unread_whole]
  · rw [outsAt0_B m c t h h1]; frame_out; simp only [read_unread_whole]

/-- The last hidden tile stores the result block. -/
theorem result_last (h : t.val % 8 = 7) : (outsAt0 m c t.val t.isLt).1
    = k0_pay4 (F := Ideal) (iblk m c 0 t) (iblk m c 4 t) (outsAt0 m c t.val t.isLt).2.2 := by
  rw [sum_next m c t (by omega), rows_next m c t (by omega), outsAt0_C m c t (by omega) h]
  frame_out
  simp only [read_unread_whole]

end Cert.Proof.MlpLastSteps

end
-- ==== Proof.MlpLast.Blocks.lean ====
/- The MLP of the last layer: the blocks of its call, in terms of the arrays. -/
module

public import proofs.«01_k».proof.Proof.Mlp.Steps
public import proofs.«01_k».proof.Proof.MlpLast.Steps
public import proofs.«01_k».proof.Proof.Mlp.Row

@[expose] public section

set_option maxRecDepth 16384

noncomputable section

namespace Cert.Proof.MlpLastBlocks

open Cert.MlpLastIdeal Cert.MlpLastIdeal.Gen Idealize.ShloMosaic Idealize.ShloMosaic.TcCoe Idealize.SL.Sem

/-- The modulated rows of a block: the body is that of the other layers' call. -/
theorem unit_at (x : Vec Ideal S512x2048 .f32) (g : Vec Ideal S1x2048 .f32) (sh sc : Vec Ideal S1x1x2048 .f32) (r : Fin 512) (e : Fin 2048) :
    k0_pay1 (F := Ideal) x g sh sc (ix2 r e) = MlpRow.unit (fun i => x (ix2 r i)) (fun i => g (ix2 (0 : Fin 1) i))
      (fun i => sh (ix3 (0 : Fin 1) (0 : Fin 1) i)) (fun i => sc (ix3 (0 : Fin 1) (0 : Fin 1) i)) e :=
  MlpRow.unit_at x g sh sc r e

/-- The cleared sum. -/
theorem clear_at (r : Fin 512) (d : Fin 2048) : k0_pay2 (F := Ideal) (ix2 r d) = 0 := MlpRow.clear_at r d

/-- A step adds the products of 1024 hidden units with the second weights. -/
theorem step_at (u : Vec Ideal S512x2048 .bf16) (w : Vec Ideal S2048x1024 .bf16) (a : Vec Ideal S512x2048 .f32) (v : Vec Ideal S1024x2048 .bf16)
    (r : Fin 512) (d : Fin 2048) : k0_pay3 (F := Ideal) u w a v (ix2 r d)
      = a (ix2 r d) + ∑ k : Fin 1024, MlpRow.hidden (fun e => u (ix2 r e)) (fun e => w (ix2 e k)) * v (ix2 k d) :=
  MlpRow.step_at u w a v r d

/-- The result: the row plus the gated sum. -/
theorem gated_at (x : Vec Ideal S512x2048 .f32) (g : Vec Ideal S1x1x2048 .f32) (a : Vec Ideal S512x2048 .f32) (r : Fin 512) (d : Fin 2048) :
    k0_pay4 (F := Ideal) x g a (ix2 r d) = x (ix2 r d) + g (ix3 (0 : Fin 1) (0 : Fin 1) d) * a (ix2 r d) :=
  MlpRow.gated_at x g a r d

variable (m : (ℓ : Loc nD τ sig) → Buf (Elt Ideal) ℓ) (c : Dev nD) (t : Fin cfg0.N)

/-- The block indices of the eight windows. -/
theorem idx : ∀ t : Fin cfg0.N,
    win0_0.index t = ![t.val / 8, 0] ∧ win0_1.index t = ![0, 0] ∧ win0_2.index t = ![t.val / 128, 0, 3]
    ∧ win0_3.index t = ![t.val / 128, 0, 4] ∧ win0_4.index t = ![t.val / 128, 0, 5]
    ∧ win0_5.index t = ![0, t.val % 8] ∧ win0_6.index t = ![t.val % 8, 0] ∧ win0_7.index t = ![t.val / 8, 0] :=
  (by decide +kernel : ∀ t : Fin grid0.N, _)

theorem points (t : Fin cfg0.N) : t.val < 256 := Nat.lt_of_lt_of_eq t.isLt N_0

/-- The row of the array that is row `r` of a point's tile. -/
def row (n : ℕ) (hn : n < cfg0.N) (r : Fin 512) : Fin 16384 :=
  ⟨n / 8 * 512 + r.val, by have := points ⟨n, hn⟩; simp only at this; omega⟩

/-- The modulation that a row takes: its batch's. -/
def batch (ρ : Fin 16384) : Fin 3 := ⟨ρ.val / 8192, by omega⟩

/-- The input rows of a point. -/
theorem row_at (r : Fin 512) (e : Fin 2048) : (iblk m c 0 t : Vec Ideal S512x2048 .f32) (ix2 r e)
    = (m ((c : Thread nD τ).loc main_arg0) : Vec Ideal S16384x2048 .f32) (ix2 (row t.val t.isLt r) e) := by
  unfold row
  blk_point [iblk, V, idx t]

/-- The weight of the norm. -/
theorem weight_at (e : Fin 2048) : (iblk m c 1 t : Vec Ideal S1x2048 .f32) (ix2 (0 : Fin 1) e)
    = (m ((c : Thread nD τ).loc main_arg1) : Vec Ideal S2048 .f32) (ix1 e) := by
  blk_point [iblk, V, idx t]

/-- The shift of a point's rows. -/
theorem shift_at (r : Fin 512) (e : Fin 2048) : (iblk m c 2 t : Vec Ideal S1x1x2048 .f32) (ix3 (0 : Fin 1) (0 : Fin 1) e)
    = (m ((c : Thread nD τ).loc main_arg2) : Vec Ideal S3x1x12288 .f32)
        (ix3 (batch (row t.val t.isLt r)) (0 : Fin 1) ⟨6144 + e.val, by omega⟩) := by
  have h := points t
  have hb : batch (row t.val t.isLt r) = ⟨t.val / 128, by omega⟩ := by
    apply Fin.ext; show (t.val / 8 * 512 + r.val) / 8192 = t.val / 128; omega
  rw [hb]
  blk_point [iblk, V, idx t]

/-- The scale of a point's rows. -/
theorem scale_at (r : Fin 512) (e : Fin 2048) : (iblk m c 3 t : Vec Ideal S1x1x2048 .f32) (ix3 (0 : Fin 1) (0 : Fin 1) e)
    = (m ((c : Thread nD τ).loc main_arg2) : Vec Ideal S3x1x12288 .f32)
        (ix3 (batch (row t.val t.isLt r)) (0 : Fin 1) ⟨8192 + e.val, by omega⟩) := by
  have h := points t
  have hb : batch (row t.val t.isLt r) = ⟨t.val / 128, by omega⟩ := by
    apply Fin.ext; show (t.val / 8 * 512 + r.val) / 8192 = t.val / 128; omega
  rw [hb]
  blk_point [iblk, V, idx t]

/-- The gate of a point's rows. -/
theorem gate_at (r : Fin 512) (e : Fin 2048) : (iblk m c 4 t : Vec Ideal S1x1x2048 .f32) (ix3 (0 : Fin 1) (0 : Fin 1) e)
    = (m ((c : Thread nD τ).loc main_arg2) : Vec Ideal S3x1x12288 .f32)
        (ix3 (batch (row t.val t.isLt r)) (0 : Fin 1) ⟨10240 + e.val, by omega⟩) := by
  have h := points t
  have hb : batch (row t.val t.isLt r) = ⟨t.val / 128, by omega⟩ := by
    apply Fin.ext; show (t.val / 8 * 512 + r.val) / 8192 = t.val / 128; omega
  rw [hb]
  blk_point [iblk, V, idx t]

/-- The first weights of a point's hidden tile. -/
theorem first_at (e : Fin 2048) (k : Fin 1024) : (iblk m c 5 t : Vec Ideal S2048x1024 .bf16) (ix2 e k)
    = (m ((c : Thread nD τ).loc main_arg3) : Vec Ideal S2048x8192 .f32) (ix2 e ⟨t.val % 8 * 1024 + k.val, by omega⟩) := by
  blk_point [iblk, V, idx t]

/-- The second weights of a point's hidden tile. -/
theorem second_at (k : Fin 1024) (d : Fin 2048) : (iblk m c 6 t : Vec Ideal S1024x2048 .bf16) (ix2 k d)
    = (m ((c : Thread nD τ).loc main_arg4) : Vec Ideal S8192x2048 .f32) (ix2 ⟨t.val % 8 * 1024 + k.val, by omega⟩ d) := by
  blk_point [iblk, V, idx t]

end Cert.Proof.MlpLastBlocks

end
-- ==== Proof.MlpLast.Array.lean ====
/- The array the last layer's MLP leaves: in every latent row, the input plus the gated feed-forward of the modulated row. -/
module

public import proofs.«01_k».proof.Proof.MlpLast.Blocks

@[expose] public section

set_option maxRecDepth 16384

noncomputable section

namespace Cert.Proof.MlpLastArray

open Cert.MlpLastIdeal Cert.MlpLastIdeal.Gen Idealize.ShloMosaic Idealize.ShloMosaic.TcCoe Idealize.SL.Sem Cert.Proof.MlpLastBlocks

section Spec

variable (X : Vec Ideal S16384x2048 .f32) (G : Vec Ideal S2048 .f32) (M : Vec Ideal S3x1x12288 .f32)
  (W1 : Vec Ideal S2048x8192 .f32) (W2 : Vec Ideal S8192x2048 .f32)

/-- Row `ρ` of the input, normalised and modulated. -/
def modulated (ρ : Fin 16384) : Fin 2048 → EReal :=
  MlpRow.unit (fun i => X (ix2 ρ i)) (fun i => G (ix1 i))
    (fun i => M (ix3 (batch ρ) (0 : Fin 1) (⟨6144 + i.val, by omega⟩ : Fin 12288)))
    (fun i => M (ix3 (batch ρ) (0 : Fin 1) (⟨8192 + i.val, by omega⟩ : Fin 12288)))

/-- Hidden unit `k` of row `ρ` times its weight in column `d`. -/
def part (ρ : Fin 16384) (d : Fin 2048) (k : Fin 8192) : EReal :=
  MlpRow.hidden (modulated X G M ρ) (fun e => W1 (ix2 e k)) * W2 (ix2 k d)

/-- Entry `(ρ, d)` of the result. -/
def result (ρ : Fin 16384) (d : Fin 2048) : EReal :=
  X (ix2 ρ d) + M (ix3 (batch ρ) (0 : Fin 1) (⟨10240 + d.val, by omega⟩ : Fin 12288)) * ∑ k : Fin 8192, part X G M W1 W2 ρ d k

end Spec

variable (m : (ℓ : Loc nD τ sig) → Buf (Elt Ideal) ℓ) (c : Dev nD)

/-- The arguments of the call, as the launch finds them. -/
abbrev arg0 : Vec Ideal S16384x2048 .f32 := m ((c : Thread nD τ).loc main_arg0)
abbrev arg1 : Vec Ideal S2048 .f32 := m ((c : Thread nD τ).loc main_arg1)
abbrev arg2 : Vec Ideal S3x1x12288 .f32 := m ((c : Thread nD τ).loc main_arg2)
abbrev arg3 : Vec Ideal S2048x8192 .f32 := m ((c : Thread nD τ).loc main_arg3)
abbrev arg4 : Vec Ideal S8192x2048 .f32 := m ((c : Thread nD τ).loc main_arg4)

/-- The first scratch holds the tile's modulated rows at every point. -/
theorem rows (n : ℕ) (hn : n < cfg0.N) (r : Fin 512) (e : Fin 2048) : (outsAt0 m c n hn).2.1 (ix2 r e)
    = modulated (arg0 m c) (arg1 m c) (arg2 m c) (row n hn r) e := by
  induction n with
  | zero =>
      rw [MlpLastSteps.rows_first m c ⟨0, hn⟩ rfl, unit_at]
      simp only [row_at, weight_at, shift_at m c _ r, scale_at m c _ r]
      rfl
  | succ n ih =>
      by_cases h : (n + 1) % 8 = 0
      · rw [MlpLastSteps.rows_first m c ⟨n + 1, hn⟩ h, unit_at]
        simp only [row_at, weight_at, shift_at m c _ r, scale_at m c _ r]
        rfl
      · rw [MlpLastSteps.rows_next m c ⟨n + 1, hn⟩ h]
        refine (ih (by omega)).trans ?_
        have hr : row n (by omega) r = row (n + 1) hn r := by
          apply Fin.ext; show n / 8 * 512 + r.val = (n + 1) / 8 * 512 + r.val; omega
        rw [hr]

/-- What one point adds to the running sum. -/
def added (t : Fin cfg0.N) (i : S512x2048.Idx) : EReal :=
  ∑ k : Fin 1024, part (arg0 m c) (arg1 m c) (arg2 m c) (arg3 m c) (arg4 m c) (row t.val t.isLt (i 0)) (i 1)
    (⟨t.val % 8 * 1024 + k.val, by omega⟩ : Fin 8192)

/-- A step's products, in terms of the arrays. -/
theorem step (t : Fin cfg0.N) (a : Vec Ideal S512x2048 .f32) (i : S512x2048.Idx) :
    k0_pay3 (F := Ideal) (outsAt0 m c t.val t.isLt).2.1 (iblk m c 5 t) a (iblk m c 6 t) i = a i + added m c t i := by
  obtain ⟨r, d, rfl⟩ : ∃ (r : Fin 512) (d : Fin 2048), i = ix2 r d := ⟨i 0, i 1, eq_ix2 i⟩
  rw [step_at]
  simp only [rows, first_at, second_at]
  rfl

/-- At a tile's last point the second scratch holds the sum over all hidden units. -/
theorem total (t : Fin cfg0.N) (ht : t.val % 8 = 7) (r : Fin 512) (d : Fin 2048) : (outsAt0 m c t.val t.isLt).2.2 (ix2 r d)
    = ∑ k : Fin 8192, part (arg0 m c) (arg1 m c) (arg2 m c) (arg3 m c) (arg4 m c) (row t.val t.isLt r) d k := by
  refine (Pipeline.eq_sum_fin_of_reset_step_apply_of_flush (M := EReal) (fun n h => (outsAt0 m c n h).2.2) 8 (fun _ => 0) (added m c)
    (fun t h i => ?_) (fun t h i => ?_) t ht (ix2 r d)).trans ?_
  · show (outsAt0 m c t.val t.isLt).2.2 i = _
    rw [MlpLastSteps.sum_first m c t h, step]
    obtain ⟨r, d, rfl⟩ : ∃ (r : Fin 512) (d : Fin 2048), i = ix2 r d := ⟨i 0, i 1, eq_ix2 i⟩
    rw [clear_at]
  · show (outsAt0 m c t.val t.isLt).2.2 i = _
    rw [MlpLastSteps.sum_next m c t h, step]
  · rw [zero_add]
    refine Fin.sum_mul_add_congr fun s k hl => ?_
    have hr : row (8 * (t.val / 8) + s.val) (Pipeline.run_point_lt_of_flush t ht s) r = row t.val t.isLt r := by
      apply Fin.ext; show (8 * (t.val / 8) + s.val) / 8 * 512 + r.val = t.val / 8 * 512 + r.val; omega
    have hk : (⟨(8 * (t.val / 8) + s.val) % 8 * 1024 + k.val, by omega⟩ : Fin 8192) = ⟨s.val * 1024 + k.val, hl⟩ := by
      apply Fin.ext; show (8 * (t.val / 8) + s.val) % 8 * 1024 + k.val = s.val * 1024 + k.val; omega
    show part _ _ _ _ _ (row (8 * (t.val / 8) + s.val) _ r) d ⟨(8 * (t.val / 8) + s.val) % 8 * 1024 + k.val, _⟩ = _
    rw [hr, hk]

/-- **The array the call leaves**: any array that holds `result` at every entry. -/
theorem array (R : Vec Ideal S16384x2048 .f32)
    (hR : ∀ (ρ : Fin 16384) (d : Fin 2048), R (ix2 ρ d) = result (arg0 m c) (arg1 m c) (arg2 m c) (arg3 m c) (arg4 m c) ρ d) :
    (dats m 0 c).arrAt 7 cfg0.N = R := by
  refine (dats m 0 c).arrAt_eq_of_covers 7 _ (by decide +kernel) fun t hf y => ?_
  have ht := (flush0_7 t).mp hf
  blk_simp
  rw [after0_7, MlpLastSteps.result_last m c t ht]
  obtain ⟨r, d, rfl⟩ : ∃ (r : Fin 512) (d : Fin 2048), y = ix2 r d := ⟨y 0, y 1, eq_ix2 (n0 := 512) (n1 := 2048) y⟩
  refine (gated_at _ _ _ r d).trans ?_
  rw [total m c t ht, row_at, gate_at m c t r]
  refine (hR (row t.val t.isLt r) d).symm.trans (congrArg R ?_)
  funext a
  apply Fin.ext
  match a with
  | ⟨0, _⟩ =>
      show t.val / 8 * 512 + r.val = win0_7.index t 0 * 512 + 1 * r.val
      rw [(idx t).2.2.2.2.2.2.2, Nat.one_mul]; rfl
  | ⟨1, _⟩ =>
      show d.val = win0_7.index t 1 * 2048 + 1 * d.val
      rw [(idx t).2.2.2.2.2.2.2, Nat.one_mul]; exact (Nat.zero_add _).symm

end Cert.Proof.MlpLastArray

end
-- ==== Proof.MlpLast.Ref.lean ====
/- The MLP of the last layer: what its reference computes, at an index, and the equation. -/
module

public import proofs.«01_k».proof.Proof.Gen.MlpLastRefIdeal.Read
public import proofs.«01_k».proof.Proof.MlpLast.Array

@[expose] public section

set_option maxRecDepth 16384

noncomputable section

namespace Cert.Proof.MlpLastRef

open Cert.MlpLastRefIdeal Cert.MlpLastRefIdeal.Gen Cert.MlpLastRefIdeal.Read Idealize.ShloMosaic Cert.Proof.MlpLastBlocks Cert.Proof.MlpLastArray

variable (x0 : FVec Ideal S16384x2048 .f32) (x1 : FVec Ideal S2048 .f32) (x2 : FVec Ideal S3x1x12288 .f32)
  (x3 : FVec Ideal S2048x8192 .f32) (x4 : FVec Ideal S8192x2048 .f32)

/-- A latent row of a batch. -/
def latent (b : Fin 2) (t : Fin 8192) : Fin 16384 := ⟨b.val * 8192 + t.val, by omega⟩

theorem batch_latent (b : Fin 2) (t : Fin 8192) : batch (latent b t) = ⟨b.val, by omega⟩ := by
  apply Fin.ext; show (b.val * 8192 + t.val) / 8192 = b.val; omega

/-- The rows, by batch and position. -/
theorem row_at (b : Fin 2) (t : Fin 8192) (e : Fin 2048) :
    val_main_v10 (F := Ideal) x0 (ix3 b t e) = x0 (ix2 (latent b t) e) := by
  unfold latent
  pointwise [val_main_v10]

/-- The modulated rows. -/
theorem mod_at (b : Fin 2) (t : Fin 8192) (e : Fin 2048) :
    val_main_v32 (F := Ideal) x0 x1 x2 (ix3 b t e) = modulated x0 x1 x2 (latent b t) e := by
  unfold modulated MlpRow.unit
  rw [batch_latent]
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_cst, val_main_cst_0, val_main_cst_1, val_main_cst_2,
    val_main_v8, val_main_v7, val_main_v5, val_main_v4, val_main_v0]
  simp only [row_at]

/-- The rows' results. -/
theorem out_at (b : Fin 2) (t : Fin 8192) (d : Fin 2048) :
    val_main_v39 (F := Ideal) x0 x1 x2 x3 x4 (ix3 b t d) = result x0 x1 x2 x3 x4 (latent b t) d := by
  unfold result part MlpRow.hidden
  rw [batch_latent]
  pointwise [val_main_v39, val_main_v38, val_main_v37, val_main_v36, val_main_v35, val_main_v34, val_main_call0_v0,
    val_main_call0_cst, val_main_v33, val_main_v11, val_main_v9, val_main_v6, val_main_v0]
  simp only [row_at, mod_at]

/-- **The reference's entry.** -/
theorem entry (ρ : Fin 16384) (d : Fin 2048) :
    val_main_v40 (F := Ideal) x0 x1 x2 x3 x4 (ix2 ρ d) = result x0 x1 x2 x3 x4 ρ d := by
  pointwise [val_main_v40]
  refine (out_at x0 x1 x2 x3 x4 _ _ _).trans ?_
  have hρ : latent ⟨ρ.val / 8192, by omega⟩ ⟨ρ.val % 8192, by omega⟩ = ρ := by
    apply Fin.ext; show ρ.val / 8192 * 8192 + ρ.val % 8192 = ρ.val; omega
  rw [hρ]

end Cert.Proof.MlpLastRef

namespace Cert.Proof.MlpLastEquation

open Cert.MlpLastIdeal Cert.MlpLastIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16384x2048 .f32) (x1 : FVec Ideal S2048 .f32)
    (x2 : FVec Ideal S3x1x12288 .f32) (x3 : FVec Ideal S2048x8192 .f32) (x4 : FVec Ideal S8192x2048 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) :
    (dats m 0 c).arrAt 7 cfg0.N = Cert.MlpLastRefIdeal.Read.val_main_v40 (F := Ideal) x0 x1 x2 x3 x4 := by
  subst h0 h1 h2 h3 h4
  exact MlpLastArray.array m c _ fun ρ d => MlpLastRef.entry _ _ _ _ _ ρ d

end Cert.Proof.MlpLastEquation

end
-- ==== Proof.GdnGates.Kernel.lean ====
/- The gates' projection of the gated delta net: what its call leaves.  Point `t` is row tile `t`, of all columns. -/
module

public import proofs.«01_k».proof.Proof.Gen.GdnGatesIdeal.Frame
public import Idealize.ShloMosaic.Lib.Pipeline.ValueKit
public import Idealize.ShloMosaic.Lib.Pipeline.ReadBack
public import proofs.«01_k».proof.Proof.Streams.Rows

@[expose] public section

set_option maxRecDepth 16384

noncomputable section

namespace Cert.Proof.GdnGatesKernel

open Cert.GdnGatesIdeal Cert.GdnGatesIdeal.Gen Idealize.ShloMosaic Idealize.ShloMosaic.TcCoe Idealize.SL.Sem
open Cert.Proof.MlpBlocks (batch)

/-- The modulated rows of a block. -/
theorem unit_at (x : Vec Ideal S512x2048 .f32) (g : Vec Ideal S1x2048 .f32) (sh sc : Vec Ideal S1x1x2048 .f32) (r : Fin 512) (e : Fin 2048) :
    k0_pay1 (F := Ideal) x g sh sc (ix2 r e) = MlpRow.unit (fun i => x (ix2 r i)) (fun i => g (ix2 (0 : Fin 1) i))
      (fun i => sh (ix3 (0 : Fin 1) (0 : Fin 1) i)) (fun i => sc (ix3 (0 : Fin 1) (0 : Fin 1) i)) e := by
  pointwise [k0_pay1, MlpRow.unit]

/-- A block of the product. -/
theorem product_at (u : Vec Ideal S512x2048 .bf16) (w : Vec Ideal S2048x128 .bf16) (r : Fin 512) (d : Fin 128) :
    k0_pay2 (F := Ideal) u w (ix2 r d) = ∑ e : Fin 2048, u (ix2 r e) * w (ix2 e d) := by
  pointwise [k0_pay2]

variable (m : (ℓ : Loc nD τ sig) → Buf (Elt Ideal) ℓ) (c : Dev nD) (t : Fin cfg0.N)

/-- What a point stores. -/
theorem block : outsAt0 m c t
    = k0_pay2 (F := Ideal) (k0_pay1 (iblk m c 0 t) (iblk m c 1 t) (iblk m c 2 t) (iblk m c 3 t)) (iblk m c 4 t) := by
  unfold outsAt0
  frame_out

/-- The block indices of the six windows. -/
theorem idx : ∀ t : Fin cfg0.N,
    win0_0.index t = ![t.val, 0] ∧ win0_1.index t = ![0, 0] ∧ win0_2.index t = ![min (t.val / 16) 2, 0, 0]
    ∧ win0_3.index t = ![min (t.val / 16) 2, 0, 1] ∧ win0_4.index t = ![0, 0] ∧ win0_5.index t = ![t.val, 0] :=
  (by decide +kernel : ∀ t : Fin grid0.N, _)

theorem points (t : Fin cfg0.N) : t.val < 33 := Nat.lt_of_lt_of_eq t.isLt N_0

/-- The row of the array that is row `r` of a point's tile. -/
def row (r : Fin 512) : Fin 16896 := ⟨t.val * 512 + r.val, by have := points t; omega⟩

theorem batch_row (r : Fin 512) : batch (row t r) = ⟨min (t.val / 16) 2, by omega⟩ := by
  have h := points t
  apply Fin.ext; show min ((t.val * 512 + r.val) / 8192) 2 = min (t.val / 16) 2; omega

/-- The arguments of the call by their indices, as the launch finds them. -/
abbrev X (ρ : Fin 16896) (e : Fin 2048) : EReal := (m ((c : Thread nD τ).loc main_arg0) : Vec Ideal S16896x2048 .f32) (ix2 ρ e)
abbrev G (e : Fin 2048) : EReal := (m ((c : Thread nD τ).loc main_arg1) : Vec Ideal S2048 .f32) (ix1 e)
abbrev M (b : Fin 3) (i : Fin 12288) : EReal := (m ((c : Thread nD τ).loc main_arg2) : Vec Ideal S3x1x12288 .f32) (ix3 b (0 : Fin 1) i)
abbrev W (e : Fin 2048) (d : Fin 12416) : EReal := (m ((c : Thread nD τ).loc main_arg3) : Vec Ideal S2048x12416 .f32) (ix2 e d)

/-- The input rows of a point. -/
theorem row_at (r : Fin 512) (e : Fin 2048) :
    (iblk m c 0 t : Vec Ideal S512x2048 .f32) (ix2 r e) = X m c (row t r) e := by
  unfold row
  blk_point [iblk, V, idx t]

/-- The weight of the norm. -/
theorem weight_at (e : Fin 2048) : (iblk m c 1 t : Vec Ideal S1x2048 .f32) (ix2 (0 : Fin 1) e) = G m c e := by
  blk_point [iblk, V, idx t]

/-- The shift of a point's rows. -/
theorem shift_at (r : Fin 512) (e : Fin 2048) : (iblk m c 2 t : Vec Ideal S1x1x2048 .f32) (ix3 (0 : Fin 1) (0 : Fin 1) e)
    = M m c (batch (row t r)) ⟨e.val, by omega⟩ := by
  rw [batch_row]
  blk_point [iblk, V, idx t]

/-- The scale of a point's rows. -/
theorem scale_at (r : Fin 512) (e : Fin 2048) : (iblk m c 3 t : Vec Ideal S1x1x2048 .f32) (ix3 (0 : Fin 1) (0 : Fin 1) e)
    = M m c (batch (row t r)) ⟨2048 + e.val, by omega⟩ := by
  rw [batch_row]
  blk_point [iblk, V, idx t]

/-- The gates' columns of the weights. -/
theorem column_at (e : Fin 2048) (d : Fin 128) :
    (iblk m c 4 t : Vec Ideal S2048x128 .bf16) (ix2 e d) = W m c e ⟨12288 + d.val, by omega⟩ := by
  blk_point [iblk, V, idx t]

/-- **The array the call leaves**: any array that holds the projected rows at every entry. -/
theorem array (R : Vec Ideal S16896x128 .f32) (hR : ∀ (ρ : Fin 16896) (d : Fin 128),
      R (ix2 ρ d) = Streams.projected (X m c) (G m c) (M m c) (fun e => W m c e ⟨12288 + d.val, by omega⟩) ρ) :
    (dats m 0 c).arrAt 5 cfg0.N = R := by
  refine (dats m 0 c).arrAt_eq_of_covers 5 _ (by decide +kernel) fun t hf y => ?_
  blk_simp
  rw [after0_5, block m c t]
  obtain ⟨r, d, rfl⟩ : ∃ (r : Fin 512) (d : Fin 128), y = ix2 r d := ⟨y 0, y 1, eq_ix2 (n0 := 512) (n1 := 128) y⟩
  refine (product_at _ _ r d).trans ?_
  simp only [unit_at, row_at, weight_at, shift_at m c _ r, scale_at m c _ r, column_at]
  refine (hR (row t r) d).symm.trans (congrArg R ?_)
  funext a
  apply Fin.ext
  match a with
  | ⟨0, _⟩ =>
      show t.val * 512 + r.val = win0_5.index t 0 * 512 + 1 * r.val
      rw [(idx t).2.2.2.2.2, Nat.one_mul]; rfl
  | ⟨1, _⟩ =>
      show d.val = win0_5.index t 1 * 128 + 1 * d.val
      rw [(idx t).2.2.2.2.2, Nat.one_mul]; exact (Nat.zero_add _).symm

end Cert.Proof.GdnGatesKernel

end
-- ==== Proof.GdnGates.Ref.lean ====
/- The gates' projection of the gated delta net: what its reference computes, at an index, and the equation. -/
module

public import proofs.«01_k».proof.Proof.Gen.GdnGatesRefIdeal.Read
public import proofs.«01_k».proof.Proof.GdnIn.Ref
public import proofs.«01_k».proof.Proof.GdnGates.Kernel

@[expose] public section

set_option maxRecDepth 16384

noncomputable section

namespace Cert.Proof.GdnGatesRef

open Cert.GdnGatesRefIdeal Cert.GdnGatesRefIdeal.Gen Cert.GdnGatesRefIdeal.Read Idealize.ShloMosaic Cert.Proof.MlpRef
open Cert.Proof.GdnInRef (normed)

variable (x0 : FVec Ideal S16896x2048 .f32) (x1 : FVec Ideal S2048 .f32) (x2 : FVec Ideal S3x1x12288 .f32)
  (x3 : FVec Ideal S2048x12416 .f32)

/-- The modulated latent rows: the first steps are those of the other projection. -/
theorem modX_at (b : Fin 2) (t : Fin 8192) (e : Fin 2048) :
    val_main_v31 (F := Ideal) x0 x1 x2 (ix3 b t e) = normed x0 x1 x2 (latent b t) e :=
  GdnInRef.modX_at x0 x1 x2 b t e

/-- The modulated context rows. -/
theorem modC_at (b : Fin 2) (t : Fin 256) (e : Fin 2048) :
    val_main_v56 (F := Ideal) x0 x1 x2 (ix3 b t e) = normed x0 x1 x2 (context b t) e :=
  GdnInRef.modC_at x0 x1 x2 b t e

/-- The latent rows' gates. -/
theorem outX_at (b : Fin 2) (t : Fin 8192) (d : Fin 128) : val_main_v58 (F := Ideal) x0 x1 x2 x3 (ix3 b t d)
    = ∑ e : Fin 2048, normed x0 x1 x2 (latent b t) e * x3 (ix2 e ⟨12288 + d.val, by omega⟩) := by
  pointwise [val_main_v58, val_main_v57]
  simp only [modX_at]

/-- The context rows' gates. -/
theorem outC_at (b : Fin 2) (t : Fin 256) (d : Fin 128) : val_main_v60 (F := Ideal) x0 x1 x2 x3 (ix3 b t d)
    = ∑ e : Fin 2048, normed x0 x1 x2 (context b t) e * x3 (ix2 e ⟨12288 + d.val, by omega⟩) := by
  pointwise [val_main_v60, val_main_v59]
  simp only [modC_at]

/-- **The reference's entry.** -/
theorem entry (ρ : Fin 16896) (d : Fin 128) : val_main_v63 (F := Ideal) x0 x1 x2 x3 (ix2 ρ d)
    = ∑ e : Fin 2048, normed x0 x1 x2 ρ e * x3 (ix2 e ⟨12288 + d.val, by omega⟩) := by
  pointwise [val_main_v63, val_main_v62, val_main_v61]
  by_cases h : ρ.val < 16384
  · rw [dif_pos h]
    refine (outX_at x0 x1 x2 x3 _ _ _).trans ?_
    rw [Streams.latent_of ρ h]
  · rw [dif_neg h]
    refine (outC_at x0 x1 x2 x3 _ _ _).trans ?_
    rw [Streams.context_of ρ h]

end Cert.Proof.GdnGatesRef

namespace Cert.Proof.GdnGatesEquation

open Cert.GdnGatesIdeal Cert.GdnGatesIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16896x2048 .f32) (x1 : FVec Ideal S2048 .f32)
    (x2 : FVec Ideal S3x1x12288 .f32) (x3 : FVec Ideal S2048x12416 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    (dats m 0 c).arrAt 5 cfg0.N = Cert.GdnGatesRefIdeal.Read.val_main_v63 (F := Ideal) x0 x1 x2 x3 := by
  subst h0 h1 h2 h3
  exact GdnGatesKernel.array m c _ fun ρ d => GdnGatesRef.entry _ _ _ _ ρ d

end Cert.Proof.GdnGatesEquation

end
-- ==== Proof.LstmGates.Kernel.lean ====
/- The gates' projection of the mLSTM: what its call leaves.  Point `t` is row tile `t`, of all columns; the weights come with
   columns of zeros up to 128. -/
module

public import proofs.«01_k».proof.Proof.Gen.LstmGatesIdeal.Frame
public import Idealize.ShloMosaic.Lib.Pipeline.ValueKit
public import Idealize.ShloMosaic.Lib.Pipeline.ReadBack
public import proofs.«01_k».proof.Proof.LatentIn.Kernel

@[expose] public section

set_option maxRecDepth 16384

noncomputable section

namespace Cert.Proof.LstmGatesKernel

open Cert.LstmGatesIdeal Cert.LstmGatesIdeal.Gen Idealize.ShloMosaic Idealize.ShloMosaic.TcCoe Idealize.SL.Sem
open Cert.Proof.MlpBlocks (batch)

/-- The modulated rows of a block. -/
theorem unit_at (x : Vec Ideal S512x2048 .f32) (g : Vec Ideal S1x2048 .f32) (sh sc : Vec Ideal S1x1x2048 .f32) (r : Fin 512) (e : Fin 2048) :
    k0_pay1 (F := Ideal) x g sh sc (ix2 r e) = MlpRow.unit (fun i => x (ix2 r i)) (fun i => g (ix2 (0 : Fin 1) i))
      (fun i => sh (ix3 (0 : Fin 1) (0 : Fin 1) i)) (fun i => sc (ix3 (0 : Fin 1) (0 : Fin 1) i)) e := by
  pointwise [k0_pay1, MlpRow.unit]

/-- A block of the product. -/
theorem product_at (u : Vec Ideal S512x2048 .bf16) (w : Vec Ideal S2048x128 .bf16) (r : Fin 512) (d : Fin 128) :
    k0_pay2 (F := Ideal) u w (ix2 r d) = ∑ e : Fin 2048, u (ix2 r e) * w (ix2 e d) := by
  pointwise [k0_pay2]

variable (m : (ℓ : Loc nD τ sig) → Buf (Elt Ideal) ℓ) (c : Dev nD) (t : Fin cfg0.N)

/-- What a point stores. -/
theorem block : outsAt0 m c t
    = k0_pay2 (F := Ideal) (k0_pay1 (iblk m c 0 t) (iblk m c 1 t) (iblk m c 2 t) (iblk m c 3 t)) (iblk m c 4 t) := by
  unfold outsAt0
  frame_out

/-- The block indices of the six windows. -/
theorem idx : ∀ t : Fin cfg0.N,
    win0_0.index t = ![t.val, 0] ∧ win0_1.index t = ![0, 0] ∧ win0_2.index t = ![min (t.val / 16) 2, 0, 0]
    ∧ win0_3.index t = ![min (t.val / 16) 2, 0, 1] ∧ win0_4.index t = ![0, 0] ∧ win0_5.index t = ![t.val, 0] :=
  (by decide +kernel : ∀ t : Fin grid0.N, _)

theorem points (t : Fin cfg0.N) : t.val < 33 := Nat.lt_of_lt_of_eq t.isLt N_0

/-- The row of the array that is row `r` of a point's tile. -/
def row (r : Fin 512) : Fin 16896 := ⟨t.val * 512 + r.val, by have := points t; omega⟩

theorem batch_row (r : Fin 512) : batch (row t r) = ⟨min (t.val / 16) 2, by omega⟩ := by
  have h := points t
  apply Fin.ext; show min ((t.val * 512 + r.val) / 8192) 2 = min (t.val / 16) 2; omega

/-- The arguments of the call by their indices, as the launch finds them. -/
abbrev X (ρ : Fin 16896) (e : Fin 2048) : EReal := (m ((c : Thread nD τ).loc main_arg0) : Vec Ideal S16896x2048 .f32) (ix2 ρ e)
abbrev G (e : Fin 2048) : EReal := (m ((c : Thread nD τ).loc main_arg1) : Vec Ideal S2048 .f32) (ix1 e)
abbrev M (b : Fin 3) (i : Fin 12288) : EReal := (m ((c : Thread nD τ).loc main_arg2) : Vec Ideal S3x1x12288 .f32) (ix3 b (0 : Fin 1) i)
abbrev W (e : Fin 2048) (d : Fin 6176) : EReal := (m ((c : Thread nD τ).loc main_arg3) : Vec Ideal S2048x6176 .f32) (ix2 e d)

/-- The input rows of a point. -/
theorem row_at (r : Fin 512) (e : Fin 2048) :
    (iblk m c 0 t : Vec Ideal S512x2048 .f32) (ix2 r e) = X m c (row t r) e := by
  unfold row
  blk_point [iblk, V, idx t]

/-- The weight of the norm. -/
theorem weight_held : V m c main_v3
    = shapeCast S1x2048 (m ((c : Thread nD τ).loc main_arg1) : Vec Ideal S2048 .f32) shapeCasts_S2048_S1x2048 := by
  simp only [V, hostOps0, hostOps0_1, hostOps0_2, List.flatten_cons, List.flatten_nil, List.cons_append, List.nil_append]
  after_results_simp
  rfl

/-- The columns as the call finds them: the weights, rounded, with columns of zeros after them. -/
theorem columns_held : V m c main_v2
    = (truncf .bf16 (pad S2048x128 ![0, 0] ![0, 96] ![0, 0] (extractStridedSlice S2048x32 ![0, 6144]
          (m ((c : Thread nD τ).loc main_arg3) : Vec Ideal S2048x6176 .f32) slices_S2048x6176_S2048x32_0_6144)
        (sitofp (F := Ideal) .f32 (constantI S_ 32 0#32)) pads_S2048x32_S2048x128_000_0960 h_S_) bitsLt_bf16_f32
        : Vec Ideal S2048x128 .bf16) := by
  simp only [V, hostOps0, hostOps0_1, hostOps0_2, List.flatten_cons, List.flatten_nil, List.cons_append, List.nil_append]
  after_results_simp
  rfl

/-- The weight of the norm. -/
theorem weight_at (e : Fin 2048) : (iblk m c 1 t : Vec Ideal S1x2048 .f32) (ix2 (0 : Fin 1) e) = G m c e := by
  blk_simp [iblk, idx t]
  rw [weight_held]
  pointwise
  blk_ext [idx t]

/-- The shift of a point's rows. -/
theorem shift_at (r : Fin 512) (e : Fin 2048) : (iblk m c 2 t : Vec Ideal S1x1x2048 .f32) (ix3 (0 : Fin 1) (0 : Fin 1) e)
    = M m c (batch (row t r)) ⟨e.val, by omega⟩ := by
  rw [batch_row]
  blk_point [iblk, V, idx t]

/-- The scale of a point's rows. -/
theorem scale_at (r : Fin 512) (e : Fin 2048) : (iblk m c 3 t : Vec Ideal S1x1x2048 .f32) (ix3 (0 : Fin 1) (0 : Fin 1) e)
    = M m c (batch (row t r)) ⟨2048 + e.val, by omega⟩ := by
  rw [batch_row]
  blk_point [iblk, V, idx t]

/-- A gate's column of the weights, or a column of zeros. -/
def padded (W : Fin 2048 → Fin 6176 → EReal) (e : Fin 2048) (d : Fin 128) : EReal :=
  if h : d.val < 32 then W e ⟨6144 + d.val, by omega⟩ else 0

/-- The padded weights by their indices. -/
theorem padded_at (w : Vec Ideal S2048x6176 .f32) (e : Fin 2048) (d : Fin 128) :
    (truncf .bf16 (pad S2048x128 ![0, 0] ![0, 96] ![0, 0] (extractStridedSlice S2048x32 ![0, 6144] w slices_S2048x6176_S2048x32_0_6144)
      (sitofp (F := Ideal) .f32 (constantI S_ 32 0#32))
      pads_S2048x32_S2048x128_000_0960 h_S_) bitsLt_bf16_f32 : Vec Ideal S2048x128 .bf16) (ix2 e d)
      = padded (fun e d => w (ix2 e d)) e d := by
  unfold padded
  pointwise
  simp only [LatentInKernel.zero_held]

/-- The columns of the weights are read whole at every point. -/
theorem whole_at (e : Fin 2048) (d : Fin 128) : (win0_4.blk t).view.emb (ix2 e d) = (ix2 e d : S2048x128.Idx) := by
  funext a
  apply Fin.ext
  match a with
  | ⟨0, _⟩ =>
      show win0_4.index t 0 * 2048 + 1 * e.val = e.val
      rw [(idx t).2.2.2.2.1, Nat.one_mul]; exact Nat.zero_add _
  | ⟨1, _⟩ =>
      show win0_4.index t 1 * 128 + 1 * d.val = d.val
      rw [(idx t).2.2.2.2.1, Nat.one_mul]; exact Nat.zero_add _

/-- The weights. -/
theorem column_at (e : Fin 2048) (d : Fin 128) :
    (iblk m c 4 t : Vec Ideal S2048x128 .bf16) (ix2 e d) = padded (W m c) e d := by
  blk_simp [iblk, idx t]
  rw [columns_held]
  exact (congrArg _ (whole_at t e d)).trans (padded_at _ e d)

/-- **The array the call leaves**: any array that holds the projected rows at every entry. -/
theorem array (R : Vec Ideal S16896x128 .f32) (hR : ∀ (ρ : Fin 16896) (d : Fin 128),
      R (ix2 ρ d) = Streams.projected (X m c) (G m c) (M m c) (fun e => padded (W m c) e d) ρ) :
    (dats m 0 c).arrAt 5 cfg0.N = R := by
  refine (dats m 0 c).arrAt_eq_of_covers 5 _ (by decide +kernel) fun t hf y => ?_
  blk_simp
  rw [after0_5, block m c t]
  obtain ⟨r, d, rfl⟩ : ∃ (r : Fin 512) (d : Fin 128), y = ix2 r d := ⟨y 0, y 1, eq_ix2 (n0 := 512) (n1 := 128) y⟩
  refine (product_at _ _ r d).trans ?_
  simp only [unit_at, row_at, weight_at, shift_at m c _ r, scale_at m c _ r, column_at]
  refine (hR (row t r) d).symm.trans (congrArg R ?_)
  funext a
  apply Fin.ext
  match a with
  | ⟨0, _⟩ =>
      show t.val * 512 + r.val = win0_5.index t 0 * 512 + 1 * r.val
      rw [(idx t).2.2.2.2.2, Nat.one_mul]; rfl
  | ⟨1, _⟩ =>
      show d.val = win0_5.index t 1 * 128 + 1 * d.val
      rw [(idx t).2.2.2.2.2, Nat.one_mul]; exact (Nat.zero_add _).symm

end Cert.Proof.LstmGatesKernel

end
-- ==== Proof.LstmGates.Ref.lean ====
/- The gates' projection of the mLSTM: what its reference computes, at an index, and the equation. -/
module

public import proofs.«01_k».proof.Proof.Gen.LstmGatesRefIdeal.Read
public import proofs.«01_k».proof.Proof.GdnIn.Ref
public import proofs.«01_k».proof.Proof.LstmGates.Kernel

@[expose] public section

set_option maxRecDepth 16384

noncomputable section

namespace Cert.Proof.LstmGatesRef

open Cert.LstmGatesRefIdeal Cert.LstmGatesRefIdeal.Gen Cert.LstmGatesRefIdeal.Read Idealize.ShloMosaic Cert.Proof.MlpRef
open Cert.Proof.GdnInRef (normed)

variable (x0 : FVec Ideal S16896x2048 .f32) (x1 : FVec Ideal S2048 .f32) (x2 : FVec Ideal S3x1x12288 .f32)
  (x3 : FVec Ideal S2048x6176 .f32)

/-- The modulated latent rows: the first steps are those of the other projection. -/
theorem modX_at (b : Fin 2) (t : Fin 8192) (e : Fin 2048) :
    val_main_v31 (F := Ideal) x0 x1 x2 (ix3 b t e) = normed x0 x1 x2 (latent b t) e :=
  GdnInRef.modX_at x0 x1 x2 b t e

/-- The modulated context rows. -/
theorem modC_at (b : Fin 2) (t : Fin 256) (e : Fin 2048) :
    val_main_v56 (F := Ideal) x0 x1 x2 (ix3 b t e) = normed x0 x1 x2 (context b t) e :=
  GdnInRef.modC_at x0 x1 x2 b t e

/-- The latent rows' gates. -/
theorem outX_at (b : Fin 2) (t : Fin 8192) (d : Fin 32) : val_main_v58 (F := Ideal) x0 x1 x2 x3 (ix3 b t d)
    = ∑ e : Fin 2048, normed x0 x1 x2 (latent b t) e * x3 (ix2 e ⟨6144 + d.val, by omega⟩) := by
  pointwise [val_main_v58, val_main_v57]
  simp only [modX_at]

/-- The context rows' gates. -/
theorem outC_at (b : Fin 2) (t : Fin 256) (d : Fin 32) : val_main_v60 (F := Ideal) x0 x1 x2 x3 (ix3 b t d)
    = ∑ e : Fin 2048, normed x0 x1 x2 (context b t) e * x3 (ix2 e ⟨6144 + d.val, by omega⟩) := by
  pointwise [val_main_v60, val_main_v59]
  simp only [modC_at]

/-- The gates of all the rows. -/
theorem rows_at (ρ : Fin 16896) (d : Fin 32) : val_main_v63 (F := Ideal) x0 x1 x2 x3 (ix2 ρ d)
    = ∑ e : Fin 2048, normed x0 x1 x2 ρ e * x3 (ix2 e ⟨6144 + d.val, by omega⟩) := by
  pointwise [val_main_v63, val_main_v62, val_main_v61]
  by_cases h : ρ.val < 16384
  · rw [dif_pos h]
    refine (outX_at x0 x1 x2 x3 _ _ _).trans ?_
    rw [Streams.latent_of ρ h]
  · rw [dif_neg h]
    refine (outC_at x0 x1 x2 x3 _ _ _).trans ?_
    rw [Streams.context_of ρ h]

/-- **The reference's entry**: a gate, or a column of zeros. -/
theorem entry (ρ : Fin 16896) (d : Fin 128) : val_main_v64 (F := Ideal) x0 x1 x2 x3 (ix2 ρ d)
    = ∑ e : Fin 2048, normed x0 x1 x2 ρ e * LstmGatesKernel.padded (fun e d => x3 (ix2 e d)) e d := by
  unfold LstmGatesKernel.padded
  pointwise [val_main_v64, val_main_call0_v0, val_main_c]
  by_cases h : d.val < 32
  · simp only [dif_pos h]
    exact rows_at x0 x1 x2 x3 ρ ⟨d.val, h⟩
  · simp only [dif_neg h, mul_zero, Finset.sum_const_zero]
    exact LatentInKernel.zero_held

end Cert.Proof.LstmGatesRef

namespace Cert.Proof.LstmGatesEquation

open Cert.LstmGatesIdeal Cert.LstmGatesIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S16896x2048 .f32) (x1 : FVec Ideal S2048 .f32)
    (x2 : FVec Ideal S3x1x12288 .f32) (x3 : FVec Ideal S2048x6176 .f32)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    (dats m 0 c).arrAt 5 cfg0.N = Cert.LstmGatesRefIdeal.Read.val_main_v64 (F := Ideal) x0 x1 x2 x3 := by
  subst h0 h1 h2 h3
  exact LstmGatesKernel.array m c _ fun ρ d => LstmGatesRef.entry _ _ _ _ ρ d

end Cert.Proof.LstmGatesEquation

end
-- ==== Proof.Ada.Kernel.lean ====
/- The modulations: what their call leaves.  Point `t` is column tile `t`, of all rows. -/
module

public import proofs.«01_k».proof.Proof.Gen.AdaIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdaKernel

open Cert.AdaIdeal Cert.AdaIdeal.Gen Idealize.ShloMosaic Idealize.ShloMosaic.TcCoe Idealize.SL.Sem

/-- A number times its logistic function. -/
def silu (x : EReal) : EReal :=
  x * Ideal.div (Ideal.ofBits .f32 0x3F800000#32) (Ideal.ofBits .f32 0x3F800000#32 + Ideal.exp (-x))

/-- A modulation: the row through `silu`, times a column of weights, plus the column's bias. -/
def result (x w : Fin 2048 → EReal) (b : EReal) : EReal := ∑ e : Fin 2048, silu (x e) * w e + b

/-- A block of modulations. -/
theorem stored_at (x : Vec Ideal S8x2048 .f32) (w : Vec Ideal S2048x1024 .f32) (b : Vec Ideal S1x1024 .f32) (r : Fin 8) (d : Fin 1024) :
    k0_pay1 (F := Ideal) x w b (ix2 r d) = result (fun e => x (ix2 r e)) (fun e => w (ix2 e d)) (b (ix2 (0 : Fin 1) d)) := by
  unfold result silu
  simp only [← zero_sub]
  pointwise [k0_pay1]

/-- What the body leaves, from the blocks it reads. -/
theorem left_eq (x : Vec Ideal S8x2048 .f32) (w : Vec Ideal S2048x1024 .f32) (b : Vec Ideal S1x1024 .f32) :
    out0_3 (F := Ideal) x w b = k0_pay1 x w b := by
  have hx : View.ld x r0_0 = x := View.ld_unit_lit _ x (by decide)
  have hw : View.ld w r0_1 = w := View.ld_unit_lit _ w (by decide)
  have hb : View.ld b r0_2 = b := View.ld_unit_lit _ b (by decide)
  unfold out0_3
  refine (View.canon_cons_unit_lit _ _ _ (by decide)).trans ?_
  rw [hx, hw, hb]

variable (m : (ℓ : Loc nD τ sig) → Buf (Elt Ideal) ℓ) (c : Dev nD) (t : Fin cfg0.N)

theorem points (t : Fin cfg0.N) : t.val < 12 := Nat.lt_of_lt_of_eq t.isLt N_0

/-- What a point stores. -/
theorem block : (dats m 0 c).after 3 t = k0_pay1 (F := Ideal) (iblk m c 0 t) (iblk m c 1 t) (iblk m c 2 t) := by
  rw [after0_3]
  exact left_eq _ _ _

/-- The block indices of the four windows. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- The column of the array that is column `d` of a point's tile. -/
def col (d : Fin 1024) : Fin 12288 := ⟨t.val * 1024 + d.val, by have := points t; omega⟩

/-- The arguments of the call by their indices, as the launch finds them. -/
abbrev X (r : Fin 8) (e : Fin 2048) : EReal := (m ((c : Thread nD τ).loc main_arg0) : Vec Ideal S8x2048 .f32) (ix2 r e)
abbrev W (e : Fin 2048) (d : Fin 12288) : EReal := (m ((c : Thread nD τ).loc main_arg1) : Vec Ideal S2048x12288 .f32) (ix2 e d)
abbrev B (d : Fin 12288) : EReal := (m ((c : Thread nD τ).loc main_arg2) : Vec Ideal S12288 .f32) (ix1 d)

/-- The rows at a point. -/
theorem row_at (r : Fin 8) (e : Fin 2048) : (iblk m c 0 t : Vec Ideal S8x2048 .f32) (ix2 r e) = X m c r e := by
  blk_point [iblk, V, idx t]

/-- The weights of a point's columns. -/
theorem weight_at (e : Fin 2048) (d : Fin 1024) : (iblk m c 1 t : Vec Ideal S2048x1024 .f32) (ix2 e d) = W m c e (col t d) := by
  unfold col
  blk_point [iblk, V, idx t]

/-- The bias of a point's columns. -/
theorem bias_at (d : Fin 1024) : (iblk m c 2 t : Vec Ideal S1x1024 .f32) (ix2 (0 : Fin 1) d) = B m c (col t d) := by
  unfold col
  blk_point [iblk, V, idx t]

/-- What a point stores, in terms of the arrays. -/
theorem block_at (r : Fin 8) (d : Fin 1024) : ((dats m 0 c).after 3 t : Vec Ideal S8x1024 .f32) (ix2 r d)
    = result (X m c r) (fun e => W m c e (col t d)) (B m c (col t d)) := by
  rw [block m c t, stored_at]
  simp only [row_at, weight_at, bias_at]

/-- **The array the call leaves**: any array that holds `result` at every entry. -/
theorem array (R : Vec Ideal S8x12288 .f32)
    (hR : ∀ (r : Fin 8) (d : Fin 12288), R (ix2 r d) = result (X m c r) (fun e => W m c e d) (B m c d)) :
    (dats m 0 c).arrAt 3 cfg0.N = R := by
  refine (dats m 0 c).arrAt_eq_of_covers 3 _ (by decide +kernel) fun t hf y => ?_
  blk_simp
  obtain ⟨r, d, rfl⟩ : ∃ (r : Fin 8) (d : Fin 1024), y = ix2 r d := ⟨y 0, y 1, eq_ix2 (n0 := 8) (n1 := 1024) y⟩
  refine (block_at m c t r d).trans ?_
  refine (hR r (col t d)).symm.trans (congrArg R ?_)
  funext a
  apply Fin.ext
  match a with
  | ⟨0, _⟩ =>
      show r.val = win0_3.index t 0 * 8 + 1 * r.val
      rw [(idx t).2.2.2, Nat.one_mul]; exact (Nat.zero_add _).symm
  | ⟨1, _⟩ =>
      show t.val * 1024 + d.val = win0_3.index t 1 * 1024 + 1 * d.val
      rw [(idx t).2.2.2, Nat.one_mul]; rfl

end Cert.Proof.AdaKernel

end
-- ==== Proof.Ada.Ref.lean ====
/- The modulations: what their reference computes, at an index, and the equation. -/
module

public import proofs.«01_k».proof.Proof.Gen.AdaRefIdeal.Read
public import proofs.«01_k».proof.Proof.Ada.Kernel

@[expose] public section

set_option maxRecDepth 16384

noncomputable section

namespace Cert.Proof.AdaRef

open Cert.AdaRefIdeal Cert.AdaRefIdeal.Gen Cert.AdaRefIdeal.Read Idealize.ShloMosaic

variable (x0 : FVec Ideal S8x2048 .f32) (x1 : FVec Ideal S2048x12288 .f32) (x2 : FVec Ideal S12288 .f32)

/-- **The reference's entry.** -/
theorem entry (r : Fin 8) (d : Fin 12288) : val_main_v4 (F := Ideal) x0 x1 x2 (ix2 r d)
    = AdaKernel.result (fun e => x0 (ix2 r e)) (fun e => x1 (ix2 e d)) (x2 (ix1 d)) := by
  unfold AdaKernel.result AdaKernel.silu
  pointwise [val_main_v4, val_main_v3, val_main_v2, val_main_v1, val_main_v0, val_main_call0_v5, val_main_call0_v4,
    val_main_call0_v3, val_main_call0_v2, val_main_call0_v1, val_main_call0_v0, val_main_call0_cst, val_main_call0_cst_0]

end Cert.Proof.AdaRef

namespace Cert.Proof.AdaEquation

open Cert.AdaIdeal Cert.AdaIdeal.Gen Idealize.ShloMosaic Idealize.ShloMosaic.TcCoe Idealize.SL.Sem

/-- **The equation**: from equal arguments, equal arrays. -/
theorem array (m : (ℓ : Loc nD τ sig) → Buf (Elt Ideal) ℓ) (c : Dev nD) (x0 : FVec Ideal S8x2048 .f32)
    (x1 : FVec Ideal S2048x12288 .f32) (x2 : FVec Ideal S12288 .f32)
    (h0 : m ((c : Thread nD τ).loc main_arg0) = x0) (h1 : m ((c : Thread nD τ).loc main_arg1) = x1)
    (h2 : m ((c : Thread nD τ).loc main_arg2) = x2) :
    (dats m 0 c).arrAt 3 cfg0.N = Cert.AdaRefIdeal.Read.val_main_v4 (F := Ideal) x0 x1 x2 := by
  subst h0 h1 h2
  exact AdaKernel.array m c _ fun r d => AdaRef.entry _ _ _ r d

end Cert.Proof.AdaEquation

end
-- ==== Proof.lean ====
/- The certificate: for each of the fifteen calls, the frames, the preservation and the equation of the kernel with its
   reference. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Pre_finite_logits
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.GdnIn
public import proofs.«01_k».proof.Proof.Gen.GdnIn.Skeleton
public import proofs.«01_k».proof.Proof.Gen.GdnIn.Launch
public import proofs.«01_k».proof.Proof.Gen.GdnIn.Points
public import proofs.«01_k».proof.Proof.Gen.GdnIn.Frame
public import proofs.«01_k».proof.Proof.Gen.GdnInIdeal
public import proofs.«01_k».proof.Proof.Gen.GdnInIdeal.Skeleton
public import proofs.«01_k».proof.Proof.Gen.GdnInIdeal.Launch
public import proofs.«01_k».proof.Proof.Gen.GdnInIdeal.Points
public import proofs.«01_k».proof.Proof.Gen.GdnInIdeal.Frame
public import proofs.«01_k».proof.Proof.Gen.GdnInIdeal.Value
public import proofs.«01_k».proof.Proof.Gen.GdnInRefIdeal
public import proofs.«01_k».proof.Proof.Gen.GdnInRefIdeal.Run
public import proofs.«01_k».proof.Proof.Gen.GdnInRefIdeal.Read
public import proofs.«01_k».proof.Proof.Gen.LstmIn
public import proofs.«01_k».proof.Proof.Gen.LstmIn.Skeleton
public import proofs.«01_k».proof.Proof.Gen.LstmIn.Launch
public import proofs.«01_k».proof.Proof.Gen.LstmIn.Points
public import proofs.«01_k».proof.Proof.Gen.LstmIn.Frame
public import proofs.«01_k».proof.Proof.Gen.LstmInIdeal
public import proofs.«01_k».proof.Proof.Gen.LstmInIdeal.Skeleton
public import proofs.«01_k».proof.Proof.Gen.LstmInIdeal.Launch
public import proofs.«01_k».proof.Proof.Gen.LstmInIdeal.Points
public import proofs.«01_k».proof.Proof.Gen.LstmInIdeal.Frame
public import proofs.«01_k».proof.Proof.Gen.LstmInIdeal.Value
public import proofs.«01_k».proof.Proof.Gen.LstmInRefIdeal
public import proofs.«01_k».proof.Proof.Gen.LstmInRefIdeal.Run
public import proofs.«01_k».proof.Proof.Gen.LstmInRefIdeal.Read
public import proofs.«01_k».proof.Proof.Gen.GdnOut
public import proofs.«01_k».proof.Proof.Gen.GdnOut.Skeleton
public import proofs.«01_k».proof.Proof.Gen.GdnOut.Launch
public import proofs.«01_k».proof.Proof.Gen.GdnOut.Points
public import proofs.«01_k».proof.Proof.Gen.GdnOut.Frame
public import proofs.«01_k».proof.Proof.Gen.GdnOutIdeal
public import proofs.«01_k».proof.Proof.Gen.GdnOutIdeal.Skeleton
public import proofs.«01_k».proof.Proof.Gen.GdnOutIdeal.Launch
public import proofs.«01_k».proof.Proof.Gen.GdnOutIdeal.Points
public import proofs.«01_k».proof.Proof.Gen.GdnOutIdeal.Frame
public import proofs.«01_k».proof.Proof.Gen.GdnOutIdeal.Value
public import proofs.«01_k».proof.Proof.Gen.GdnOutRefIdeal
public import proofs.«01_k».proof.Proof.Gen.GdnOutRefIdeal.Run
public import proofs.«01_k».proof.Proof.Gen.GdnOutRefIdeal.Read
public import proofs.«01_k».proof.Proof.Gen.LstmOut
public import proofs.«01_k».proof.Proof.Gen.LstmOut.Skeleton
public import proofs.«01_k».proof.Proof.Gen.LstmOut.Launch
public import proofs.«01_k».proof.Proof.Gen.LstmOut.Points
public import proofs.«01_k».proof.Proof.Gen.LstmOut.Frame
public import proofs.«01_k».proof.Proof.Gen.LstmOutIdeal
public import proofs.«01_k».proof.Proof.Gen.LstmOutIdeal.Skeleton
public import proofs.«01_k».proof.Proof.Gen.LstmOutIdeal.Launch
public import proofs.«01_k».proof.Proof.Gen.LstmOutIdeal.Points
public import proofs.«01_k».proof.Proof.Gen.LstmOutIdeal.Frame
public import proofs.«01_k».proof.Proof.Gen.LstmOutIdeal.Value
public import proofs.«01_k».proof.Proof.Gen.LstmOutRefIdeal
public import proofs.«01_k».proof.Proof.Gen.LstmOutRefIdeal.Run
public import proofs.«01_k».proof.Proof.Gen.LstmOutRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.LatentIn
public import proofs.«01_k».proof.Proof.Gen.LatentIn.Skeleton
public import proofs.«01_k».proof.Proof.Gen.LatentIn.Launch
public import proofs.«01_k».proof.Proof.Gen.LatentIn.Points
public import proofs.«01_k».proof.Proof.Gen.LatentIn.Frame
public import proofs.«01_k».proof.Proof.Gen.LatentInIdeal
public import proofs.«01_k».proof.Proof.Gen.LatentInIdeal.Skeleton
public import proofs.«01_k».proof.Proof.Gen.LatentInIdeal.Launch
public import proofs.«01_k».proof.Proof.Gen.LatentInIdeal.Points
public import proofs.«01_k».proof.Proof.Gen.LatentInIdeal.Frame
public import proofs.«01_k».proof.Proof.Gen.LatentInIdeal.Value
public import proofs.«01_k».proof.Proof.Gen.LatentInRefIdeal
public import proofs.«01_k».proof.Proof.Gen.LatentInRefIdeal.Run
public import proofs.«01_k».proof.Proof.Gen.LatentInRefIdeal.Read
public import proofs.«01_k».proof.Proof.Gen.ProjLast
public import proofs.«01_k».proof.Proof.Gen.ProjLast.Skeleton
public import proofs.«01_k».proof.Proof.Gen.ProjLast.Launch
public import proofs.«01_k».proof.Proof.Gen.ProjLast.Points
public import proofs.«01_k».proof.Proof.Gen.ProjLast.Frame
public import proofs.«01_k».proof.Proof.Gen.ProjLastIdeal
public import proofs.«01_k».proof.Proof.Gen.ProjLastIdeal.Skeleton
public import proofs.«01_k».proof.Proof.Gen.ProjLastIdeal.Launch
public import proofs.«01_k».proof.Proof.Gen.ProjLastIdeal.Points
public import proofs.«01_k».proof.Proof.Gen.ProjLastIdeal.Frame
public import proofs.«01_k».proof.Proof.Gen.ProjLastIdeal.Value
public import proofs.«01_k».proof.Proof.Gen.ProjLastRefIdeal
public import proofs.«01_k».proof.Proof.Gen.ProjLastRefIdeal.Run
public import proofs.«01_k».proof.Proof.Gen.ProjLastRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.LatentUp
public import proofs.«01_k».proof.Proof.Gen.LatentUp.Skeleton
public import proofs.«01_k».proof.Proof.Gen.LatentUp.Launch
public import proofs.«01_k».proof.Proof.Gen.LatentUp.Points
public import proofs.«01_k».proof.Proof.Gen.LatentUp.Frame
public import proofs.«01_k».proof.Proof.Gen.LatentUpIdeal
public import proofs.«01_k».proof.Proof.Gen.LatentUpIdeal.Skeleton
public import proofs.«01_k».proof.Proof.Gen.LatentUpIdeal.Launch
public import proofs.«01_k».proof.Proof.Gen.LatentUpIdeal.Points
public import proofs.«01_k».proof.Proof.Gen.LatentUpIdeal.Frame
public import proofs.«01_k».proof.Proof.Gen.LatentUpIdeal.Value
public import proofs.«01_k».proof.Proof.Gen.LatentUpRefIdeal
public import proofs.«01_k».proof.Proof.Gen.LatentUpRefIdeal.Run
public import proofs.«01_k».proof.Proof.Gen.LatentUpRefIdeal.Read
public import proofs.«01_k».proof.Proof.Gen.MlpLast
public import proofs.«01_k».proof.Proof.Gen.MlpLast.Skeleton
public import proofs.«01_k».proof.Proof.Gen.MlpLast.Launch
public import proofs.«01_k».proof.Proof.Gen.MlpLast.Points
public import proofs.«01_k».proof.Proof.Gen.MlpLast.Frame
public import proofs.«01_k».proof.Proof.Gen.MlpLastIdeal
public import proofs.«01_k».proof.Proof.Gen.MlpLastIdeal.Skeleton
public import proofs.«01_k».proof.Proof.Gen.MlpLastIdeal.Launch
public import proofs.«01_k».proof.Proof.Gen.MlpLastIdeal.Points
public import proofs.«01_k».proof.Proof.Gen.MlpLastIdeal.Frame
public import proofs.«01_k».proof.Proof.Gen.MlpLastIdeal.Value
public import proofs.«01_k».proof.Proof.Gen.MlpLastRefIdeal
public import proofs.«01_k».proof.Proof.Gen.MlpLastRefIdeal.Run
public import proofs.«01_k».proof.Proof.Gen.MlpLastRefIdeal.Read
public import proofs.«01_k».proof.Proof.Gen.GdnGates
public import proofs.«01_k».proof.Proof.Gen.GdnGates.Skeleton
public import proofs.«01_k».proof.Proof.Gen.GdnGates.Launch
public import proofs.«01_k».proof.Proof.Gen.GdnGates.Points
public import proofs.«01_k».proof.Proof.Gen.GdnGates.Frame
public import proofs.«01_k».proof.Proof.Gen.GdnGatesIdeal
public import proofs.«01_k».proof.Proof.Gen.GdnGatesIdeal.Skeleton
public import proofs.«01_k».proof.Proof.Gen.GdnGatesIdeal.Launch
public import proofs.«01_k».proof.Proof.Gen.GdnGatesIdeal.Points
public import proofs.«01_k».proof.Proof.Gen.GdnGatesIdeal.Frame
public import proofs.«01_k».proof.Proof.Gen.GdnGatesIdeal.Value
public import proofs.«01_k».proof.Proof.Gen.GdnGatesRefIdeal
public import proofs.«01_k».proof.Proof.Gen.GdnGatesRefIdeal.Run
public import proofs.«01_k».proof.Proof.Gen.GdnGatesRefIdeal.Read
public import proofs.«01_k».proof.Proof.Gen.LstmGates
public import proofs.«01_k».proof.Proof.Gen.LstmGates.Skeleton
public import proofs.«01_k».proof.Proof.Gen.LstmGates.Launch
public import proofs.«01_k».proof.Proof.Gen.LstmGates.Points
public import proofs.«01_k».proof.Proof.Gen.LstmGates.Frame
public import proofs.«01_k».proof.Proof.Gen.LstmGatesIdeal
public import proofs.«01_k».proof.Proof.Gen.LstmGatesIdeal.Skeleton
public import proofs.«01_k».proof.Proof.Gen.LstmGatesIdeal.Launch
public import proofs.«01_k».proof.Proof.Gen.LstmGatesIdeal.Points
public import proofs.«01_k».proof.Proof.Gen.LstmGatesIdeal.Frame
public import proofs.«01_k».proof.Proof.Gen.LstmGatesIdeal.Value
public import proofs.«01_k».proof.Proof.Gen.LstmGatesRefIdeal
public import proofs.«01_k».proof.Proof.Gen.LstmGatesRefIdeal.Run
public import proofs.«01_k».proof.Proof.Gen.LstmGatesRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Attn.Equation
public import proofs.«01_k».proof.Proof.Attn.Finite
public import proofs.«01_k».proof.Proof.Mlp.Equation
public import proofs.«01_k».proof.Proof.GdnIn.Ref
public import proofs.«01_k».proof.Proof.LstmIn.Ref
public import proofs.«01_k».proof.Proof.GdnOut.Ref
public import proofs.«01_k».proof.Proof.LstmOut.Ref
public import proofs.«01_k».proof.Proof.Proj.Ref
public import proofs.«01_k».proof.Proof.LatentIn.Ref
public import proofs.«01_k».proof.Proof.ProjLast.Ref
public import proofs.«01_k».proof.Proof.Final.Ref
public import proofs.«01_k».proof.Proof.LatentUp.Ref
public import proofs.«01_k».proof.Proof.MlpLast.Ref
public import proofs.«01_k».proof.Proof.GdnGates.Ref
public import proofs.«01_k».proof.Proof.LstmGates.Ref
public import proofs.«01_k».proof.Proof.Ada.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The attention's reference runs, keeps its arguments, and declares no semaphore. -/
theorem attn_ref (m : (ℓ : Loc Cert.AttnRefIdeal.nD Cert.AttnRefIdeal.τ Cert.AttnRefIdeal.sig) → Buf (Elt Ideal) ℓ)
    (g : Dev Cert.AttnRefIdeal.nD → PrngReg) :
    θ_run (Cert.AttnRefIdeal.defs (F := Ideal)) (onTc (τ := Cert.AttnRefIdeal.τ) (Cert.AttnRefIdeal.main (F := Ideal)))
      ⟨m, fun _ => 0, g⟩ (fun r => (∀ c : Dev Cert.AttnRefIdeal.nD,
        r.2.mem ((c.tc : Thread Cert.AttnRefIdeal.nD Cert.AttnRefIdeal.τ).loc Cert.AttnRefIdeal.main_arg0)
          = m ((c.tc : Thread Cert.AttnRefIdeal.nD Cert.AttnRefIdeal.τ).loc Cert.AttnRefIdeal.main_arg0)
        ∧ r.2.mem ((c.tc : Thread Cert.AttnRefIdeal.nD Cert.AttnRefIdeal.τ).loc Cert.AttnRefIdeal.main_arg1)
          = m ((c.tc : Thread Cert.AttnRefIdeal.nD Cert.AttnRefIdeal.τ).loc Cert.AttnRefIdeal.main_arg1)
        ∧ r.2.mem ((c.tc : Thread Cert.AttnRefIdeal.nD Cert.AttnRefIdeal.τ).loc Cert.AttnRefIdeal.main_arg2)
          = m ((c.tc : Thread Cert.AttnRefIdeal.nD Cert.AttnRefIdeal.τ).loc Cert.AttnRefIdeal.main_arg2))
        ∧ r.2.sem = fun _ => 0) :=
  (θ_run Cert.AttnRefIdeal.defs _ _).mono (fun r h => ⟨fun c => (h c).2, sem_eq_zero_of_no_sems (by decide) r.2⟩)
    (Cert.AttnRefIdeal.Value.run (F := Ideal) m g)

/-- The attention equals its reference where queries and keys are finite. -/
theorem attn_value : Cert.algebraic_AttnIdeal_AttnRefIdeal_pre_finite_logits := by
  intro m g m' g' hpre hagree
  refine ⟨fun c => (Cert.AttnIdeal.Gen.dats m 0 c).arrAt 5 Cert.AttnIdeal.cfg0.N,
    Cert.AttnIdeal.Value.run_blocks (F := Ideal) m g, ?_⟩
  refine (θ_run Cert.AttnRefIdeal.defs _ _).mono (fun r h c => ⟨(h c).1.trans ?_, (h c).2⟩)
    (Cert.AttnRefIdeal.Value.run (F := Ideal) m' g')
  obtain ⟨e0, e1, e2⟩ := hagree c
  have hreal := AttnFinite.real _ _ _ (hpre c)
  rw [Cert.AttnRefIdeal.Read.val_main_v33_eq]
  rw [← e0, ← e1] at hreal
  exact (AttnEquation.array m c _ _ _ e0.symm e1.symm e2.symm hreal.1 hreal.2).symm

/-- The MLP's reference runs, keeps its arguments, and declares no semaphore. -/
theorem mlp_ref : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run (F := Ideal) m g)

/-- The MLP equals its reference. -/
theorem mlp_value : Cert.algebraic_MlpIdeal_MlpRefIdeal := by
  intro m g m' g' hpre hagree
  refine ⟨fun c => (Cert.MlpIdeal.Gen.dats m 0 c).arrAt 7 Cert.MlpIdeal.cfg0.N,
    Cert.MlpIdeal.Value.run_blocks (F := Ideal) m g, ?_⟩
  refine (θ_run Cert.MlpRefIdeal.defs _ _).mono (fun r h c => ⟨(h c).1.trans ?_, (h c).2⟩)
    (Cert.MlpRefIdeal.Value.run (F := Ideal) m' g')
  obtain ⟨e0, e1, e2, e3, e4⟩ := hagree c
  rw [Cert.MlpRefIdeal.Read.val_main_v90_eq]
  exact (MlpEquation.array m c _ _ _ _ _ e0.symm e1.symm e2.symm e3.symm e4.symm).symm

/-- The reference of the gated delta net's input projection runs, keeps its arguments, and declares no semaphore. -/
theorem gdn_in_ref : Cert.quiescent_GdnInRefIdeal := fun m g _ =>
  (θ_run Cert.GdnInRefIdeal.defs _ _).mono (fun r h => ⟨fun c => (h c).2, sem_eq_zero_of_no_sems (by decide) r.2⟩)
    (Cert.GdnInRefIdeal.Value.run (F := Ideal) m g)

/-- The gated delta net's input projection equals its reference. -/
theorem gdn_in_value : Cert.algebraic_GdnInIdeal_GdnInRefIdeal := by
  intro m g m' g' hpre hagree
  refine ⟨fun c => (Cert.GdnInIdeal.Gen.dats m 0 c).arrAt 5 Cert.GdnInIdeal.cfg0.N,
    Cert.GdnInIdeal.Value.run_blocks (F := Ideal) m g, ?_⟩
  refine (θ_run Cert.GdnInRefIdeal.defs _ _).mono (fun r h c => ⟨(h c).1.trans ?_, (h c).2⟩)
    (Cert.GdnInRefIdeal.Value.run (F := Ideal) m' g')
  obtain ⟨e0, e1, e2, e3⟩ := hagree c
  rw [Cert.GdnInRefIdeal.Read.val_main_v63_eq]
  exact (GdnInEquation.array m c _ _ _ _ e0.symm e1.symm e2.symm e3.symm).symm

/-- The reference of the mLSTM's input projection runs, keeps its arguments, and declares no semaphore. -/
theorem lstm_in_ref : Cert.quiescent_LstmInRefIdeal := fun m g _ =>
  (θ_run Cert.LstmInRefIdeal.defs _ _).mono (fun r h => ⟨fun c => (h c).2, sem_eq_zero_of_no_sems (by decide) r.2⟩)
    (Cert.LstmInRefIdeal.Value.run (F := Ideal) m g)

/-- The mLSTM's input projection equals its reference. -/
theorem lstm_in_value : Cert.algebraic_LstmInIdeal_LstmInRefIdeal := by
  intro m g m' g' hpre hagree
  refine ⟨fun c => (Cert.LstmInIdeal.Gen.dats m 0 c).arrAt 5 Cert.LstmInIdeal.cfg0.N,
    Cert.LstmInIdeal.Value.run_blocks (F := Ideal) m g, ?_⟩
  refine (θ_run Cert.LstmInRefIdeal.defs _ _).mono (fun r h c => ⟨(h c).1.trans ?_, (h c).2⟩)
    (Cert.LstmInRefIdeal.Value.run (F := Ideal) m' g')
  obtain ⟨e0, e1, e2, e3⟩ := hagree c
  rw [Cert.LstmInRefIdeal.Read.val_main_v63_eq]
  exact (LstmInEquation.array m c _ _ _ _ e0.symm e1.symm e2.symm e3.symm).symm

/-- The reference of the gated delta net's output projection runs, keeps its arguments, and declares no semaphore. -/
theorem gdn_out_ref : Cert.quiescent_GdnOutRefIdeal := fun m g _ =>
  (θ_run Cert.GdnOutRefIdeal.defs _ _).mono (fun r h => ⟨fun c => (h c).2, sem_eq_zero_of_no_sems (by decide) r.2⟩)
    (Cert.GdnOutRefIdeal.Value.run (F := Ideal) m g)

/-- The gated delta net's output projection equals its reference. -/
theorem gdn_out_value : Cert.algebraic_GdnOutIdeal_GdnOutRefIdeal := by
  intro m g m' g' hpre hagree
  refine ⟨fun c => (Cert.GdnOutIdeal.Gen.dats m 0 c).arrAt 7 Cert.GdnOutIdeal.cfg0.N,
    Cert.GdnOutIdeal.Value.run_blocks (F := Ideal) m g, ?_⟩
  refine (θ_run Cert.GdnOutRefIdeal.defs _ _).mono (fun r h c => ⟨(h c).1.trans ?_, (h c).2⟩)
    (Cert.GdnOutRefIdeal.Value.run (F := Ideal) m' g')
  obtain ⟨e0, e1, e2, e3, e4, e5, e6⟩ := hagree c
  rw [Cert.GdnOutRefIdeal.Read.val_main_v72_eq]
  exact (GdnOutEquation.array m c _ _ _ _ _ _ _ e0.symm e1.symm e2.symm e3.symm e4.symm e5.symm e6.symm).symm

/-- The reference of the mLSTM's output projection runs, keeps its arguments, and declares no semaphore. -/
theorem lstm_out_ref : Cert.quiescent_LstmOutRefIdeal := fun m g _ =>
  (θ_run Cert.LstmOutRefIdeal.defs _ _).mono (fun r h => ⟨fun c => (h c).2, sem_eq_zero_of_no_sems (by decide) r.2⟩)
    (Cert.LstmOutRefIdeal.Value.run (F := Ideal) m g)

/-- The mLSTM's output projection equals its reference. -/
theorem lstm_out_value : Cert.algebraic_LstmOutIdeal_LstmOutRefIdeal := by
  intro m g m' g' hpre hagree
  refine ⟨fun c => (Cert.LstmOutIdeal.Gen.dats m 0 c).arrAt 7 Cert.LstmOutIdeal.cfg0.N,
    Cert.LstmOutIdeal.Value.run_blocks (F := Ideal) m g, ?_⟩
  refine (θ_run Cert.LstmOutRefIdeal.defs _ _).mono (fun r h c => ⟨(h c).1.trans ?_, (h c).2⟩)
    (Cert.LstmOutRefIdeal.Value.run (F := Ideal) m' g')
  obtain ⟨e0, e1, e2, e3, e4, e5, e6⟩ := hagree c
  rw [Cert.LstmOutRefIdeal.Read.val_main_v82_eq]
  exact (LstmOutEquation.array m c _ _ _ _ _ _ _ e0.symm e1.symm e2.symm e3.symm e4.symm e5.symm e6.symm).symm

/-- The reference of the attention's output projection runs, keeps its arguments, and declares no semaphore. -/
theorem proj_ref : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run (F := Ideal) m g)

/-- The attention's output projection equals its reference. -/
theorem proj_value : Cert.algebraic_ProjIdeal_ProjRefIdeal := by
  intro m g m' g' hpre hagree
  refine ⟨fun c => (Cert.ProjIdeal.Gen.dats m 0 c).arrAt 5 Cert.ProjIdeal.cfg0.N,
    Cert.ProjIdeal.Value.run_blocks (F := Ideal) m g, ?_⟩
  refine (θ_run Cert.ProjRefIdeal.defs _ _).mono (fun r h c => ⟨(h c).1.trans ?_, (h c).2⟩)
    (Cert.ProjRefIdeal.Value.run (F := Ideal) m' g')
  obtain ⟨e0, e1, e2, e3, e4⟩ := hagree c
  rw [Cert.ProjRefIdeal.Read.val_main_v29_eq]
  exact (ProjEquation.array m c _ _ _ _ _ e0.symm e1.symm e2.symm e3.symm e4.symm).symm

/-- The reference of the attention's input projection runs, keeps its arguments, and declares no semaphore. -/
theorem latent_in_ref : Cert.quiescent_LatentInRefIdeal := fun m g _ =>
  (θ_run Cert.LatentInRefIdeal.defs _ _).mono (fun r h => ⟨fun c => (h c).2, sem_eq_zero_of_no_sems (by decide) r.2⟩)
    (Cert.LatentInRefIdeal.Value.run (F := Ideal) m g)

/-- The attention's input projection equals its reference. -/
theorem latent_in_value : Cert.algebraic_LatentInIdeal_LatentInRefIdeal := by
  intro m g m' g' hpre hagree
  refine ⟨fun c => (Cert.LatentInIdeal.Gen.dats m 0 c).arrAt 5 Cert.LatentInIdeal.cfg0.N,
    Cert.LatentInIdeal.Value.run_blocks (F := Ideal) m g, ?_⟩
  refine (θ_run Cert.LatentInRefIdeal.defs _ _).mono (fun r h c => ⟨(h c).1.trans ?_, (h c).2⟩)
    (Cert.LatentInRefIdeal.Value.run (F := Ideal) m' g')
  obtain ⟨e0, e1, e2, e3⟩ := hagree c
  rw [Cert.LatentInRefIdeal.Read.val_main_v62_eq]
  exact (LatentInEquation.array m c _ _ _ _ e0.symm e1.symm e2.symm e3.symm).symm

/-- The reference of the last layer's output projection runs, keeps its arguments, and declares no semaphore. -/
theorem proj_last_ref : Cert.quiescent_ProjLastRefIdeal := fun m g _ =>
  (θ_run Cert.ProjLastRefIdeal.defs _ _).mono (fun r h => ⟨fun c => (h c).2, sem_eq_zero_of_no_sems (by decide) r.2⟩)
    (Cert.ProjLastRefIdeal.Value.run (F := Ideal) m g)

/-- The last layer's output projection equals its reference. -/
theorem proj_last_value : Cert.algebraic_ProjLastIdeal_ProjLastRefIdeal := by
  intro m g m' g' hpre hagree
  refine ⟨fun c => (Cert.ProjLastIdeal.Gen.dats m 0 c).arrAt 4 Cert.ProjLastIdeal.cfg0.N,
    Cert.ProjLastIdeal.Value.run_blocks (F := Ideal) m g, ?_⟩
  refine (θ_run Cert.ProjLastRefIdeal.defs _ _).mono (fun r h c => ⟨(h c).1.trans ?_, (h c).2⟩)
    (Cert.ProjLastRefIdeal.Value.run (F := Ideal) m' g')
  obtain ⟨e0, e1, e2, e3⟩ := hagree c
  rw [Cert.ProjLastRefIdeal.Read.val_main_v17_eq]
  exact (ProjLastEquation.array m c _ _ _ _ e0.symm e1.symm e2.symm e3.symm).symm

/-- The reference of the final norm runs, keeps its arguments, and declares no semaphore. -/
theorem final_ref : Cert.quiescent_FinalRefIdeal := fun m g _ =>
  (θ_run Cert.FinalRefIdeal.defs _ _).mono (fun r h => ⟨fun c => (h c).2, sem_eq_zero_of_no_sems (by decide) r.2⟩)
    (Cert.FinalRefIdeal.Value.run (F := Ideal) m g)

/-- The final norm equals its reference. -/
theorem final_value : Cert.algebraic_FinalIdeal_FinalRefIdeal := by
  intro m g m' g' hpre hagree
  refine ⟨fun c => (Cert.FinalIdeal.Gen.dats m 0 c).arrAt 2 Cert.FinalIdeal.cfg0.N,
    Cert.FinalIdeal.Value.run_blocks (F := Ideal) m g, ?_⟩
  refine (θ_run Cert.FinalRefIdeal.defs _ _).mono (fun r h c => ⟨(h c).1.trans ?_, (h c).2⟩)
    (Cert.FinalRefIdeal.Value.run (F := Ideal) m' g')
  obtain ⟨e0, e1⟩ := hagree c
  rw [Cert.FinalRefIdeal.Read.val_main_v14_eq]
  exact (FinalEquation.array m c _ _ e0.symm e1.symm).symm

/-- The reference of the latent attention's up-projection runs, keeps its arguments, and declares no semaphore. -/
theorem latent_up_ref : Cert.quiescent_LatentUpRefIdeal := fun m g _ =>
  (θ_run Cert.LatentUpRefIdeal.defs _ _).mono (fun r h => ⟨fun c => (h c).2.2.2, sem_eq_zero_of_no_sems (by decide) r.2⟩)
    (Cert.LatentUpRefIdeal.Value.run (F := Ideal) m g)

/-- The latent attention's up-projection equals its reference: the queries, the keys and the values. -/
theorem latent_up_value : Cert.algebraic_LatentUpIdeal_LatentUpRefIdeal := by
  intro m g m' g' hpre hagree
  refine ⟨fun c => (Cert.LatentUpIdeal.Gen.dats m 0 c).arrAt 9 Cert.LatentUpIdeal.cfg0.N,
    fun c => (Cert.LatentUpIdeal.Gen.dats m 0 c).arrAt 10 Cert.LatentUpIdeal.cfg0.N,
    fun c => (Cert.LatentUpIdeal.Gen.dats m 0 c).arrAt 11 Cert.LatentUpIdeal.cfg0.N,
    Cert.LatentUpIdeal.Value.run_blocks (F := Ideal) m g, ?_⟩
  refine (θ_run Cert.LatentUpRefIdeal.defs _ _).mono
    (fun r h c => ⟨(h c).1.trans ?_, (h c).2.1.trans ?_, (h c).2.2.1.trans ?_, (h c).2.2.2⟩)
    (Cert.LatentUpRefIdeal.Value.run (F := Ideal) m' g')
  all_goals obtain ⟨e0, e1, e2, e3, e4, e5, e6, e7, e8⟩ := hagree c
  · rw [Cert.LatentUpRefIdeal.Read.val_main_v197_eq]
    exact (LatentUpEquation.queries m c _ _ _ _ _ _ _ e0.symm e1.symm e3.symm e5.symm e6.symm e7.symm e8.symm).symm
  · rw [Cert.LatentUpRefIdeal.Read.val_main_v198_eq]
    exact (LatentUpEquation.keys m c _ _ _ _ _ _ _ e0.symm e2.symm e4.symm e5.symm e6.symm e7.symm e8.symm).symm
  · rw [Cert.LatentUpRefIdeal.Read.val_main_v202_eq]
    exact (LatentUpEquation.values m c _ _ _ e0.symm e2.symm e4.symm).symm

/-- The reference of the last layer's MLP runs, keeps its arguments, and declares no semaphore. -/
theorem mlp_last_ref : Cert.quiescent_MlpLastRefIdeal := fun m g _ =>
  (θ_run Cert.MlpLastRefIdeal.defs _ _).mono (fun r h => ⟨fun c => (h c).2, sem_eq_zero_of_no_sems (by decide) r.2⟩)
    (Cert.MlpLastRefIdeal.Value.run (F := Ideal) m g)

/-- The last layer's MLP equals its reference. -/
theorem mlp_last_value : Cert.algebraic_MlpLastIdeal_MlpLastRefIdeal := by
  intro m g m' g' hpre hagree
  refine ⟨fun c => (Cert.MlpLastIdeal.Gen.dats m 0 c).arrAt 7 Cert.MlpLastIdeal.cfg0.N,
    Cert.MlpLastIdeal.Value.run_blocks (F := Ideal) m g, ?_⟩
  refine (θ_run Cert.MlpLastRefIdeal.defs _ _).mono (fun r h c => ⟨(h c).1.trans ?_, (h c).2⟩)
    (Cert.MlpLastRefIdeal.Value.run (F := Ideal) m' g')
  obtain ⟨e0, e1, e2, e3, e4⟩ := hagree c
  rw [Cert.MlpLastRefIdeal.Read.val_main_v40_eq]
  exact (MlpLastEquation.array m c _ _ _ _ _ e0.symm e1.symm e2.symm e3.symm e4.symm).symm

/-- The reference of the gated delta net's gates runs, keeps its arguments, and declares no semaphore. -/
theorem gdn_gates_ref : Cert.quiescent_GdnGatesRefIdeal := fun m g _ =>
  (θ_run Cert.GdnGatesRefIdeal.defs _ _).mono (fun r h => ⟨fun c => (h c).2, sem_eq_zero_of_no_sems (by decide) r.2⟩)
    (Cert.GdnGatesRefIdeal.Value.run (F := Ideal) m g)

/-- The gates of the gated delta net: their projection equals its reference. -/
theorem gdn_gates_value : Cert.algebraic_GdnGatesIdeal_GdnGatesRefIdeal := by
  intro m g m' g' hpre hagree
  refine ⟨fun c => (Cert.GdnGatesIdeal.Gen.dats m 0 c).arrAt 5 Cert.GdnGatesIdeal.cfg0.N,
    Cert.GdnGatesIdeal.Value.run_blocks (F := Ideal) m g, ?_⟩
  refine (θ_run Cert.GdnGatesRefIdeal.defs _ _).mono (fun r h c => ⟨(h c).1.trans ?_, (h c).2⟩)
    (Cert.GdnGatesRefIdeal.Value.run (F := Ideal) m' g')
  obtain ⟨e0, e1, e2, e3⟩ := hagree c
  rw [Cert.GdnGatesRefIdeal.Read.val_main_v63_eq]
  exact (GdnGatesEquation.array m c _ _ _ _ e0.symm e1.symm e2.symm e3.symm).symm

/-- The reference of the mLSTM's gates runs, keeps its arguments, and declares no semaphore. -/
theorem lstm_gates_ref : Cert.quiescent_LstmGatesRefIdeal := fun m g _ =>
  (θ_run Cert.LstmGatesRefIdeal.defs _ _).mono (fun r h => ⟨fun c => (h c).2, sem_eq_zero_of_no_sems (by decide) r.2⟩)
    (Cert.LstmGatesRefIdeal.Value.run (F := Ideal) m g)

/-- The gates of the mLSTM: their projection equals its reference. -/
theorem lstm_gates_value : Cert.algebraic_LstmGatesIdeal_LstmGatesRefIdeal := by
  intro m g m' g' hpre hagree
  refine ⟨fun c => (Cert.LstmGatesIdeal.Gen.dats m 0 c).arrAt 5 Cert.LstmGatesIdeal.cfg0.N,
    Cert.LstmGatesIdeal.Value.run_blocks (F := Ideal) m g, ?_⟩
  refine (θ_run Cert.LstmGatesRefIdeal.defs _ _).mono (fun r h c => ⟨(h c).1.trans ?_, (h c).2⟩)
    (Cert.LstmGatesRefIdeal.Value.run (F := Ideal) m' g')
  obtain ⟨e0, e1, e2, e3⟩ := hagree c
  rw [Cert.LstmGatesRefIdeal.Read.val_main_v64_eq]
  exact (LstmGatesEquation.array m c _ _ _ _ e0.symm e1.symm e2.symm e3.symm).symm

/-- The reference of the modulations runs, keeps its arguments, and declares no semaphore. -/
theorem ada_ref : Cert.quiescent_AdaRefIdeal := fun m g _ =>
  (θ_run Cert.AdaRefIdeal.defs _ _).mono (fun r h => ⟨fun c => (h c).2, sem_eq_zero_of_no_sems (by decide) r.2⟩)
    (Cert.AdaRefIdeal.Value.run (F := Ideal) m g)

/-- The call of the modulations equals its reference. -/
theorem ada_value : Cert.algebraic_AdaIdeal_AdaRefIdeal := by
  intro m g m' g' hpre hagree
  refine ⟨fun c => (Cert.AdaIdeal.Gen.dats m 0 c).arrAt 3 Cert.AdaIdeal.cfg0.N,
    Cert.AdaIdeal.Value.run_blocks (F := Ideal) m g, ?_⟩
  refine (θ_run Cert.AdaRefIdeal.defs _ _).mono (fun r h c => ⟨(h c).1.trans ?_, (h c).2⟩)
    (Cert.AdaRefIdeal.Value.run (F := Ideal) m' g')
  obtain ⟨e0, e1, e2⟩ := hagree c
  rw [Cert.AdaRefIdeal.Read.val_main_v4_eq]
  exact (AdaEquation.array m c _ _ _ e0.symm e1.symm e2.symm).symm

/-- **The certificate**: every claim of the eight calls. -/
theorem claim : Cert.Claim :=
  ⟨Cert.Attn.Gen.facts, Cert.AttnIdeal.Gen.facts, Cert.AttnRefIdeal.Gen.facts,
    Cert.Mlp.Gen.facts, Cert.MlpIdeal.Gen.facts, Cert.MlpRefIdeal.Gen.facts,
    Cert.GdnIn.Gen.facts, Cert.GdnInIdeal.Gen.facts, Cert.GdnInRefIdeal.Gen.facts,
    Cert.LstmIn.Gen.facts, Cert.LstmInIdeal.Gen.facts, Cert.LstmInRefIdeal.Gen.facts,
    Cert.GdnOut.Gen.facts, Cert.GdnOutIdeal.Gen.facts, Cert.GdnOutRefIdeal.Gen.facts,
    Cert.LstmOut.Gen.facts, Cert.LstmOutIdeal.Gen.facts, Cert.LstmOutRefIdeal.Gen.facts,
    Cert.Proj.Gen.facts, Cert.ProjIdeal.Gen.facts, Cert.ProjRefIdeal.Gen.facts,
    Cert.LatentIn.Gen.facts, Cert.LatentInIdeal.Gen.facts, Cert.LatentInRefIdeal.Gen.facts,
    Cert.ProjLast.Gen.facts, Cert.ProjLastIdeal.Gen.facts, Cert.ProjLastRefIdeal.Gen.facts,
    Cert.Final.Gen.facts, Cert.FinalIdeal.Gen.facts, Cert.FinalRefIdeal.Gen.facts,
    Cert.LatentUp.Gen.facts, Cert.LatentUpIdeal.Gen.facts, Cert.LatentUpRefIdeal.Gen.facts,
    Cert.MlpLast.Gen.facts, Cert.MlpLastIdeal.Gen.facts, Cert.MlpLastRefIdeal.Gen.facts,
    Cert.GdnGates.Gen.facts, Cert.GdnGatesIdeal.Gen.facts, Cert.GdnGatesRefIdeal.Gen.facts,
    Cert.LstmGates.Gen.facts, Cert.LstmGatesIdeal.Gen.facts, Cert.LstmGatesRefIdeal.Gen.facts,
    Cert.Ada.Gen.facts, Cert.AdaIdeal.Gen.facts, Cert.AdaRefIdeal.Gen.facts,
    Cert.Pre_finite_logits.Gen.facts,
    fun m g _ => Cert.Attn.Gen.frame m g,
    fun m g _ => Cert.AttnIdeal.Gen.frame m g,
    fun m g _ => Cert.AttnIdeal.Gen.frame m g,
    fun m g _ => attn_ref m g,
    fun m g _ => attn_ref m g,
    fun m g _ => Cert.Mlp.Gen.frame m g,
    fun m g _ => Cert.MlpIdeal.Gen.frame m g,
    mlp_ref,
    fun m g _ => Cert.GdnIn.Gen.frame m g,
    fun m g _ => Cert.GdnInIdeal.Gen.frame m g,
    gdn_in_ref,
    fun m g _ => Cert.LstmIn.Gen.frame m g,
    fun m g _ => Cert.LstmInIdeal.Gen.frame m g,
    lstm_in_ref,
    fun m g _ => Cert.GdnOut.Gen.frame m g,
    fun m g _ => Cert.GdnOutIdeal.Gen.frame m g,
    gdn_out_ref,
    fun m g _ => Cert.LstmOut.Gen.frame m g,
    fun m g _ => Cert.LstmOutIdeal.Gen.frame m g,
    lstm_out_ref,
    fun m g _ => Cert.Proj.Gen.frame m g,
    fun m g _ => Cert.ProjIdeal.Gen.frame m g,
    proj_ref,
    fun m g _ => Cert.LatentIn.Gen.frame m g,
    fun m g _ => Cert.LatentInIdeal.Gen.frame m g,
    latent_in_ref,
    fun m g _ => Cert.ProjLast.Gen.frame m g,
    fun m g _ => Cert.ProjLastIdeal.Gen.frame m g,
    proj_last_ref,
    fun m g _ => Cert.Final.Gen.frame m g,
    fun m g _ => Cert.FinalIdeal.Gen.frame m g,
    final_ref,
    fun m g _ => Cert.LatentUp.Gen.frame m g,
    fun m g _ => Cert.LatentUpIdeal.Gen.frame m g,
    latent_up_ref,
    fun m g _ => Cert.MlpLast.Gen.frame m g,
    fun m g _ => Cert.MlpLastIdeal.Gen.frame m g,
    mlp_last_ref,
    fun m g _ => Cert.GdnGates.Gen.frame m g,
    fun m g _ => Cert.GdnGatesIdeal.Gen.frame m g,
    gdn_gates_ref,
    fun m g _ => Cert.LstmGates.Gen.frame m g,
    fun m g _ => Cert.LstmGatesIdeal.Gen.frame m g,
    lstm_gates_ref,
    fun m g _ => Cert.Ada.Gen.frame m g,
    fun m g _ => Cert.AdaIdeal.Gen.frame m g,
    ada_ref,
    trivial,
    attn_value,
    trivial,
    mlp_value,
    trivial,
    gdn_in_value,
    trivial,
    lstm_in_value,
    trivial,
    gdn_out_value,
    trivial,
    lstm_out_value,
    trivial,
    proj_value,
    trivial,
    latent_in_value,
    trivial,
    proj_last_value,
    trivial,
    final_value,
    trivial,
    latent_up_value,
    trivial,
    mlp_last_value,
    trivial,
    gdn_gates_value,
    trivial,
    lstm_gates_value,
    trivial,
    ada_value⟩

end Cert.Proof

end
